-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gradient (m : (ℓ : Loc Cert.Gradient.nD Cert.Gradient.τ Cert.Gradient.sig) → Buf (Elt Bits) ℓ) : Prop :=
  True

def Pre_GradientIdeal (m : (ℓ : Loc Cert.GradientIdeal.nD Cert.GradientIdeal.τ Cert.GradientIdeal.sig) → Buf (Elt Ideal) ℓ) : Prop :=
  True

def Pre_GradientIdeal_normalised [hPre_normalised : Cert.Pre_normalised.Facts] (m : (ℓ : Loc Cert.GradientIdeal.nD Cert.GradientIdeal.τ Cert.GradientIdeal.sig) → Buf (Elt Ideal) ℓ) : Prop :=
  ∀ c : Dev Cert.GradientIdeal.nD,
    (Cert.Pre_normalised.fn (F := Ideal) (m ((c.tc : Thread Cert.GradientIdeal.nD Cert.GradientIdeal.τ).loc Cert.GradientIdeal.main_arg0)) (m ((c.tc : Thread Cert.GradientIdeal.nD Cert.GradientIdeal.τ).loc Cert.GradientIdeal.main_arg1)) (m ((c.tc : Thread Cert.GradientIdeal.nD Cert.GradientIdeal.τ).loc Cert.GradientIdeal.main_arg2)) (m ((c.tc : Thread Cert.GradientIdeal.nD Cert.GradientIdeal.τ).loc Cert.GradientIdeal.main_arg3)) (m ((c.tc : Thread Cert.GradientIdeal.nD Cert.GradientIdeal.τ).loc Cert.GradientIdeal.main_arg4)) (m ((c.tc : Thread Cert.GradientIdeal.nD Cert.GradientIdeal.τ).loc Cert.GradientIdeal.main_arg5)) (m ((c.tc : Thread Cert.GradientIdeal.nD Cert.GradientIdeal.τ).loc Cert.GradientIdeal.main_arg6)) (m ((c.tc : Thread Cert.GradientIdeal.nD Cert.GradientIdeal.τ).loc Cert.GradientIdeal.main_arg7)) (m ((c.tc : Thread Cert.GradientIdeal.nD Cert.GradientIdeal.τ).loc Cert.GradientIdeal.main_arg8)) (m ((c.tc : Thread Cert.GradientIdeal.nD Cert.GradientIdeal.τ).loc Cert.GradientIdeal.main_arg9)) (m ((c.tc : Thread Cert.GradientIdeal.nD Cert.GradientIdeal.τ).loc Cert.GradientIdeal.main_arg10)) (m ((c.tc : Thread Cert.GradientIdeal.nD Cert.GradientIdeal.τ).loc Cert.GradientIdeal.main_arg11)) (m ((c.tc : Thread Cert.GradientIdeal.nD Cert.GradientIdeal.τ).loc Cert.GradientIdeal.main_arg12))) = (fun _ => 1#1)

def Pre_LossIdeal (m : (ℓ : Loc Cert.LossIdeal.nD Cert.LossIdeal.τ Cert.LossIdeal.sig) → Buf (Elt Ideal) ℓ) : Prop :=
  True

def Pre_LossIdeal_normalised [hPre_normalised : Cert.Pre_normalised.Facts] (m : (ℓ : Loc Cert.LossIdeal.nD Cert.LossIdeal.τ Cert.LossIdeal.sig) → Buf (Elt Ideal) ℓ) : Prop :=
  ∀ c : Dev Cert.LossIdeal.nD,
    (Cert.Pre_normalised.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8)) (m ((c.tc : Thread Cert.LossIdeal.nD Cert.LossIdeal.τ).loc Cert.LossIdeal.main_arg9)) (m ((c.tc : Thread Cert.LossIdeal.nD Cert.LossIdeal.τ).loc Cert.LossIdeal.main_arg10)) (m ((c.tc : Thread Cert.LossIdeal.nD Cert.LossIdeal.τ).loc Cert.LossIdeal.main_arg11)) (m ((c.tc : Thread Cert.LossIdeal.nD Cert.LossIdeal.τ).loc Cert.LossIdeal.main_arg12))) = (fun _ => 1#1)

def Pre_Loss (m : (ℓ : Loc Cert.Loss.nD Cert.Loss.τ Cert.Loss.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Gradient [hGradient : Cert.Gradient.Facts] : Prop :=
  ∀ (m : (ℓ : Loc Cert.Gradient.nD Cert.Gradient.τ Cert.Gradient.sig) → Buf (Elt Bits) ℓ) (g : Dev Cert.Gradient.nD → PrngReg), Pre_Gradient m →
    θ_run (Cert.Gradient.defs (F := Bits)) (onTc (τ := Cert.Gradient.τ) (Cert.Gradient.main (F := Bits))) ⟨m, fun _ => 0, g⟩ (fun r => (∀ c : Dev Cert.Gradient.nD,
      r.2.mem ((c.tc : Thread Cert.Gradient.nD Cert.Gradient.τ).loc Cert.Gradient.main_arg0) = m ((c.tc : Thread Cert.Gradient.nD Cert.Gradient.τ).loc Cert.Gradient.main_arg0)
      ∧ r.2.mem ((c.tc : Thread Cert.Gradient.nD Cert.Gradient.τ).loc Cert.Gradient.main_arg1) = m ((c.tc : Thread Cert.Gradient.nD Cert.Gradient.τ).loc Cert.Gradient.main_arg1)
      ∧ r.2.mem ((c.tc : Thread Cert.Gradient.nD Cert.Gradient.τ).loc Cert.Gradient.main_arg2) = m ((c.tc : Thread Cert.Gradient.nD Cert.Gradient.τ).loc Cert.Gradient.main_arg2)
      ∧ r.2.mem ((c.tc : Thread Cert.Gradient.nD Cert.Gradient.τ).loc Cert.Gradient.main_arg3) = m ((c.tc : Thread Cert.Gradient.nD Cert.Gradient.τ).loc Cert.Gradient.main_arg3)
      ∧ r.2.mem ((c.tc : Thread Cert.Gradient.nD Cert.Gradient.τ).loc Cert.Gradient.main_arg4) = m ((c.tc : Thread Cert.Gradient.nD Cert.Gradient.τ).loc Cert.Gradient.main_arg4)
      ∧ r.2.mem ((c.tc : Thread Cert.Gradient.nD Cert.Gradient.τ).loc Cert.Gradient.main_arg5) = m ((c.tc : Thread Cert.Gradient.nD Cert.Gradient.τ).loc Cert.Gradient.main_arg5)
      ∧ r.2.mem ((c.tc : Thread Cert.Gradient.nD Cert.Gradient.τ).loc Cert.Gradient.main_arg6) = m ((c.tc : Thread Cert.Gradient.nD Cert.Gradient.τ).loc Cert.Gradient.main_arg6)
      ∧ r.2.mem ((c.tc : Thread Cert.Gradient.nD Cert.Gradient.τ).loc Cert.Gradient.main_arg7) = m ((c.tc : Thread Cert.Gradient.nD Cert.Gradient.τ).loc Cert.Gradient.main_arg7)
      ∧ r.2.mem ((c.tc : Thread Cert.Gradient.nD Cert.Gradient.τ).loc Cert.Gradient.main_arg8) = m ((c.tc : Thread Cert.Gradient.nD Cert.Gradient.τ).loc Cert.Gradient.main_arg8)
      ∧ r.2.mem ((c.tc : Thread Cert.Gradient.nD Cert.Gradient.τ).loc Cert.Gradient.main_arg9) = m ((c.tc : Thread Cert.Gradient.nD Cert.Gradient.τ).loc Cert.Gradient.main_arg9)
      ∧ r.2.mem ((c.tc : Thread Cert.Gradient.nD Cert.Gradient.τ).loc Cert.Gradient.main_arg10) = m ((c.tc : Thread Cert.Gradient.nD Cert.Gradient.τ).loc Cert.Gradient.main_arg10)
      ∧ r.2.mem ((c.tc : Thread Cert.Gradient.nD Cert.Gradient.τ).loc Cert.Gradient.main_arg11) = m ((c.tc : Thread Cert.Gradient.nD Cert.Gradient.τ).loc Cert.Gradient.main_arg11)
      ∧ r.2.mem ((c.tc : Thread Cert.Gradient.nD Cert.Gradient.τ).loc Cert.Gradient.main_arg12) = m ((c.tc : Thread Cert.Gradient.nD Cert.Gradient.τ).loc Cert.Gradient.main_arg12))
      ∧ r.2.sem = fun _ => 0)

def quiescent_GradientIdeal [hGradientIdeal : Cert.GradientIdeal.Facts] : Prop :=
  ∀ (m : (ℓ : Loc Cert.GradientIdeal.nD Cert.GradientIdeal.τ Cert.GradientIdeal.sig) → Buf (Elt Ideal) ℓ) (g : Dev Cert.GradientIdeal.nD → PrngReg), Pre_GradientIdeal m →
    θ_run (Cert.GradientIdeal.defs (F := Ideal)) (onTc (τ := Cert.GradientIdeal.τ) (Cert.GradientIdeal.main (F := Ideal))) ⟨m, fun _ => 0, g⟩ (fun r => (∀ c : Dev Cert.GradientIdeal.nD,
      r.2.mem ((c.tc : Thread Cert.GradientIdeal.nD Cert.GradientIdeal.τ).loc Cert.GradientIdeal.main_arg0) = m ((c.tc : Thread Cert.GradientIdeal.nD Cert.GradientIdeal.τ).loc Cert.GradientIdeal.main_arg0)
      ∧ r.2.mem ((c.tc : Thread Cert.GradientIdeal.nD Cert.GradientIdeal.τ).loc Cert.GradientIdeal.main_arg1) = m ((c.tc : Thread Cert.GradientIdeal.nD Cert.GradientIdeal.τ).loc Cert.GradientIdeal.main_arg1)
      ∧ r.2.mem ((c.tc : Thread Cert.GradientIdeal.nD Cert.GradientIdeal.τ).loc Cert.GradientIdeal.main_arg2) = m ((c.tc : Thread Cert.GradientIdeal.nD Cert.GradientIdeal.τ).loc Cert.GradientIdeal.main_arg2)
      ∧ r.2.mem ((c.tc : Thread Cert.GradientIdeal.nD Cert.GradientIdeal.τ).loc Cert.GradientIdeal.main_arg3) = m ((c.tc : Thread Cert.GradientIdeal.nD Cert.GradientIdeal.τ).loc Cert.GradientIdeal.main_arg3)
      ∧ r.2.mem ((c.tc : Thread Cert.GradientIdeal.nD Cert.GradientIdeal.τ).loc Cert.GradientIdeal.main_arg4) = m ((c.tc : Thread Cert.GradientIdeal.nD Cert.GradientIdeal.τ).loc Cert.GradientIdeal.main_arg4)
      ∧ r.2.mem ((c.tc : Thread Cert.GradientIdeal.nD Cert.GradientIdeal.τ).loc Cert.GradientIdeal.main_arg5) = m ((c.tc : Thread Cert.GradientIdeal.nD Cert.GradientIdeal.τ).loc Cert.GradientIdeal.main_arg5)
      ∧ r.2.mem ((c.tc : Thread Cert.GradientIdeal.nD Cert.GradientIdeal.τ).loc Cert.GradientIdeal.main_arg6) = m ((c.tc : Thread Cert.GradientIdeal.nD Cert.GradientIdeal.τ).loc Cert.GradientIdeal.main_arg6)
      ∧ r.2.mem ((c.tc : Thread Cert.GradientIdeal.nD Cert.GradientIdeal.τ).loc Cert.GradientIdeal.main_arg7) = m ((c.tc : Thread Cert.GradientIdeal.nD Cert.GradientIdeal.τ).loc Cert.GradientIdeal.main_arg7)
      ∧ r.2.mem ((c.tc : Thread Cert.GradientIdeal.nD Cert.GradientIdeal.τ).loc Cert.GradientIdeal.main_arg8) = m ((c.tc : Thread Cert.GradientIdeal.nD Cert.GradientIdeal.τ).loc Cert.GradientIdeal.main_arg8)
      ∧ r.2.mem ((c.tc : Thread Cert.GradientIdeal.nD Cert.GradientIdeal.τ).loc Cert.GradientIdeal.main_arg9) = m ((c.tc : Thread Cert.GradientIdeal.nD Cert.GradientIdeal.τ).loc Cert.GradientIdeal.main_arg9)
      ∧ r.2.mem ((c.tc : Thread Cert.GradientIdeal.nD Cert.GradientIdeal.τ).loc Cert.GradientIdeal.main_arg10) = m ((c.tc : Thread Cert.GradientIdeal.nD Cert.GradientIdeal.τ).loc Cert.GradientIdeal.main_arg10)
      ∧ r.2.mem ((c.tc : Thread Cert.GradientIdeal.nD Cert.GradientIdeal.τ).loc Cert.GradientIdeal.main_arg11) = m ((c.tc : Thread Cert.GradientIdeal.nD Cert.GradientIdeal.τ).loc Cert.GradientIdeal.main_arg11)
      ∧ r.2.mem ((c.tc : Thread Cert.GradientIdeal.nD Cert.GradientIdeal.τ).loc Cert.GradientIdeal.main_arg12) = m ((c.tc : Thread Cert.GradientIdeal.nD Cert.GradientIdeal.τ).loc Cert.GradientIdeal.main_arg12))
      ∧ r.2.sem = fun _ => 0)

def quiescent_GradientIdeal_pre_normalised [hGradientIdeal : Cert.GradientIdeal.Facts] [hPre_normalised : Cert.Pre_normalised.Facts] : Prop :=
  ∀ (m : (ℓ : Loc Cert.GradientIdeal.nD Cert.GradientIdeal.τ Cert.GradientIdeal.sig) → Buf (Elt Ideal) ℓ) (g : Dev Cert.GradientIdeal.nD → PrngReg), Pre_GradientIdeal_normalised m →
    θ_run (Cert.GradientIdeal.defs (F := Ideal)) (onTc (τ := Cert.GradientIdeal.τ) (Cert.GradientIdeal.main (F := Ideal))) ⟨m, fun _ => 0, g⟩ (fun r => (∀ c : Dev Cert.GradientIdeal.nD,
      r.2.mem ((c.tc : Thread Cert.GradientIdeal.nD Cert.GradientIdeal.τ).loc Cert.GradientIdeal.main_arg0) = m ((c.tc : Thread Cert.GradientIdeal.nD Cert.GradientIdeal.τ).loc Cert.GradientIdeal.main_arg0)
      ∧ r.2.mem ((c.tc : Thread Cert.GradientIdeal.nD Cert.GradientIdeal.τ).loc Cert.GradientIdeal.main_arg1) = m ((c.tc : Thread Cert.GradientIdeal.nD Cert.GradientIdeal.τ).loc Cert.GradientIdeal.main_arg1)
      ∧ r.2.mem ((c.tc : Thread Cert.GradientIdeal.nD Cert.GradientIdeal.τ).loc Cert.GradientIdeal.main_arg2) = m ((c.tc : Thread Cert.GradientIdeal.nD Cert.GradientIdeal.τ).loc Cert.GradientIdeal.main_arg2)
      ∧ r.2.mem ((c.tc : Thread Cert.GradientIdeal.nD Cert.GradientIdeal.τ).loc Cert.GradientIdeal.main_arg3) = m ((c.tc : Thread Cert.GradientIdeal.nD Cert.GradientIdeal.τ).loc Cert.GradientIdeal.main_arg3)
      ∧ r.2.mem ((c.tc : Thread Cert.GradientIdeal.nD Cert.GradientIdeal.τ).loc Cert.GradientIdeal.main_arg4) = m ((c.tc : Thread Cert.GradientIdeal.nD Cert.GradientIdeal.τ).loc Cert.GradientIdeal.main_arg4)
      ∧ r.2.mem ((c.tc : Thread Cert.GradientIdeal.nD Cert.GradientIdeal.τ).loc Cert.GradientIdeal.main_arg5) = m ((c.tc : Thread Cert.GradientIdeal.nD Cert.GradientIdeal.τ).loc Cert.GradientIdeal.main_arg5)
      ∧ r.2.mem ((c.tc : Thread Cert.GradientIdeal.nD Cert.GradientIdeal.τ).loc Cert.GradientIdeal.main_arg6) = m ((c.tc : Thread Cert.GradientIdeal.nD Cert.GradientIdeal.τ).loc Cert.GradientIdeal.main_arg6)
      ∧ r.2.mem ((c.tc : Thread Cert.GradientIdeal.nD Cert.GradientIdeal.τ).loc Cert.GradientIdeal.main_arg7) = m ((c.tc : Thread Cert.GradientIdeal.nD Cert.GradientIdeal.τ).loc Cert.GradientIdeal.main_arg7)
      ∧ r.2.mem ((c.tc : Thread Cert.GradientIdeal.nD Cert.GradientIdeal.τ).loc Cert.GradientIdeal.main_arg8) = m ((c.tc : Thread Cert.GradientIdeal.nD Cert.GradientIdeal.τ).loc Cert.GradientIdeal.main_arg8)
      ∧ r.2.mem ((c.tc : Thread Cert.GradientIdeal.nD Cert.GradientIdeal.τ).loc Cert.GradientIdeal.main_arg9) = m ((c.tc : Thread Cert.GradientIdeal.nD Cert.GradientIdeal.τ).loc Cert.GradientIdeal.main_arg9)
      ∧ r.2.mem ((c.tc : Thread Cert.GradientIdeal.nD Cert.GradientIdeal.τ).loc Cert.GradientIdeal.main_arg10) = m ((c.tc : Thread Cert.GradientIdeal.nD Cert.GradientIdeal.τ).loc Cert.GradientIdeal.main_arg10)
      ∧ r.2.mem ((c.tc : Thread Cert.GradientIdeal.nD Cert.GradientIdeal.τ).loc Cert.GradientIdeal.main_arg11) = m ((c.tc : Thread Cert.GradientIdeal.nD Cert.GradientIdeal.τ).loc Cert.GradientIdeal.main_arg11)
      ∧ r.2.mem ((c.tc : Thread Cert.GradientIdeal.nD Cert.GradientIdeal.τ).loc Cert.GradientIdeal.main_arg12) = m ((c.tc : Thread Cert.GradientIdeal.nD Cert.GradientIdeal.τ).loc Cert.GradientIdeal.main_arg12))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
      ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
      ∧ r.2.mem ((c.tc : Thread Cert.LossIdeal.nD Cert.LossIdeal.τ).loc Cert.LossIdeal.main_arg12) = m ((c.tc : Thread Cert.LossIdeal.nD Cert.LossIdeal.τ).loc Cert.LossIdeal.main_arg12))
      ∧ r.2.sem = fun _ => 0)

def quiescent_LossIdeal_pre_normalised [hLossIdeal : Cert.LossIdeal.Facts] [hPre_normalised : Cert.Pre_normalised.Facts] : Prop :=
  ∀ (m : (ℓ : Loc Cert.LossIdeal.nD Cert.LossIdeal.τ Cert.LossIdeal.sig) → Buf (Elt Ideal) ℓ) (g : Dev Cert.LossIdeal.nD → PrngReg), Pre_LossIdeal_normalised m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
      ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
      ∧ r.2.mem ((c.tc : Thread Cert.LossIdeal.nD Cert.LossIdeal.τ).loc Cert.LossIdeal.main_arg12) = m ((c.tc : Thread Cert.LossIdeal.nD Cert.LossIdeal.τ).loc Cert.LossIdeal.main_arg12))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8)
      ∧ r.2.mem ((c.tc : Thread Cert.Loss.nD Cert.Loss.τ).loc Cert.Loss.main_arg9) = m ((c.tc : Thread Cert.Loss.nD Cert.Loss.τ).loc Cert.Loss.main_arg9)
      ∧ r.2.mem ((c.tc : Thread Cert.Loss.nD Cert.Loss.τ).loc Cert.Loss.main_arg10) = m ((c.tc : Thread Cert.Loss.nD Cert.Loss.τ).loc Cert.Loss.main_arg10)
      ∧ r.2.mem ((c.tc : Thread Cert.Loss.nD Cert.Loss.τ).loc Cert.Loss.main_arg11) = m ((c.tc : Thread Cert.Loss.nD Cert.Loss.τ).loc Cert.Loss.main_arg11)
      ∧ r.2.mem ((c.tc : Thread Cert.Loss.nD Cert.Loss.τ).loc Cert.Loss.main_arg12) = m ((c.tc : Thread Cert.Loss.nD Cert.Loss.τ).loc Cert.Loss.main_arg12))
      ∧ r.2.sem = fun _ => 0)

def preserves_Kernel_KernelIdeal : Prop :=
  IdealRules.named_const.Statement Cert.KernelIdeal.κ "half_log2e" .f32 0x3F38AA3B#32 (((2 * (Real.log 2))⁻¹ : ℝ) : EReal)
  ∧ IdealRules.named_const.Statement Cert.KernelIdeal.κ "masked" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_4)) (v1 : (c : Dev Cert.KernelIdeal.nD) → Buf (Elt Ideal) ((c.tc : Thread Cert.KernelIdeal.nD Cert.KernelIdeal.τ).loc Cert.KernelIdeal.main_v0_5)) (v2 : (c : Dev Cert.KernelIdeal.nD) → Buf (Elt Ideal) ((c.tc : Thread Cert.KernelIdeal.nD Cert.KernelIdeal.τ).loc Cert.KernelIdeal.main_v0_8)) (v3 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_4) = v0 c
          ∧ r.2.mem ((c.tc : Thread Cert.KernelIdeal.nD Cert.KernelIdeal.τ).loc Cert.KernelIdeal.main_v0_5) = v1 c
          ∧ r.2.mem ((c.tc : Thread Cert.KernelIdeal.nD Cert.KernelIdeal.τ).loc Cert.KernelIdeal.main_v0_8) = v2 c
          ∧ r.2.mem ((c.tc : Thread Cert.KernelIdeal.nD Cert.KernelIdeal.τ).loc Cert.KernelIdeal.main_v0_9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Gradient_GradientIdeal : Prop :=
  IdealRules.named_const.Statement Cert.GradientIdeal.κ "odds" .f32 0xBFCAE00D#32 (((Real.log (1 / 3)) * (Real.log 2)⁻¹ : ℝ) : EReal)
  ∧ IdealRules.named_const.Statement Cert.GradientIdeal.κ "tiny" .f32 0x02081CEA#32 ⊥
  ∧ IdealRules.named_const.Statement Cert.GradientIdeal.κ "log2e" .f32 0x3FB8AA3B#32 (((Real.log 2)⁻¹ : ℝ) : EReal)
  ∧ IdealRules.named_const.Statement Cert.GradientIdeal.κ "student_ln2" .f32 0x3F051592#32 (((3 / 4) * (Real.log 2) : ℝ) : EReal)
  ∧ IdealRules.named_const.Statement Cert.GradientIdeal.κ "entropy_teacher" .f32 0xBEB17218#32 (((1 / 4) * (Real.log (1 / 4)) : ℝ) : EReal)
  ∧ IdealRules.named_const.Statement Cert.GradientIdeal.κ "entropy_student" .f32 0xBE5CF099#32 (((3 / 4) * (Real.log (3 / 4)) : ℝ) : EReal)

def preserves_Loss_LossIdeal : Prop :=
  IdealRules.named_const.Statement Cert.LossIdeal.κ "ln2" .f32 0x3F317218#32 ((Real.log 2 : ℝ) : EReal)
  ∧ IdealRules.named_const.Statement Cert.LossIdeal.κ "log_beta" .f32 0xBFB17218#32 ((Real.log (1 / 4) : ℝ) : EReal)
  ∧ IdealRules.named_const.Statement Cert.LossIdeal.κ "log_one_minus_beta" .f32 0xBE934B11#32 ((Real.log (3 / 4) : ℝ) : EReal)

def algebraic_GradientIdeal_LossIdeal_pre_normalised [hGradientIdeal : Cert.GradientIdeal.Facts] [hLossIdeal : Cert.LossIdeal.Facts] [hPre_normalised : Cert.Pre_normalised.Facts] : Prop :=
  ∀ (m : (ℓ : Loc Cert.GradientIdeal.nD Cert.GradientIdeal.τ Cert.GradientIdeal.sig) → Buf (Elt Ideal) ℓ) (g : Dev Cert.GradientIdeal.nD → PrngReg)
    (m' : (ℓ : Loc Cert.LossIdeal.nD Cert.LossIdeal.τ Cert.LossIdeal.sig) → Buf (Elt Ideal) ℓ) (g' : Dev Cert.LossIdeal.nD → PrngReg), Pre_GradientIdeal_normalised m →
    (∀ c : Dev Cert.GradientIdeal.nD,
      m' ((c.tc : Thread Cert.LossIdeal.nD Cert.LossIdeal.τ).loc Cert.LossIdeal.main_arg0) = m ((c.tc : Thread Cert.GradientIdeal.nD Cert.GradientIdeal.τ).loc Cert.GradientIdeal.main_arg0)
      ∧ m' ((c.tc : Thread Cert.LossIdeal.nD Cert.LossIdeal.τ).loc Cert.LossIdeal.main_arg1) = m ((c.tc : Thread Cert.GradientIdeal.nD Cert.GradientIdeal.τ).loc Cert.GradientIdeal.main_arg1)
      ∧ m' ((c.tc : Thread Cert.LossIdeal.nD Cert.LossIdeal.τ).loc Cert.LossIdeal.main_arg2) = m ((c.tc : Thread Cert.GradientIdeal.nD Cert.GradientIdeal.τ).loc Cert.GradientIdeal.main_arg2)
      ∧ m' ((c.tc : Thread Cert.LossIdeal.nD Cert.LossIdeal.τ).loc Cert.LossIdeal.main_arg3) = m ((c.tc : Thread Cert.GradientIdeal.nD Cert.GradientIdeal.τ).loc Cert.GradientIdeal.main_arg3)
      ∧ m' ((c.tc : Thread Cert.LossIdeal.nD Cert.LossIdeal.τ).loc Cert.LossIdeal.main_arg4) = m ((c.tc : Thread Cert.GradientIdeal.nD Cert.GradientIdeal.τ).loc Cert.GradientIdeal.main_arg4)
      ∧ m' ((c.tc : Thread Cert.LossIdeal.nD Cert.LossIdeal.τ).loc Cert.LossIdeal.main_arg5) = m ((c.tc : Thread Cert.GradientIdeal.nD Cert.GradientIdeal.τ).loc Cert.GradientIdeal.main_arg5)
      ∧ m' ((c.tc : Thread Cert.LossIdeal.nD Cert.LossIdeal.τ).loc Cert.LossIdeal.main_arg6) = m ((c.tc : Thread Cert.GradientIdeal.nD Cert.GradientIdeal.τ).loc Cert.GradientIdeal.main_arg6)
      ∧ m' ((c.tc : Thread Cert.LossIdeal.nD Cert.LossIdeal.τ).loc Cert.LossIdeal.main_arg7) = m ((c.tc : Thread Cert.GradientIdeal.nD Cert.GradientIdeal.τ).loc Cert.GradientIdeal.main_arg7)
      ∧ m' ((c.tc : Thread Cert.LossIdeal.nD Cert.LossIdeal.τ).loc Cert.LossIdeal.main_arg8) = m ((c.tc : Thread Cert.GradientIdeal.nD Cert.GradientIdeal.τ).loc Cert.GradientIdeal.main_arg8)
      ∧ m' ((c.tc : Thread Cert.LossIdeal.nD Cert.LossIdeal.τ).loc Cert.LossIdeal.main_arg9) = m ((c.tc : Thread Cert.GradientIdeal.nD Cert.GradientIdeal.τ).loc Cert.GradientIdeal.main_arg9)
      ∧ m' ((c.tc : Thread Cert.LossIdeal.nD Cert.LossIdeal.τ).loc Cert.LossIdeal.main_arg10) = m ((c.tc : Thread Cert.GradientIdeal.nD Cert.GradientIdeal.τ).loc Cert.GradientIdeal.main_arg10)
      ∧ m' ((c.tc : Thread Cert.LossIdeal.nD Cert.LossIdeal.τ).loc Cert.LossIdeal.main_arg11) = m ((c.tc : Thread Cert.GradientIdeal.nD Cert.GradientIdeal.τ).loc Cert.GradientIdeal.main_arg11)
      ∧ m' ((c.tc : Thread Cert.LossIdeal.nD Cert.LossIdeal.τ).loc Cert.LossIdeal.main_arg12) = m ((c.tc : Thread Cert.GradientIdeal.nD Cert.GradientIdeal.τ).loc Cert.GradientIdeal.main_arg12)) →
    ∃ (v0 : (c : Dev Cert.GradientIdeal.nD) → Buf (Elt Ideal) ((c.tc : Thread Cert.GradientIdeal.nD Cert.GradientIdeal.τ).loc Cert.GradientIdeal.main_v0_0)),
      θ_run (Cert.GradientIdeal.defs (F := Ideal)) (onTc (τ := Cert.GradientIdeal.τ) (Cert.GradientIdeal.main (F := Ideal))) ⟨m, fun _ => 0, g⟩ (fun r => ∀ c : Dev Cert.GradientIdeal.nD,
          r.2.mem ((c.tc : Thread Cert.GradientIdeal.nD Cert.GradientIdeal.τ).loc Cert.GradientIdeal.main_v0_0) = v0 c
          ∧ r.2.mem ((c.tc : Thread Cert.GradientIdeal.nD Cert.GradientIdeal.τ).loc Cert.GradientIdeal.main_arg0) = m ((c.tc : Thread Cert.GradientIdeal.nD Cert.GradientIdeal.τ).loc Cert.GradientIdeal.main_arg0)
          ∧ r.2.mem ((c.tc : Thread Cert.GradientIdeal.nD Cert.GradientIdeal.τ).loc Cert.GradientIdeal.main_arg1) = m ((c.tc : Thread Cert.GradientIdeal.nD Cert.GradientIdeal.τ).loc Cert.GradientIdeal.main_arg1)
          ∧ r.2.mem ((c.tc : Thread Cert.GradientIdeal.nD Cert.GradientIdeal.τ).loc Cert.GradientIdeal.main_arg2) = m ((c.tc : Thread Cert.GradientIdeal.nD Cert.GradientIdeal.τ).loc Cert.GradientIdeal.main_arg2)
          ∧ r.2.mem ((c.tc : Thread Cert.GradientIdeal.nD Cert.GradientIdeal.τ).loc Cert.GradientIdeal.main_arg3) = m ((c.tc : Thread Cert.GradientIdeal.nD Cert.GradientIdeal.τ).loc Cert.GradientIdeal.main_arg3)
          ∧ r.2.mem ((c.tc : Thread Cert.GradientIdeal.nD Cert.GradientIdeal.τ).loc Cert.GradientIdeal.main_arg4) = m ((c.tc : Thread Cert.GradientIdeal.nD Cert.GradientIdeal.τ).loc Cert.GradientIdeal.main_arg4)
          ∧ r.2.mem ((c.tc : Thread Cert.GradientIdeal.nD Cert.GradientIdeal.τ).loc Cert.GradientIdeal.main_arg5) = m ((c.tc : Thread Cert.GradientIdeal.nD Cert.GradientIdeal.τ).loc Cert.GradientIdeal.main_arg5)
          ∧ r.2.mem ((c.tc : Thread Cert.GradientIdeal.nD Cert.GradientIdeal.τ).loc Cert.GradientIdeal.main_arg6) = m ((c.tc : Thread Cert.GradientIdeal.nD Cert.GradientIdeal.τ).loc Cert.GradientIdeal.main_arg6)
          ∧ r.2.mem ((c.tc : Thread Cert.GradientIdeal.nD Cert.GradientIdeal.τ).loc Cert.GradientIdeal.main_arg7) = m ((c.tc : Thread Cert.GradientIdeal.nD Cert.GradientIdeal.τ).loc Cert.GradientIdeal.main_arg7)
          ∧ r.2.mem ((c.tc : Thread Cert.GradientIdeal.nD Cert.GradientIdeal.τ).loc Cert.GradientIdeal.main_arg8) = m ((c.tc : Thread Cert.GradientIdeal.nD Cert.GradientIdeal.τ).loc Cert.GradientIdeal.main_arg8)
          ∧ r.2.mem ((c.tc : Thread Cert.GradientIdeal.nD Cert.GradientIdeal.τ).loc Cert.GradientIdeal.main_arg9) = m ((c.tc : Thread Cert.GradientIdeal.nD Cert.GradientIdeal.τ).loc Cert.GradientIdeal.main_arg9)
          ∧ r.2.mem ((c.tc : Thread Cert.GradientIdeal.nD Cert.GradientIdeal.τ).loc Cert.GradientIdeal.main_arg10) = m ((c.tc : Thread Cert.GradientIdeal.nD Cert.GradientIdeal.τ).loc Cert.GradientIdeal.main_arg10)
          ∧ r.2.mem ((c.tc : Thread Cert.GradientIdeal.nD Cert.GradientIdeal.τ).loc Cert.GradientIdeal.main_arg11) = m ((c.tc : Thread Cert.GradientIdeal.nD Cert.GradientIdeal.τ).loc Cert.GradientIdeal.main_arg11)
          ∧ r.2.mem ((c.tc : Thread Cert.GradientIdeal.nD Cert.GradientIdeal.τ).loc Cert.GradientIdeal.main_arg12) = m ((c.tc : Thread Cert.GradientIdeal.nD Cert.GradientIdeal.τ).loc Cert.GradientIdeal.main_arg12))
      ∧ θ_run (Cert.LossIdeal.defs (F := Ideal)) (onTc (τ := Cert.LossIdeal.τ) (Cert.LossIdeal.main (F := Ideal))) ⟨m', fun _ => 0, g'⟩ (fun r => ∀ c : Dev Cert.LossIdeal.nD,
          r.2.mem ((c.tc : Thread Cert.LossIdeal.nD Cert.LossIdeal.τ).loc Cert.LossIdeal.main_v0) = v0 c
          ∧ r.2.mem ((c.tc : Thread Cert.LossIdeal.nD Cert.LossIdeal.τ).loc Cert.LossIdeal.main_arg0) = m' ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m' ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m' ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m' ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m' ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m' ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m' ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m' ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m' ((c.tc : Thread Cert.LossIdeal.nD Cert.LossIdeal.τ).loc Cert.LossIdeal.main_arg8)
          ∧ r.2.mem ((c.tc : Thread Cert.LossIdeal.nD Cert.LossIdeal.τ).loc Cert.LossIdeal.main_arg9) = m' ((c.tc : Thread Cert.LossIdeal.nD Cert.LossIdeal.τ).loc Cert.LossIdeal.main_arg9)
          ∧ r.2.mem ((c.tc : Thread Cert.LossIdeal.nD Cert.LossIdeal.τ).loc Cert.LossIdeal.main_arg10) = m' ((c.tc : Thread Cert.LossIdeal.nD Cert.LossIdeal.τ).loc Cert.LossIdeal.main_arg10)
          ∧ r.2.mem ((c.tc : Thread Cert.LossIdeal.nD Cert.LossIdeal.τ).loc Cert.LossIdeal.main_arg11) = m' ((c.tc : Thread Cert.LossIdeal.nD Cert.LossIdeal.τ).loc Cert.LossIdeal.main_arg11)
          ∧ r.2.mem ((c.tc : Thread Cert.LossIdeal.nD Cert.LossIdeal.τ).loc Cert.LossIdeal.main_arg12) = m' ((c.tc : Thread Cert.LossIdeal.nD Cert.LossIdeal.τ).loc Cert.LossIdeal.main_arg12))

def Claim : Prop :=
  ∃ (hKernel : Cert.Kernel.Facts) (hKernelIdeal : Cert.KernelIdeal.Facts) (hReferenceIdeal : Cert.ReferenceIdeal.Facts) (hGradient : Cert.Gradient.Facts) (hGradientIdeal : Cert.GradientIdeal.Facts) (hLossIdeal : Cert.LossIdeal.Facts) (hLoss : Cert.Loss.Facts) (hPre_normalised : Cert.Pre_normalised.Facts),
    quiescent_Kernel (hKernel := hKernel)
    ∧ quiescent_KernelIdeal (hKernelIdeal := hKernelIdeal)
    ∧ quiescent_ReferenceIdeal (hReferenceIdeal := hReferenceIdeal)
    ∧ quiescent_Gradient (hGradient := hGradient)
    ∧ quiescent_GradientIdeal (hGradientIdeal := hGradientIdeal)
    ∧ quiescent_GradientIdeal_pre_normalised (hGradientIdeal := hGradientIdeal) (hPre_normalised := hPre_normalised)
    ∧ quiescent_LossIdeal (hLossIdeal := hLossIdeal)
    ∧ quiescent_LossIdeal_pre_normalised (hLossIdeal := hLossIdeal) (hPre_normalised := hPre_normalised)
    ∧ quiescent_Loss (hLoss := hLoss)
    ∧ preserves_Kernel_KernelIdeal
    ∧ algebraic_KernelIdeal_ReferenceIdeal (hKernelIdeal := hKernelIdeal) (hReferenceIdeal := hReferenceIdeal)
    ∧ preserves_Gradient_GradientIdeal
    ∧ preserves_Loss_LossIdeal
    ∧ algebraic_GradientIdeal_LossIdeal_pre_normalised (hGradientIdeal := hGradientIdeal) (hLossIdeal := hLossIdeal) (hPre_normalised := hPre_normalised)
-- ==== Pre_normalised.lean ====
abbrev S2 : Shape := ⟨1, ![2]⟩
abbrev S1 : Shape := ⟨1, ![1]⟩
abbrev S256x1024 : Shape := ⟨2, ![256, 1024]⟩
abbrev S1x1024 : Shape := ⟨2, ![1, 1024]⟩
abbrev S256x128 : Shape := ⟨2, ![256, 128]⟩
abbrev S128x153600 : Shape := ⟨2, ![128, 153600]⟩
abbrev S151936x1024 : Shape := ⟨2, ![151936, 1024]⟩
abbrev S1x151936 : Shape := ⟨2, ![1, 151936]⟩
abbrev S256x153600 : Shape := ⟨2, ![256, 153600]⟩
abbrev S256x1200x128 : Shape := ⟨3, ![256, 1200, 128]⟩
abbrev S256x1x128 : Shape := ⟨3, ![256, 1, 128]⟩
abbrev S_ : Shape := ⟨0, ![]⟩
abbrev S256 : Shape := ⟨1, ![256]⟩

class Facts : Prop where
  concatenates_S128x153600_S128x153600_S256x153600_d0 : Shape.Concatenates [S128x153600, S128x153600] S256x153600 0
  shapeCasts_S256x153600_S256x1200x128 : S256x153600.ShapeCasts S256x1200x128
  bcast_S256x128_S256x1x128_0_2 : S256x128.BroadcastsInDim S256x1x128 (![0, 2] : Fin 2 → Fin S256x1x128.rank)
  bcast_S256x1x128_S256x1200x128_0_1_2 : S256x1x128.BroadcastsInDim S256x1200x128 (![0, 1, 2] : Fin 3 → Fin S256x1200x128.rank)
  bcast_S_S256x1200x128 : S_.BroadcastsInDim S256x1200x128 (![] : Fin 0 → Fin S256x1200x128.rank)
  reducesTo_S256x1200x128_S256_d1_2 : S256x1200x128.ReducesTo [1, 2] S256
  h_S_ : 0 < S_.numel
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1
  bcast_S_S256 : S_.BroadcastsInDim S256 (![] : Fin 0 → Fin S256.rank)
  bcast_S_S1 : S_.BroadcastsInDim S1 (![] : Fin 0 → Fin S1.rank)
  bcast_S1_S256_0 : S1.BroadcastsInDim S256 (![0] : Fin 1 → Fin S256.rank)

variable [Facts]

def fn_part2 {F : FTy → Type} [FloatOps F] (main_arg2 : IVec S1 32) (main_v10 : FVec F S256 .f32) (main_v21 : FVec F S256 .f32) (main_v33 : IVec S256 32) (main_v38 : IVec S_ 32) : IVec S256 1 :=
  let main_v39 : IVec S256 32 := broadcastInDim S256 ![] bcast_S_S256 main_v38
  let main_v40 : IVec S256 1 := cmpi .sge main_v33 main_v39
  let main_cst_7 : FVec F S_ .f32 := constant S_ .f32 0x3F800000#32
  let main_v41 : FVec F S256 .f32 := broadcastInDim S256 ![] bcast_S_S256 main_cst_7
  let main_v42 : IVec S256 1 := cmpf .oeq main_v10 main_v41
  let main_cst_8 : FVec F S_ .f32 := constant S_ .f32 0x3F800000#32
  let main_v43 : FVec F S256 .f32 := broadcastInDim S256 ![] bcast_S_S256 main_cst_8
  let main_v44 : IVec S256 1 := cmpf .oeq main_v21 main_v43
  let main_v45 : IVec S256 1 := andi main_v42 main_v44
  let main_v46 : IVec S256 1 := ori main_v40 main_v45
  let main_c_9 : IVec S_ 32 := constantI S_ 32 0#32
  let main_v47 : IVec S1 32 := broadcastInDim S1 ![] bcast_S_S1 main_c_9
  let main_v48 : IVec S1 1 := cmpi .ne main_arg2 main_v47
  let main_v49 : IVec S256 1 := broadcastInDim S256 ![0] bcast_S1_S256_0 main_v48
  let main_v50 : IVec S256 1 := andi main_v46 main_v49
  main_v50

def fn_part1 {F : FTy → Type} [FloatOps F] (main_arg0 : IVec S2 32) (main_arg1 : IVec S2 32) (main_arg2 : IVec S1 32) (main_v10 : FVec F S256 .f32) (main_v20 : FVec F S256x1200x128 .f32) : IVec S256 1 :=
  let main_cst_2 : FVec F S_ .f32 := constant S_ .f32 0x00000000#32
  let main_v21 : FVec F S256 .f32 := (fun x v => Host.reduceAdd x v reducesTo_S256x1200x128_S256_d1_2 h_S_) main_v20 main_cst_2
  let main_c : IVec S_ 32 := constantI S_ 32 0#32
  let main_v22 : IVec S2 32 := broadcastInDim S2 ![] bcast_S_S2 main_c
  let main_v23 : IVec S2 32 := maxsi main_arg0 main_v22
  let main_c_3 : IVec S_ 32 := constantI S_ 32 128#32
  let main_v24 : IVec S2 32 := broadcastInDim S2 ![] bcast_S_S2 main_c_3
  let main_v25 : IVec S2 32 := minsi main_v23 main_v24
  let main_c_4 : IVec S_ 32 := constantI S_ 32 0#32
  let main_v26 : IVec S2 32 := broadcastInDim S2 ![] bcast_S_S2 main_c_4
  let main_v27 : IVec S2 32 := maxsi main_arg1 main_v26
  let main_c_5 : IVec S_ 32 := constantI S_ 32 128#32
  let main_v28 : IVec S2 32 := broadcastInDim S2 ![] bcast_S_S2 main_c_5
  let main_v29 : IVec S2 32 := minsi main_v27 main_v28
  let main_v30 : IVec S2 32 := subi main_v29 main_v25
  let main_c_6 : IVec S_ 32 := constantI S_ 32 0#32
  let main_v31 : IVec S2 32 := broadcastInDim S2 ![] bcast_S_S2 main_c_6
  let main_v32 : IVec S2 32 := maxsi main_v30 main_v31
  let main_v33 : IVec S256 32 := iotaInDim S256 32 0
  let main_v34 : IVec S1 32 := (extractStridedSlice S1 ![0] · slices_S2_S1_0) main_v32
  let main_v35 : IVec S_ 32 := shapeCast S_ main_v34 shapeCasts_S1_S_
  let main_v36 : IVec S1 32 := (extractStridedSlice S1 ![1] · slices_S2_S1_1) main_v32
  let main_v37 : IVec S_ 32 := shapeCast S_ main_v36 shapeCasts_S1_S_
  let main_v38 : IVec S_ 32 := addi main_v35 main_v37
  fn_part2 (F := F) main_arg2 main_v10 main_v21 main_v33 main_v38

def fn {F : FTy → Type} [FloatOps F] (main_arg0 : IVec S2 32) (main_arg1 : IVec S2 32) (main_arg2 : IVec S1 32) (main_arg3 : FVec F S256x1024 .bf16) (main_arg4 : FVec F S1x1024 .f32) (main_arg5 : FVec F S256x128 .f32) (main_arg6 : FVec F S256x128 .f32) (main_arg7 : FVec F S128x153600 .f32) (main_arg8 : FVec F S128x153600 .f32) (main_arg9 : FVec F S128x153600 .f32) (main_arg10 : FVec F S128x153600 .f32) (main_arg11 : FVec F S151936x1024 .fp8e4m3) (main_arg12 : FVec F S1x151936 .f32) : IVec S256 1 :=
  let main_v0 : FVec F S256x153600 .f32 := (fun a b => concatenate S256x153600 0 [⟨S128x153600, a⟩, ⟨S128x153600, b⟩] concatenates_S128x153600_S128x153600_S256x153600_d0) main_arg7 main_arg8
  let main_v1 : FVec F S256x1200x128 .f32 := shapeCast S256x1200x128 main_v0 shapeCasts_S256x153600_S256x1200x128
  let main_v2 : FVec F S256x1x128 .f32 := broadcastInDim S256x1x128 ![0, 2] bcast_S256x128_S256x1x128_0_2 main_arg5
  let main_v3 : FVec F S256x1200x128 .f32 := broadcastInDim S256x1200x128 ![0, 1, 2] bcast_S256x1x128_S256x1200x128_0_1_2 main_v2
  let main_v4 : FVec F S256x1200x128 .f32 := subf main_v1 main_v3
  let main_cst : FVec F S_ .f32 := constant S_ .f32 0x40000000#32
  let main_v5 : FVec F S_ .f32 := Host.log main_cst
  let main_v6 : FVec F S_ .f32 := id main_v5
  let main_v7 : FVec F S256x1200x128 .f32 := broadcastInDim S256x1200x128 ![] bcast_S_S256x1200x128 main_v6
  let main_v8 : FVec F S256x1200x128 .f32 := mulf main_v4 main_v7
  let main_v9 : FVec F S256x1200x128 .f32 := Host.exp main_v8
  let main_cst_0 : FVec F S_ .f32 := constant S_ .f32 0x00000000#32
  let main_v10 : FVec F S256 .f32 := (fun x v => Host.reduceAdd x v reducesTo_S256x1200x128_S256_d1_2 h_S_) main_v9 main_cst_0
  let main_v11 : FVec F S256x153600 .f32 := (fun a b => concatenate S256x153600 0 [⟨S128x153600, a⟩, ⟨S128x153600, b⟩] concatenates_S128x153600_S128x153600_S256x153600_d0) main_arg9 main_arg10
  let main_v12 : FVec F S256x1200x128 .f32 := shapeCast S256x1200x128 main_v11 shapeCasts_S256x153600_S256x1200x128
  let main_v13 : FVec F S256x1x128 .f32 := broadcastInDim S256x1x128 ![0, 2] bcast_S256x128_S256x1x128_0_2 main_arg6
  let main_v14 : FVec F S256x1200x128 .f32 := broadcastInDim S256x1200x128 ![0, 1, 2] bcast_S256x1x128_S256x1200x128_0_1_2 main_v13
  let main_v15 : FVec F S256x1200x128 .f32 := subf main_v12 main_v14
  let main_cst_1 : FVec F S_ .f32 := constant S_ .f32 0x40000000#32
  let main_v16 : FVec F S_ .f32 := Host.log main_cst_1
  let main_v17 : FVec F S_ .f32 := id main_v16
  let main_v18 : FVec F S256x1200x128 .f32 := broadcastInDim S256x1200x128 ![] bcast_S_S256x1200x128 main_v17
  let main_v19 : FVec F S256x1200x128 .f32 := mulf main_v15 main_v18
  let main_v20 : FVec F S256x1200x128 .f32 := Host.exp main_v19
  fn_part1 (F := F) main_arg0 main_arg1 main_arg2 main_v10 main_v20
-- ==== Kernel.lean ====
abbrev S2 : Shape := ⟨1, ![2]⟩
abbrev S256x1024 : Shape := ⟨2, ![256, 1024]⟩
abbrev S256x2560 : Shape := ⟨2, ![256, 2560]⟩
abbrev S1x1024 : Shape := ⟨2, ![1, 1024]⟩
abbrev S1x2560 : Shape := ⟨2, ![1, 2560]⟩
abbrev S1280x151936 : Shape := ⟨2, ![1280, 151936]⟩
abbrev S20x151936 : Shape := ⟨2, ![20, 151936]⟩
abbrev S151936x1024 : Shape := ⟨2, ![151936, 1024]⟩
abbrev S1x151936 : Shape := ⟨2, ![1, 151936]⟩
abbrev S128x153600 : Shape := ⟨2, ![128, 153600]⟩
abbrev S1x256 : Shape := ⟨2, ![1, 256]⟩
abbrev S256x128 : Shape := ⟨2, ![256, 128]⟩
abbrev S1280x2048 : Shape := ⟨2, ![1280, 2048]⟩
abbrev S20x2048 : Shape := ⟨2, ![20, 2048]⟩
abbrev S2048x1024 : Shape := ⟨2, ![2048, 1024]⟩
abbrev S1x2048 : Shape := ⟨2, ![1, 2048]⟩
abbrev S128x2048 : Shape := ⟨2, ![128, 2048]⟩
abbrev S1 : Shape := ⟨1, ![1]⟩
abbrev S2560x2048 : Shape := ⟨2, ![2560, 2048]⟩
abbrev S256x256 : Shape := ⟨2, ![256, 256]⟩
abbrev S256 : Shape := ⟨1, ![256]⟩
abbrev S256x1 : Shape := ⟨2, ![256, 1]⟩
abbrev S1x512 : Shape := ⟨2, ![1, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S2560x512 : Shape := ⟨2, ![2560, 512]⟩
abbrev S256x512 : Shape := ⟨2, ![256, 512]⟩
abbrev S512x1024 : Shape := ⟨2, ![512, 1024]⟩

abbrev nBuf : Space → Nat
  | .hbm => 19
  | .vmem => 36
  | .smem => 2
  | _ => 0

abbrev bufTy : (tb : Table) → Fin (tcTables nBuf tb) → BufTy
  | .hbm, ⟨0, _⟩ => ⟨S256x1024, .bf16⟩
  | .hbm, ⟨1, _⟩ => ⟨S256x2560, .bf16⟩
  | .hbm, ⟨2, _⟩ => ⟨S1x1024, .f32⟩
  | .hbm, ⟨3, _⟩ => ⟨S1x2560, .f32⟩
  | .hbm, ⟨4, _⟩ => ⟨S1280x151936, .i8⟩
  | .hbm, ⟨5, _⟩ => ⟨S20x151936, .f32⟩
  | .hbm, ⟨6, _⟩ => ⟨S20x151936, .f32⟩
  | .hbm, ⟨7, _⟩ => ⟨S151936x1024, .fp8e4m3⟩
  | .hbm, ⟨8, _⟩ => ⟨S1x151936, .f32⟩
  | .hbm, ⟨9, _⟩ => ⟨S128x153600, .f32⟩
  | .hbm, ⟨10, _⟩ => ⟨S128x153600, .f32⟩
  | .hbm, ⟨11, _⟩ => ⟨S128x153600, .f32⟩
  | .hbm, ⟨12, _⟩ => ⟨S128x153600, .f32⟩
  | .hbm, ⟨13, _⟩ => ⟨S1x256, .f32⟩
  | .hbm, ⟨14, _⟩ => ⟨S1x256, .f32⟩
  | .hbm, ⟨15, _⟩ => ⟨S256x128, .f32⟩
  | .hbm, ⟨16, _⟩ => ⟨S256x128, .f32⟩
  | .hbm, ⟨17, _⟩ => ⟨S256x1024, .fp8e4m3⟩
  | .hbm, ⟨18, _⟩ => ⟨S1x256, .f32⟩
  | .local _ .vmem, ⟨0, _⟩ => ⟨S256x1024, .bf16⟩
  | .local _ .vmem, ⟨1, _⟩ => ⟨S256x2560, .bf16⟩
  | .local _ .vmem, ⟨2, _⟩ => ⟨S1x1024, .f32⟩
  | .local _ .vmem, ⟨3, _⟩ => ⟨S1x2560, .f32⟩
  | .local _ .vmem, ⟨4, _⟩ => ⟨S1280x2048, .i8⟩
  | .local _ .vmem, ⟨5, _⟩ => ⟨S1280x2048, .i8⟩
  | .local _ .vmem, ⟨6, _⟩ => ⟨S20x2048, .f32⟩
  | .local _ .vmem, ⟨7, _⟩ => ⟨S20x2048, .f32⟩
  | .local _ .vmem, ⟨8, _⟩ => ⟨S20x2048, .f32⟩
  | .local _ .vmem, ⟨9, _⟩ => ⟨S20x2048, .f32⟩
  | .local _ .vmem, ⟨10, _⟩ => ⟨S2048x1024, .fp8e4m3⟩
  | .local _ .vmem, ⟨11, _⟩ => ⟨S2048x1024, .fp8e4m3⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S1x256, .f32⟩
  | .local _ .vmem, ⟨23, _⟩ => ⟨S1x256, .f32⟩
  | .local _ .vmem, ⟨24, _⟩ => ⟨S256x128, .f32⟩
  | .local _ .vmem, ⟨25, _⟩ => ⟨S256x128, .f32⟩
  | .local _ .vmem, ⟨26, _⟩ => ⟨S256x1024, .fp8e4m3⟩
  | .local _ .vmem, ⟨27, _⟩ => ⟨S1x256, .f32⟩
  | .local _ .vmem, ⟨28, _⟩ => ⟨S256x2560, .bf16⟩
  | .local _ .vmem, ⟨29, _⟩ => ⟨S256x1024, .fp8e4m3⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S2560x2048, .bf16⟩
  | .local _ .smem, ⟨0, _⟩ => ⟨S2, .i32⟩
  | .local _ .smem, ⟨1, _⟩ => ⟨S2, .i32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![75], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_mult2 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_mult3 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_mult4 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_mult5 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_cond2 (v3 : BitVec 32) (v6 : BitVec 32) (v11 : BitVec 32) (v14 : BitVec 32) : BitVec 1 :=
  let c128_i32_4 : BitVec 32 := 128#32
  let c0_i32_3 : BitVec 32 := 0#32
  let v7 : BitVec 32 := Scalar.maxsi c0_i32_3 v6
  let v8 : BitVec 32 := Scalar.minsi c128_i32_4 v7
  let c128_i32 : BitVec 32 := 128#32
  let c0_i32_1 : BitVec 32 := 0#32
  let v4 : BitVec 32 := Scalar.maxsi c0_i32_1 v3
  let v5 : BitVec 32 := Scalar.minsi c128_i32 v4
  let v9 : BitVec 32 := Scalar.subi v8 v5
  let c0_i32_5 : BitVec 32 := 0#32
  let v10 : BitVec 32 := Scalar.maxsi v9 c0_i32_5
  let c128_i32_10 : BitVec 32 := 128#32
  let c0_i32_9 : BitVec 32 := 0#32
  let v15 : BitVec 32 := Scalar.maxsi c0_i32_9 v14
  let v16 : BitVec 32 := Scalar.minsi c128_i32_10 v15
  let c128_i32_7 : BitVec 32 := 128#32
  let c0_i32_6 : BitVec 32 := 0#32
  let v12 : BitVec 32 := Scalar.maxsi c0_i32_6 v11
  let v13 : BitVec 32 := Scalar.minsi c128_i32_7 v12
  let v17 : BitVec 32 := Scalar.subi v16 v13
  let c0_i32_11 : BitVec 32 := 0#32
  let v18 : BitVec 32 := Scalar.maxsi v17 c0_i32_11
  let v19 : BitVec 32 := Scalar.addi v10 v18
  let c128_i32_12 : BitVec 32 := 128#32
  let v20 : BitVec 1 := Scalar.cmpi .sgt v19 c128_i32_12
  let v917 : BitVec 32 := Scalar.extui v20
  let c0_i32_320 : BitVec 32 := 0#32
  let v918 : BitVec 1 := Scalar.cmpi .ne v917 c0_i32_320
  v918

def k0_cond3 (v3 : BitVec 32) (v6 : BitVec 32) (v11 : BitVec 32) (v14 : BitVec 32) : BitVec 1 :=
  let c128_i32_4 : BitVec 32 := 128#32
  let c0_i32_3 : BitVec 32 := 0#32
  let v7 : BitVec 32 := Scalar.maxsi c0_i32_3 v6
  let v8 : BitVec 32 := Scalar.minsi c128_i32_4 v7
  let c128_i32 : BitVec 32 := 128#32
  let c0_i32_1 : BitVec 32 := 0#32
  let v4 : BitVec 32 := Scalar.maxsi c0_i32_1 v3
  let v5 : BitVec 32 := Scalar.minsi c128_i32 v4
  let v9 : BitVec 32 := Scalar.subi v8 v5
  let c0_i32_5 : BitVec 32 := 0#32
  let v10 : BitVec 32 := Scalar.maxsi v9 c0_i32_5
  let c128_i32_10 : BitVec 32 := 128#32
  let c0_i32_9 : BitVec 32 := 0#32
  let v15 : BitVec 32 := Scalar.maxsi c0_i32_9 v14
  let v16 : BitVec 32 := Scalar.minsi c128_i32_10 v15
  let c128_i32_7 : BitVec 32 := 128#32
  let c0_i32_6 : BitVec 32 := 0#32
  let v12 : BitVec 32 := Scalar.maxsi c0_i32_6 v11
  let v13 : BitVec 32 := Scalar.minsi c128_i32_7 v12
  let v17 : BitVec 32 := Scalar.subi v16 v13
  let c0_i32_11 : BitVec 32 := 0#32
  let v18 : BitVec 32 := Scalar.maxsi v17 c0_i32_11
  let v19 : BitVec 32 := Scalar.addi v10 v18
  let c128_i32_12 : BitVec 32 := 128#32
  let v20 : BitVec 1 := Scalar.cmpi .sgt v19 c128_i32_12
  let v1811 : BitVec 32 := Scalar.extui v20
  let c0_i32_678 : BitVec 32 := 0#32
  let v1812 : BitVec 1 := Scalar.cmpi .ne v1811 c0_i32_678
  v1812

def k0_cond4 (v3 : BitVec 32) (v6 : BitVec 32) (v11 : BitVec 32) (v14 : BitVec 32) : BitVec 1 :=
  let c128_i32_4 : BitVec 32 := 128#32
  let c0_i32_3 : BitVec 32 := 0#32
  let v7 : BitVec 32 := Scalar.maxsi c0_i32_3 v6
  let v8 : BitVec 32 := Scalar.minsi c128_i32_4 v7
  let c128_i32 : BitVec 32 := 128#32
  let c0_i32_1 : BitVec 32 := 0#32
  let v4 : BitVec 32 := Scalar.maxsi c0_i32_1 v3
  let v5 : BitVec 32 := Scalar.minsi c128_i32 v4
  let v9 : BitVec 32 := Scalar.subi v8 v5
  let c0_i32_5 : BitVec 32 := 0#32
  let v10 : BitVec 32 := Scalar.maxsi v9 c0_i32_5
  let c128_i32_10 : BitVec 32 := 128#32
  let c0_i32_9 : BitVec 32 := 0#32
  let v15 : BitVec 32 := Scalar.maxsi c0_i32_9 v14
  let v16 : BitVec 32 := Scalar.minsi c128_i32_10 v15
  let c128_i32_7 : BitVec 32 := 128#32
  let c0_i32_6 : BitVec 32 := 0#32
  let v12 : BitVec 32 := Scalar.maxsi c0_i32_6 v11
  let v13 : BitVec 32 := Scalar.minsi c128_i32_7 v12
  let v17 : BitVec 32 := Scalar.subi v16 v13
  let c0_i32_11 : BitVec 32 := 0#32
  let v18 : BitVec 32 := Scalar.maxsi v17 c0_i32_11
  let v19 : BitVec 32 := Scalar.addi v10 v18
  let c128_i32_12 : BitVec 32 := 128#32
  let v20 : BitVec 1 := Scalar.cmpi .sgt v19 c128_i32_12
  let v2705 : BitVec 32 := Scalar.extui v20
  let c0_i32_1036 : BitVec 32 := 0#32
  let v2706 : BitVec 1 := Scalar.cmpi .ne v2705 c0_i32_1036
  v2706

def k0_cond5 (v3 : BitVec 32) (v6 : BitVec 32) (v11 : BitVec 32) (v14 : BitVec 32) : BitVec 1 :=
  let c128_i32_4 : BitVec 32 := 128#32
  let c0_i32_3 : BitVec 32 := 0#32
  let v7 : BitVec 32 := Scalar.maxsi c0_i32_3 v6
  let v8 : BitVec 32 := Scalar.minsi c128_i32_4 v7
  let c128_i32 : BitVec 32 := 128#32
  let c0_i32_1 : BitVec 32 := 0#32
  let v4 : BitVec 32 := Scalar.maxsi c0_i32_1 v3
  let v5 : BitVec 32 := Scalar.minsi c128_i32 v4
  let v9 : BitVec 32 := Scalar.subi v8 v5
  let c0_i32_5 : BitVec 32 := 0#32
  let v10 : BitVec 32 := Scalar.maxsi v9 c0_i32_5
  let c128_i32_10 : BitVec 32 := 128#32
  let c0_i32_9 : BitVec 32 := 0#32
  let v15 : BitVec 32 := Scalar.maxsi c0_i32_9 v14
  let v16 : BitVec 32 := Scalar.minsi c128_i32_10 v15
  let c128_i32_7 : BitVec 32 := 128#32
  let c0_i32_6 : BitVec 32 := 0#32
  let v12 : BitVec 32 := Scalar.maxsi c0_i32_6 v11
  let v13 : BitVec 32 := Scalar.minsi c128_i32_7 v12
  let v17 : BitVec 32 := Scalar.subi v16 v13
  let c0_i32_11 : BitVec 32 := 0#32
  let v18 : BitVec 32 := Scalar.maxsi v17 c0_i32_11
  let v19 : BitVec 32 := Scalar.addi v10 v18
  let c128_i32_12 : BitVec 32 := 128#32
  let v20 : BitVec 1 := Scalar.cmpi .sgt v19 c128_i32_12
  let v3599 : BitVec 32 := Scalar.extui v20
  let c0_i32_1394 : BitVec 32 := 0#32
  let v3600 : BitVec 1 := Scalar.cmpi .ne v3599 c0_i32_1394
  v3600

def k0_cond6 (i : grid0.Coords) : BitVec 1 :=
  let arg0 : BitVec 32 := BitVec.ofNat 32 (i 0).val
  let c74_i32 : BitVec 32 := 74#32
  let v3601 : BitVec 1 := Scalar.cmpi .eq arg0 c74_i32
  let v3602 : BitVec 32 := Scalar.extui v3601
  let c0_i32_1395 : BitVec 32 := 0#32
  let v3603 : BitVec 1 := Scalar.cmpi .ne v3602 c0_i32_1395
  v3603

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![c0_i32.toNat, v2.toNat]

def cc0_transform_7 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![c0_i32.toNat, v2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c128_i32 : BitVec 32 := 128#32
  let v1 : BitVec 32 := Scalar.maxsi c0_i32 v0
  let v2 : BitVec 32 := Scalar.minsi c128_i32 v1
  let c0_0 : Index := 0#32
  let v3 : BitVec 32 := pf.at 1 (Rect.unit (s := S2) ![0] S1.size inb_S2_S1_0) numel1_S1
  let c0_i32_1 : BitVec 32 := 0#32
  let c128_i32_2 : BitVec 32 := 128#32
  let v4 : BitVec 32 := Scalar.maxsi c0_i32_1 v3
  let v5 : BitVec 32 := Scalar.minsi c128_i32_2 v4
  let v6 : BitVec 32 := Scalar.subi v5 v2
  let c0_i32_3 : BitVec 32 := 0#32
  let v7 : BitVec 32 := Scalar.maxsi v6 c0_i32_3
  let c1 : Index := 1#32
  let v8 : BitVec 32 := pf.at 0 (Rect.unit (s := S2) ![1] S1.size inb_S2_S1_1) numel1_S1
  let c0_i32_4 : BitVec 32 := 0#32
  let c128_i32_5 : BitVec 32 := 128#32
  let v9 : BitVec 32 := Scalar.maxsi c0_i32_4 v8
  let v10 : BitVec 32 := Scalar.minsi c128_i32_5 v9
  let c1_6 : Index := 1#32
  let v11 : BitVec 32 := pf.at 1 (Rect.unit (s := S2) ![1] S1.size inb_S2_S1_1) numel1_S1
  let c0_i32_7 : BitVec 32 := 0#32
  let c128_i32_8 : BitVec 32 := 128#32
  let v12 : BitVec 32 := Scalar.maxsi c0_i32_7 v11
  let v13 : BitVec 32 := Scalar.minsi c128_i32_8 v12
  let v14 : BitVec 32 := Scalar.subi v13 v10
  let c0_i32_9 : BitVec 32 := 0#32
  let v15 : BitVec 32 := Scalar.maxsi v14 c0_i32_9
  let v16 : BitVec 32 := Scalar.addi v7 v15
  let c128_i32_10 : BitVec 32 := 128#32
  let v17 : BitVec 1 := Scalar.cmpi .sgt v16 c128_i32_10
  let c0_i32_11 : BitVec 32 := 0#32
  let v18 : BitVec 32 := Scalar.select v17 arg0 c0_i32_11
  let c0_i32_12 : BitVec 32 := 0#32
  let c0_i32_13 : BitVec 32 := 0#32
  ![c0_i32_12.toNat, v18.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c128_i32 : BitVec 32 := 128#32
  let v1 : BitVec 32 := Scalar.maxsi c0_i32 v0
  let v2 : BitVec 32 := Scalar.minsi c128_i32 v1
  let c0_0 : Index := 0#32
  let v3 : BitVec 32 := pf.at 1 (Rect.unit (s := S2) ![0] S1.size inb_S2_S1_0) numel1_S1
  let c0_i32_1 : BitVec 32 := 0#32
  let c128_i32_2 : BitVec 32 := 128#32
  let v4 : BitVec 32 := Scalar.maxsi c0_i32_1 v3
  let v5 : BitVec 32 := Scalar.minsi c128_i32_2 v4
  let v6 : BitVec 32 := Scalar.subi v5 v2
  let c0_i32_3 : BitVec 32 := 0#32
  let v7 : BitVec 32 := Scalar.maxsi v6 c0_i32_3
  let c1 : Index := 1#32
  let v8 : BitVec 32 := pf.at 0 (Rect.unit (s := S2) ![1] S1.size inb_S2_S1_1) numel1_S1
  let c0_i32_4 : BitVec 32 := 0#32
  let c128_i32_5 : BitVec 32 := 128#32
  let v9 : BitVec 32 := Scalar.maxsi c0_i32_4 v8
  let v10 : BitVec 32 := Scalar.minsi c128_i32_5 v9
  let c1_6 : Index := 1#32
  let v11 : BitVec 32 := pf.at 1 (Rect.unit (s := S2) ![1] S1.size inb_S2_S1_1) numel1_S1
  let c0_i32_7 : BitVec 32 := 0#32
  let c128_i32_8 : BitVec 32 := 128#32
  let v12 : BitVec 32 := Scalar.maxsi c0_i32_7 v11
  let v13 : BitVec 32 := Scalar.minsi c128_i32_8 v12
  let v14 : BitVec 32 := Scalar.subi v13 v10
  let c0_i32_9 : BitVec 32 := 0#32
  let v15 : BitVec 32 := Scalar.maxsi v14 c0_i32_9
  let v16 : BitVec 32 := Scalar.addi v7 v15
  let c128_i32_10 : BitVec 32 := 128#32
  let v17 : BitVec 1 := Scalar.cmpi .sgt v16 c128_i32_10
  let c0_i32_11 : BitVec 32 := 0#32
  let v18 : BitVec 32 := Scalar.select v17 arg0 c0_i32_11
  let c0_i32_12 : BitVec 32 := 0#32
  let c0_i32_13 : BitVec 32 := 0#32
  ![c0_i32_12.toNat, v18.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "half_log2e" => some (((2 * (Real.log 2))⁻¹ : ℝ) : EReal)
  | "ln2" => some ((Real.log 2 : ℝ) : EReal)
  | "log2e" => some (((Real.log 2)⁻¹ : ℝ) : EReal)
  | "masked" => some ⊥
  | _ => none
-- ==== ReferenceIdeal.lean ====
abbrev S2 : Shape := ⟨1, ![2]⟩
abbrev S256x1024 : Shape := ⟨2, ![256, 1024]⟩
abbrev S256x2560 : Shape := ⟨2, ![256, 2560]⟩
abbrev S1x1024 : Shape := ⟨2, ![1, 1024]⟩
abbrev S1x2560 : Shape := ⟨2, ![1, 2560]⟩
abbrev S1280x151936 : Shape := ⟨2, ![1280, 151936]⟩
abbrev S20x151936 : Shape := ⟨2, ![20, 151936]⟩
abbrev S151936x1024 : Shape := ⟨2, ![151936, 1024]⟩
abbrev S1x151936 : Shape := ⟨2, ![1, 151936]⟩
abbrev S1x256 : Shape := ⟨2, ![1, 256]⟩
abbrev S20x64x151936 : Shape := ⟨3, ![20, 64, 151936]⟩
abbrev S20x1x151936 : Shape := ⟨3, ![20, 1, 151936]⟩
abbrev S256 : Shape := ⟨1, ![256]⟩
abbrev S256x1 : Shape := ⟨2, ![256, 1]⟩
abbrev S1280x1x151936 : Shape := ⟨3, ![1280, 1, 151936]⟩
abbrev S1280x2x151936 : Shape := ⟨3, ![1280, 2, 151936]⟩
abbrev S2560x151936 : Shape := ⟨2, ![2560, 151936]⟩
abbrev S256x151936 : Shape := ⟨2, ![256, 151936]⟩

abbrev nBuf : Space → Nat
  | .hbm => 15
  | .vmem => 13
  | .smem => 0
  | _ => 0

abbrev bufTy : (tb : Table) → Fin (tcTables nBuf tb) → BufTy
  | .hbm, ⟨0, _⟩ => ⟨S2, .i32⟩
  | .hbm, ⟨1, _⟩ => ⟨S2, .i32⟩
  | .hbm, ⟨2, _⟩ => ⟨S256x1024, .bf16⟩
  | .hbm, ⟨3, _⟩ => ⟨S256x2560, .bf16⟩
  | .hbm, ⟨4, _⟩ => ⟨S1x1024, .f32⟩
  | .hbm, ⟨5, _⟩ => ⟨S1x2560, .f32⟩
  | .hbm, ⟨6, _⟩ => ⟨S1280x151936, .i8⟩
  | .hbm, ⟨7, _⟩ => ⟨S20x151936, .f32⟩
  | .hbm, ⟨8, _⟩ => ⟨S20x151936, .f32⟩
  | .hbm, ⟨9, _⟩ => ⟨S151936x1024, .fp8e4m3⟩
  | .hbm, ⟨10, _⟩ => ⟨S1x151936, .f32⟩
  | .hbm, ⟨11, _⟩ => ⟨S1x256, .f32⟩
  | .hbm, ⟨12, _⟩ => ⟨S1x256, .f32⟩
  | .hbm, ⟨13, _⟩ => ⟨S256x1024, .fp8e4m3⟩
  | .hbm, ⟨14, _⟩ => ⟨S1x256, .f32⟩
  | .local _ .vmem, ⟨0, _⟩ => ⟨S256x1024, .bf16⟩
  | .local _ .vmem, ⟨1, _⟩ => ⟨S256x2560, .bf16⟩
  | .local _ .vmem, ⟨2, _⟩ => ⟨S1x1024, .f32⟩
  | .local _ .vmem, ⟨3, _⟩ => ⟨S1x2560, .f32⟩
  | .local _ .vmem, ⟨4, _⟩ => ⟨S1280x151936, .i8⟩
  | .local _ .vmem, ⟨5, _⟩ => ⟨S20x151936, .f32⟩
  | .local _ .vmem, ⟨6, _⟩ => ⟨S20x151936, .f32⟩
  | .local _ .vmem, ⟨7, _⟩ => ⟨S151936x1024, .fp8e4m3⟩
  | .local _ .vmem, ⟨8, _⟩ => ⟨S1x151936, .f32⟩
  | .local _ .vmem, ⟨9, _⟩ => ⟨S1x256, .f32⟩
  | .local _ .vmem, ⟨10, _⟩ => ⟨S1x256, .f32⟩
  | .local _ .vmem, ⟨11, _⟩ => ⟨S256x1024, .fp8e4m3⟩
  | .local _ .vmem, ⟨12, _⟩ => ⟨S1x256, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x151936 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x151936 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x151936 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S151936x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x151936 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Gradient.lean ====
abbrev S2 : Shape := ⟨1, ![2]⟩
abbrev S1 : Shape := ⟨1, ![1]⟩
abbrev S256x1024 : Shape := ⟨2, ![256, 1024]⟩
abbrev S1x1024 : Shape := ⟨2, ![1, 1024]⟩
abbrev S256x128 : Shape := ⟨2, ![256, 128]⟩
abbrev S128x153600 : Shape := ⟨2, ![128, 153600]⟩
abbrev S151936x1024 : Shape := ⟨2, ![151936, 1024]⟩
abbrev S1x151936 : Shape := ⟨2, ![1, 151936]⟩
abbrev S1x256 : Shape := ⟨2, ![1, 256]⟩
abbrev S128x2048 : Shape := ⟨2, ![128, 2048]⟩
abbrev S2048x1024 : Shape := ⟨2, ![2048, 1024]⟩
abbrev S1x2048 : Shape := ⟨2, ![1, 2048]⟩
abbrev S2x256x1024 : Shape := ⟨3, ![2, 256, 1024]⟩
abbrev S256x2048 : Shape := ⟨2, ![256, 2048]⟩
abbrev S1x128 : Shape := ⟨2, ![1, 128]⟩
abbrev S128x128 : Shape := ⟨2, ![128, 128]⟩
abbrev S128x1024 : Shape := ⟨2, ![128, 1024]⟩
abbrev S1x256x1024 : Shape := ⟨3, ![1, 256, 1024]⟩
abbrev S256x256 : Shape := ⟨2, ![256, 256]⟩
abbrev S256 : Shape := ⟨1, ![256]⟩
abbrev S256x1 : Shape := ⟨2, ![256, 1]⟩
abbrev S1x128x1024 : Shape := ⟨3, ![1, 128, 1024]⟩
abbrev S128x1 : Shape := ⟨2, ![128, 1]⟩

abbrev nBuf : Space → Nat
  | .hbm => 13
  | .vmem => 24
  | .smem => 3
  | _ => 0

abbrev bufTy : (tb : Table) → Fin (tcTables nBuf tb) → BufTy
  | .hbm, ⟨0, _⟩ => ⟨S256x1024, .bf16⟩
  | .hbm, ⟨1, _⟩ => ⟨S1x1024, .f32⟩
  | .hbm, ⟨2, _⟩ => ⟨S256x128, .f32⟩
  | .hbm, ⟨3, _⟩ => ⟨S256x128, .f32⟩
  | .hbm, ⟨4, _⟩ => ⟨S128x153600, .f32⟩
  | .hbm, ⟨5, _⟩ => ⟨S128x153600, .f32⟩
  | .hbm, ⟨6, _⟩ => ⟨S128x153600, .f32⟩
  | .hbm, ⟨7, _⟩ => ⟨S128x153600, .f32⟩
  | .hbm, ⟨8, _⟩ => ⟨S151936x1024, .fp8e4m3⟩
  | .hbm, ⟨9, _⟩ => ⟨S1x151936, .f32⟩
  | .hbm, ⟨10, _⟩ => ⟨S1x256, .f32⟩
  | .hbm, ⟨11, _⟩ => ⟨S256x1024, .bf16⟩
  | .hbm, ⟨12, _⟩ => ⟨S256x1024, .f32⟩
  | .local _ .vmem, ⟨0, _⟩ => ⟨S256x1024, .bf16⟩
  | .local _ .vmem, ⟨1, _⟩ => ⟨S1x1024, .f32⟩
  | .local _ .vmem, ⟨2, _⟩ => ⟨S256x128, .f32⟩
  | .local _ .vmem, ⟨3, _⟩ => ⟨S256x128, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S2048x1024, .fp8e4m3⟩
  | .local _ .vmem, ⟨13, _⟩ => ⟨S2048x1024, .fp8e4m3⟩
  | .local _ .vmem, ⟨14, _⟩ => ⟨S1x2048, .f32⟩
  | .local _ .vmem, ⟨15, _⟩ => ⟨S1x2048, .f32⟩
  | .local _ .vmem, ⟨16, _⟩ => ⟨S1x256, .f32⟩
  | .local _ .vmem, ⟨17, _⟩ => ⟨S256x1024, .bf16⟩
  | .local _ .vmem, ⟨18, _⟩ => ⟨S256x1024, .f32⟩
  | .local _ .vmem, ⟨19, _⟩ => ⟨S2x256x1024, .f32⟩
  | .local _ .vmem, ⟨20, _⟩ => ⟨S256x128, .f32⟩
  | .local _ .vmem, ⟨21, _⟩ => ⟨S256x128, .f32⟩
  | .local _ .vmem, ⟨22, _⟩ => ⟨S2048x1024, .bf16⟩
  | .local _ .vmem, ⟨23, _⟩ => ⟨S256x2048, .bf16⟩
  | .local _ .smem, ⟨0, _⟩ => ⟨S2, .i32⟩
  | .local _ .smem, ⟨1, _⟩ => ⟨S2, .i32⟩
  | .local _ .smem, ⟨2, _⟩ => ⟨S1, .i32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_arg12 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![75], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_mult1 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_mult2 (i : grid0.Coords) : BitVec 32 :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  v1
def k0_cond3 (i : grid0.Coords) : BitVec 1 :=
  let arg0 : BitVec 32 := BitVec.ofNat 32 (i 0).val
  let c74_i32 : BitVec 32 := 74#32
  let v684 : BitVec 1 := Scalar.cmpi .eq arg0 c74_i32
  let v685 : BitVec 32 := Scalar.extui v684
  let c0_i32_294 : BitVec 32 := 0#32
  let v686 : BitVec 1 := Scalar.cmpi .ne v685 c0_i32_294
  v686

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c128_i32 : BitVec 32 := 128#32
  let v1 : BitVec 32 := Scalar.maxsi c0_i32 v0
  let v2 : BitVec 32 := Scalar.minsi c128_i32 v1
  let c0_0 : Index := 0#32
  let v3 : BitVec 32 := pf.at 1 (Rect.unit (s := S2) ![0] S1.size inb_S2_S1_0) numel1_S1
  let c0_i32_1 : BitVec 32 := 0#32
  let c128_i32_2 : BitVec 32 := 128#32
  let v4 : BitVec 32 := Scalar.maxsi c0_i32_1 v3
  let v5 : BitVec 32 := Scalar.minsi c128_i32_2 v4
  let v6 : BitVec 32 := Scalar.subi v5 v2
  let c0_i32_3 : BitVec 32 := 0#32
  let v7 : BitVec 32 := Scalar.maxsi v6 c0_i32_3
  let c1 : Index := 1#32
  let v8 : BitVec 32 := pf.at 0 (Rect.unit (s := S2) ![1] S1.size inb_S2_S1_1) numel1_S1
  let c0_i32_4 : BitVec 32 := 0#32
  let c128_i32_5 : BitVec 32 := 128#32
  let v9 : BitVec 32 := Scalar.maxsi c0_i32_4 v8
  let v10 : BitVec 32 := Scalar.minsi c128_i32_5 v9
  let c1_6 : Index := 1#32
  let v11 : BitVec 32 := pf.at 1 (Rect.unit (s := S2) ![1] S1.size inb_S2_S1_1) numel1_S1
  let c0_i32_7 : BitVec 32 := 0#32
  let c128_i32_8 : BitVec 32 := 128#32
  let v12 : BitVec 32 := Scalar.maxsi c0_i32_7 v11
  let v13 : BitVec 32 := Scalar.minsi c128_i32_8 v12
  let v14 : BitVec 32 := Scalar.subi v13 v10
  let c0_i32_9 : BitVec 32 := 0#32
  let v15 : BitVec 32 := Scalar.maxsi v14 c0_i32_9
  let v16 : BitVec 32 := Scalar.addi v7 v15
  let c128_i32_10 : BitVec 32 := 128#32
  let v17 : BitVec 1 := Scalar.cmpi .sgt v16 c128_i32_10
  let c0_i32_11 : BitVec 32 := 0#32
  let v18 : BitVec 32 := Scalar.select v17 arg0 c0_i32_11
  let c0_i32_12 : BitVec 32 := 0#32
  let c0_i32_13 : BitVec 32 := 0#32
  ![c0_i32_12.toNat, v18.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c128_i32 : BitVec 32 := 128#32
  let v1 : BitVec 32 := Scalar.maxsi c0_i32 v0
  let v2 : BitVec 32 := Scalar.minsi c128_i32 v1
  let c0_0 : Index := 0#32
  let v3 : BitVec 32 := pf.at 1 (Rect.unit (s := S2) ![0] S1.size inb_S2_S1_0) numel1_S1
  let c0_i32_1 : BitVec 32 := 0#32
  let c128_i32_2 : BitVec 32 := 128#32
  let v4 : BitVec 32 := Scalar.maxsi c0_i32_1 v3
  let v5 : BitVec 32 := Scalar.minsi c128_i32_2 v4
  let v6 : BitVec 32 := Scalar.subi v5 v2
  let c0_i32_3 : BitVec 32 := 0#32
  let v7 : BitVec 32 := Scalar.maxsi v6 c0_i32_3
  let c1 : Index := 1#32
  let v8 : BitVec 32 := pf.at 0 (Rect.unit (s := S2) ![1] S1.size inb_S2_S1_1) numel1_S1
  let c0_i32_4 : BitVec 32 := 0#32
  let c128_i32_5 : BitVec 32 := 128#32
  let v9 : BitVec 32 := Scalar.maxsi c0_i32_4 v8
  let v10 : BitVec 32 := Scalar.minsi c128_i32_5 v9
  let c1_6 : Index := 1#32
  let v11 : BitVec 32 := pf.at 1 (Rect.unit (s := S2) ![1] S1.size inb_S2_S1_1) numel1_S1
  let c0_i32_7 : BitVec 32 := 0#32
  let c128_i32_8 : BitVec 32 := 128#32
  let v12 : BitVec 32 := Scalar.maxsi c0_i32_7 v11
  let v13 : BitVec 32 := Scalar.minsi c128_i32_8 v12
  let v14 : BitVec 32 := Scalar.subi v13 v10
  let c0_i32_9 : BitVec 32 := 0#32
  let v15 : BitVec 32 := Scalar.maxsi v14 c0_i32_9
  let v16 : BitVec 32 := Scalar.addi v7 v15
  let c128_i32_10 : BitVec 32 := 128#32
  let v17 : BitVec 1 := Scalar.cmpi .sgt v16 c128_i32_10
  let c0_i32_11 : BitVec 32 := 0#32
  let v18 : BitVec 32 := Scalar.select v17 arg0 c0_i32_11
  let c0_i32_12 : BitVec 32 := 0#32
  let c0_i32_13 : BitVec 32 := 0#32
  ![c0_i32_12.toNat, v18.toNat]

def cc0_transform_8 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c2048_i32 : BitVec 32 := 2048#32
  let v0 : BitVec 32 := Scalar.muli arg0 c2048_i32
  let c149888_i32 : BitVec 32 := 149888#32
  let v1 : BitVec 32 := Scalar.minsi v0 c149888_i32
  let v2 : BitVec 32 := v1
  let c0_i32 : BitVec 32 := 0#32
  let c0_i32_0 : BitVec 32 := 0#32
  ![c0_i32.toNat, v2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GradientIdeal.lean ====
variable {F : FTy → Type} [FloatOps F] [Named F]
def κ : String → Option EReal := fun
  | "entropy_student" => some (((3 / 4) * (Real.log (3 / 4)) : ℝ) : EReal)
  | "entropy_teacher" => some (((1 / 4) * (Real.log (1 / 4)) : ℝ) : EReal)
  | "log2e" => some (((Real.log 2)⁻¹ : ℝ) : EReal)
  | "odds" => some (((Real.log (1 / 3)) * (Real.log 2)⁻¹ : ℝ) : EReal)
  | "student_ln2" => some (((3 / 4) * (Real.log 2) : ℝ) : EReal)
  | "tiny" => some ⊥
  | _ => none
-- ==== LossIdeal.lean ====
variable {F : FTy → Type} [FloatOps F] [Named F]
def κ : String → Option EReal := fun
  | "ln2" => some ((Real.log 2 : ℝ) : EReal)
  | "log_beta" => some ((Real.log (1 / 4) : ℝ) : EReal)
  | "log_one_minus_beta" => some ((Real.log (3 / 4) : ℝ) : EReal)
  | _ => none
-- ==== Loss.lean ====
abbrev S2 : Shape := ⟨1, ![2]⟩
abbrev S1 : Shape := ⟨1, ![1]⟩
abbrev S256x1024 : Shape := ⟨2, ![256, 1024]⟩
abbrev S1x1024 : Shape := ⟨2, ![1, 1024]⟩
abbrev S256x128 : Shape := ⟨2, ![256, 128]⟩
abbrev S128x153600 : Shape := ⟨2, ![128, 153600]⟩
abbrev S151936x1024 : Shape := ⟨2, ![151936, 1024]⟩
abbrev S1x151936 : Shape := ⟨2, ![1, 151936]⟩
abbrev S1x256 : Shape := ⟨2, ![1, 256]⟩
abbrev S256x153600 : Shape := ⟨2, ![256, 153600]⟩
abbrev S256x1200x128 : Shape := ⟨3, ![256, 1200, 128]⟩
abbrev S256x1x128 : Shape := ⟨3, ![256, 1, 128]⟩
abbrev S256 : Shape := ⟨1, ![256]⟩
abbrev S256x256 : Shape := ⟨2, ![256, 256]⟩
abbrev S256x1 : Shape := ⟨2, ![256, 1]⟩

abbrev nBuf : Space → Nat
  | .hbm => 14
  | .vmem => 7
  | .smem => 3
  | _ => 0

abbrev bufTy : (tb : Table) → Fin (tcTables nBuf tb) → BufTy
  | .hbm, ⟨0, _⟩ => ⟨S2, .i32⟩
  | .hbm, ⟨1, _⟩ => ⟨S2, .i32⟩
  | .hbm, ⟨2, _⟩ => ⟨S1, .i32⟩
  | .hbm, ⟨3, _⟩ => ⟨S256x1024, .bf16⟩
  | .hbm, ⟨4, _⟩ => ⟨S1x1024, .f32⟩
  | .hbm, ⟨5, _⟩ => ⟨S256x128, .f32⟩
  | .hbm, ⟨6, _⟩ => ⟨S256x128, .f32⟩
  | .hbm, ⟨7, _⟩ => ⟨S128x153600, .f32⟩
  | .hbm, ⟨8, _⟩ => ⟨S128x153600, .f32⟩
  | .hbm, ⟨9, _⟩ => ⟨S128x153600, .f32⟩
  | .hbm, ⟨10, _⟩ => ⟨S128x153600, .f32⟩
  | .hbm, ⟨11, _⟩ => ⟨S151936x1024, .fp8e4m3⟩
  | .hbm, ⟨12, _⟩ => ⟨S1x151936, .f32⟩
  | .hbm, ⟨13, _⟩ => ⟨S1x256, .f32⟩
  | .local _ .vmem, ⟨0, _⟩ => ⟨S256x128, .f32⟩
  | .local _ .vmem, ⟨1, _⟩ => ⟨S256x128, .f32⟩
  | .local _ .vmem, ⟨2, _⟩ => ⟨S128x153600, .f32⟩
  | .local _ .vmem, ⟨3, _⟩ => ⟨S128x153600, .f32⟩
  | .local _ .vmem, ⟨4, _⟩ => ⟨S128x153600, .f32⟩
  | .local _ .vmem, ⟨5, _⟩ => ⟨S128x153600, .f32⟩
  | .local _ .vmem, ⟨6, _⟩ => ⟨S1x256, .f32⟩
  | .local _ .smem, ⟨0, _⟩ => ⟨S2, .i32⟩
  | .local _ .smem, ⟨1, _⟩ => ⟨S2, .i32⟩
  | .local _ .smem, ⟨2, _⟩ => ⟨S1, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x153600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x153600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x153600 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x153600 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Body.lean ====
/-
  The body of the logits call, run once on whole buffers: it ends, it gives every buffer back, and it leaves the
  tables and the input blocks as they were. Nothing is said of the values it writes; the frame needs no more.
-/
module

public import proofs.«01_k».proof.Proof.Gen.Kernel.Launch
public import proofs.«01_k».proof.Proof.Gen.Kernel.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The body at a grid point on whole buffers. -/
theorem body_runs (c : Dev nD) (i : grid0.Coords) (q1 q2 : PosShare TreeShare) (arg1 : Memref sig .tc .smem S2 .i32) (harg1 : arg1.IsWhole) (arg2 : Memref sig .tc .smem S2 .i32) (harg2 : arg2.IsWhole) (arg3 : Memref sig .tc .vmem S256x1024 .bf16) (harg3 : arg3.IsWhole) (arg4 : Memref sig .tc .vmem S256x2560 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S1280x2048 .i8) (harg7 : arg7.IsWhole) (arg8 : Memref sig .tc .vmem S20x2048 .f32) (harg8 : arg8.IsWhole) (arg9 : Memref sig .tc .vmem S20x2048 .f32) (harg9 : arg9.IsWhole) (arg10 : Memref sig .tc .vmem S2048x1024 .fp8e4m3) (harg10 : arg10.IsWhole) (arg11 : Memref sig .tc .vmem S1x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x1024 .fp8e4m3) (harg20 : arg20.IsWhole) (arg21 : Memref sig .tc .vmem S1x256 .f32) (harg21 : arg21.IsWhole) (arg22 : Memref sig .tc .vmem S256x2560 .bf16) (harg22 : arg22.IsWhole) (arg23 : Memref sig .tc .vmem S256x1024 .fp8e4m3) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S2560x2048 .bf16) (harg29 : arg29.IsWhole)
    (x1 : Vec F S2 .i32) (x2 : Vec F S2 .i32) (x3 : Vec F S256x1024 .bf16) (x4 : Vec F S256x2560 .bf16) (x5 : Vec F S1x1024 .f32) (x6 : Vec F S1x2560 .f32) (x7 : Vec F S1280x2048 .i8) (x8 : Vec F S20x2048 .f32) (x9 : Vec F S20x2048 .f32) (x10 : Vec F S2048x1024 .fp8e4m3) (x11 : Vec F S1x2048 .f32) (K : PUnit → sProp 𝕄) :
    iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ (cc0_gkd_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf1 hf2 hf3 hf4 hf5 hf6 hf7 hf8 hf9 hf10 hf11
  sl_exec_parts
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  isplitl [H21]
  · iexists _, _; isplitr
    swap; · iexact H21
    ipureintro; rfl
  isplitl [H22]
  · iexists _, _; isplitr
    swap; · iexact H22
    ipureintro; rfl
  isplitl [H23]
  · iexists _, _; isplitr
    swap; · iexact H23
    ipureintro; rfl
  isplitl [H24]
  · iexists _, _; isplitr
    swap; · iexact H24
    ipureintro; rfl
  isplitl [H25]
  · iexists _, _; isplitr
    swap; · iexact H25
    ipureintro; rfl
  isplitl [H26]
  · iexists _, _; isplitr
    swap; · iexact H26
    ipureintro; rfl
  isplitl [H27]
  · iexists _, _; isplitr
    swap; · iexact H27
    ipureintro; rfl
  isplitl [H28]
  · iexists _, _; isplitr
    swap; · iexact H28
    ipureintro; rfl
  iexists _, _; isplitr
  swap; · iexact H29
  ipureintro; rfl

end Cert.Kernel.Hand
-- ==== Proof.Frame.lean ====
/-
  The frame of the logits call: the launch ends in every order of its steps, leaves the eleven argument arrays as they
  were, and leaves every counter at zero. Two of the windows are idle or not according to words of the two tables, so
  the proof data are relational: a relation says what a point may leave in a window, and here it says nothing.
-/
module

public import proofs.«01_k».proof.Proof.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## Any contents of the tables are admissible -/

/-- A window of 128 by 2048 blocks whose block index is the point's number or 0 stays inside 128 by 153600. -/
theorem ok_block (i : grid0.Coords) (b : BitVec 1) (a : Fin 2) :
    ((![0, (Scalar.select b (BitVec.ofNat 32 (i 0).val) (0#32)).toNat] : Fin 2 → Nat) a + 1) * S128x2048.size a ≤ S128x153600.size a := by
  have hi : (i 0).val < 75 := (i 0).isLt
  have hs : (Scalar.select b (BitVec.ofNat 32 (i 0).val) (0#32)).toNat ≤ 74 := by
    unfold Scalar.select
    split <;> simp <;> omega
  fin_cases a
  · show (0 + 1) * 128 ≤ 128
    omega
  · show ((Scalar.select b (BitVec.ofNat 32 (i 0).val) (0#32)).toNat + 1) * 2048 ≤ 153600
    omega

/-- Whatever the tables hold, the two optional windows' blocks lie inside their arrays. -/
theorem ok0_all (pf : pre0.Contents (Elt F)) : ok0 pf :=
  ⟨fun i => ⟨fun a => ok_block i _ a, .inl rfl⟩, fun i => ⟨fun a => ok_block i _ a, .inl rfl⟩⟩

/-! ## The launch -/

variable (m : (ℓ : Loc nD τ sig) → Buf (Elt F) ℓ) (ρ : Dev nD → PrngReg)

/-- The tables as the launch finds them. There is one device. -/
def tabs : pre0.Contents (Elt F) := fun k => m (((0 : Dev nD) : Thread nD τ).loc (pre0.ref k))

/-- The tables, with the proof that they are admissible. -/
def adm (_ : Fin 1) : (pcfg0 (F := F)).Adm := ⟨tabs m, ok0_all _⟩

/-- The buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_region (pcfgs (F := F)) 0 defs₀ 𝒱₀ m main fun c => (main_chain c).trans rfl

/-- The two tables' words, as the launch finds them. -/
def tab0 : Vec F S2 .i32 := tabs m 0
def tab1 : Vec F S2 .i32 := tabs m 1

/-- The two tables on core `c`, each half held. -/
theorem tables_eq (c : Dev nD) :
    (Pipeline.ΦT (U := UR sig nD τ) pre0 (tabs m) c : sProp 𝕄)
      = iprop(owns (c : Thread nD τ) (Memref.whole main_arg0) fullShare.right (tab0 m)
          ∗ owns (c : Thread nD τ) (Memref.whole main_arg1) fullShare.right (tab1 m)) :=
  (bigSep_univ_eq_bigSepL [(0 : Fin 2), (1 : Fin 2)] (by decide) (by decide) _).trans
    (congrArg₂ (fun A B : sProp 𝕄 => iprop(A ∗ B)) (owns_whole (c : Thread nD τ) main_arg0 fullShare.right (tab0 m)).symm
      (owns_whole (c : Thread nD τ) main_arg1 fullShare.right (tab1 m)).symm)

/-- The relational data: nothing is said of what a point leaves. The invariant holds the scratch buffers at some
    contents, the generator's register and the two tables. -/
def rdat (c : Dev nD) : RDat τ (Elt F) Unit ℕ (UR sig nD τ) ℕ (cfg0 (adm m 0)) c where
  A w := V m c (Pipeline.arrRef spec0 w)
  after _ _ _ _ := True
  Φ _ := iprop(Pipeline.ΦA (U := UR sig nD τ) spec0 c ∗ Pipeline.ΦT (U := UR sig nD τ) pre0 (tabs m) c)
  q _ := fullShare
  owed _ := 0

set_option maxHeartbeats 1000000 in
theorem body_obligation (c : Dev nD) : (rdat m c).BodyObligation (defs₀ (F := F)) Variants.none () Set.univ := by
  unfold RDat.BodyObligation
  intro t Y _
  rw [bigSep_W0, bigSep_W0]
  rw [show (rdat m c).Φ t.castSucc = iprop(Pipeline.ΦA (U := UR sig nD τ) spec0 c ∗ Pipeline.ΦT (U := UR sig nD τ) pre0 (tabs m) c) from rfl,
    show (rdat m c).Φ t.succ = iprop(Pipeline.ΦA (U := UR sig nD τ) spec0 c ∗ Pipeline.ΦT (U := UR sig nD τ) pre0 (tabs m) c) from rfl,
    show (rdat m c).owesAt () t.succ = (rdat m c).owesAt () t.castSucc from rfl, tables_eq]
  unfold Pipeline.ΦA
  rw [scopedRest0_eq]
  simp only [← owns_whole]
  unfold defs₀; rw [Defs.onTc_tc]
  iintro ⟨⟨⟨HS, Hr⟩, HT0, HT1⟩, Ho, H0, H1, H2, H3, H4, H5, H6, H7, H8, H9, H10, H11, H12, H13, H14, H15, H16, H17, H18⟩
  icases HS with ⟨⟨%s0, S0⟩, ⟨%s1, S1⟩, ⟨%s2, S2⟩, ⟨%s3, S3⟩, ⟨%s4, S4⟩, ⟨%s5, S5⟩, ⟨%s6, S6⟩, ⟨%s7, S7⟩⟩
  iapply (body_runs c (grid0.coords t) fullShare.right fullShare.right _ _ _ _ _ _ _ _ _ _ _ _ _ _ _ _ _ _ _ _ _ _ _ _ _ _ _ _ _ _ _ _ _ _ _ _ _ _ _ _ _ _ _ _ _ _ _ _ _ _ _ _ _ _ _ _ _ _ (tab0 m) (tab1 m) (Y 0) (Y 1) (Y 2) (Y 3) (Y 4) (Y 5) (Y 6) (Y 7) (Y 8) _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iintro ⟨HT0, HT1, H0, H1, H2, H3, H4, H5, H6, H7, H8, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%e0, S0⟩, ⟨%e1, S1⟩, ⟨%e2, S2⟩, ⟨%e3, S3⟩, ⟨%e4, S4⟩, ⟨%e5, S5⟩, ⟨%e6, S6⟩, ⟨%e7, S7⟩⟩
  isplitl [HT0 HT1 Hr S0 S1 S2 S3 S4 S5 S6 S7]
  · isplitr [HT0 HT1]
    · isplitr [Hr]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        isplitl [S6]; · iexists _; iexact S6
        iexists _; iexact S7
      · iexact Hr
    · isplitl [HT0]; · iexact HT0
      iexact HT1
  isplitl [Ho]; · iexact Ho
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  isplitl [H3]
  · iexists (Y 3); isplitr
    · ipureintro; trivial
    · iexact H3
  isplitl [H4]
  · iexists (Y 4); isplitr
    · ipureintro; trivial
    · iexact H4
  isplitl [H5]
  · iexists (Y 5); isplitr
    · ipureintro; trivial
    · iexact H5
  isplitl [H6]
  · iexists (Y 6); isplitr
    · ipureintro; trivial
    · iexact H6
  isplitl [H7]
  · iexists (Y 7); isplitr
    · ipureintro; trivial
    · iexact H7
  isplitl [H8]
  · iexists (Y 8); isplitr
    · ipureintro; trivial
    · iexact H8
  isplitl [H9]
  · iexists d9; isplitr
    · ipureintro; trivial
    · iexact H9
  isplitl [H10]
  · iexists d10; isplitr
    · ipureintro; trivial
    · iexact H10
  isplitl [H11]
  · iexists d11; isplitr
    · ipureintro; trivial
    · iexact H11
  isplitl [H12]
  · iexists d12; isplitr
    · ipureintro; trivial
    · iexact H12
  isplitl [H13]
  · iexists d13; isplitr
    · ipureintro; trivial
    · iexact H13
  isplitl [H14]
  · iexists d14; isplitr
    · ipureintro; trivial
    · iexact H14
  isplitl [H15]
  · iexists d15; isplitr
    · ipureintro; trivial
    · iexact H15
  isplitl [H16]
  · iexists d16; isplitr
    · ipureintro; trivial
    · iexact H16
  isplitl [H17]
  · iexists d17; isplitr
    · ipureintro; trivial
    · iexact H17
  iexists d18; isplitr
  · ipureintro; trivial
  iexact H18

-- the launch theorem's implicit arguments are found by unifying its conclusion with this one, which takes unfolding plain
-- definitions in a metavariable's type
set_option backward.isDefEq.respectTransparency.types false in
set_option maxHeartbeats 800000 in
/-- The launch: the arrays stand as the data say, every other buffer is unchanged, and every counter is at zero. -/
theorem run_main : θ_run defs (onTc (τ := τ) (main (F := F))) (s₀ m ρ)
    (fun r => RDat.FramePost (cfg0 (adm m 0)) (rdat m) (V m) r ∧ r.2.sem = fun _ => 0) :=
  Pipeline.RDat.θ_run_frameP (Q' := _) (pcfgs (F := F)) (adm m) 0 launch0 defs₀ Variants.none (rdat m) m ρ main
    (hbody := body_obligation m) (hshare := fun c w => by unfold RDat.share rdat; split <;> rfl)
    (howed := fun _ _ => rfl) (V := V m) (hmain := hmain m Variants.none) (hA := fun _ _ => rfl)
    (hpf := fun c k => by rw [Subsingleton.elim c 0]; rfl) (hΦ := fun _ _ => rfl)

/-- The frame: the eleven argument arrays are as launched, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h.1 c).2 main_arg0 (Pipeline.mem_restRefs_of main_arg0 (by decide) (show ∀ w : Fin 19, (spec0 w).arr.view.ref ≠ main_arg0 by decide)),
      (h.1 c).2 main_arg1 (Pipeline.mem_restRefs_of main_arg1 (by decide) (show ∀ w : Fin 19, (spec0 w).arr.view.ref ≠ main_arg1 by decide)),
      RDat.FramePost.arr_in h.1 c 0 rfl,
      RDat.FramePost.arr_in h.1 c 1 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl⟩, h.2⟩) (run_main m ρ)

end Cert.Kernel.Hand
-- ==== Proof.IdealBody.lean ====
/-
  The body of the logits call, run once on whole buffers: it ends, it gives every buffer back, and it leaves the
  tables and the input blocks as they were. Nothing is said of the values it writes; the frame needs no more.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- The body at a grid point on whole buffers. -/
theorem body_runs (c : Dev nD) (i : grid0.Coords) (q1 q2 : PosShare TreeShare) (arg1 : Memref sig .tc .smem S2 .i32) (harg1 : arg1.IsWhole) (arg2 : Memref sig .tc .smem S2 .i32) (harg2 : arg2.IsWhole) (arg3 : Memref sig .tc .vmem S256x1024 .bf16) (harg3 : arg3.IsWhole) (arg4 : Memref sig .tc .vmem S256x2560 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S1280x2048 .i8) (harg7 : arg7.IsWhole) (arg8 : Memref sig .tc .vmem S20x2048 .f32) (harg8 : arg8.IsWhole) (arg9 : Memref sig .tc .vmem S20x2048 .f32) (harg9 : arg9.IsWhole) (arg10 : Memref sig .tc .vmem S2048x1024 .fp8e4m3) (harg10 : arg10.IsWhole) (arg11 : Memref sig .tc .vmem S1x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x1024 .fp8e4m3) (harg20 : arg20.IsWhole) (arg21 : Memref sig .tc .vmem S1x256 .f32) (harg21 : arg21.IsWhole) (arg22 : Memref sig .tc .vmem S256x2560 .bf16) (harg22 : arg22.IsWhole) (arg23 : Memref sig .tc .vmem S256x1024 .fp8e4m3) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S2560x2048 .bf16) (harg29 : arg29.IsWhole)
    (x1 : Vec F S2 .i32) (x2 : Vec F S2 .i32) (x3 : Vec F S256x1024 .bf16) (x4 : Vec F S256x2560 .bf16) (x5 : Vec F S1x1024 .f32) (x6 : Vec F S1x2560 .f32) (x7 : Vec F S1280x2048 .i8) (x8 : Vec F S20x2048 .f32) (x9 : Vec F S20x2048 .f32) (x10 : Vec F S2048x1024 .fp8e4m3) (x11 : Vec F S1x2048 .f32) (K : PUnit → sProp 𝕄) :
    iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
      ⊢ wp frame (wpE (defs₀ (F := F)) Variants.none c none) Set.univ (cc0_gkd_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf1 hf2 hf3 hf4 hf5 hf6 hf7 hf8 hf9 hf10 hf11
  sl_exec_parts
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [H19]
  · iexists _, _; isplitr
    swap; · iexact H19
    ipureintro; rfl
  isplitl [H20]
  · iexists _, _; isplitr
    swap; · iexact H20
    ipureintro; rfl
  isplitl [H21]
  · iexists _, _; isplitr
    swap; · iexact H21
    ipureintro; rfl
  isplitl [H22]
  · iexists _, _; isplitr
    swap; · iexact H22
    ipureintro; rfl
  isplitl [H23]
  · iexists _, _; isplitr
    swap; · iexact H23
    ipureintro; rfl
  isplitl [H24]
  · iexists _, _; isplitr
    swap; · iexact H24
    ipureintro; rfl
  isplitl [H25]
  · iexists _, _; isplitr
    swap; · iexact H25
    ipureintro; rfl
  isplitl [H26]
  · iexists _, _; isplitr
    swap; · iexact H26
    ipureintro; rfl
  isplitl [H27]
  · iexists _, _; isplitr
    swap; · iexact H27
    ipureintro; rfl
  isplitl [H28]
  · iexists _, _; isplitr
    swap; · iexact H28
    ipureintro; rfl
  iexists _, _; isplitr
  swap; · iexact H29
  ipureintro; rfl

end Cert.KernelIdeal.Hand
-- ==== Proof.IdealFrame.lean ====
/-
  The frame of the logits call: the launch ends in every order of its steps, leaves the eleven argument arrays as they
  were, and leaves every counter at zero. Two of the windows are idle or not according to words of the two tables, so
  the proof data are relational: a relation says what a point may leave in a window, and here it says nothing.
-/
module

public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ## Any contents of the tables are admissible -/

/-- A window of 128 by 2048 blocks whose block index is the point's number or 0 stays inside 128 by 153600. -/
theorem ok_block (i : grid0.Coords) (b : BitVec 1) (a : Fin 2) :
    ((![0, (Scalar.select b (BitVec.ofNat 32 (i 0).val) (0#32)).toNat] : Fin 2 → Nat) a + 1) * S128x2048.size a ≤ S128x153600.size a := by
  have hi : (i 0).val < 75 := (i 0).isLt
  have hs : (Scalar.select b (BitVec.ofNat 32 (i 0).val) (0#32)).toNat ≤ 74 := by
    unfold Scalar.select
    split <;> simp <;> omega
  fin_cases a
  · show (0 + 1) * 128 ≤ 128
    omega
  · show ((Scalar.select b (BitVec.ofNat 32 (i 0).val) (0#32)).toNat + 1) * 2048 ≤ 153600
    omega

/-- Whatever the tables hold, the two optional windows' blocks lie inside their arrays. -/
theorem ok0_all (pf : pre0.Contents (Elt F)) : ok0 pf :=
  ⟨fun i => ⟨fun a => ok_block i _ a, .inl rfl⟩, fun i => ⟨fun a => ok_block i _ a, .inl rfl⟩⟩

/-! ## The launch -/

variable (m : (ℓ : Loc nD τ sig) → Buf (Elt F) ℓ) (ρ : Dev nD → PrngReg)

/-- The tables as the launch finds them. There is one device. -/
def tabs : pre0.Contents (Elt F) := fun k => m (((0 : Dev nD) : Thread nD τ).loc (pre0.ref k))

/-- The tables, with the proof that they are admissible. -/
def adm (_ : Fin 1) : (pcfg0 (F := F)).Adm := ⟨tabs m, ok0_all _⟩

/-- The buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_region (pcfgs (F := F)) 0 defs₀ 𝒱₀ m main fun c => (main_chain c).trans rfl

/-- The two tables' words, as the launch finds them. -/
def tab0 : Vec F S2 .i32 := tabs m 0
def tab1 : Vec F S2 .i32 := tabs m 1

/-- The two tables on core `c`, each half held. -/
theorem tables_eq (c : Dev nD) :
    (Pipeline.ΦT (U := UR sig nD τ) pre0 (tabs m) c : sProp 𝕄)
      = iprop(owns (c : Thread nD τ) (Memref.whole main_arg0) fullShare.right (tab0 m)
          ∗ owns (c : Thread nD τ) (Memref.whole main_arg1) fullShare.right (tab1 m)) :=
  (bigSep_univ_eq_bigSepL [(0 : Fin 2), (1 : Fin 2)] (by decide) (by decide) _).trans
    (congrArg₂ (fun A B : sProp 𝕄 => iprop(A ∗ B)) (owns_whole (c : Thread nD τ) main_arg0 fullShare.right (tab0 m)).symm
      (owns_whole (c : Thread nD τ) main_arg1 fullShare.right (tab1 m)).symm)

/-- The relational data: nothing is said of what a point leaves. The invariant holds the scratch buffers at some
    contents, the generator's register and the two tables. -/
def rdat (c : Dev nD) : RDat τ (Elt F) Unit ℕ (UR sig nD τ) ℕ (cfg0 (adm m 0)) c where
  A w := V m c (Pipeline.arrRef spec0 w)
  after _ _ _ _ := True
  Φ _ := iprop(Pipeline.ΦA (U := UR sig nD τ) spec0 c ∗ Pipeline.ΦT (U := UR sig nD τ) pre0 (tabs m) c)
  q _ := fullShare
  owed _ := 0

set_option maxHeartbeats 1000000 in
theorem body_obligation (c : Dev nD) : (rdat m c).BodyObligation (defs₀ (F := F)) Variants.none () Set.univ := by
  unfold RDat.BodyObligation
  intro t Y _
  rw [bigSep_W0, bigSep_W0]
  rw [show (rdat m c).Φ t.castSucc = iprop(Pipeline.ΦA (U := UR sig nD τ) spec0 c ∗ Pipeline.ΦT (U := UR sig nD τ) pre0 (tabs m) c) from rfl,
    show (rdat m c).Φ t.succ = iprop(Pipeline.ΦA (U := UR sig nD τ) spec0 c ∗ Pipeline.ΦT (U := UR sig nD τ) pre0 (tabs m) c) from rfl,
    show (rdat m c).owesAt () t.succ = (rdat m c).owesAt () t.castSucc from rfl, tables_eq]
  unfold Pipeline.ΦA
  rw [scopedRest0_eq]
  simp only [← owns_whole]
  unfold defs₀; rw [Defs.onTc_tc]
  iintro ⟨⟨⟨HS, Hr⟩, HT0, HT1⟩, Ho, H0, H1, H2, H3, H4, H5, H6, H7, H8, H9, H10, H11, H12, H13, H14, H15, H16, H17, H18⟩
  icases HS with ⟨⟨%s0, S0⟩, ⟨%s1, S1⟩, ⟨%s2, S2⟩, ⟨%s3, S3⟩, ⟨%s4, S4⟩, ⟨%s5, S5⟩, ⟨%s6, S6⟩, ⟨%s7, S7⟩⟩
  iapply (body_runs c (grid0.coords t) fullShare.right fullShare.right _ _ _ _ _ _ _ _ _ _ _ _ _ _ _ _ _ _ _ _ _ _ _ _ _ _ _ _ _ _ _ _ _ _ _ _ _ _ _ _ _ _ _ _ _ _ _ _ _ _ _ _ _ _ _ _ _ _ (tab0 m) (tab1 m) (Y 0) (Y 1) (Y 2) (Y 3) (Y 4) (Y 5) (Y 6) (Y 7) (Y 8) _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iintro ⟨HT0, HT1, H0, H1, H2, H3, H4, H5, H6, H7, H8, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%e0, S0⟩, ⟨%e1, S1⟩, ⟨%e2, S2⟩, ⟨%e3, S3⟩, ⟨%e4, S4⟩, ⟨%e5, S5⟩, ⟨%e6, S6⟩, ⟨%e7, S7⟩⟩
  isplitl [HT0 HT1 Hr S0 S1 S2 S3 S4 S5 S6 S7]
  · isplitr [HT0 HT1]
    · isplitr [Hr]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        isplitl [S6]; · iexists _; iexact S6
        iexists _; iexact S7
      · iexact Hr
    · isplitl [HT0]; · iexact HT0
      iexact HT1
  isplitl [Ho]; · iexact Ho
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  isplitl [H3]
  · iexists (Y 3); isplitr
    · ipureintro; trivial
    · iexact H3
  isplitl [H4]
  · iexists (Y 4); isplitr
    · ipureintro; trivial
    · iexact H4
  isplitl [H5]
  · iexists (Y 5); isplitr
    · ipureintro; trivial
    · iexact H5
  isplitl [H6]
  · iexists (Y 6); isplitr
    · ipureintro; trivial
    · iexact H6
  isplitl [H7]
  · iexists (Y 7); isplitr
    · ipureintro; trivial
    · iexact H7
  isplitl [H8]
  · iexists (Y 8); isplitr
    · ipureintro; trivial
    · iexact H8
  isplitl [H9]
  · iexists d9; isplitr
    · ipureintro; trivial
    · iexact H9
  isplitl [H10]
  · iexists d10; isplitr
    · ipureintro; trivial
    · iexact H10
  isplitl [H11]
  · iexists d11; isplitr
    · ipureintro; trivial
    · iexact H11
  isplitl [H12]
  · iexists d12; isplitr
    · ipureintro; trivial
    · iexact H12
  isplitl [H13]
  · iexists d13; isplitr
    · ipureintro; trivial
    · iexact H13
  isplitl [H14]
  · iexists d14; isplitr
    · ipureintro; trivial
    · iexact H14
  isplitl [H15]
  · iexists d15; isplitr
    · ipureintro; trivial
    · iexact H15
  isplitl [H16]
  · iexists d16; isplitr
    · ipureintro; trivial
    · iexact H16
  isplitl [H17]
  · iexists d17; isplitr
    · ipureintro; trivial
    · iexact H17
  iexists d18; isplitr
  · ipureintro; trivial
  iexact H18

-- the launch theorem's implicit arguments are found by unifying its conclusion with this one, which takes unfolding plain
-- definitions in a metavariable's type
set_option backward.isDefEq.respectTransparency.types false in
set_option maxHeartbeats 800000 in
/-- The launch: the arrays stand as the data say, every other buffer is unchanged, and every counter is at zero. -/
theorem run_main : θ_run defs (onTc (τ := τ) (main (F := F))) (s₀ m ρ)
    (fun r => RDat.FramePost (cfg0 (adm m 0)) (rdat m) (V m) r ∧ r.2.sem = fun _ => 0) :=
  Pipeline.RDat.θ_run_frameP (Q' := _) (pcfgs (F := F)) (adm m) 0 launch0 defs₀ Variants.none (rdat m) m ρ main
    (hbody := body_obligation m) (hshare := fun c w => by unfold RDat.share rdat; split <;> rfl)
    (howed := fun _ _ => rfl) (V := V m) (hmain := hmain m Variants.none) (hA := fun _ _ => rfl)
    (hpf := fun c k => by rw [Subsingleton.elim c 0]; rfl) (hΦ := fun _ _ => rfl)

/-- The frame: the eleven argument arrays are as launched, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h.1 c).2 main_arg0 (Pipeline.mem_restRefs_of main_arg0 (by decide) (show ∀ w : Fin 19, (spec0 w).arr.view.ref ≠ main_arg0 by decide)),
      (h.1 c).2 main_arg1 (Pipeline.mem_restRefs_of main_arg1 (by decide) (show ∀ w : Fin 19, (spec0 w).arr.view.ref ≠ main_arg1 by decide)),
      RDat.FramePost.arr_in h.1 c 0 rfl,
      RDat.FramePost.arr_in h.1 c 1 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl⟩, h.2⟩) (run_main m ρ)

end Cert.KernelIdeal.Hand
-- ==== Proof.GradBody.lean ====
/-
  The body of the gradient call, run once on whole buffers: it ends, it gives every buffer back, and it leaves the
  tables and the input blocks as they were.
-/
module

public import proofs.«01_k».proof.Proof.Gen.Gradient.Launch
public import proofs.«01_k».proof.Proof.Gen.Gradient.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Gradient.Hand

open Cert.Gradient Cert.Gradient.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body at a grid point on whole buffers. -/
theorem body_runs (c : Dev nD) (i : grid0.Coords) (q1 q2 q3 : PosShare TreeShare) (arg1 : Memref sig .tc .smem S2 .i32) (harg1 : arg1.IsWhole) (arg2 : Memref sig .tc .smem S2 .i32) (harg2 : arg2.IsWhole) (arg3 : Memref sig .tc .smem S1 .i32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2048x1024 .fp8e4m3) (harg12 : arg12.IsWhole) (arg13 : Memref sig .tc .vmem S1x2048 .f32) (harg13 : arg13.IsWhole) (arg14 : Memref sig .tc .vmem S1x256 .f32) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S2x256x1024 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S2048x1024 .bf16) (harg20 : arg20.IsWhole) (arg21 : Memref sig .tc .vmem S256x2048 .bf16) (harg21 : arg21.IsWhole)
    (x1 : Vec F S2 .i32) (x2 : Vec F S2 .i32) (x3 : Vec F S1 .i32) (x4 : Vec F S256x1024 .bf16) (x5 : Vec F S1x1024 .f32) (x6 : Vec F S256x128 .f32) (x7 : Vec F S256x128 .f32) (x8 : Vec F S128x2048 .f32) (x9 : Vec F S128x2048 .f32) (x10 : Vec F S128x2048 .f32) (x11 : Vec F S128x2048 .f32) (x12 : Vec F S2048x1024 .fp8e4m3) (x13 : Vec F S1x2048 .f32) (K : PUnit → sProp 𝕄) :
    iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_gkd_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf1 hf2 hf3 hf4 hf5 hf6 hf7 hf8 hf9 hf10 hf11 hf12 hf13
  sl_exec_parts
  sl_step
  iapply Hk
  any_goals (isplitl [H1]; iexists _; isplitr; (ipureintro; exact rfl); iexact H1)
  any_goals (isplitl [H2]; iexists _; isplitr; (ipureintro; exact rfl); iexact H2)
  any_goals (isplitl [H3]; iexists _; isplitr; (ipureintro; exact rfl); iexact H3)
  any_goals (isplitl [H4]; iexists _; isplitr; (ipureintro; exact rfl); iexact H4)
  any_goals (isplitl [H5]; iexists _; isplitr; (ipureintro; exact rfl); iexact H5)
  any_goals (isplitl [H6]; iexists _; isplitr; (ipureintro; exact rfl); iexact H6)
  any_goals (isplitl [H7]; iexists _; isplitr; (ipureintro; exact rfl); iexact H7)
  any_goals (isplitl [H8]; iexists _; isplitr; (ipureintro; exact rfl); iexact H8)
  any_goals (isplitl [H9]; iexists _; isplitr; (ipureintro; exact rfl); iexact H9)
  any_goals (isplitl [H10]; iexists _; isplitr; (ipureintro; exact rfl); iexact H10)
  any_goals (isplitl [H11]; iexists _; isplitr; (ipureintro; exact rfl); iexact H11)
  any_goals (isplitl [H12]; iexists _; isplitr; (ipureintro; exact rfl); iexact H12)
  any_goals (isplitl [H13]; iexists _; isplitr; (ipureintro; exact rfl); iexact H13)
  any_goals (isplitl [H14]; iexists _, _; isplitr; swap; iexact H14; ipureintro; rfl)
  any_goals (isplitl [H15]; iexists _, _; isplitr; swap; iexact H15; ipureintro; rfl)
  any_goals (isplitl [H16]; iexists _, _; isplitr; swap; iexact H16; ipureintro; rfl)
  any_goals (isplitl [H17]; iexists _, _; isplitr; swap; iexact H17; ipureintro; rfl)
  any_goals (isplitl [H18]; iexists _, _; isplitr; swap; iexact H18; ipureintro; rfl)
  any_goals (isplitl [H19]; iexists _, _; isplitr; swap; iexact H19; ipureintro; rfl)
  any_goals (isplitl [H20]; iexists _, _; isplitr; swap; iexact H20; ipureintro; rfl)
  any_goals (iexists _, _; isplitr; swap; iexact H21; ipureintro; rfl)

end Cert.Gradient.Hand
-- ==== Proof.GradFrame.lean ====
/-
  The frame of the gradient call: the launch ends in every order of its steps, leaves the thirteen argument arrays as
  they were, and leaves every counter at zero. The proof data are relational, and here the relation says nothing of
  what a point leaves in a window.
-/
module

public import proofs.«01_k».proof.Proof.GradBody

@[expose] public section

set_option maxRecDepth 16384

noncomputable section

namespace Cert.Gradient.Hand

open Cert.Gradient Cert.Gradient.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## Any contents of the tables are admissible -/

/-- A window of 128 by 2048 blocks whose block index is the point's number or 0 stays inside 128 by 153600. -/
theorem ok_block (i : grid0.Coords) (b : BitVec 1) (a : Fin 2) :
    ((![0, (Scalar.select b (BitVec.ofNat 32 (i 0).val) (0#32)).toNat] : Fin 2 → Nat) a + 1) * S128x2048.size a ≤ S128x153600.size a := by
  have hi : (i 0).val < 75 := (i 0).isLt
  have hs : (Scalar.select b (BitVec.ofNat 32 (i 0).val) (0#32)).toNat ≤ 74 := by
    unfold Scalar.select
    split <;> simp <;> omega
  fin_cases a
  · show (0 + 1) * 128 ≤ 128
    omega
  · show ((Scalar.select b (BitVec.ofNat 32 (i 0).val) (0#32)).toNat + 1) * 2048 ≤ 153600
    omega

/-- Whatever the tables hold, the two optional windows' blocks lie inside their arrays. -/
theorem ok0_all (pf : pre0.Contents (Elt F)) : ok0 pf :=
  ⟨fun i => ⟨fun a => ok_block i _ a, .inl rfl⟩, fun i => ⟨fun a => ok_block i _ a, .inl rfl⟩⟩

/-! ## The launch -/

variable (m : (ℓ : Loc nD τ sig) → Buf (Elt F) ℓ) (ρ : Dev nD → PrngReg)

/-- The tables as the launch finds them. There is one device. -/
def tabs : pre0.Contents (Elt F) := fun k => m (((0 : Dev nD) : Thread nD τ).loc (pre0.ref k))

/-- The tables, with the proof that they are admissible. -/
def adm (_ : Fin 1) : (pcfg0 (F := F)).Adm := ⟨tabs m, ok0_all _⟩

/-- The buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_region (pcfgs (F := F)) 0 defs₀ 𝒱₀ m main fun c => (main_chain c).trans rfl

/-- The three tables' words, as the launch finds them. -/
def tab0 : Vec F S2 .i32 := tabs m 0
def tab1 : Vec F S2 .i32 := tabs m 1
def tab2 : Vec F S1 .i32 := tabs m 2

/-- The three tables on core `c`, each half held. -/
theorem tables_eq (c : Dev nD) :
    (Pipeline.ΦT (U := UR sig nD τ) pre0 (tabs m) c : sProp 𝕄)
      = iprop(owns (c : Thread nD τ) (Memref.whole main_arg0) fullShare.right (tab0 m)
          ∗ owns (c : Thread nD τ) (Memref.whole main_arg1) fullShare.right (tab1 m)
          ∗ owns (c : Thread nD τ) (Memref.whole main_arg2) fullShare.right (tab2 m)) :=
  (bigSep_univ_eq_bigSepL [(0 : Fin 3), (1 : Fin 3), (2 : Fin 3)] (by decide) (by decide) _).trans
    (congrArg₂ (fun A B : sProp 𝕄 => iprop(A ∗ B)) (owns_whole (c : Thread nD τ) main_arg0 fullShare.right (tab0 m)).symm
      (congrArg₂ (fun A B : sProp 𝕄 => iprop(A ∗ B)) (owns_whole (c : Thread nD τ) main_arg1 fullShare.right (tab1 m)).symm
        (owns_whole (c : Thread nD τ) main_arg2 fullShare.right (tab2 m)).symm))

/-- The relational data: nothing is said of what a point leaves. The invariant holds the scratch buffers at some
    contents, the generator's register and the three tables. -/
def rdat (c : Dev nD) : RDat τ (Elt F) Unit ℕ (UR sig nD τ) ℕ (cfg0 (adm m 0)) c where
  A w := V m c (Pipeline.arrRef spec0 w)
  after _ _ _ _ := True
  Φ _ := iprop(Pipeline.ΦA (U := UR sig nD τ) spec0 c ∗ Pipeline.ΦT (U := UR sig nD τ) pre0 (tabs m) c)
  q _ := fullShare
  owed _ := 0

set_option maxHeartbeats 1000000 in
theorem body_obligation (c : Dev nD) : (rdat m c).BodyObligation (defs₀ (F := F)) Variants.none () Set.univ := by
  unfold RDat.BodyObligation
  intro t Y _
  rw [bigSep_W0, bigSep_W0]
  rw [show (rdat m c).Φ t.castSucc = iprop(Pipeline.ΦA (U := UR sig nD τ) spec0 c ∗ Pipeline.ΦT (U := UR sig nD τ) pre0 (tabs m) c) from rfl,
    show (rdat m c).Φ t.succ = iprop(Pipeline.ΦA (U := UR sig nD τ) spec0 c ∗ Pipeline.ΦT (U := UR sig nD τ) pre0 (tabs m) c) from rfl,
    show (rdat m c).owesAt () t.succ = (rdat m c).owesAt () t.castSucc from rfl, tables_eq]
  unfold Pipeline.ΦA
  rw [scopedRest0_eq]
  simp only [← owns_whole]
  unfold defs₀; rw [Defs.onTc_tc]
  iintro ⟨⟨⟨HS, Hr⟩, HT0, HT1, HT2⟩, Ho, H0, H1, H2, H3, H4, H5, H6, H7, H8, H9, H10, H11, H12⟩
  icases HS with ⟨⟨%s0, S0⟩, ⟨%s1, S1⟩, ⟨%s2, S2⟩, ⟨%s3, S3⟩, ⟨%s4, S4⟩⟩
  iapply (body_runs c (grid0.coords t) fullShare.right fullShare.right fullShare.right _ _ _ _ _ _ _ _ _ _ _ _ _ _ _ _ _ _ _ _ _ _ _ _ _ _ _ _ _ _ _ _ _ _ _ _ _ _ _ _ _ _ (tab0 m) (tab1 m) (tab2 m) (Y 0) (Y 1) (Y 2) (Y 3) (Y 4) (Y 5) (Y 6) (Y 7) (Y 8) (Y 9) _)
  isplitl [HT0]; · iexact HT0
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [S0]; · iexists _; iexact S0
  isplitl [S1]; · iexists _; iexact S1
  isplitl [S2]; · iexists _; iexact S2
  isplitl [S3]; · iexists _; iexact S3
  isplitl [S4]; · iexists _; iexact S4
  iintro ⟨HT0, HT1, HT2, H0, H1, H2, H3, H4, H5, H6, H7, H8, H9, ⟨%d10, H10⟩, ⟨%d11, H11⟩, ⟨%d12, H12⟩, ⟨%e0, S0⟩, ⟨%e1, S1⟩, ⟨%e2, S2⟩, ⟨%e3, S3⟩, ⟨%e4, S4⟩⟩
  isplitl [HT0 HT1 HT2 Hr S0 S1 S2 S3 S4]
  · isplitr [HT0 HT1 HT2]
    · isplitr [Hr]
      · isplitl [S0]; · iexists _; iexact S0
        isplitl [S1]; · iexists _; iexact S1
        isplitl [S2]; · iexists _; iexact S2
        isplitl [S3]; · iexists _; iexact S3
        iexists _; iexact S4
      · iexact Hr
    · isplitl [HT0]; · iexact HT0
      isplitl [HT1]; · iexact HT1
      iexact HT2
  isplitl [Ho]; · iexact Ho
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  isplitl [H3]
  · iexists (Y 3); isplitr
    · ipureintro; trivial
    · iexact H3
  isplitl [H4]
  · iexists (Y 4); isplitr
    · ipureintro; trivial
    · iexact H4
  isplitl [H5]
  · iexists (Y 5); isplitr
    · ipureintro; trivial
    · iexact H5
  isplitl [H6]
  · iexists (Y 6); isplitr
    · ipureintro; trivial
    · iexact H6
  isplitl [H7]
  · iexists (Y 7); isplitr
    · ipureintro; trivial
    · iexact H7
  isplitl [H8]
  · iexists (Y 8); isplitr
    · ipureintro; trivial
    · iexact H8
  isplitl [H9]
  · iexists (Y 9); isplitr
    · ipureintro; trivial
    · iexact H9
  isplitl [H10]
  · iexists d10; isplitr
    · ipureintro; trivial
    · iexact H10
  isplitl [H11]
  · iexists d11; isplitr
    · ipureintro; trivial
    · iexact H11
  iexists d12; isplitr
  · ipureintro; trivial
  iexact H12

-- the launch theorem's implicit arguments are found by unifying its conclusion with this one, which takes unfolding plain
-- definitions in a metavariable's type
set_option backward.isDefEq.respectTransparency.types false in
set_option maxHeartbeats 800000 in
/-- The launch: the arrays stand as the data say, every other buffer is unchanged, and every counter is at zero. -/
theorem run_main : θ_run defs (onTc (τ := τ) (main (F := F))) (s₀ m ρ)
    (fun r => RDat.FramePost (cfg0 (adm m 0)) (rdat m) (V m) r ∧ r.2.sem = fun _ => 0) :=
  Pipeline.RDat.θ_run_frameP (Q' := _) (pcfgs (F := F)) (adm m) 0 launch0 defs₀ Variants.none (rdat m) m ρ main
    (hbody := body_obligation m) (hshare := fun c w => by unfold RDat.share rdat; split <;> rfl)
    (howed := fun _ _ => rfl) (V := V m) (hmain := hmain m Variants.none) (hA := fun _ _ => rfl)
    (hpf := fun c k => by rw [Subsingleton.elim c 0]; rfl) (hΦ := fun _ _ => rfl)

/-- The frame: the thirteen argument arrays are as launched, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.1 c).2 main_arg0 (Pipeline.mem_restRefs_of main_arg0 (by decide) (show ∀ w : Fin 13, (spec0 w).arr.view.ref ≠ main_arg0 by decide)),
      (h.1 c).2 main_arg1 (Pipeline.mem_restRefs_of main_arg1 (by decide) (show ∀ w : Fin 13, (spec0 w).arr.view.ref ≠ main_arg1 by decide)),
      (h.1 c).2 main_arg2 (Pipeline.mem_restRefs_of main_arg2 (by decide) (show ∀ w : Fin 13, (spec0 w).arr.view.ref ≠ main_arg2 by decide)),
      RDat.FramePost.arr_in h.1 c 0 rfl,
      RDat.FramePost.arr_in h.1 c 1 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl,
      RDat.FramePost.arr_in h.1 c 9 rfl⟩, h.2⟩) (run_main m ρ)

end Cert.Gradient.Hand
-- ==== Proof.GradIdealBody.lean ====
/-
  The body of the gradient call, run once on whole buffers: it ends, it gives every buffer back, and it leaves the
  tables and the input blocks as they were.
-/
module

public import proofs.«01_k».proof.Proof.Gen.GradientIdeal.Launch
public import proofs.«01_k».proof.Proof.Gen.GradientIdeal.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.GradientIdeal.Hand

open Cert.GradientIdeal Cert.GradientIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 4000000 in
/-- The body at a grid point on whole buffers. -/
theorem body_runs (c : Dev nD) (i : grid0.Coords) (q1 q2 q3 : PosShare TreeShare) (arg1 : Memref sig .tc .smem S2 .i32) (harg1 : arg1.IsWhole) (arg2 : Memref sig .tc .smem S2 .i32) (harg2 : arg2.IsWhole) (arg3 : Memref sig .tc .smem S1 .i32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2048x1024 .fp8e4m3) (harg12 : arg12.IsWhole) (arg13 : Memref sig .tc .vmem S1x2048 .f32) (harg13 : arg13.IsWhole) (arg14 : Memref sig .tc .vmem S1x256 .f32) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S2x256x1024 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S2048x1024 .bf16) (harg20 : arg20.IsWhole) (arg21 : Memref sig .tc .vmem S256x2048 .bf16) (harg21 : arg21.IsWhole)
    (x1 : Vec F S2 .i32) (x2 : Vec F S2 .i32) (x3 : Vec F S1 .i32) (x4 : Vec F S256x1024 .bf16) (x5 : Vec F S1x1024 .f32) (x6 : Vec F S256x128 .f32) (x7 : Vec F S256x128 .f32) (x8 : Vec F S128x2048 .f32) (x9 : Vec F S128x2048 .f32) (x10 : Vec F S128x2048 .f32) (x11 : Vec F S128x2048 .f32) (x12 : Vec F S2048x1024 .fp8e4m3) (x13 : Vec F S1x2048 .f32) (K : PUnit → sProp 𝕄) :
    iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_gkd_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf1 hf2 hf3 hf4 hf5 hf6 hf7 hf8 hf9 hf10 hf11 hf12 hf13
  sl_exec_parts
  sl_step
  iapply Hk
  any_goals (isplitl [H1]; iexists _; isplitr; (ipureintro; exact rfl); iexact H1)
  any_goals (isplitl [H2]; iexists _; isplitr; (ipureintro; exact rfl); iexact H2)
  any_goals (isplitl [H3]; iexists _; isplitr; (ipureintro; exact rfl); iexact H3)
  any_goals (isplitl [H4]; iexists _; isplitr; (ipureintro; exact rfl); iexact H4)
  any_goals (isplitl [H5]; iexists _; isplitr; (ipureintro; exact rfl); iexact H5)
  any_goals (isplitl [H6]; iexists _; isplitr; (ipureintro; exact rfl); iexact H6)
  any_goals (isplitl [H7]; iexists _; isplitr; (ipureintro; exact rfl); iexact H7)
  any_goals (isplitl [H8]; iexists _; isplitr; (ipureintro; exact rfl); iexact H8)
  any_goals (isplitl [H9]; iexists _; isplitr; (ipureintro; exact rfl); iexact H9)
  any_goals (isplitl [H10]; iexists _; isplitr; (ipureintro; exact rfl); iexact H10)
  any_goals (isplitl [H11]; iexists _; isplitr; (ipureintro; exact rfl); iexact H11)
  any_goals (isplitl [H12]; iexists _; isplitr; (ipureintro; exact rfl); iexact H12)
  any_goals (isplitl [H13]; iexists _; isplitr; (ipureintro; exact rfl); iexact H13)
  any_goals (isplitl [H14]; iexists _, _; isplitr; swap; iexact H14; ipureintro; rfl)
  any_goals (isplitl [H15]; iexists _, _; isplitr; swap; iexact H15; ipureintro; rfl)
  any_goals (isplitl [H16]; iexists _, _; isplitr; swap; iexact H16; ipureintro; rfl)
  any_goals (isplitl [H17]; iexists _, _; isplitr; swap; iexact H17; ipureintro; rfl)
  any_goals (isplitl [H18]; iexists _, _; isplitr; swap; iexact H18; ipureintro; rfl)
  any_goals (isplitl [H19]; iexists _, _; isplitr; swap; iexact H19; ipureintro; rfl)
  any_goals (isplitl [H20]; iexists _, _; isplitr; swap; iexact H20; ipureintro; rfl)
  any_goals (iexists _, _; isplitr; swap; iexact H21; ipureintro; rfl)

end Cert.GradientIdeal.Hand
-- ==== Proof.GradIdealFrame.lean ====
/-
  The frame of the gradient call: the launch ends in every order of its steps, leaves the thirteen argument arrays as
  they were, and leaves every counter at zero. The proof data are relational, and here the relation says nothing of
  what a point leaves in a window.
-/
module

public import proofs.«01_k».proof.Proof.GradIdealBody

@[expose] public section

set_option maxRecDepth 16384

noncomputable section

namespace Cert.GradientIdeal.Hand

open Cert.GradientIdeal Cert.GradientIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ## Any contents of the tables are admissible -/

/-- A window of 128 by 2048 blocks whose block index is the point's number or 0 stays inside 128 by 153600. -/
theorem ok_block (i : grid0.Coords) (b : BitVec 1) (a : Fin 2) :
    ((![0, (Scalar.select b (BitVec.ofNat 32 (i 0).val) (0#32)).toNat] : Fin 2 → Nat) a + 1) * S128x2048.size a ≤ S128x153600.size a := by
  have hi : (i 0).val < 75 := (i 0).isLt
  have hs : (Scalar.select b (BitVec.ofNat 32 (i 0).val) (0#32)).toNat ≤ 74 := by
    unfold Scalar.select
    split <;> simp <;> omega
  fin_cases a
  · show (0 + 1) * 128 ≤ 128
    omega
  · show ((Scalar.select b (BitVec.ofNat 32 (i 0).val) (0#32)).toNat + 1) * 2048 ≤ 153600
    omega

/-- Whatever the tables hold, the two optional windows' blocks lie inside their arrays. -/
theorem ok0_all (pf : pre0.Contents (Elt F)) : ok0 pf :=
  ⟨fun i => ⟨fun a => ok_block i _ a, .inl rfl⟩, fun i => ⟨fun a => ok_block i _ a, .inl rfl⟩⟩

/-! ## The launch -/

variable (m : (ℓ : Loc nD τ sig) → Buf (Elt F) ℓ) (ρ : Dev nD → PrngReg)

/-- The tables as the launch finds them. There is one device. -/
def tabs : pre0.Contents (Elt F) := fun k => m (((0 : Dev nD) : Thread nD τ).loc (pre0.ref k))

/-- The tables, with the proof that they are admissible. -/
def adm (_ : Fin 1) : (pcfg0 (F := F)).Adm := ⟨tabs m, ok0_all _⟩

/-- The buffers as the region finds them: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_region (pcfgs (F := F)) 0 defs₀ 𝒱₀ m main fun c => (main_chain c).trans rfl

/-- The three tables' words, as the launch finds them. -/
def tab0 : Vec F S2 .i32 := tabs m 0
def tab1 : Vec F S2 .i32 := tabs m 1
def tab2 : Vec F S1 .i32 := tabs m 2

/-- The three tables on core `c`, each half held. -/
theorem tables_eq (c : Dev nD) :
    (Pipeline.ΦT (U := UR sig nD τ) pre0 (tabs m) c : sProp 𝕄)
      = iprop(owns (c : Thread nD τ) (Memref.whole main_arg0) fullShare.right (tab0 m)
          ∗ owns (c : Thread nD τ) (Memref.whole main_arg1) fullShare.right (tab1 m)
          ∗ owns (c : Thread nD τ) (Memref.whole main_arg2) fullShare.right (tab2 m)) :=
  (bigSep_univ_eq_bigSepL [(0 : Fin 3), (1 : Fin 3), (2 : Fin 3)] (by decide) (by decide) _).trans
    (congrArg₂ (fun A B : sProp 𝕄 => iprop(A ∗ B)) (owns_whole (c : Thread nD τ) main_arg0 fullShare.right (tab0 m)).symm
      (congrArg₂ (fun A B : sProp 𝕄 => iprop(A ∗ B)) (owns_whole (c : Thread nD τ) main_arg1 fullShare.right (tab1 m)).symm
        (owns_whole (c : Thread nD τ) main_arg2 fullShare.right (tab2 m)).symm))

/-- The relational data: nothing is said of what a point leaves. The invariant holds the scratch buffers at some
    contents, the generator's register and the three tables. -/
def rdat (c : Dev nD) : RDat τ (Elt F) Unit ℕ (UR sig nD τ) ℕ (cfg0 (adm m 0)) c where
  A w := V m c (Pipeline.arrRef spec0 w)
  after _ _ _ _ := True
  Φ _ := iprop(Pipeline.ΦA (U := UR sig nD τ) spec0 c ∗ Pipeline.ΦT (U := UR sig nD τ) pre0 (tabs m) c)
  q _ := fullShare
  owed _ := 0

set_option maxHeartbeats 1000000 in
theorem body_obligation (c : Dev nD) : (rdat m c).BodyObligation (defs₀ (F := F)) Variants.none () Set.univ := by
  unfold RDat.BodyObligation
  intro t Y _
  rw [bigSep_W0, bigSep_W0]
  rw [show (rdat m c).Φ t.castSucc = iprop(Pipeline.ΦA (U := UR sig nD τ) spec0 c ∗ Pipeline.ΦT (U := UR sig nD τ) pre0 (tabs m) c) from rfl,
    show (rdat m c).Φ t.succ = iprop(Pipeline.ΦA (U := UR sig nD τ) spec0 c ∗ Pipeline.ΦT (U := UR sig nD τ) pre0 (tabs m) c) from rfl,
    show (rdat m c).owesAt () t.succ = (rdat m c).owesAt () t.castSucc from rfl, tables_eq]
  unfold Pipeline.ΦA
  rw [scopedRest0_eq]
  simp only [← owns_whole]
  unfold defs₀; rw [Defs.onTc_tc]
  iintro ⟨⟨⟨HS, Hr⟩, HT0, HT1, HT2⟩, Ho, H0, H1, H2, H3, H4, H5, H6, H7, H8, H9, H10, H11, H12⟩
  icases HS with ⟨⟨%s0, S0⟩, ⟨%s1, S1⟩, ⟨%s2, S2⟩, ⟨%s3, S3⟩, ⟨%s4, S4⟩⟩
  iapply (body_runs c (grid0.coords t) fullShare.right fullShare.right fullShare.right _ _ _ _ _ _ _ _ _ _ _ _ _ _ _ _ _ _ _ _ _ _ _ _ _ _ _ _ _ _ _ _ _ _ _ _ _ _ _ _ _ _ (tab0 m) (tab1 m) (tab2 m) (Y 0) (Y 1) (Y 2) (Y 3) (Y 4) (Y 5) (Y 6) (Y 7) (Y 8) (Y 9) _)
  isplitl [HT0]; · iexact HT0
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [S0]; · iexists _; iexact S0
  isplitl [S1]; · iexists _; iexact S1
  isplitl [S2]; · iexists _; iexact S2
  isplitl [S3]; · iexists _; iexact S3
  isplitl [S4]; · iexists _; iexact S4
  iintro ⟨HT0, HT1, HT2, H0, H1, H2, H3, H4, H5, H6, H7, H8, H9, ⟨%d10, H10⟩, ⟨%d11, H11⟩, ⟨%d12, H12⟩, ⟨%e0, S0⟩, ⟨%e1, S1⟩, ⟨%e2, S2⟩, ⟨%e3, S3⟩, ⟨%e4, S4⟩⟩
  isplitl [HT0 HT1 HT2 Hr S0 S1 S2 S3 S4]
  · isplitr [HT0 HT1 HT2]
    · isplitr [Hr]
      · isplitl [S0]; · iexists _; iexact S0
        isplitl [S1]; · iexists _; iexact S1
        isplitl [S2]; · iexists _; iexact S2
        isplitl [S3]; · iexists _; iexact S3
        iexists _; iexact S4
      · iexact Hr
    · isplitl [HT0]; · iexact HT0
      isplitl [HT1]; · iexact HT1
      iexact HT2
  isplitl [Ho]; · iexact Ho
  isplitl [H0]
  · iexists (Y 0); isplitr
    · ipureintro; trivial
    · iexact H0
  isplitl [H1]
  · iexists (Y 1); isplitr
    · ipureintro; trivial
    · iexact H1
  isplitl [H2]
  · iexists (Y 2); isplitr
    · ipureintro; trivial
    · iexact H2
  isplitl [H3]
  · iexists (Y 3); isplitr
    · ipureintro; trivial
    · iexact H3
  isplitl [H4]
  · iexists (Y 4); isplitr
    · ipureintro; trivial
    · iexact H4
  isplitl [H5]
  · iexists (Y 5); isplitr
    · ipureintro; trivial
    · iexact H5
  isplitl [H6]
  · iexists (Y 6); isplitr
    · ipureintro; trivial
    · iexact H6
  isplitl [H7]
  · iexists (Y 7); isplitr
    · ipureintro; trivial
    · iexact H7
  isplitl [H8]
  · iexists (Y 8); isplitr
    · ipureintro; trivial
    · iexact H8
  isplitl [H9]
  · iexists (Y 9); isplitr
    · ipureintro; trivial
    · iexact H9
  isplitl [H10]
  · iexists d10; isplitr
    · ipureintro; trivial
    · iexact H10
  isplitl [H11]
  · iexists d11; isplitr
    · ipureintro; trivial
    · iexact H11
  iexists d12; isplitr
  · ipureintro; trivial
  iexact H12

-- the launch theorem's implicit arguments are found by unifying its conclusion with this one, which takes unfolding plain
-- definitions in a metavariable's type
set_option backward.isDefEq.respectTransparency.types false in
set_option maxHeartbeats 800000 in
/-- The launch: the arrays stand as the data say, every other buffer is unchanged, and every counter is at zero. -/
theorem run_main : θ_run defs (onTc (τ := τ) (main (F := F))) (s₀ m ρ)
    (fun r => RDat.FramePost (cfg0 (adm m 0)) (rdat m) (V m) r ∧ r.2.sem = fun _ => 0) :=
  Pipeline.RDat.θ_run_frameP (Q' := _) (pcfgs (F := F)) (adm m) 0 launch0 defs₀ Variants.none (rdat m) m ρ main
    (hbody := body_obligation m) (hshare := fun c w => by unfold RDat.share rdat; split <;> rfl)
    (howed := fun _ _ => rfl) (V := V m) (hmain := hmain m Variants.none) (hA := fun _ _ => rfl)
    (hpf := fun c k => by rw [Subsingleton.elim c 0]; rfl) (hΦ := fun _ _ => rfl)

/-- The frame: the thirteen argument arrays are as launched, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(h.1 c).2 main_arg0 (Pipeline.mem_restRefs_of main_arg0 (by decide) (show ∀ w : Fin 13, (spec0 w).arr.view.ref ≠ main_arg0 by decide)),
      (h.1 c).2 main_arg1 (Pipeline.mem_restRefs_of main_arg1 (by decide) (show ∀ w : Fin 13, (spec0 w).arr.view.ref ≠ main_arg1 by decide)),
      (h.1 c).2 main_arg2 (Pipeline.mem_restRefs_of main_arg2 (by decide) (show ∀ w : Fin 13, (spec0 w).arr.view.ref ≠ main_arg2 by decide)),
      RDat.FramePost.arr_in h.1 c 0 rfl,
      RDat.FramePost.arr_in h.1 c 1 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl,
      RDat.FramePost.arr_in h.1 c 9 rfl⟩, h.2⟩) (run_main m ρ)

end Cert.GradientIdeal.Hand
-- ==== Proof.Step.lean ====
/-
  What one grid point of the logits call computes, as functions of the blocks it reads and of the state the scratch
  buffers carry: the placed rows, the running maxima and the running sums.
-/
module

public import proofs.«01_k».proof.Proof.Gen.KernelIdeal.Launch
public import proofs.«01_k».proof.Proof.Gen.KernelIdeal.Skeleton
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-! ## What the first point prepares -/

/-- The word of a table at an index. -/
abbrev word (x : Vec F S2 .i32) (k : Fin 2) : BitVec 32 := x (ix1 k)

/-- Bit (d, t) says that row t is placed at row d. -/
def permBits (x1 x2 : Vec F S2 .i32) : IVec S256x256 1 :=
  k0_pay14 k0_pay7 (k0_pay8 (F := F) (word x1 0) (word x1 1)) (k0_pay9 (F := F) (word x1 0) (word x2 0) (word x1 1) (word x2 1))
    (k0_pay10 (F := F) (word x1 0) (word x2 0) (word x1 1) (word x2 1)) (k0_pay11 (F := F) (word x1 0) (word x2 0))
    (k0_pay12 (F := F) (word x1 0) (word x2 0)) (k0_pay13 (F := F) (word x1 0) (word x2 0) (word x1 1) (word x2 1))

/-- The normalised teacher rows, placed. -/
def htV (x1 x2 : Vec F S2 .i32) (x4 : Vec F S256x2560 .bf16) (x6 : Vec F S1x2560 .f32) : Vec F S256x2560 .bf16 :=
  k0_pay16 k0_pay7 (k0_pay8 (F := F) (word x1 0) (word x1 1)) (k0_pay9 (F := F) (word x1 0) (word x2 0) (word x1 1) (word x2 1))
    (k0_pay10 (F := F) (word x1 0) (word x2 0) (word x1 1) (word x2 1)) (k0_pay11 (F := F) (word x1 0) (word x2 0))
    (k0_pay12 (F := F) (word x1 0) (word x2 0)) (k0_pay13 (F := F) (word x1 0) (word x2 0) (word x1 1) (word x2 1)) x4 x6

/-- The codes of the normalised student rows. -/
def codesV (x3 : Vec F S256x1024 .bf16) (x5 : Vec F S1x1024 .f32) : Vec F S256x1024 .fp8e4m3 :=
  k0_pay21 (k0_pay17 x3) (k0_pay18 x3) x5

/-- The rows' scales, as a row. -/
def scaleV (x3 : Vec F S256x1024 .bf16) (x5 : Vec F S1x1024 .f32) : Vec F S1x256 .f32 :=
  k0_pay23 (k0_pay17 x3) (k0_pay18 x3) x5

/-- The codes, placed. -/
def cpV (x1 x2 : Vec F S2 .i32) (x3 : Vec F S256x1024 .bf16) (x5 : Vec F S1x1024 .f32) : Vec F S256x1024 .fp8e4m3 :=
  k0_pay22 (k0_pay15 (F := F) k0_pay7 (k0_pay8 (F := F) (word x1 0) (word x1 1)) (k0_pay9 (F := F) (word x1 0) (word x2 0) (word x1 1) (word x2 1))
    (k0_pay10 (F := F) (word x1 0) (word x2 0) (word x1 1) (word x2 1)) (k0_pay11 (F := F) (word x1 0) (word x2 0))
    (k0_pay12 (F := F) (word x1 0) (word x2 0)) (k0_pay13 (F := F) (word x1 0) (word x2 0) (word x1 1) (word x2 1)))
    (k0_pay17 x3) (k0_pay18 x3) x5

/-- The placed scales times half of log₂ e, over the lanes. -/
def rsV (x1 x2 : Vec F S2 .i32) (x3 : Vec F S256x1024 .bf16) (x5 : Vec F S1x1024 .f32) : Vec F S256x128 .f32 :=
  k0_pay36 (permBits x1 x2) (scaleV x3 x5)

/-! ## One block of 512 columns -/

/-- The columns of the block at offset `o` which no earlier point has seen. -/
def fresh (i : grid0.Coords) (o : BitVec 32) : IVec S1x512 1 :=
  cmpi .sge (addi (iota .tc S1x512 32 [1] iota_S1x512_d1_w32) (broadcast S1x512 o))
    (broadcast S1x512 (Scalar.maxsi (Scalar.subi (Scalar.muli (BitVec.ofNat 32 (i 0).val) 2048#32) 149888#32) 0#32))

/-- The student's logits of a block of columns. -/
def logitsS (fr : IVec S1x512 1) (cp : Vec F S256x1024 .fp8e4m3) (w : Vec F S512x1024 .fp8e4m3) (rs : Vec F S256x128 .f32)
    (ws : Vec F S1x512 .f32) : FVec F S256x512 .f32 := k0_pay99 fr cp w rs ws

/-- The teacher's logits of a block of columns. -/
def logitsT (fr : IVec S1x512 1) (ht : Vec F S256x2560 .bf16) (w : Vec F S2560x512 .bf16) : FVec F S256x512 .f32 := k0_pay177 fr ht w

/-- The lanes' maxima after a block. -/
def maxV (y : FVec F S256x512 .f32) (m : Vec F S256x128 .f32) : FVec F S256x128 .f32 := k0_pay113 y m

/-- The lanes' sums after a block. -/
def sumV (y : FVec F S256x512 .f32) (m s : Vec F S256x128 .f32) : FVec F S256x128 .f32 := k0_pay114 y m s

/-! ## The blocks a point reads -/

/-- 512 columns of the packed weights' group of 64 rows. -/
def ldP (x7 : Vec F S1280x2048 .i8) (r c : Nat) (hr : r + 64 ≤ 1280) (hc : c + 512 ≤ 2048) : Vec F S64x512 .i8 :=
  fun j => x7 (ix2 ⟨r + (j 0).val, Nat.lt_of_lt_of_le (Nat.add_lt_add_left (j 0).isLt _) hr⟩
    ⟨c + (j 1).val, Nat.lt_of_lt_of_le (Nat.add_lt_add_left (j 1).isLt _) hc⟩)

/-- 512 columns of one group's scales or zero points. -/
def ldG (x8 : Vec F S20x2048 .f32) (g c : Nat) (hg : g < 20) (hc : c + 512 ≤ 2048) : Vec F S1x512 .f32 :=
  fun j => x8 (ix2 ⟨g, hg⟩ ⟨c + (j 1).val, Nat.lt_of_lt_of_le (Nat.add_lt_add_left (j 1).isLt _) hc⟩)

/-- One group of the teacher's weights, over 512 columns. -/
def grpV (w : Vec F S64x512 .i8) (z s : Vec F S1x512 .f32) : FVec F S128x512 .bf16 := k0_pay92 w z s

/-- The teacher's weights over a point's 2048 columns. -/
def wtV (x7 : Vec F S1280x2048 .i8) (x8 x9 : Vec F S20x2048 .f32) : Vec F S2560x2048 .bf16 := fun k =>
  grpV (ldP x7 (64 * ((k 0).val / 128)) (512 * ((k 1).val / 512)) (by have h : (k 0).val < 2560 := (k 0).isLt; omega) (by have h : (k 1).val < 2048 := (k 1).isLt; omega))
    (ldG x9 ((k 0).val / 128) (512 * ((k 1).val / 512)) (by have h : (k 0).val < 2560 := (k 0).isLt; omega) (by have h : (k 1).val < 2048 := (k 1).isLt; omega))
    (ldG x8 ((k 0).val / 128) (512 * ((k 1).val / 512)) (by have h : (k 0).val < 2560 := (k 0).isLt; omega) (by have h : (k 1).val < 2048 := (k 1).isLt; omega))
    (ix2 ⟨(k 0).val % 128, Nat.mod_lt _ (by decide)⟩ ⟨(k 1).val % 512, Nat.mod_lt _ (by decide)⟩)

/-- A block of 512 columns of the teacher's weights. -/
def ldW (x7 : Vec F S1280x2048 .i8) (x8 x9 : Vec F S20x2048 .f32) (c : Nat) (hc : c + 512 ≤ 2048) : Vec F S2560x512 .bf16 :=
  fun j => wtV x7 x8 x9 (ix2 ⟨(j 0).val, (j 0).isLt⟩ ⟨c + (j 1).val, Nat.lt_of_lt_of_le (Nat.add_lt_add_left (j 1).isLt _) hc⟩)

/-- 512 rows of the student's weights. -/
def ldS (x10 : Vec F S2048x1024 .fp8e4m3) (c : Nat) (hc : c + 512 ≤ 2048) : Vec F S512x1024 .fp8e4m3 :=
  fun j => x10 (ix2 ⟨c + (j 0).val, Nat.lt_of_lt_of_le (Nat.add_lt_add_left (j 0).isLt _) hc⟩ ⟨(j 1).val, (j 1).isLt⟩)

/-- 512 columns of the student weights' scales. -/
def ldC (x11 : Vec F S1x2048 .f32) (c : Nat) (hc : c + 512 ≤ 2048) : Vec F S1x512 .f32 :=
  fun j => x11 (ix2 0 ⟨c + (j 1).val, Nat.lt_of_lt_of_le (Nat.add_lt_add_left (j 1).isLt _) hc⟩)

/-! ## One point -/

/-- What the scratch buffers carry from a point to the next. -/
structure St (F : FTy → Type) where
  ht : Vec F S256x2560 .bf16
  cp : Vec F S256x1024 .fp8e4m3
  rs : Vec F S256x128 .f32
  mt : Vec F S256x128 .f32
  st : Vec F S256x128 .f32
  ms : Vec F S256x128 .f32
  ss : Vec F S256x128 .f32

/-- The blocks of the nine input arrays a point reads. -/
structure Blk (F : FTy → Type) where
  x3 : Vec F S256x1024 .bf16
  x4 : Vec F S256x2560 .bf16
  x5 : Vec F S1x1024 .f32
  x6 : Vec F S1x2560 .f32
  x7 : Vec F S1280x2048 .i8
  x8 : Vec F S20x2048 .f32
  x9 : Vec F S20x2048 .f32
  x10 : Vec F S2048x1024 .fp8e4m3
  x11 : Vec F S1x2048 .f32

/-- The state a point starts its columns from: the first point prepares it. -/
def start (i : grid0.Coords) (x1 x2 : Vec F S2 .i32) (b : Blk F) (S : St F) : St F :=
  if k0_cond1 i = 1#1 then
    ⟨htV x1 x2 b.x4 b.x6, cpV x1 x2 b.x3 b.x5, rsV x1 x2 b.x3 b.x5, k0_pay37, k0_pay39, k0_pay38, k0_pay40⟩
  else S

/-- The state after the block of columns at offset `c`. -/
def blockStep (i : grid0.Coords) (b : Blk F) (c : Nat) (hc : c + 512 ≤ 2048) (S : St F) : St F :=
  { S with
    mt := maxV (logitsT (fresh i (BitVec.ofNat 32 c)) S.ht (ldW b.x7 b.x8 b.x9 c hc)) S.mt
    st := sumV (logitsT (fresh i (BitVec.ofNat 32 c)) S.ht (ldW b.x7 b.x8 b.x9 c hc)) S.mt S.st
    ms := maxV (logitsS (fresh i (BitVec.ofNat 32 c)) S.cp (ldS b.x10 c hc) S.rs (ldC b.x11 c hc)) S.ms
    ss := sumV (logitsS (fresh i (BitVec.ofNat 32 c)) S.cp (ldS b.x10 c hc) S.rs (ldC b.x11 c hc)) S.ms S.ss }

/-- The state a point leaves. -/
def pointStep (i : grid0.Coords) (x1 x2 : Vec F S2 .i32) (b : Blk F) (S : St F) : St F :=
  blockStep i b 1536 (by decide) (blockStep i b 1024 (by decide) (blockStep i b 512 (by decide) (blockStep i b 0 (by decide) (start i x1 x2 b S))))

/-- The row of logsumexps the last point writes. -/
def lseV (x1 x2 : Vec F S2 .i32) (m s : Vec F S256x128 .f32) : Vec F S1x256 .f32 := k0_pay5 (permBits x1 x2) m s

end Cert.KernelIdeal.Hand
-- ==== Proof.Perm.lean ====
/-
  Where the kernel places each row: a bit matrix with exactly one bit in every column, no two of them in one row.

  The rows come in two halves of 128. Half b has a span of nb rows from row pb; the spans' rows go first, half after half,
  and the other rows follow in their order. The words stay below 2³¹, so all of it is arithmetic of naturals.
-/
module

public import proofs.«01_k».proof.Proof.Step
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp

/-! ## Words as naturals -/

theorem sge_nat {a b : ℕ} (ha : a < 2 ^ 31) (hb : b < 2 ^ 31) :
    IntOp.cmpi .sge (BitVec.ofNat 32 a) (BitVec.ofNat 32 b) = if b ≤ a then 1#1 else 0#1 := by
  split
  · exact (cmpi_sge_ofNat_eq_one_iff (w := 32) ha hb).mpr (by omega)
  · exact (cmpi_sge_ofNat_eq_zero_iff (w := 32) ha hb).mpr (by omega)

theorem slt_nat {a b : ℕ} (ha : a < 2 ^ 31) (hb : b < 2 ^ 31) :
    IntOp.cmpi .slt (BitVec.ofNat 32 a) (BitVec.ofNat 32 b) = if a < b then 1#1 else 0#1 := by
  split
  · exact (cmpi_slt_ofNat_eq_one_iff (w := 32) ha hb).mpr (by omega)
  · exact (cmpi_slt_ofNat_eq_zero_iff (w := 32) ha hb).mpr (by omega)

theorem eq_nat {a b : ℕ} (ha : a < 2 ^ 32) (hb : b < 2 ^ 32) :
    IntOp.cmpi .eq (BitVec.ofNat 32 a) (BitVec.ofNat 32 b) = if a = b then 1#1 else 0#1 := by
  split
  · exact (cmpi_eq_ofNat_eq_one_iff (w := 32) ha hb).mpr (by omega)
  · exact (cmpi_eq_ofNat_eq_zero_iff (w := 32) ha hb).mpr (by omega)

theorem sub_nat {a b : ℕ} (h : b ≤ a) (ha : a < 2 ^ 32) :
    IntOp.subi (BitVec.ofNat 32 a) (BitVec.ofNat 32 b) = BitVec.ofNat 32 (a - b) := by
  refine BitVec.eq_of_toNat_eq ?_
  simp only [IntOp.subi, BitVec.toNat_sub, BitVec.toNat_ofNat]
  omega

theorem add_nat (a b : ℕ) : IntOp.addi (BitVec.ofNat 32 a) (BitVec.ofNat 32 b) = BitVec.ofNat 32 (a + b) := addi_ofNat a b

/-- A clipped word is a natural up to 128. -/
theorem clip_nat (w : BitVec 32) : ∃ p : ℕ, p ≤ 128 ∧ Scalar.minsi 128#32 (Scalar.maxsi 0#32 w) = BitVec.ofNat 32 p := by
  refine ⟨(Scalar.minsi 128#32 (Scalar.maxsi 0#32 w)).toNat, ?_, BitVec.eq_of_toNat_eq (by simp only [BitVec.toNat_ofNat]; omega)⟩
  simp only [Scalar.minsi, Scalar.maxsi, IntOp.minsi, IntOp.maxsi, BitVec.slt, decide_eq_true_eq]
  have e0 : (0#32).toInt = 0 := by decide
  have e128 : (128#32).toInt = 128 := by decide
  rw [e0, e128]
  by_cases h0 : w.toInt < 0
  · rw [if_pos h0, e0, if_neg (by decide)]
    decide
  · rw [if_neg h0]
    by_cases h1 : 128 < w.toInt
    · rw [if_pos h1]
      decide
    · rw [if_neg h1]
      have := BitVec.toInt_eq_toNat_cond w
      split at this <;> omega

/-- The length of a span is the difference of its clipped ends, or 0. -/
theorem span_nat : ∀ t p : Fin 129, Scalar.maxsi (Scalar.subi (BitVec.ofNat 32 t.val) (BitVec.ofNat 32 p.val)) 0#32 = BitVec.ofNat 32 (t.val - p.val) := by
  decide +kernel

theorem sel_one {α : Type} (x y : α) : Scalar.select 1#1 x y = x := rfl
theorem sel_zero {α : Type} (x y : α) : Scalar.select 0#1 x y = y := rfl

/-! ## The destination of a row -/

/-- The destination of row s of a half whose span has n rows from row p: `a` is where the spans' rows of the half start,
    `b` where the other rows start. -/
def placeN (a b s p n : ℕ) : ℕ := if p ≤ s ∧ s < p + n then a + s - p else b + if s < p then s else s - n

theorem place_nat (a b s p n : ℕ) (ha : a ≤ 1000) (hb : b ≤ 1000) (hs : s < 128) (hp : p ≤ 128) (hn : n ≤ 128) :
    Scalar.select (IntOp.andi (IntOp.cmpi .sge (BitVec.ofNat 32 s) (BitVec.ofNat 32 p))
        (IntOp.cmpi .slt (BitVec.ofNat 32 s) (IntOp.addi (BitVec.ofNat 32 p) (BitVec.ofNat 32 n))))
      (IntOp.subi (IntOp.addi (BitVec.ofNat 32 a) (BitVec.ofNat 32 s)) (BitVec.ofNat 32 p))
      (IntOp.addi (BitVec.ofNat 32 b) (Scalar.select (IntOp.cmpi .slt (BitVec.ofNat 32 s) (BitVec.ofNat 32 p))
        (BitVec.ofNat 32 s) (IntOp.subi (BitVec.ofNat 32 s) (BitVec.ofNat 32 n))))
    = BitVec.ofNat 32 (placeN a b s p n) := by
  rw [add_nat, add_nat, sge_nat (by omega) (by omega), slt_nat (by omega) (by omega), slt_nat (by omega) (by omega)]
  unfold placeN
  by_cases h1 : p ≤ s
  · have h3 : ¬ s < p := by omega
    by_cases h2 : s < p + n
    · have h4 : p ≤ s ∧ s < p + n := And.intro h1 h2
      rw [if_pos h1, if_pos h2, if_pos h4, sub_nat (by omega) (by omega)]
      rfl
    · have h4 : ¬ (p ≤ s ∧ s < p + n) := fun h => h2 h.2
      rw [if_pos h1, if_neg h2, if_neg h4, if_neg h3, if_neg h3, sub_nat (a := s) (b := n) (by omega) (by omega), ← add_nat b]
      rfl
  · have h3 : s < p := by omega
    have h4 : ¬ (p ≤ s ∧ s < p + n) := fun h => h1 h.1
    rw [if_neg h1, if_neg h4, if_pos h3, if_pos h3, ← add_nat b s]
    split <;> rfl

/-- The destination of a row of the two halves. -/
def destN (p0 n0 p1 n1 t : ℕ) : ℕ :=
  if 128 ≤ t then placeN n0 (n0 + n1 + (128 - n0)) (t - 128) p1 n1 else placeN 0 (n0 + n1) t p0 n0

theorem destN_lt {p0 n0 p1 n1 t : ℕ} (h0 : p0 + n0 ≤ 128) (h1 : p1 + n1 ≤ 128) (ht : t < 256) : destN p0 n0 p1 n1 t < 256 := by
  unfold destN placeN
  split_ifs <;> omega

theorem destN_inj {p0 n0 p1 n1 t t' : ℕ} (h0 : p0 + n0 ≤ 128) (h1 : p1 + n1 ≤ 128) (ht : t < 256) (ht' : t' < 256)
    (h : destN p0 n0 p1 n1 t = destN p0 n0 p1 n1 t') : t = t' := by
  unfold destN placeN at h
  split_ifs at h <;> omega

/-! ## The bit matrix -/

/-- Every column t of the bit matrix has one bit, at row `dest t`, and `dest` is injective. -/
theorem permBits_dest (x1 x2 : Vec Ideal S2 .i32) :
    ∃ dest : Fin 256 → Fin 256, Function.Injective dest
      ∧ ∀ d t, permBits (F := Ideal) x1 x2 (ix2 d t) = if d = dest t then 1#1 else 0#1 := by
  obtain ⟨p0, hp0, e10⟩ := clip_nat (word x1 0)
  obtain ⟨p1, hp1, e11⟩ := clip_nat (word x1 1)
  obtain ⟨q0, hq0, e20⟩ := clip_nat (word x2 0)
  obtain ⟨q1, hq1, e21⟩ := clip_nat (word x2 1)
  have s0 := span_nat ⟨q0, by omega⟩ ⟨p0, by omega⟩
  have s1 := span_nat ⟨q1, by omega⟩ ⟨p1, by omega⟩
  dsimp only at s0 s1
  have h0 : p0 + (q0 - p0) ≤ 128 := by omega
  have h1 : p1 + (q1 - p1) ≤ 128 := by omega
  refine ⟨fun t => ⟨destN p0 (q0 - p0) p1 (q1 - p1) t.val, destN_lt h0 h1 t.isLt⟩,
    fun t t' h => Fin.ext (destN_inj h0 h1 t.isLt t'.isLt (congrArg Fin.val h)), fun d t => ?_⟩
  pointwise [permBits, k0_pay14, k0_pay13, k0_pay12, k0_pay11, k0_pay10, k0_pay9, k0_pay8, k0_pay7, k0_pay6]
  rw [e10, e11, e20, e21, s0, s1, sge_nat (by omega : t.val < 2 ^ 31) (by omega : 128 < 2 ^ 31)]
  generalize hn0 : q0 - p0 = n0 at *
  generalize hn1 : q1 - p1 = n1 at *
  have key : ∀ w : BitVec 32, w = BitVec.ofNat 32 (destN p0 n0 p1 n1 t.val) →
      IntOp.cmpi .eq (BitVec.ofNat 32 d.val) w = if d = ⟨destN p0 n0 p1 n1 t.val, destN_lt h0 h1 t.isLt⟩ then 1#1 else 0#1 := by
    intro w hw
    have := destN_lt h0 h1 t.isLt
    rw [hw, eq_nat (by omega) (by omega)]
    refine if_congr ?_ rfl rfl
    exact ⟨fun h => Fin.ext h, fun h => congrArg Fin.val h⟩
  refine key _ ?_
  by_cases ht : 128 ≤ t.val
  · simp only [if_pos ht, sel_one]
    have es : IntOp.subi (BitVec.ofNat 32 t.val) 128#32 = BitVec.ofNat 32 (t.val - 128) := sub_nat ht (by omega)
    have eb : IntOp.addi (Scalar.addi (BitVec.ofNat 32 n0) (BitVec.ofNat 32 n1)) (Scalar.subi 128#32 (BitVec.ofNat 32 n0))
        = BitVec.ofNat 32 (n0 + n1 + (128 - n0)) := by
      have e1 : Scalar.addi (BitVec.ofNat 32 n0) (BitVec.ofNat 32 n1) = BitVec.ofNat 32 (n0 + n1) := add_nat _ _
      have e2 : Scalar.subi 128#32 (BitVec.ofNat 32 n0) = BitVec.ofNat 32 (128 - n0) := sub_nat (by omega) (by omega)
      rw [e1, e2, add_nat]
    rw [es, eb]
    refine (place_nat _ _ _ _ _ (by omega) (by omega) (by omega) (by omega) (by omega)).trans ?_
    unfold destN
    rw [if_pos ht]
  · simp only [if_neg ht, sel_zero]
    have eb : IntOp.addi (Scalar.addi (BitVec.ofNat 32 n0) (BitVec.ofNat 32 n1)) 0#32 = BitVec.ofNat 32 (n0 + n1) := by
      have e1 : Scalar.addi (BitVec.ofNat 32 n0) (BitVec.ofNat 32 n1) = BitVec.ofNat 32 (n0 + n1) := add_nat _ _
      rw [e1]
      exact add_nat _ 0
    rw [eb]
    refine (place_nat 0 _ _ _ _ (by omega) (by omega) (by omega) (by omega) (by omega)).trans ?_
    unfold destN
    rw [if_neg ht]

end Cert.KernelIdeal.Hand
-- ==== Proof.Rows.lean ====
/-
  The student rows' codes and scales: the kernel's are the reference's.
-/
module

public import proofs.«01_k».proof.Proof.Perm
public import proofs.«01_k».proof.Proof.Gen.ReferenceIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The normalised student rows. -/
theorem pay19_eq (x : Vec Ideal S256x1024 .bf16) (g : Vec Ideal S1x1024 .f32) :
    k0_pay19 (F := Ideal) (k0_pay17 x) (k0_pay18 x) g = Cert.ReferenceIdeal.Gen.k0_pay11 x g := rfl

/-- A row's scale. -/
theorem pay20_eq (x : Vec Ideal S256x1024 .bf16) (g : Vec Ideal S1x1024 .f32) (t : Fin 256) :
    k0_pay20 (F := Ideal) (k0_pay17 x) (k0_pay18 x) g (ix2 t 0) = Cert.ReferenceIdeal.Gen.k0_pay12 x g (ix1 t) := by
  unfold k0_pay20
  rw [pay19_eq]
  pointwise [Cert.ReferenceIdeal.Gen.k0_pay12]

theorem codes_eq (x : Vec Ideal S256x1024 .bf16) (g : Vec Ideal S1x1024 .f32) :
    codesV (F := Ideal) x g = Cert.ReferenceIdeal.Gen.k0_pay13 x g := by
  funext j
  idx_vars j
  unfold codesV k0_pay21 Cert.ReferenceIdeal.Gen.k0_pay13
  rw [pay19_eq]
  pointwise []
  rw [pay20_eq]

/-- The kernel's row of scales, entry by entry. -/
theorem scale_at (x : Vec Ideal S256x1024 .bf16) (g : Vec Ideal S1x1024 .f32) (t : Fin 256) :
    scaleV (F := Ideal) x g (ix2 0 t) = Cert.ReferenceIdeal.Gen.k0_pay12 x g (ix1 t) := by
  unfold scaleV
  pointwise [k0_pay23]
  refine (Finset.sum_congr rfl fun d _ => ?_).trans (Finset.sum_ite_eq' Finset.univ t fun _ => Cert.ReferenceIdeal.Gen.k0_pay12 x g (ix1 t)) |>.trans (if_pos (Finset.mem_univ t))
  rw [eq_nat (by omega) (by omega)]
  by_cases h : d = t
  · subst h
    rw [if_pos rfl, if_pos rfl, sel_one, pay20_eq]
  · rw [if_neg h, if_neg (fun e => h (Fin.ext e)), sel_zero]

end Cert.KernelIdeal.Hand
-- ==== Proof.Blocks.lean ====
/-
  The blocks the windows of the logits call read at a grid point, as columns of the argument arrays, and the state the
  scratch buffers hold before each point.
-/
module

public import proofs.«01_k».proof.Proof.IdealFrame
public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat RDat Cfg Window)

variable {F : FTy → Type} [FloatOps F] [Named F]

/-! ## The grid -/

/-- The first column of a point's blocks. The last point's blocks overlap those before. -/
def off (n : Nat) : Nat := min (2048 * n) 149888

theorem off_le (n : Nat) : off n ≤ 149888 := Nat.min_le_right _ _

theorem coords0 : ∀ t : Fin grid0.N, ((grid0.coords t) 0).val = t.val := by decide +kernel

theorem cond1_iff : ∀ t : Fin grid0.N, k0_cond1 (grid0.coords t) = 1#1 ↔ t.val = 0 := by decide +kernel

theorem cond6_iff : ∀ t : Fin grid0.N, k0_cond6 (grid0.coords t) = 1#1 ↔ t.val = 74 := by decide +kernel

theorem ix_4 : ∀ t : Fin grid0.N, cc0_transform_4 (grid0.coords t) = ![0, off t.val] := by decide +kernel
theorem ix_5 : ∀ t : Fin grid0.N, cc0_transform_5 (grid0.coords t) = ![0, off t.val] := by decide +kernel
theorem ix_6 : ∀ t : Fin grid0.N, cc0_transform_6 (grid0.coords t) = ![0, off t.val] := by decide +kernel
theorem ix_7 : ∀ t : Fin grid0.N, cc0_transform_7 (grid0.coords t) = ![off t.val, 0] := by decide +kernel
theorem ix_8 : ∀ t : Fin grid0.N, cc0_transform_8 (grid0.coords t) = ![0, off t.val] := by decide +kernel

theorem off_step : ∀ t : Fin grid0.N, t.val ≠ 0 → off t.val ≠ off (t.val - 1) := by decide +kernel

/-! ## The blocks -/

variable (m : (ℓ : Loc nD τ sig) → Buf (Elt F) ℓ) (c : Dev nD)

abbrev a2 : Vec F S256x1024 .bf16 := m ((c : Thread nD τ).loc main_arg2)
abbrev a3 : Vec F S256x2560 .bf16 := m ((c : Thread nD τ).loc main_arg3)
abbrev a4 : Vec F S1x1024 .f32 := m ((c : Thread nD τ).loc main_arg4)
abbrev a5 : Vec F S1x2560 .f32 := m ((c : Thread nD τ).loc main_arg5)
abbrev a6 : Vec F S1280x151936 .i8 := m ((c : Thread nD τ).loc main_arg6)
abbrev a7 : Vec F S20x151936 .f32 := m ((c : Thread nD τ).loc main_arg7)
abbrev a8 : Vec F S20x151936 .f32 := m ((c : Thread nD τ).loc main_arg8)
abbrev a9 : Vec F S151936x1024 .fp8e4m3 := m ((c : Thread nD τ).loc main_arg9)
abbrev a10 : Vec F S1x151936 .f32 := m ((c : Thread nD τ).loc main_arg10)

/-- A column of a point's block, in the array. -/
def colAt (n : Nat) (k : Fin 2048) : Fin 151936 := ⟨off n + k.val, by have := off_le n; have := k.isLt; omega⟩

/-- The blocks the point `n` reads. -/
def blkAt (n : Nat) : Blk F where
  x3 := a2 m c
  x4 := a3 m c
  x5 := a4 m c
  x6 := a5 m c
  x7 := fun j => a6 m c (ix2 (j 0) (colAt n (j 1)))
  x8 := fun j => a7 m c (ix2 (j 0) (colAt n (j 1)))
  x9 := fun j => a8 m c (ix2 (j 0) (colAt n (j 1)))
  x10 := fun j => a9 m c (ix2 (colAt n (j 0)) (j 1))
  x11 := fun j => a10 m c (ix2 (j 0) (colAt n (j 1)))

/-! ## The state before a point -/

/-- Any state: the first point does not read it. -/
def st0 : St F :=
  ⟨htV (tab0 m) (tab1 m) (a3 m c) (a5 m c), cpV (tab0 m) (tab1 m) (a2 m c) (a4 m c), rsV (tab0 m) (tab1 m) (a2 m c) (a4 m c),
    k0_pay37, k0_pay39, k0_pay38, k0_pay40⟩

/-- The state before point `n`. -/
def stAt : Nat → St F
  | 0 => st0 m c
  | n + 1 => if h : n < grid0.N then pointStep (grid0.coords ⟨n, h⟩) (tab0 m) (tab1 m) (blkAt m c n) (stAt n) else stAt n

theorem stAt_succ (t : Fin grid0.N) :
    stAt m c (t.val + 1) = pointStep (grid0.coords t) (tab0 m) (tab1 m) (blkAt m c t.val) (stAt m c t.val) := by
  rw [stAt, dif_pos t.isLt]

/-- The first point prepares the state itself. -/
theorem pointStep_first (i : grid0.Coords) (h : k0_cond1 i = 1#1) (x1 x2 : Vec F S2 .i32) (b : Blk F) (S S' : St F) :
    pointStep i x1 x2 b S = pointStep i x1 x2 b S' := by
  unfold pointStep start; rw [if_pos h, if_pos h]

/-! ## What a window's fetch reads -/

section Reads

variable (rd : RDat τ (Elt F) Unit ℕ (UR sig nD τ) ℕ (cfg0 (adm m 0)) c) (t : Fin grid0.N)

theorem fetched_0 (hA : rd.A 0 = V m c (Pipeline.arrRef spec0 0)) (d) : rd.fetched 0 t d = a2 m c := by
  unfold RDat.fetched RDat.blockOf
  rw [hA]
  refine funext fun j : S256x1024.Idx => ?_
  refine congrArg (a2 m c) (funext fun a => Fin.ext ?_)
  fin_cases a
  · show 0 * 256 + 1 * (j 0).val = (j 0).val
    omega
  · show 0 * 1024 + 1 * (j 1).val = (j 1).val
    omega

theorem fetched_1 (hA : rd.A 1 = V m c (Pipeline.arrRef spec0 1)) (d) : rd.fetched 1 t d = a3 m c := by
  unfold RDat.fetched RDat.blockOf
  rw [hA]
  refine funext fun j : S256x2560.Idx => ?_
  refine congrArg (a3 m c) (funext fun a => Fin.ext ?_)
  fin_cases a
  · show 0 * 256 + 1 * (j 0).val = (j 0).val
    omega
  · show 0 * 2560 + 1 * (j 1).val = (j 1).val
    omega

theorem fetched_2 (hA : rd.A 2 = V m c (Pipeline.arrRef spec0 2)) (d) : rd.fetched 2 t d = a4 m c := by
  unfold RDat.fetched RDat.blockOf
  rw [hA]
  refine funext fun j : S1x1024.Idx => ?_
  refine congrArg (a4 m c) (funext fun a => Fin.ext ?_)
  fin_cases a
  · show 0 * 1 + 1 * (j 0).val = (j 0).val
    omega
  · show 0 * 1024 + 1 * (j 1).val = (j 1).val
    omega

theorem fetched_3 (hA : rd.A 3 = V m c (Pipeline.arrRef spec0 3)) (d) : rd.fetched 3 t d = a5 m c := by
  unfold RDat.fetched RDat.blockOf
  rw [hA]
  refine funext fun j : S1x2560.Idx => ?_
  refine congrArg (a5 m c) (funext fun a => Fin.ext ?_)
  fin_cases a
  · show 0 * 1 + 1 * (j 0).val = (j 0).val
    omega
  · show 0 * 2560 + 1 * (j 1).val = (j 1).val
    omega

theorem fetched_4 (hA : rd.A 4 = V m c (Pipeline.arrRef spec0 4)) (d) : rd.fetched 4 t d = (blkAt m c t.val).x7 := by
  unfold RDat.fetched RDat.blockOf
  rw [hA]
  refine funext fun j : S1280x2048.Idx => ?_
  refine congrArg (a6 m c) (funext fun a => Fin.ext ?_)
  show cc0_transform_4 (grid0.coords t) a + 1 * (j a).val = _
  rw [ix_4]
  fin_cases a
  · show 0 + 1 * (j 0).val = (j 0).val
    omega
  · show off t.val + 1 * (j 1).val = off t.val + (j 1).val
    omega

theorem fetched_5 (hA : rd.A 5 = V m c (Pipeline.arrRef spec0 5)) (d) : rd.fetched 5 t d = (blkAt m c t.val).x8 := by
  unfold RDat.fetched RDat.blockOf
  rw [hA]
  refine funext fun j : S20x2048.Idx => ?_
  refine congrArg (a7 m c) (funext fun a => Fin.ext ?_)
  show cc0_transform_5 (grid0.coords t) a + 1 * (j a).val = _
  rw [ix_5]
  fin_cases a
  · show 0 + 1 * (j 0).val = (j 0).val
    omega
  · show off t.val + 1 * (j 1).val = off t.val + (j 1).val
    omega

theorem fetched_6 (hA : rd.A 6 = V m c (Pipeline.arrRef spec0 6)) (d) : rd.fetched 6 t d = (blkAt m c t.val).x9 := by
  unfold RDat.fetched RDat.blockOf
  rw [hA]
  refine funext fun j : S20x2048.Idx => ?_
  refine congrArg (a8 m c) (funext fun a => Fin.ext ?_)
  show cc0_transform_6 (grid0.coords t) a + 1 * (j a).val = _
  rw [ix_6]
  fin_cases a
  · show 0 + 1 * (j 0).val = (j 0).val
    omega
  · show off t.val + 1 * (j 1).val = off t.val + (j 1).val
    omega

theorem fetched_7 (hA : rd.A 7 = V m c (Pipeline.arrRef spec0 7)) (d) : rd.fetched 7 t d = (blkAt m c t.val).x10 := by
  unfold RDat.fetched RDat.blockOf
  rw [hA]
  refine funext fun j : S2048x1024.Idx => ?_
  refine congrArg (a9 m c) (funext fun a => Fin.ext ?_)
  show cc0_transform_7 (grid0.coords t) a + 1 * (j a).val = _
  rw [ix_7]
  fin_cases a
  · show off t.val + 1 * (j 0).val = off t.val + (j 0).val
    omega
  · show 0 + 1 * (j 1).val = (j 1).val
    omega

theorem fetched_8 (hA : rd.A 8 = V m c (Pipeline.arrRef spec0 8)) (d) : rd.fetched 8 t d = (blkAt m c t.val).x11 := by
  unfold RDat.fetched RDat.blockOf
  rw [hA]
  refine funext fun j : S1x2048.Idx => ?_
  refine congrArg (a10 m c) (funext fun a => Fin.ext ?_)
  show cc0_transform_8 (grid0.coords t) a + 1 * (j a).val = _
  rw [ix_8]
  fin_cases a
  · show 0 + 1 * (j 0).val = (j 0).val
    omega
  · show off t.val + 1 * (j 1).val = off t.val + (j 1).val
    omega

/-- A window with a constant block is fetched at the first point and nowhere else. -/
theorem fetch_const {w : Fin 19} (hi : ∀ t t' : Fin grid0.N, ((cfg0 (adm m 0)).win w).index t = ((cfg0 (adm m 0)).win w).index t')
    (ht : t.val ≠ 0) : ((cfg0 (adm m 0)).win w).fetch t = false := by
  unfold Window.fetch
  have e : decide (t.val = 0) = false := decide_eq_false ht
  simp [ht, hi t ⟨t.val - 1, by have := t.isLt; omega⟩]

end Reads

end Cert.KernelIdeal.Hand
-- ==== Proof.Cols.lean ====
/-
  The teacher's weights at an index: the kernel's groups and the reference's stacked nibbles are the same numbers.
-/
module

public import proofs.«01_k».proof.Proof.Rows
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp

/-- A nibble of a byte: the low one of an even row, the high one of an odd row. -/
def nib (b : BitVec 8) (e : ℕ) : BitVec 32 :=
  if e < 1 then IntOp.andi (BitVec.setWidth 32 b) 15#32 else IntOp.shrsi ArithUnit.vector (BitVec.setWidth 32 b) 4#32

theorem low_nib : ∀ b : BitVec 8, IntOp.andi (IntOp.shrsi ArithUnit.vector (BitVec.setWidth 32 b) 0#32) 15#32
    = IntOp.andi (BitVec.setWidth 32 b) 15#32 := by decide +kernel

theorem high_nib : ∀ b : BitVec 8, IntOp.andi (IntOp.shrsi ArithUnit.vector (BitVec.setWidth 32 b) 4#32) 15#32
    = IntOp.shrsi ArithUnit.vector (BitVec.setWidth 32 b) 4#32 := by decide +kernel

/-- The kernel's shift of a row: 0 on even rows, 4 on odd ones. -/
def shiftOf (r : Fin 128) : BitVec 32 :=
  IntOp.muli (4#32)
    (Scalar.select
      (IntOp.andi
        (IntOp.xori
          (IntOp.cmpi CmpIPredicate.slt
            (IntOp.remsi ArithUnit.vector (BitVec.ofNat 32 r.val) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne
          (IntOp.remsi ArithUnit.vector (BitVec.ofNat 32 r.val) (Scalar.select (Scalar.cmpi CmpIPredicate.eq 2#32 0#32) 1#32 2#32)) 0#32))
      (IntOp.addi
        (IntOp.remsi ArithUnit.vector (BitVec.ofNat 32 r.val) (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 r.val) (Scalar.select (Scalar.cmpi CmpIPredicate.eq 2#32 0#32) 1#32 2#32)))

theorem shiftOf_eq : ∀ r : Fin 128, shiftOf r = if r.val % 2 < 1 then 0#32 else 4#32 := by decide +kernel

theorem nib_eq (b : BitVec 8) (r : Fin 128) :
    IntOp.andi (IntOp.shrsi ArithUnit.vector (BitVec.setWidth 32 b) (shiftOf r)) 15#32 = nib b (r.val % 2) := by
  rw [shiftOf_eq]
  unfold nib
  split
  · exact low_nib b
  · exact high_nib b

/-- A group of the kernel's weights at an index. -/
theorem grpV_at (w : Vec Ideal S64x512 .i8) (z s : Vec Ideal S1x512 .f32) (r : Fin 128) (j : Fin 512) :
    grpV (F := Ideal) w z s (ix2 r j)
      = ((FloatOps.sitofp (F := Ideal) .bf16 (nib (w (ix2 ⟨r.val / 2, by omega⟩ j)) (r.val % 2)) : EReal) - z (ix2 0 j)) * s (ix2 0 j) := by
  rw [← nib_eq]
  unfold shiftOf
  pointwise [grpV, k0_pay92]

/-- The teacher's weight of row k and column v: its nibble less the group's zero point, times the group's scale. -/
def wt (s z : Vec Ideal S20x151936 .f32) (w : Vec Ideal S1280x151936 .i8) (k : Fin 2560) (v : Fin 151936) : EReal :=
  ((FloatOps.sitofp (F := Ideal) .bf16 (nib (w (ix2 ⟨k.val / 2, by omega⟩ v)) (k.val % 2)) : EReal)
    - z (ix2 ⟨k.val / 128, by omega⟩ v)) * s (ix2 ⟨k.val / 128, by omega⟩ v)

theorem ref7_at (s z : Vec Ideal S20x151936 .f32) (w : Vec Ideal S1280x151936 .i8) (r : Fin 1280) (v : Fin 151936) :
    Cert.ReferenceIdeal.Gen.k0_pay7 (F := Ideal) z s w (ix2 r v)
      = ((FloatOps.sitofp (F := Ideal) .bf16 (IntOp.shrsi ArithUnit.vector (BitVec.setWidth 32 (w (ix2 r v))) 4#32) : EReal)
        - z (ix2 ⟨r.val / 64, by omega⟩ v)) * s (ix2 ⟨r.val / 64, by omega⟩ v) := by
  pointwise [Cert.ReferenceIdeal.Gen.k0_pay7, Cert.ReferenceIdeal.Gen.k0_pay4, Cert.ReferenceIdeal.Gen.k0_pay5, Cert.ReferenceIdeal.Gen.k0_pay6]

theorem ref9_at (s z : Vec Ideal S20x151936 .f32) (w : Vec Ideal S1280x151936 .i8) (r : Fin 1280) (e : Fin 1) (v : Fin 151936) :
    Cert.ReferenceIdeal.Gen.k0_pay9 (F := Ideal) z s w (ix3 r e v)
      = ((FloatOps.sitofp (F := Ideal) .bf16 (IntOp.andi (BitVec.setWidth 32 (w (ix2 r v))) 15#32) : EReal)
        - z (ix2 ⟨r.val / 64, by omega⟩ v)) * s (ix2 ⟨r.val / 64, by omega⟩ v) := by
  obtain rfl : e = 0 := by omega
  pointwise [Cert.ReferenceIdeal.Gen.k0_pay9, Cert.ReferenceIdeal.Gen.k0_pay4, Cert.ReferenceIdeal.Gen.k0_pay5, Cert.ReferenceIdeal.Gen.k0_pay6]

/-- The reference's teacher logits: the row times the column of weights. -/
theorem ref_at (ht : FVec Ideal S256x2560 .bf16) (s z : Vec Ideal S20x151936 .f32) (w : Vec Ideal S1280x151936 .i8)
    (t : Fin 256) (v : Fin 151936) :
    Cert.ReferenceIdeal.Gen.k0_pay10 (F := Ideal) (Cert.ReferenceIdeal.Gen.k0_pay7 z s w) ht (Cert.ReferenceIdeal.Gen.k0_pay9 z s w) (ix2 t v)
      = ∑ k : Fin 2560, ht (ix2 t k) * wt s z w k v := by
  pointwise [Cert.ReferenceIdeal.Gen.k0_pay10]
  refine Finset.sum_congr rfl fun k _ => congrArg (ht (ix2 t k) * ·) ?_
  have e : k.val / 2 / 64 = k.val / 128 := by omega
  have h128 : k.val / 2 / 64 < 20 := by omega
  unfold wt nib
  by_cases h : k.val % 2 < 1
  · rw [dif_pos h, if_pos h, ref9_at]
    simp only [e]
  · rw [dif_neg h, if_neg h, ref7_at]
    simp only [e]

end Cert.KernelIdeal.Hand
-- ==== Proof.Placed.lean ====
/-
  The placed rows: row `dest t` of what the first point prepares holds row t of the normalised teacher, of the codes and
  of the scales.
-/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp

/-- A sum over the rows, weighted by one bit, is the row of the bit. -/
theorem bit_sum (c : Fin 256 → BitVec 1) (t : Fin 256) (hc : ∀ x, c x = if x = t then 1#1 else 0#1) (f : Fin 256 → EReal) :
    ∑ x, (FloatOps.sitofp (F := Ideal) .f32 (BitVec.setWidth 32 (c x)) : EReal) * f x = f t := by
  refine (Finset.sum_congr rfl fun x _ => ?_).trans ((Finset.sum_ite_eq' Finset.univ t f).trans (if_pos (Finset.mem_univ t)))
  rw [hc x]
  by_cases h : x = t
  · rw [if_pos h, if_pos h]
    show (((BitVec.setWidth 32 1#1).toInt : ℝ) : EReal) * f x = f x
    rw [show (BitVec.setWidth 32 1#1).toInt = 1 from by decide, Int.cast_one, EReal.coe_one, one_mul]
  · rw [if_neg h, if_neg h]
    show (((BitVec.setWidth 32 0#1).toInt : ℝ) : EReal) * f x = 0
    rw [show (BitVec.setWidth 32 0#1).toInt = 0 from by decide, Int.cast_zero, EReal.coe_zero, zero_mul]

/-- A sum over the rows, selected by one bit, is the row of the bit. -/
theorem sel_sum (c : Fin 256 → BitVec 1) (t : Fin 256) (hc : ∀ x, c x = if x = t then 1#1 else 0#1) (f : Fin 256 → EReal) :
    ∑ x, Scalar.select (c x) (f x) 0 = f t := by
  refine (Finset.sum_congr rfl fun x _ => ?_).trans ((Finset.sum_ite_eq' Finset.univ t f).trans (if_pos (Finset.mem_univ t)))
  rw [hc x]
  by_cases h : x = t
  · rw [if_pos h, if_pos h, sel_one]
  · rw [if_neg h, if_neg h, sel_zero]

/-! ## The named constants -/

theorem half_log2e_eq : Named.named (F := Ideal) κ "half_log2e" (φ := .f32) 0x3F38AA3B#32 = (((2 * Real.log 2)⁻¹ : ℝ) : EReal) :=
  IdealRules.named_const.ideal_named_scalar _ _ _ _ rfl

theorem ln2_eq : Named.named (F := Ideal) κ "ln2" (φ := .f32) 0x3F317218#32 = ((Real.log 2 : ℝ) : EReal) :=
  IdealRules.named_const.ideal_named_scalar _ _ _ _ rfl

theorem log2e_eq : Named.named (F := Ideal) κ "log2e" (φ := .f32) 0x3FB8AA3B#32 = (((Real.log 2)⁻¹ : ℝ) : EReal) :=
  IdealRules.named_const.ideal_named_scalar _ _ _ _ rfl

theorem masked_eq : Named.named (F := Ideal) κ "masked" (φ := .f32) 0xF149F2CA#32 = (⊥ : EReal) :=
  IdealRules.named_const.ideal_named_scalar _ _ _ _ rfl

/-! ## The placed rows -/

variable {x1 x2 : Vec Ideal S2 .i32} {dest : Fin 256 → Fin 256} (hinj : Function.Injective dest)
  (hbit : ∀ d t, permBits (F := Ideal) x1 x2 (ix2 d t) = if d = dest t then 1#1 else 0#1)

include hinj hbit

omit hbit in
theorem dest_eq_iff {t : Fin 256} (x : Fin 256) : dest t = dest x ↔ x = t :=
  ⟨fun h => (hinj h).symm, fun h => congrArg dest h.symm⟩

theorem htV_at (x4 : Vec Ideal S256x2560 .bf16) (x6 : Vec Ideal S1x2560 .f32) (t : Fin 256) (k : Fin 2560) :
    htV (F := Ideal) x1 x2 x4 x6 (ix2 (dest t) k) = Cert.ReferenceIdeal.Gen.k0_pay8 x4 x6 (ix2 t k) := by
  unfold htV k0_pay16 k0_pay15
  pointwise [Cert.ReferenceIdeal.Gen.k0_pay8]
  exact bit_sum _ t (fun x => (hbit (dest t) x).trans (if_congr (dest_eq_iff hinj x) rfl rfl)) _

theorem cpV_at (x3 : Vec Ideal S256x1024 .bf16) (x5 : Vec Ideal S1x1024 .f32) (t : Fin 256) (k : Fin 1024) :
    cpV (F := Ideal) x1 x2 x3 x5 (ix2 (dest t) k) = Cert.ReferenceIdeal.Gen.k0_pay13 x3 x5 (ix2 t k) := by
  unfold cpV k0_pay22 k0_pay15
  rw [← codes_eq]
  pointwise [codesV]
  exact bit_sum _ t (fun x => (hbit (dest t) x).trans (if_congr (dest_eq_iff hinj x) rfl rfl)) _

theorem rsV_at (x3 : Vec Ideal S256x1024 .bf16) (x5 : Vec Ideal S1x1024 .f32) (t : Fin 256) (l : Fin 128) :
    rsV (F := Ideal) x1 x2 x3 x5 (ix2 (dest t) l)
      = Cert.ReferenceIdeal.Gen.k0_pay12 x3 x5 (ix1 t) * (((2 * Real.log 2)⁻¹ : ℝ) : EReal) := by
  unfold rsV k0_pay36
  pointwise []
  rw [sel_sum _ t (fun x => (hbit (dest t) x).trans (if_congr (dest_eq_iff hinj x) rfl rfl)), scale_at, half_log2e_eq]

theorem lseV_at (m s : Vec Ideal S256x128 .f32) (t : Fin 256) :
    lseV (F := Ideal) x1 x2 m s (ix2 0 t)
      = k0_pay3 m s (ix2 (dest t) 0) * ((Real.log 2 : ℝ) : EReal) - Ideal.ofBits .f32 0x413EE641#32 := by
  unfold lseV k0_pay5
  pointwise []
  rw [sel_sum _ (dest t) (fun x => hbit x t), ln2_eq]

end Cert.KernelIdeal.Hand
-- ==== Proof.Logits.lean ====
/-
  A block's logits at an index: of a column no earlier point has seen, the product; of any other column, −∞.
-/
module

public import proofs.«01_k».proof.Proof.Cols
public import proofs.«01_k».proof.Proof.Placed

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp

/-- The number of the block's columns an earlier point has seen, as a word. -/
theorem seen_word : ∀ n : Fin 75, Scalar.maxsi (Scalar.subi (Scalar.muli (BitVec.ofNat 32 n.val) 2048#32) 149888#32) 0#32
    = BitVec.ofNat 32 (2048 * n.val - 149888) := by decide +kernel

/-- A column is fresh when no earlier point has seen it. -/
theorem fresh_at (i : grid0.Coords) (n : ℕ) (hi : (i 0).val = n) (hn : n < 75) (o : ℕ) (ho : o + 512 ≤ 2048) (j : Fin 512) :
    fresh i (BitVec.ofNat 32 o) (ix2 0 j) = if 2048 * n ≤ off n + (o + j.val) then 1#1 else 0#1 := by
  pointwise [fresh]
  rw [hi]
  have e := seen_word ⟨n, hn⟩
  dsimp only at e
  rw [e, add_nat, sge_nat (by omega) (by omega)]
  refine if_congr ?_ rfl rfl
  unfold off
  omega

variable (m : (ℓ : Loc nD τ sig) → Buf (Elt Ideal) ℓ) (c : Dev nD)

theorem ldW_at (n o : ℕ) (ho : o + 512 ≤ 2048) (k : Fin 2560) (j : Fin 512) :
    ldW (F := Ideal) (blkAt m c n).x7 (blkAt m c n).x8 (blkAt m c n).x9 o ho (ix2 k j)
      = wt (a7 m c) (a8 m c) (a6 m c) k (colAt n ⟨o + j.val, by omega⟩) := by
  show grpV (F := Ideal) _ _ _ (ix2 _ _) = _
  rw [grpV_at]
  unfold wt
  have e1 : k.val % 128 % 2 = k.val % 2 := by omega
  have e2 : 64 * (k.val / 128) + k.val % 128 / 2 = k.val / 2 := by omega
  have e3 : 512 * ((o + j.val) / 512) + (o + j.val) % 512 = o + j.val := by omega
  show ((FloatOps.sitofp (F := Ideal) .bf16 (nib (a6 m c (ix2 ⟨64 * (k.val / 128) + k.val % 128 / 2, _⟩ (colAt n ⟨512 * ((o + j.val) / 512) + (o + j.val) % 512, _⟩))) (k.val % 128 % 2)) : EReal)
      - a8 m c (ix2 ⟨k.val / 128, _⟩ (colAt n ⟨512 * ((o + j.val) / 512) + (o + j.val) % 512, _⟩)))
      * a7 m c (ix2 ⟨k.val / 128, _⟩ (colAt n ⟨512 * ((o + j.val) / 512) + (o + j.val) % 512, _⟩)) = _
  simp only [e1, e2, e3]

/-- The teacher's logits of a block, in base 2. -/
theorem logitsT_at (fr : IVec S1x512 1) (ht : Vec Ideal S256x2560 .bf16) (w : Vec Ideal S2560x512 .bf16) (d : Fin 256) (j : Fin 512) :
    logitsT (F := Ideal) fr ht w (ix2 d j) = Scalar.select (fr (ix2 0 j))
      ((∑ k : Fin 2560, ht (ix2 d k) * w (ix2 k j)) * (((2 * Real.log 2)⁻¹ : ℝ) : EReal)) ⊥ := by
  pointwise [logitsT, k0_pay177]
  rw [half_log2e_eq, masked_eq]

/-- The student's logits of a block, in base 2. -/
theorem logitsS_at (fr : IVec S1x512 1) (cp : Vec Ideal S256x1024 .fp8e4m3) (w : Vec Ideal S512x1024 .fp8e4m3) (rs : Vec Ideal S256x128 .f32)
    (ws : Vec Ideal S1x512 .f32) (r : EReal) (d : Fin 256) (hr : ∀ l, rs (ix2 d l) = r) (j : Fin 512) :
    logitsS (F := Ideal) fr cp w rs ws (ix2 d j) = Scalar.select (fr (ix2 0 j))
      ((∑ k : Fin 1024, cp (ix2 d k) * w (ix2 j k)) * r * ws (ix2 0 j)) ⊥ := by
  pointwise [logitsS, k0_pay99]
  rw [masked_eq]
  simp only [hr, dite_eq_ite, ite_self]

/-- The lane's maximum after a block: the four tiles of 128 columns in turn. -/
theorem maxV_at (y : FVec Ideal S256x512 .f32) (mm : Vec Ideal S256x128 .f32) (d : Fin 256) (l : Fin 128) :
    maxV (F := Ideal) y mm (ix2 d l) = max (max (max (max (mm (ix2 d l)) (y (ix2 d ⟨l.val, by omega⟩))) (y (ix2 d ⟨128 + l.val, by omega⟩)))
      (y (ix2 d ⟨256 + l.val, by omega⟩))) (y (ix2 d ⟨384 + l.val, by omega⟩)) := by
  pointwise [maxV, k0_pay113, k0_pay112, k0_pay111, k0_pay110, k0_pay109, k0_pay108]

/-- The lane's sum after a block. -/
theorem sumV_at (y : FVec Ideal S256x512 .f32) (mm s : Vec Ideal S256x128 .f32) (d : Fin 256) (l : Fin 128) :
    sumV (F := Ideal) y mm s (ix2 d l) = s (ix2 d l) * Ideal.exp2 (mm (ix2 d l) - maxV y mm (ix2 d l))
      + Ideal.exp2 (y (ix2 d ⟨l.val, by omega⟩) - maxV y mm (ix2 d l))
      + Ideal.exp2 (y (ix2 d ⟨128 + l.val, by omega⟩) - maxV y mm (ix2 d l))
      + Ideal.exp2 (y (ix2 d ⟨256 + l.val, by omega⟩) - maxV y mm (ix2 d l))
      + Ideal.exp2 (y (ix2 d ⟨384 + l.val, by omega⟩) - maxV y mm (ix2 d l)) := by
  rw [maxV_at]
  pointwise [sumV, k0_pay114, k0_pay112, k0_pay111, k0_pay110, k0_pay109, k0_pay108]
  rfl

/-- From the smallest value on, a maximum over lanes is their supremum. -/
theorem fold_sup {n : ℕ} (f : Fin n → EReal) : Finset.fold max (Ideal.ofBits FTy.f32 0xFF800000#32) f Finset.univ = Finset.univ.sup f := by
  rw [show Ideal.ofBits FTy.f32 0xFF800000#32 = (⊥ : EReal) from by simp [Ideal.ofBits, Ideal.ieee]]
  rfl

/-- The logsumexp of a row, in base 2, from its lanes. -/
theorem pay3_at (mm s : Vec Ideal S256x128 .f32) (d : Fin 256) :
    k0_pay3 (F := Ideal) mm s (ix2 d 0) = (Finset.univ.sup fun l : Fin 128 => (mm (ix2 d l) : EReal))
      + Ideal.log (∑ l : Fin 128, s (ix2 d l) * Ideal.exp2 (mm (ix2 d l) - Finset.univ.sup fun l : Fin 128 => (mm (ix2 d l) : EReal)))
        * (((Real.log 2)⁻¹ : ℝ) : EReal) := by
  rw [← fold_sup]
  pointwise [k0_pay3]
  rw [log2e_eq]
  rfl

end Cert.KernelIdeal.Hand
-- ==== Proof.Lse.lean ====
/-
  Logsumexp over the extended reals, kept as a running maximum and a running sum of powers of two below it. No value is
  excluded: the identities hold at the two infinities too.
-/
module

public import Idealize.ShloMosaic.PureOps.Ideal
public import Mathlib.Data.EReal.Operations
public import Mathlib.Data.EReal.Inv
public import Mathlib.Analysis.SpecialFunctions.Pow.Real
public import Mathlib.Algebra.BigOperators.Fin

@[expose] public section

noncomputable section

namespace Cert.Lse

open Idealize.ShloMosaic

theorem exp2_nonneg (x : EReal) : 0 ≤ Ideal.exp2 x := by
  induction x with
  | bot => simp
  | top => simp
  | coe r =>
    rw [Ideal.exp2_coe]
    exact_mod_cast Real.rpow_nonneg (by norm_num) r

theorem bot_sub (x : EReal) : (⊥ : EReal) - x = ⊥ := by
  rw [sub_eq_add_neg, EReal.bot_add]

theorem sub_top (x : EReal) : x - (⊤ : EReal) = ⊥ := by
  rw [sub_eq_add_neg, EReal.neg_top, EReal.add_bot]

/-- Powers of two below one maximum, carried to a greater maximum. -/
theorem exp2_rebase {y m m' : EReal} (h : y ≤ m) (h' : m ≤ m') :
    Ideal.exp2 (y - m) * Ideal.exp2 (m - m') = Ideal.exp2 (y - m') := by
  induction m' with
  | bot =>
    obtain rfl := le_bot_iff.mp h'
    obtain rfl := le_bot_iff.mp h
    simp [bot_sub]
  | top => simp [sub_top]
  | coe r' =>
    induction m with
    | bot =>
      obtain rfl := le_bot_iff.mp h
      simp [bot_sub]
    | top => exact absurd h' (by simp)
    | coe r =>
      induction y with
      | bot => simp [bot_sub]
      | top => exact absurd h (by simp)
      | coe s =>
        rw [← EReal.coe_sub, ← EReal.coe_sub, ← EReal.coe_sub, Ideal.exp2_coe, Ideal.exp2_coe, Ideal.exp2_coe,
          ← EReal.coe_mul]
        congr 1
        show (2 : ℝ) ^ (s - r) * (2 : ℝ) ^ (r - r') = (2 : ℝ) ^ (s - r')
        rw [← Real.rpow_add (by norm_num)]
        congr 1
        ring

variable {ι : Type} [DecidableEq ι]

/-- The greatest value over a set. -/
def mx (y : ι → EReal) (A : Finset ι) : EReal := A.sup y

/-- The sum of the powers of two of the values below a level. -/
def sm (y : ι → EReal) (A : Finset ι) (m : EReal) : EReal := ∑ v ∈ A, Ideal.exp2 (y v - m)

theorem sum_mul_of_nonneg (A : Finset ι) (f : ι → EReal) (hf : ∀ v, 0 ≤ f v) (c : EReal) :
    (∑ v ∈ A, f v) * c = ∑ v ∈ A, f v * c := by
  induction A using Finset.induction_on with
  | empty => simp
  | insert a A ha ih =>
    rw [Finset.sum_insert ha, Finset.sum_insert ha, EReal.right_distrib_of_nonneg (hf a) (Finset.sum_nonneg fun v _ => hf v), ih]

/-- The sum over a set carried from its own maximum to a greater level. -/
theorem sm_rebase (y : ι → EReal) (A : Finset ι) {m' : EReal} (h : mx y A ≤ m') :
    sm y A (mx y A) * Ideal.exp2 (mx y A - m') = sm y A m' := by
  unfold sm
  rw [sum_mul_of_nonneg _ _ (fun v => exp2_nonneg _)]
  exact Finset.sum_congr rfl fun v hv => exp2_rebase (Finset.le_sup (f := y) hv) h

/-- A column added to a set when it is new. -/
def ins (p : Prop) [Decidable p] (v : ι) (A : Finset ι) : Finset ι := if p then insert v A else A

theorem mx_ins (y : ι → EReal) (p : Prop) [Decidable p] (v : ι) (A : Finset ι) :
    mx y (ins p v A) = max (mx y A) (if p then y v else ⊥) := by
  unfold ins mx
  split
  · rw [Finset.sup_insert, max_comm]
  · simp

theorem sm_ins (y : ι → EReal) (p : Prop) [Decidable p] (v : ι) (A : Finset ι) (hv : p → v ∉ A) (m : EReal) :
    sm y (ins p v A) m = sm y A m + Ideal.exp2 ((if p then y v else ⊥) - m) := by
  unfold ins sm
  split
  · rename_i hp
    rw [Finset.sum_insert (hv hp), add_comm]
  · rw [bot_sub]
    simp

/-- Maxima of the parts of a set give its maximum. -/
theorem mx_parts {κ : Type} [DecidableEq κ] (y : ι → EReal) (A : Finset ι) (K : Finset κ) (g : ι → κ)
    (hg : ∀ v ∈ A, g v ∈ K) : (K.sup fun k => mx y (A.filter fun v => g v = k)) = mx y A := by
  unfold mx
  apply le_antisymm
  · exact Finset.sup_le fun k _ => Finset.sup_mono (Finset.filter_subset _ _)
  · refine Finset.sup_le fun v hv => ?_
    refine le_trans ?_ (Finset.le_sup (f := fun k => (A.filter fun v => g v = k).sup y) (hg v hv))
    exact Finset.le_sup (f := y) (Finset.mem_filter.mpr ⟨hv, rfl⟩)

/-- Sums of the parts of a set, each carried from its own maximum to the common one, give the sum of the whole. -/
theorem sm_parts {κ : Type} [DecidableEq κ] (y : ι → EReal) (A : Finset ι) (K : Finset κ) (g : ι → κ)
    (hg : ∀ v ∈ A, g v ∈ K) :
    (∑ k ∈ K, sm y (A.filter fun v => g v = k) (mx y (A.filter fun v => g v = k))
        * Ideal.exp2 (mx y (A.filter fun v => g v = k) - mx y A)) = sm y A (mx y A) := by
  rw [Finset.sum_congr rfl fun k _ => sm_rebase y (A.filter fun v => g v = k) (m' := mx y A)
    (Finset.sup_mono (Finset.filter_subset _ _))]
  unfold sm
  exact Finset.sum_fiberwise_of_maps_to hg _

theorem exp2_eq_exp (x : EReal) : Ideal.exp2 x = Ideal.exp (x * ((Real.log 2 : ℝ) : EReal)) := by
  have h2 : (0 : ℝ) < Real.log 2 := Real.log_pos (by norm_num)
  induction x with
  | bot => rw [EReal.bot_mul_coe_of_pos h2]; simp
  | top => rw [EReal.top_mul_coe_of_pos h2]; simp
  | coe r =>
    rw [← EReal.coe_mul, Ideal.exp2_coe, Ideal.exp_coe]
    congr 1
    show (2 : ℝ) ^ r = _
    rw [Real.rpow_def_of_pos (by norm_num), mul_comm]

theorem add_mul_coe_pos (a b : EReal) {c : ℝ} (hc : 0 < c) : (a + b) * (c : EReal) = a * c + b * c := by
  induction a with
  | bot => rw [EReal.bot_add, EReal.bot_mul_coe_of_pos hc, EReal.bot_add]
  | top =>
    induction b with
    | bot => rw [EReal.add_bot, EReal.bot_mul_coe_of_pos hc, EReal.add_bot]
    | top => rw [EReal.top_add_top, EReal.top_mul_coe_of_pos hc, EReal.top_add_top]
    | coe s => rw [EReal.top_add_coe, EReal.top_mul_coe_of_pos hc, ← EReal.coe_mul, EReal.top_add_coe]
  | coe r =>
    induction b with
    | bot => rw [EReal.add_bot, EReal.bot_mul_coe_of_pos hc, EReal.add_bot]
    | top => rw [EReal.coe_add_top, EReal.top_mul_coe_of_pos hc, ← EReal.coe_mul, EReal.coe_add_top]
    | coe s => rw [← EReal.coe_add, ← EReal.coe_mul, ← EReal.coe_mul, ← EReal.coe_mul, ← EReal.coe_add, add_mul]

theorem sub_mul_coe_pos (a b : EReal) {c : ℝ} (hc : 0 < c) : (a - b) * (c : EReal) = a * c - b * c := by
  rw [sub_eq_add_neg, sub_eq_add_neg, add_mul_coe_pos _ _ hc, EReal.neg_mul]

theorem sup_mul_coe_pos (y : ι → EReal) (A : Finset ι) {c : ℝ} (hc : 0 < c) :
    (A.sup y) * (c : EReal) = A.sup fun v => y v * (c : EReal) := by
  have hm : Monotone fun x : EReal => x * (c : EReal) := fun a b h =>
    mul_le_mul_of_nonneg_right h (by exact_mod_cast hc.le)
  refine Finset.comp_sup_eq_sup_comp (fun x : EReal => x * (c : EReal)) (fun a b => ?_) ?_
  · exact hm.map_sup a b
  · exact EReal.bot_mul_coe_of_pos hc

/-- Logsumexp in base two, brought to base e, is the logsumexp in base e. -/
theorem lse_base (y u : ι → EReal) (A : Finset ι) (hu : ∀ v, y v * ((Real.log 2 : ℝ) : EReal) = u v) (l2e : EReal)
    (hl : l2e * ((Real.log 2 : ℝ) : EReal) = 1) :
    (mx y A + Ideal.log (sm y A (mx y A)) * l2e) * ((Real.log 2 : ℝ) : EReal)
      = A.sup u + Ideal.log (∑ v ∈ A, Ideal.exp (u v - A.sup u)) := by
  have h2 : (0 : ℝ) < Real.log 2 := Real.log_pos (by norm_num)
  have hU : mx y A * ((Real.log 2 : ℝ) : EReal) = A.sup u := by
    unfold mx
    rw [sup_mul_coe_pos y A h2]
    exact Finset.sup_congr rfl fun v _ => hu v
  have hS : sm y A (mx y A) = ∑ v ∈ A, Ideal.exp (u v - A.sup u) := by
    unfold sm
    refine Finset.sum_congr rfl fun v _ => ?_
    rw [exp2_eq_exp, sub_mul_coe_pos _ _ h2, hu, hU]
  rw [add_mul_coe_pos _ _ h2, hU, mul_assoc, hl, mul_one, hS]

end Cert.Lse
-- ==== Proof.Lanes.lean ====
/-
  The lanes' invariant: after the columns below a bound, lane l of a row carries the largest logit of the columns of
  residue l below the bound, and the sum of the powers of two of these logits below it.
-/
module

public import proofs.«01_k».proof.Proof.Logits
public import proofs.«01_k».proof.Proof.Lse

@[expose] public section

set_option maxRecDepth 16384

noncomputable section

namespace Cert.KernelIdeal.Hand

open Cert.KernelIdeal Cert.KernelIdeal.Gen Cert.Lse
open Idealize.ShloMosaic Idealize.ShloMosaic.TcCoe

/-- The columns of a lane below a bound. -/
def lane (l : Fin 128) (N : ℕ) : Finset (Fin 151936) := Finset.univ.filter fun v => v.val % 128 = l.val ∧ v.val < N

theorem mem_lane (l : Fin 128) (N : ℕ) (v : Fin 151936) : v ∈ lane l N ↔ v.val % 128 = l.val ∧ v.val < N := by
  unfold lane
  rw [Finset.mem_filter]
  exact ⟨fun h => h.2, fun h => ⟨Finset.mem_univ _, h⟩⟩

theorem mem_ins {p : Prop} [Decidable p] (v w : Fin 151936) (A : Finset (Fin 151936)) : w ∈ ins p v A ↔ (p ∧ w = v) ∨ w ∈ A := by
  unfold ins
  split
  · rename_i h
    rw [Finset.mem_insert]
    exact ⟨fun e => e.imp (fun e => ⟨h, e⟩) id, fun e => e.imp (fun e => e.2) id⟩
  · rename_i h
    exact ⟨fun e => Or.inr e, fun e => e.elim (fun e => absurd e.1 h) id⟩

/-- A column of the block is fresh. -/
abbrev isFresh (n : ℕ) (k : Fin 2048) : Prop := 2048 * n ≤ (colAt n k).val

/-- A tile of 128 columns adds one column to each lane, if the column is fresh. -/
theorem lane_tile (n o : ℕ) (hn : n < 75) (ho : o + 128 ≤ 2048) (hq : o % 128 = 0) (l : Fin 128) :
    lane l (max (2048 * n) (off n + (o + 128)))
      = ins (isFresh n ⟨o + l.val, by omega⟩) (colAt n ⟨o + l.val, by omega⟩) (lane l (max (2048 * n) (off n + o))) := by
  ext v
  rw [mem_ins, mem_lane, mem_lane, Fin.ext_iff]
  have hoff : off n % 128 = 0 := by unfold off; omega
  have hl := l.isLt
  show _ ↔ (2048 * n ≤ off n + (o + l.val) ∧ v.val = off n + (o + l.val)) ∨ _
  omega

theorem lane_tile_new (n o : ℕ) (ho : o + 128 ≤ 2048) (l : Fin 128) :
    isFresh n ⟨o + l.val, by omega⟩ → colAt n ⟨o + l.val, by omega⟩ ∉ lane l (max (2048 * n) (off n + o)) := by
  intro h hm
  have h2 := ((mem_lane _ _ _).mp hm).2
  change 2048 * n ≤ off n + (o + l.val) at h
  change off n + (o + l.val) < _ at h2
  omega

/-- What a block of 512 columns does to a lane. -/
theorem lane_step (y : Fin 151936 → EReal) (L : FVec Ideal S256x512 .f32) (M S : Vec Ideal S256x128 .f32) (d : Fin 256) (l : Fin 128)
    (n o : ℕ) (hn : n < 75) (ho : o + 512 ≤ 2048) (hq : o % 128 = 0)
    (hL : ∀ j : Fin 512, L (ix2 d j) = if isFresh n ⟨o + j.val, by omega⟩ then y (colAt n ⟨o + j.val, by omega⟩) else ⊥)
    (hM : M (ix2 d l) = mx y (lane l (max (2048 * n) (off n + o))))
    (hS : S (ix2 d l) = sm y (lane l (max (2048 * n) (off n + o))) (mx y (lane l (max (2048 * n) (off n + o))))) :
    maxV (F := Ideal) L M (ix2 d l) = mx y (lane l (max (2048 * n) (off n + (o + 512))))
      ∧ sumV (F := Ideal) L M S (ix2 d l)
        = sm y (lane l (max (2048 * n) (off n + (o + 512)))) (mx y (lane l (max (2048 * n) (off n + (o + 512))))) := by
  have e0 := lane_tile n o hn (by omega) hq l
  have e1 := lane_tile n (o + 128) hn (by omega) (by omega) l
  have e2 := lane_tile n (o + 128 + 128) hn (by omega) (by omega) l
  have e3 := lane_tile n (o + 128 + 128 + 128) hn (by omega) (by omega) l
  have n0 := lane_tile_new n o (by omega) l
  have n1 := lane_tile_new n (o + 128) (by omega) l
  have n2 := lane_tile_new n (o + 128 + 128) (by omega) l
  have n3 := lane_tile_new n (o + 128 + 128 + 128) (by omega) l
  have t0 := hL ⟨l.val, by omega⟩
  have t1 := hL ⟨128 + l.val, by omega⟩
  have t2 := hL ⟨256 + l.val, by omega⟩
  have t3 := hL ⟨384 + l.val, by omega⟩
  have a1 : o + (128 + l.val) = o + 128 + l.val := by omega
  have a2 : o + (256 + l.val) = o + 128 + 128 + l.val := by omega
  have a3 : o + (384 + l.val) = o + 128 + 128 + 128 + l.val := by omega
  simp only [a1] at t1
  simp only [a2] at t2
  simp only [a3] at t3
  have hmax : maxV (F := Ideal) L M (ix2 d l) = mx y (lane l (max (2048 * n) (off n + (o + 128 + 128 + 128 + 128)))) := by
    rw [maxV_at, t0, t1, t2, t3, hM, e3, mx_ins, e2, mx_ins, e1, mx_ins, e0, mx_ins]
  have hsum : sumV (F := Ideal) L M S (ix2 d l) = sm y (lane l (max (2048 * n) (off n + (o + 128 + 128 + 128 + 128))))
      (mx y (lane l (max (2048 * n) (off n + (o + 128 + 128 + 128 + 128))))) := by
    rw [sumV_at, hmax, t0, t1, t2, t3, hM, hS]
    generalize hT : mx y (lane l (max (2048 * n) (off n + (o + 128 + 128 + 128 + 128)))) = T
    have hle : mx y (lane l (max (2048 * n) (off n + o))) ≤ T := by
      rw [← hT, e3, mx_ins, e2, mx_ins, e1, mx_ins, e0, mx_ins]
      exact le_max_of_le_left (le_max_of_le_left (le_max_of_le_left (le_max_left _ _)))
    rw [sm_rebase y _ hle, e3, sm_ins _ _ _ _ n3, e2, sm_ins _ _ _ _ n2, e1, sm_ins _ _ _ _ n1, e0, sm_ins _ _ _ _ n0]
  exact ⟨hmax, hsum⟩

end Cert.KernelIdeal.Hand
-- ==== Proof.BodyRun.lean ====
/-
  One run of the body of the logits call at any grid point, with the values it leaves.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 4000000 in
set_option sl_exec.resultNames true in
/-- The body at any grid point on whole buffers, with the values it leaves found by the run. -/
def bodyRun (c : Dev nD) (i : grid0.Coords) (q1 q2 : PosShare TreeShare) (arg1 : Memref sig .tc .smem S2 .i32) (harg1 : arg1.IsWhole) (arg2 : Memref sig .tc .smem S2 .i32) (harg2 : arg2.IsWhole) (arg3 : Memref sig .tc .vmem S256x1024 .bf16) (harg3 : arg3.IsWhole) (arg4 : Memref sig .tc .vmem S256x2560 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S1280x2048 .i8) (harg7 : arg7.IsWhole) (arg8 : Memref sig .tc .vmem S20x2048 .f32) (harg8 : arg8.IsWhole) (arg9 : Memref sig .tc .vmem S20x2048 .f32) (harg9 : arg9.IsWhole) (arg10 : Memref sig .tc .vmem S2048x1024 .fp8e4m3) (harg10 : arg10.IsWhole) (arg11 : Memref sig .tc .vmem S1x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x1024 .fp8e4m3) (harg20 : arg20.IsWhole) (arg21 : Memref sig .tc .vmem S1x256 .f32) (harg21 : arg21.IsWhole) (arg22 : Memref sig .tc .vmem S256x2560 .bf16) (harg22 : arg22.IsWhole) (arg23 : Memref sig .tc .vmem S256x1024 .fp8e4m3) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S2560x2048 .bf16) (harg29 : arg29.IsWhole)
    (x1 : Vec F S2 .i32) (x2 : Vec F S2 .i32) (x3 : Vec F S256x1024 .bf16) (x4 : Vec F S256x2560 .bf16) (x5 : Vec F S1x1024 .f32) (x6 : Vec F S1x2560 .f32) (x7 : Vec F S1280x2048 .i8) (x8 : Vec F S20x2048 .f32) (x9 : Vec F S20x2048 .f32) (x10 : Vec F S2048x1024 .fp8e4m3) (x11 : Vec F S1x2048 .f32) (x16 : Vec F S1x256 .f32) (x17 : Vec F S1x256 .f32) (x20 : Vec F S256x1024 .fp8e4m3) (x21 : Vec F S1x256 .f32) (x22 : Vec F S256x2560 .bf16) (x23 : Vec F S256x1024 .fp8e4m3) (x24 : Vec F S256x128 .f32) (x25 : Vec F S256x128 .f32) (x26 : Vec F S256x128 .f32) (x27 : Vec F S256x128 .f32) (x28 : Vec F S256x128 .f32) : { out : Vec F S1x256 .f32 × Vec F S1x256 .f32 × Vec F S256x1024 .fp8e4m3 × Vec F S1x256 .f32 × Vec F S256x2560 .bf16 × Vec F S256x1024 .fp8e4m3 × Vec F S256x128 .f32 × Vec F S256x128 .f32 × Vec F S256x128 .f32 × Vec F S256x128 .f32 × Vec F S256x128 .f32 // ∀ K : PUnit → sProp 𝕄,
    iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ (∃ d, owns (c : Thread nD τ) arg29 fullShare d)
        ∗ (iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare out.1 ∗ owns (c : Thread nD τ) arg17 fullShare out.2.1 ∗ (∃ d, owns (c : Thread nD τ) arg18 fullShare d) ∗ (∃ d, owns (c : Thread nD τ) arg19 fullShare d) ∗ owns (c : Thread nD τ) arg20 fullShare out.2.2.1 ∗ owns (c : Thread nD τ) arg21 fullShare out.2.2.2.1 ∗ owns (c : Thread nD τ) arg22 fullShare out.2.2.2.2.1 ∗ owns (c : Thread nD τ) arg23 fullShare out.2.2.2.2.2.1 ∗ owns (c : Thread nD τ) arg24 fullShare out.2.2.2.2.2.2.1 ∗ owns (c : Thread nD τ) arg25 fullShare out.2.2.2.2.2.2.2.1 ∗ owns (c : Thread nD τ) arg26 fullShare out.2.2.2.2.2.2.2.2.1 ∗ owns (c : Thread nD τ) arg27 fullShare out.2.2.2.2.2.2.2.2.2.1 ∗ owns (c : Thread nD τ) arg28 fullShare out.2.2.2.2.2.2.2.2.2.2 ∗ (∃ d, owns (c : Thread nD τ) arg29 fullShare d)) -∗ K ⟨⟩))
      ⊢ wp frame (wpE (defs₀ (F := F)) Variants.none c none) Set.univ (cc0_gkd_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨(?_, ?_, ?_, ?_, ?_, ?_, ?_, ?_, ?_, ?_, ?_), fun K => ?run⟩
  rotate_left 11
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg16.eq_unread hf16
  obtain rfl := harg17.eq_unread hf17
  obtain rfl := harg20.eq_unread hf20
  obtain rfl := harg21.eq_unread hf21
  obtain rfl := harg22.eq_unread hf22
  obtain rfl := harg23.eq_unread hf23
  obtain rfl := harg24.eq_unread hf24
  obtain rfl := harg25.eq_unread hf25
  obtain rfl := harg26.eq_unread hf26
  obtain rfl := harg27.eq_unread hf27
  obtain rfl := harg28.eq_unread hf28
  sl_exec_parts!
  sl_step
  iapply Hk
  any_goals (isplitl [H1]; iexists _; isplitr; (ipureintro; exact hf1); iexact H1)
  any_goals (isplitl [H2]; iexists _; isplitr; (ipureintro; exact hf2); iexact H2)
  any_goals (isplitl [H3]; iexists _; isplitr; (ipureintro; exact hf3); iexact H3)
  any_goals (isplitl [H4]; iexists _; isplitr; (ipureintro; exact hf4); iexact H4)
  any_goals (isplitl [H5]; iexists _; isplitr; (ipureintro; exact hf5); iexact H5)
  any_goals (isplitl [H6]; iexists _; isplitr; (ipureintro; exact hf6); iexact H6)
  any_goals (isplitl [H7]; iexists _; isplitr; (ipureintro; exact hf7); iexact H7)
  any_goals (isplitl [H8]; iexists _; isplitr; (ipureintro; exact hf8); iexact H8)
  any_goals (isplitl [H9]; iexists _; isplitr; (ipureintro; exact hf9); iexact H9)
  any_goals (isplitl [H10]; iexists _; isplitr; (ipureintro; exact hf10); iexact H10)
  any_goals (isplitl [H11]; iexists _; isplitr; (ipureintro; exact hf11); iexact H11)
  any_goals (isplitl [H12]; iexists _, _; isplitr; swap; iexact H12; ipureintro; rfl)
  any_goals (isplitl [H13]; iexists _, _; isplitr; swap; iexact H13; ipureintro; rfl)
  any_goals (isplitl [H14]; iexists _, _; isplitr; swap; iexact H14; ipureintro; rfl)
  any_goals (isplitl [H15]; iexists _, _; isplitr; swap; iexact H15; ipureintro; rfl)
  any_goals (isplitl [H16]; iexists _; isplitr; swap; iexact H16; ipureintro; rfl)
  any_goals (isplitl [H17]; iexists _; isplitr; swap; iexact H17; ipureintro; rfl)
  any_goals (isplitl [H18]; iexists _, _; isplitr; swap; iexact H18; ipureintro; rfl)
  any_goals (isplitl [H19]; iexists _, _; isplitr; swap; iexact H19; ipureintro; rfl)
  any_goals (isplitl [H20]; iexists _; isplitr; swap; iexact H20; ipureintro; rfl)
  any_goals (isplitl [H21]; iexists _; isplitr; swap; iexact H21; ipureintro; rfl)
  any_goals (isplitl [H22]; iexists _; isplitr; swap; iexact H22; ipureintro; rfl)
  any_goals (isplitl [H23]; iexists _; isplitr; swap; iexact H23; ipureintro; rfl)
  any_goals (isplitl [H24]; iexists _; isplitr; swap; iexact H24; ipureintro; rfl)
  any_goals (isplitl [H25]; iexists _; isplitr; swap; iexact H25; ipureintro; rfl)
  any_goals (isplitl [H26]; iexists _; isplitr; swap; iexact H26; ipureintro; rfl)
  any_goals (isplitl [H27]; iexists _; isplitr; swap; iexact H27; ipureintro; rfl)
  any_goals (isplitl [H28]; iexists _; isplitr; swap; iexact H28; ipureintro; rfl)
  any_goals (iexists _, _; isplitr; swap; iexact H29; ipureintro; rfl)

end Cert.KernelIdeal.Hand
-- ==== Proof.Reads.lean ====
/-
  What the loads of one grid point read, as plain functions of the blocks: whole buffers, boxes of 512 columns, and the
  teacher's weights as the 80 stores of a point leave them.
-/
module

public import proofs.«01_k».proof.Proof.Step
public import Idealize.ShloMosaic.Lib.WholeRead
public import Idealize.ShloMosaic.Lib.VecWindow
public import Idealize.ShloMosaic.Lib.Pipeline.FrameBody
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

section Whole

variable {sig : RefSig} {Val : EltTy → Type} [∀ e, Nonempty (Val e)] {κ : Kind} {sp : Space} {s : Shape} {e : EltTy}
  {m : Memref sig κ sp s e}

/-- A whole load of a whole buffer reads what the buffer holds. -/
theorem rd_full (h : m.IsWhole) (X : s.Idx → Val e) {off : Fin s.rank → ℕ} (inb : ∀ a, off a + s.size a ≤ s.size a) :
    View.readAt Val m.view (Rect.unit off s.size inb).toLoadRect (h.unread X) = X := by
  rw [View.readAt_full, h.read_unread]

/-- A whole load after a store of the whole buffer under a condition. -/
theorem rd_dite (h : m.IsWhole) (X : s.Idx → Val e) (p : Prop) [Decidable p] {off off' : Fin s.rank → ℕ}
    (inb : ∀ a, off a + s.size a ≤ s.size a) (inb' : ∀ a, off' a + s.size a ≤ s.size a)
    (w : s.Idx → Val e) (L : List (View.Piece Val s e)) :
    View.readAt Val m.view (Rect.unit off s.size inb).toLoadRect
        (if hc : p then m.view.writes Val (h.unread X) (⟨Rect.unit off' s.size inb', w⟩ :: L) else h.unread X)
      = if p then w else X := by
  by_cases hp : p
  · rw [dif_pos hp, if_pos hp]
    exact View.readAt_writes_full m.view _ inb inb' w L
  · rw [dif_neg hp, if_neg hp]
    exact rd_full h X inb

/-- What a buffer holds after a store of the whole buffer under a condition. -/
theorem read_dite (h : m.IsWhole) (X : s.Idx → Val e) (p : Prop) [Decidable p] {off' : Fin s.rank → ℕ}
    (inb' : ∀ a, off' a + s.size a ≤ s.size a) (w : s.Idx → Val e) (L : List (View.Piece Val s e)) :
    View.read Val m.view
        (if hc : p then m.view.writes Val (h.unread X) (⟨Rect.unit off' s.size inb', w⟩ :: L) else h.unread X)
      = if p then w else X := by
  by_cases hp : p
  · rw [dif_pos hp, if_pos hp]
    exact View.read_writes_full m.view _ inb' w L
  · rw [dif_neg hp, if_neg hp, h.read_unread]

/-- A covered load of stores which all are parts of one function reads that function. -/
theorem readCov_of_pieces (v : View sig κ sp s e) (G : s.Idx → Val e) (L : List (View.Piece Val s e)) (B : LoadRect s)
    (hL : ∀ p ∈ L, ∀ x : p.1.shape.Idx, p.2 x = G (p.1.emb x)) (hc : ∀ j, ∃ p ∈ L, B.idx j ∈ p.1.set) :
    v.readCov L B = fun j => G (B.idx j) := by
  rw [View.readCov_eq_canon']
  funext j
  exact View.canon_apply_of_pieces G L hL _ (hc j)

end Whole

variable {F : FTy → Type} [FloatOps F] [Named F]

theorem rd_word {m : Memref sig .tc .smem S2 .i32} (h : m.IsWhole) (X : Vec F S2 .i32) (k : Fin 2)
    (inb : ∀ a, (![k.val] : Fin 1 → ℕ) a + S1.size a ≤ S2.size a) (z : S1.Idx) :
    View.readAt (Elt F) m.view (Rect.unit (s := S2) ![k.val] S1.size inb).toLoadRect (h.unread X) z = word X k := by
  rw [h.readAt_unread]
  refine congrArg X (funext fun a => ?_)
  have hz : (z 0).val = 0 := by
    have : (z 0).val < 1 := (z 0).isLt
    omega
  match a with
  | ⟨0, _⟩ => exact Fin.ext (show k.val + 1 * (z 0).val = k.val by omega)

theorem rd_P {m : Memref sig .tc .vmem S1280x2048 .i8} (h : m.IsWhole) (X : Vec F S1280x2048 .i8) (r c : Nat)
    (inb : ∀ a, (![r, c] : Fin 2 → ℕ) a + S64x512.size a ≤ S1280x2048.size a) (hr : r + 64 ≤ 1280) (hc : c + 512 ≤ 2048) :
    View.readAt (Elt F) m.view (Rect.unit (s := S1280x2048) ![r, c] S64x512.size inb).toLoadRect (h.unread X) = ldP X r c hr hc := by
  funext z
  rw [h.readAt_unread]
  refine congrArg X (funext fun a => ?_)
  match a with
  | ⟨0, _⟩ => exact Fin.ext (show r + 1 * (z 0).val = r + (z 0).val by omega)
  | ⟨1, _⟩ => exact Fin.ext (show c + 1 * (z 1).val = c + (z 1).val by omega)

theorem rd_G {m : Memref sig .tc .vmem S20x2048 .f32} (h : m.IsWhole) (X : Vec F S20x2048 .f32) (g c : Nat)
    (inb : ∀ a, (![g, c] : Fin 2 → ℕ) a + S1x512.size a ≤ S20x2048.size a) (hg : g < 20) (hc : c + 512 ≤ 2048) :
    View.readAt (Elt F) m.view (Rect.unit (s := S20x2048) ![g, c] S1x512.size inb).toLoadRect (h.unread X) = ldG X g c hg hc := by
  funext z
  rw [h.readAt_unread]
  refine congrArg X (funext fun a => ?_)
  have hz : (z 0).val = 0 := by
    have : (z 0).val < 1 := (z 0).isLt
    omega
  match a with
  | ⟨0, _⟩ => exact Fin.ext (show g + 1 * (z 0).val = g by omega)
  | ⟨1, _⟩ => exact Fin.ext (show c + 1 * (z 1).val = c + (z 1).val by omega)

theorem rd_S {m : Memref sig .tc .vmem S2048x1024 .fp8e4m3} (h : m.IsWhole) (X : Vec F S2048x1024 .fp8e4m3) (c : Nat)
    (inb : ∀ a, (![c, 0] : Fin 2 → ℕ) a + S512x1024.size a ≤ S2048x1024.size a) (hc : c + 512 ≤ 2048) :
    View.readAt (Elt F) m.view (Rect.unit (s := S2048x1024) ![c, 0] S512x1024.size inb).toLoadRect (h.unread X) = ldS X c hc := by
  funext z
  rw [h.readAt_unread]
  refine congrArg X (funext fun a => ?_)
  match a with
  | ⟨0, _⟩ => exact Fin.ext (show c + 1 * (z 0).val = c + (z 0).val by omega)
  | ⟨1, _⟩ => exact Fin.ext (show 0 + 1 * (z 1).val = (z 1).val by omega)

theorem rd_C {m : Memref sig .tc .vmem S1x2048 .f32} (h : m.IsWhole) (X : Vec F S1x2048 .f32) (c : Nat)
    (inb : ∀ a, (![0, c] : Fin 2 → ℕ) a + S1x512.size a ≤ S1x2048.size a) (hc : c + 512 ≤ 2048) :
    View.readAt (Elt F) m.view (Rect.unit (s := S1x2048) ![0, c] S1x512.size inb).toLoadRect (h.unread X) = ldC X c hc := by
  funext z
  rw [h.readAt_unread]
  refine congrArg X (funext fun a => ?_)
  have hz : (z 0).val = 0 := by
    have : (z 0).val < 1 := (z 0).isLt
    omega
  match a with
  | ⟨0, _⟩ => exact Fin.ext (show 0 + 1 * (z 0).val = 0 by omega)
  | ⟨1, _⟩ => exact Fin.ext (show c + 1 * (z 1).val = c + (z 1).val by omega)

theorem grpV_eq (x7 : Vec F S1280x2048 .i8) (x8 x9 : Vec F S20x2048 .f32) (g k : Nat) (hg : g < 20) (hk : k < 4)
    (y : S128x512.Idx) (p : S2560x2048.Idx) (e0 : (p 0).val = 128 * g + (y 0).val) (e1 : (p 1).val = 512 * k + (y 1).val) :
    grpV (ldP x7 (64 * g) (512 * k) (by omega) (by omega)) (ldG x9 g (512 * k) hg (by omega))
        (ldG x8 g (512 * k) hg (by omega)) y = wtV x7 x8 x9 p := by
  have y0 : (y 0).val < 128 := (y 0).isLt
  have y1 : (y 1).val < 512 := (y 1).isLt
  have a0 : (p 0).val / 128 = g := by omega
  have a1 : (p 1).val / 512 = k := by omega
  have b0 : (p 0).val % 128 = (y 0).val := by omega
  have b1 : (p 1).val % 512 = (y 1).val := by omega
  subst a0 a1
  unfold wtV
  refine congrArg _ (funext fun a => ?_)
  match a with
  | ⟨0, _⟩ => exact Fin.ext b0.symm
  | ⟨1, _⟩ => exact Fin.ext b1.symm

/-- The store of one group over one block of columns is its part of the weights. -/
theorem wt_piece {m7 : Memref sig .tc .vmem S1280x2048 .i8} (h7 : m7.IsWhole) {m8 m9 : Memref sig .tc .vmem S20x2048 .f32}
    (h8 : m8.IsWhole) (h9 : m9.IsWhole) (x7 : Vec F S1280x2048 .i8) (x8 x9 : Vec F S20x2048 .f32) (g k : Nat) (hg : g < 20) (hk : k < 4)
    (inb : ∀ a, (![128 * g, 512 * k] : Fin 2 → ℕ) a + S128x512.size a ≤ S2560x2048.size a)
    (i7 : ∀ a, (![64 * g, 512 * k] : Fin 2 → ℕ) a + S64x512.size a ≤ S1280x2048.size a)
    (i8 : ∀ a, (![g, 512 * k] : Fin 2 → ℕ) a + S1x512.size a ≤ S20x2048.size a)
    (i9 : ∀ a, (![g, 512 * k] : Fin 2 → ℕ) a + S1x512.size a ≤ S20x2048.size a)
    (y : S128x512.Idx) :
    grpV (View.readAt (Elt F) m7.view (Rect.unit (s := S1280x2048) ![64 * g, 512 * k] S64x512.size i7).toLoadRect (h7.unread x7))
        (View.readAt (Elt F) m9.view (Rect.unit (s := S20x2048) ![g, 512 * k] S1x512.size i9).toLoadRect (h9.unread x9))
        (View.readAt (Elt F) m8.view (Rect.unit (s := S20x2048) ![g, 512 * k] S1x512.size i8).toLoadRect (h8.unread x8)) y
      = wtV x7 x8 x9 ((Rect.unit (s := S2560x2048) ![128 * g, 512 * k] S128x512.size inb).emb y) := by
  rw [rd_P h7 x7 _ _ i7 (by omega) (by omega), rd_G h8 x8 _ _ i8 hg (by omega), rd_G h9 x9 _ _ i9 hg (by omega)]
  exact grpV_eq x7 x8 x9 g k hg hk y _ (by show 128 * g + 1 * (y 0).val = _; omega) (by show 512 * k + 1 * (y 1).val = _; omega)

/-- A load of 512 columns of the weights. -/
theorem rd_W (v : View sig .tc .vmem S2560x2048 .bf16) (x7 : Vec F S1280x2048 .i8) (x8 x9 : Vec F S20x2048 .f32)
    (L : List (View.Piece (Elt F) S2560x2048 .bf16)) (c : Nat) (hc : c + 512 ≤ 2048)
    (inb : ∀ a, (![0, c] : Fin 2 → ℕ) a + S2560x512.size a ≤ S2560x2048.size a)
    (hL : ∀ p ∈ L, ∀ x : p.1.shape.Idx, p.2 x = wtV x7 x8 x9 (p.1.emb x))
    (hcov : ∀ g : Fin 20, ∃ p ∈ L, ∃ i : ∀ a, (![128 * g.val, c] : Fin 2 → ℕ) a + S128x512.size a ≤ S2560x2048.size a,
      p.1 = Rect.unit (s := S2560x2048) ![128 * g.val, c] S128x512.size i) :
    v.readCov L (Rect.unit (s := S2560x2048) ![0, c] S2560x512.size inb).toLoadRect = ldW x7 x8 x9 c hc := by
  rw [readCov_of_pieces v (wtV x7 x8 x9) L _ hL]
  · funext z
    refine congrArg (wtV x7 x8 x9) (funext fun a => ?_)
    match a with
    | ⟨0, _⟩ => exact Fin.ext (show 0 + 1 * (z 0).val = (z 0).val by omega)
    | ⟨1, _⟩ => exact Fin.ext (show c + 1 * (z 1).val = c + (z 1).val by omega)
  · intro z
    have z0 : (z 0).val < 2560 := (z 0).isLt
    have z1 : (z 1).val < 512 := (z 1).isLt
    obtain ⟨p, hmem, i, hp⟩ := hcov ⟨(z 0).val / 128, by omega⟩
    refine ⟨p, hmem, ?_⟩
    rw [hp, Rect.mem_set_unit]
    intro a
    match a with
    | ⟨0, _⟩ =>
      refine ⟨?_, ?_⟩
      · show 128 * ((z 0).val / 128) ≤ 0 + 1 * (z 0).val
        omega
      · show 0 + 1 * (z 0).val < 128 * ((z 0).val / 128) + 128
        omega
    | ⟨1, _⟩ =>
      refine ⟨?_, ?_⟩
      · show c ≤ c + 1 * (z 1).val
        omega
      · show c + 1 * (z 1).val < c + 512
        omega

end Cert.KernelIdeal.Hand
-- ==== Proof.Weights.lean ====
/-
  The 80 stores of a grid point into the teacher's weights, and what the loads of 512 columns read of them.
-/
module

public import proofs.«01_k».proof.Proof.BodyRun
public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA

variable {F : FTy → Type} [FloatOps F] [Named F]

variable (c : Dev nD) (i : grid0.Coords) (q1 q2 : PosShare TreeShare)
  (arg1 : Memref sig .tc .smem S2 .i32) (harg1 : arg1.IsWhole)
  (arg2 : Memref sig .tc .smem S2 .i32) (harg2 : arg2.IsWhole)
  (arg3 : Memref sig .tc .vmem S256x1024 .bf16) (harg3 : arg3.IsWhole)
  (arg4 : Memref sig .tc .vmem S256x2560 .bf16) (harg4 : arg4.IsWhole)
  (arg5 : Memref sig .tc .vmem S1x1024 .f32) (harg5 : arg5.IsWhole)
  (arg6 : Memref sig .tc .vmem S1x2560 .f32) (harg6 : arg6.IsWhole)
  (arg7 : Memref sig .tc .vmem S1280x2048 .i8) (harg7 : arg7.IsWhole)
  (arg8 : Memref sig .tc .vmem S20x2048 .f32) (harg8 : arg8.IsWhole)
  (arg9 : Memref sig .tc .vmem S20x2048 .f32) (harg9 : arg9.IsWhole)
  (arg10 : Memref sig .tc .vmem S2048x1024 .fp8e4m3) (harg10 : arg10.IsWhole)
  (arg11 : Memref sig .tc .vmem S1x2048 .f32) (harg11 : arg11.IsWhole)
  (arg12 : Memref sig .tc .vmem S128x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (arg16 : Memref sig .tc .vmem S1x256 .f32) (harg16 : arg16.IsWhole)
  (arg17 : Memref sig .tc .vmem S1x256 .f32) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x1024 .fp8e4m3) (harg20 : arg20.IsWhole)
  (arg21 : Memref sig .tc .vmem S1x256 .f32) (harg21 : arg21.IsWhole)
  (arg22 : Memref sig .tc .vmem S256x2560 .bf16) (harg22 : arg22.IsWhole)
  (arg23 : Memref sig .tc .vmem S256x1024 .fp8e4m3) (harg23 : arg23.IsWhole)
  (arg24 : Memref sig .tc .vmem S256x128 .f32) (harg24 : arg24.IsWhole)
  (arg25 : Memref sig .tc .vmem S256x128 .f32) (harg25 : arg25.IsWhole)
  (arg26 : Memref sig .tc .vmem S256x128 .f32) (harg26 : arg26.IsWhole)
  (arg27 : Memref sig .tc .vmem S256x128 .f32) (harg27 : arg27.IsWhole)
  (arg28 : Memref sig .tc .vmem S256x128 .f32) (harg28 : arg28.IsWhole)
  (arg29 : Memref sig .tc .vmem S2560x2048 .bf16) (harg29 : arg29.IsWhole)
  (x1 : Vec F S2 .i32) (x2 : Vec F S2 .i32) (x3 : Vec F S256x1024 .bf16) (x4 : Vec F S256x2560 .bf16) (x5 : Vec F S1x1024 .f32) (x6 : Vec F S1x2560 .f32) (x7 : Vec F S1280x2048 .i8) (x8 : Vec F S20x2048 .f32) (x9 : Vec F S20x2048 .f32) (x10 : Vec F S2048x1024 .fp8e4m3) (x11 : Vec F S1x2048 .f32) (x16 : Vec F S1x256 .f32) (x17 : Vec F S1x256 .f32) (x20 : Vec F S256x1024 .fp8e4m3) (x21 : Vec F S1x256 .f32) (x22 : Vec F S256x2560 .bf16) (x23 : Vec F S256x1024 .fp8e4m3) (x24 : Vec F S256x128 .f32) (x25 : Vec F S256x128 .f32) (x26 : Vec F S256x128 .f32) (x27 : Vec F S256x128 .f32) (x28 : Vec F S256x128 .f32)

/-- Every store of a list is its part of the weights. -/
def PiecesOk (L : List (View.Piece (Elt F) S2560x2048 .bf16)) : Prop :=
  ∀ p ∈ L, ∀ y : p.1.shape.Idx, p.2 y = wtV x7 x8 x9 (p.1.emb y)

theorem pieces_cons {L : List (View.Piece (Elt F) S2560x2048 .bf16)} {p : View.Piece (Elt F) S2560x2048 .bf16}
    (h : PiecesOk x7 x8 x9 L) (hp : ∀ y : p.1.shape.Idx, p.2 y = wtV x7 x8 x9 (p.1.emb y)) : PiecesOk x7 x8 x9 (p :: L) :=
  List.forall_mem_cons.2 ⟨hp, h⟩

theorem pieces_nil : PiecesOk x7 x8 x9 ([] : List (View.Piece (Elt F) S2560x2048 .bf16)) := fun p hp => by cases hp

theorem pieces_1 : PiecesOk x7 x8 x9 (bodyRun.sl.H29_1 c arg7 harg7 arg8 harg8 arg9 harg9 x7 x8 x9) :=
  pieces_cons x7 x8 x9 (pieces_nil x7 x8 x9) fun y => wt_piece harg7 harg8 harg9 x7 x8 x9 0 0 (by decide) (by decide)
    (by decide) (by decide) (by decide) (by decide) y

theorem pieces_2 : PiecesOk x7 x8 x9 (bodyRun.sl.H29_2 c arg7 harg7 arg8 harg8 arg9 harg9 x7 x8 x9) :=
  pieces_cons x7 x8 x9 (pieces_1 c arg7 harg7 arg8 harg8 arg9 harg9 x7 x8 x9) fun y => wt_piece harg7 harg8 harg9 x7 x8 x9 1 0 (by decide) (by decide)
    (by decide) (by decide) (by decide) (by decide) y

theorem pieces_3 : PiecesOk x7 x8 x9 (bodyRun.sl.H29_3 c arg7 harg7 arg8 harg8 arg9 harg9 x7 x8 x9) :=
  pieces_cons x7 x8 x9 (pieces_2 c arg7 harg7 arg8 harg8 arg9 harg9 x7 x8 x9) fun y => wt_piece harg7 harg8 harg9 x7 x8 x9 2 0 (by decide) (by decide)
    (by decide) (by decide) (by decide) (by decide) y

theorem pieces_4 : PiecesOk x7 x8 x9 (bodyRun.sl.H29_4 c arg7 harg7 arg8 harg8 arg9 harg9 x7 x8 x9) :=
  pieces_cons x7 x8 x9 (pieces_3 c arg7 harg7 arg8 harg8 arg9 harg9 x7 x8 x9) fun y => wt_piece harg7 harg8 harg9 x7 x8 x9 3 0 (by decide) (by decide)
    (by decide) (by decide) (by decide) (by decide) y

theorem pieces_5 : PiecesOk x7 x8 x9 (bodyRun.sl.H29_5 c arg7 harg7 arg8 harg8 arg9 harg9 x7 x8 x9) :=
  pieces_cons x7 x8 x9 (pieces_4 c arg7 harg7 arg8 harg8 arg9 harg9 x7 x8 x9) fun y => wt_piece harg7 harg8 harg9 x7 x8 x9 4 0 (by decide) (by decide)
    (by decide) (by decide) (by decide) (by decide) y

theorem pieces_6 : PiecesOk x7 x8 x9 (bodyRun.sl.H29_6 c arg7 harg7 arg8 harg8 arg9 harg9 x7 x8 x9) :=
  pieces_cons x7 x8 x9 (pieces_5 c arg7 harg7 arg8 harg8 arg9 harg9 x7 x8 x9) fun y => wt_piece harg7 harg8 harg9 x7 x8 x9 5 0 (by decide) (by decide)
    (by decide) (by decide) (by decide) (by decide) y

theorem pieces_7 : PiecesOk x7 x8 x9 (bodyRun.sl.H29_7 c arg7 harg7 arg8 harg8 arg9 harg9 x7 x8 x9) :=
  pieces_cons x7 x8 x9 (pieces_6 c arg7 harg7 arg8 harg8 arg9 harg9 x7 x8 x9) fun y => wt_piece harg7 harg8 harg9 x7 x8 x9 6 0 (by decide) (by decide)
    (by decide) (by decide) (by decide) (by decide) y

theorem pieces_8 : PiecesOk x7 x8 x9 (bodyRun.sl.H29_8 c arg7 harg7 arg8 harg8 arg9 harg9 x7 x8 x9) :=
  pieces_cons x7 x8 x9 (pieces_7 c arg7 harg7 arg8 harg8 arg9 harg9 x7 x8 x9) fun y => wt_piece harg7 harg8 harg9 x7 x8 x9 7 0 (by decide) (by decide)
    (by decide) (by decide) (by decide) (by decide) y

theorem pieces_9 : PiecesOk x7 x8 x9 (bodyRun.sl.H29_9 c arg7 harg7 arg8 harg8 arg9 harg9 x7 x8 x9) :=
  pieces_cons x7 x8 x9 (pieces_8 c arg7 harg7 arg8 harg8 arg9 harg9 x7 x8 x9) fun y => wt_piece harg7 harg8 harg9 x7 x8 x9 8 0 (by decide) (by decide)
    (by decide) (by decide) (by decide) (by decide) y

theorem pieces_10 : PiecesOk x7 x8 x9 (bodyRun.sl.H29_10 c arg7 harg7 arg8 harg8 arg9 harg9 x7 x8 x9) :=
  pieces_cons x7 x8 x9 (pieces_9 c arg7 harg7 arg8 harg8 arg9 harg9 x7 x8 x9) fun y => wt_piece harg7 harg8 harg9 x7 x8 x9 9 0 (by decide) (by decide)
    (by decide) (by decide) (by decide) (by decide) y

theorem pieces_11 : PiecesOk x7 x8 x9 (bodyRun.sl.H29_11 c arg7 harg7 arg8 harg8 arg9 harg9 x7 x8 x9) :=
  pieces_cons x7 x8 x9 (pieces_10 c arg7 harg7 arg8 harg8 arg9 harg9 x7 x8 x9) fun y => wt_piece harg7 harg8 harg9 x7 x8 x9 10 0 (by decide) (by decide)
    (by decide) (by decide) (by decide) (by decide) y

theorem pieces_12 : PiecesOk x7 x8 x9 (bodyRun.sl.H29_12 c arg7 harg7 arg8 harg8 arg9 harg9 x7 x8 x9) :=
  pieces_cons x7 x8 x9 (pieces_11 c arg7 harg7 arg8 harg8 arg9 harg9 x7 x8 x9) fun y => wt_piece harg7 harg8 harg9 x7 x8 x9 11 0 (by decide) (by decide)
    (by decide) (by decide) (by decide) (by decide) y

theorem pieces_13 : PiecesOk x7 x8 x9 (bodyRun.sl.H29_13 c arg7 harg7 arg8 harg8 arg9 harg9 x7 x8 x9) :=
  pieces_cons x7 x8 x9 (pieces_12 c arg7 harg7 arg8 harg8 arg9 harg9 x7 x8 x9) fun y => wt_piece harg7 harg8 harg9 x7 x8 x9 12 0 (by decide) (by decide)
    (by decide) (by decide) (by decide) (by decide) y

theorem pieces_14 : PiecesOk x7 x8 x9 (bodyRun.sl.H29_14 c arg7 harg7 arg8 harg8 arg9 harg9 x7 x8 x9) :=
  pieces_cons x7 x8 x9 (pieces_13 c arg7 harg7 arg8 harg8 arg9 harg9 x7 x8 x9) fun y => wt_piece harg7 harg8 harg9 x7 x8 x9 13 0 (by decide) (by decide)
    (by decide) (by decide) (by decide) (by decide) y

theorem pieces_15 : PiecesOk x7 x8 x9 (bodyRun.sl.H29_15 c arg7 harg7 arg8 harg8 arg9 harg9 x7 x8 x9) :=
  pieces_cons x7 x8 x9 (pieces_14 c arg7 harg7 arg8 harg8 arg9 harg9 x7 x8 x9) fun y => wt_piece harg7 harg8 harg9 x7 x8 x9 14 0 (by decide) (by decide)
    (by decide) (by decide) (by decide) (by decide) y

theorem pieces_16 : PiecesOk x7 x8 x9 (bodyRun.sl.H29_16 c arg7 harg7 arg8 harg8 arg9 harg9 x7 x8 x9) :=
  pieces_cons x7 x8 x9 (pieces_15 c arg7 harg7 arg8 harg8 arg9 harg9 x7 x8 x9) fun y => wt_piece harg7 harg8 harg9 x7 x8 x9 15 0 (by decide) (by decide)
    (by decide) (by decide) (by decide) (by decide) y

theorem pieces_18 : PiecesOk x7 x8 x9 (bodyRun.sl.H29_18 c arg7 harg7 arg8 harg8 arg9 harg9 x7 x8 x9) :=
  pieces_cons x7 x8 x9 (pieces_cons x7 x8 x9 (pieces_16 c arg7 harg7 arg8 harg8 arg9 harg9 x7 x8 x9) fun y => wt_piece harg7 harg8 harg9 x7 x8 x9 16 0 (by decide) (by decide)
    (by decide) (by decide) (by decide) (by decide) y) fun y => wt_piece harg7 harg8 harg9 x7 x8 x9 17 0 (by decide) (by decide)
    (by decide) (by decide) (by decide) (by decide) y

theorem pieces_19 : PiecesOk x7 x8 x9 (bodyRun.sl.H29_19 c arg7 harg7 arg8 harg8 arg9 harg9 x7 x8 x9) :=
  pieces_cons x7 x8 x9 (pieces_18 c arg7 harg7 arg8 harg8 arg9 harg9 x7 x8 x9) fun y => wt_piece harg7 harg8 harg9 x7 x8 x9 18 0 (by decide) (by decide)
    (by decide) (by decide) (by decide) (by decide) y

theorem pieces_20 : PiecesOk x7 x8 x9 (bodyRun.sl.H29_20 c arg7 harg7 arg8 harg8 arg9 harg9 x7 x8 x9) :=
  pieces_cons x7 x8 x9 (pieces_19 c arg7 harg7 arg8 harg8 arg9 harg9 x7 x8 x9) fun y => wt_piece harg7 harg8 harg9 x7 x8 x9 19 0 (by decide) (by decide)
    (by decide) (by decide) (by decide) (by decide) y

theorem pieces_21 : PiecesOk x7 x8 x9 (bodyRun.sl.H29_21 c arg7 harg7 arg8 harg8 arg9 harg9 x7 x8 x9) :=
  pieces_cons x7 x8 x9 (pieces_20 c arg7 harg7 arg8 harg8 arg9 harg9 x7 x8 x9) fun y => wt_piece harg7 harg8 harg9 x7 x8 x9 0 1 (by decide) (by decide)
    (by decide) (by decide) (by decide) (by decide) y

theorem pieces_22 : PiecesOk x7 x8 x9 (bodyRun.sl.H29_22 c arg7 harg7 arg8 harg8 arg9 harg9 x7 x8 x9) :=
  pieces_cons x7 x8 x9 (pieces_21 c arg7 harg7 arg8 harg8 arg9 harg9 x7 x8 x9) fun y => wt_piece harg7 harg8 harg9 x7 x8 x9 1 1 (by decide) (by decide)
    (by decide) (by decide) (by decide) (by decide) y

theorem pieces_24 : PiecesOk x7 x8 x9 (bodyRun.sl.H29_24 c arg7 harg7 arg8 harg8 arg9 harg9 x7 x8 x9) :=
  pieces_cons x7 x8 x9 (pieces_cons x7 x8 x9 (pieces_22 c arg7 harg7 arg8 harg8 arg9 harg9 x7 x8 x9) fun y => wt_piece harg7 harg8 harg9 x7 x8 x9 2 1 (by decide) (by decide)
    (by decide) (by decide) (by decide) (by decide) y) fun y => wt_piece harg7 harg8 harg9 x7 x8 x9 3 1 (by decide) (by decide)
    (by decide) (by decide) (by decide) (by decide) y

theorem pieces_25 : PiecesOk x7 x8 x9 (bodyRun.sl.H29_25 c arg7 harg7 arg8 harg8 arg9 harg9 x7 x8 x9) :=
  pieces_cons x7 x8 x9 (pieces_24 c arg7 harg7 arg8 harg8 arg9 harg9 x7 x8 x9) fun y => wt_piece harg7 harg8 harg9 x7 x8 x9 4 1 (by decide) (by decide)
    (by decide) (by decide) (by decide) (by decide) y

theorem pieces_26 : PiecesOk x7 x8 x9 (bodyRun.sl.H29_26 c arg7 harg7 arg8 harg8 arg9 harg9 x7 x8 x9) :=
  pieces_cons x7 x8 x9 (pieces_25 c arg7 harg7 arg8 harg8 arg9 harg9 x7 x8 x9) fun y => wt_piece harg7 harg8 harg9 x7 x8 x9 5 1 (by decide) (by decide)
    (by decide) (by decide) (by decide) (by decide) y

theorem pieces_27 : PiecesOk x7 x8 x9 (bodyRun.sl.H29_27 c arg7 harg7 arg8 harg8 arg9 harg9 x7 x8 x9) :=
  pieces_cons x7 x8 x9 (pieces_26 c arg7 harg7 arg8 harg8 arg9 harg9 x7 x8 x9) fun y => wt_piece harg7 harg8 harg9 x7 x8 x9 6 1 (by decide) (by decide)
    (by decide) (by decide) (by decide) (by decide) y

theorem pieces_28 : PiecesOk x7 x8 x9 (bodyRun.sl.H29_28 c arg7 harg7 arg8 harg8 arg9 harg9 x7 x8 x9) :=
  pieces_cons x7 x8 x9 (pieces_27 c arg7 harg7 arg8 harg8 arg9 harg9 x7 x8 x9) fun y => wt_piece harg7 harg8 harg9 x7 x8 x9 7 1 (by decide) (by decide)
    (by decide) (by decide) (by decide) (by decide) y

theorem pieces_29 : PiecesOk x7 x8 x9 (bodyRun.sl.H29_29 c arg7 harg7 arg8 harg8 arg9 harg9 x7 x8 x9) :=
  pieces_cons x7 x8 x9 (pieces_28 c arg7 harg7 arg8 harg8 arg9 harg9 x7 x8 x9) fun y => wt_piece harg7 harg8 harg9 x7 x8 x9 8 1 (by decide) (by decide)
    (by decide) (by decide) (by decide) (by decide) y

theorem pieces_30 : PiecesOk x7 x8 x9 (bodyRun.sl.H29_30 c arg7 harg7 arg8 harg8 arg9 harg9 x7 x8 x9) :=
  pieces_cons x7 x8 x9 (pieces_29 c arg7 harg7 arg8 harg8 arg9 harg9 x7 x8 x9) fun y => wt_piece harg7 harg8 harg9 x7 x8 x9 9 1 (by decide) (by decide)
    (by decide) (by decide) (by decide) (by decide) y

theorem pieces_31 : PiecesOk x7 x8 x9 (bodyRun.sl.H29_31 c arg7 harg7 arg8 harg8 arg9 harg9 x7 x8 x9) :=
  pieces_cons x7 x8 x9 (pieces_30 c arg7 harg7 arg8 harg8 arg9 harg9 x7 x8 x9) fun y => wt_piece harg7 harg8 harg9 x7 x8 x9 10 1 (by decide) (by decide)
    (by decide) (by decide) (by decide) (by decide) y

theorem pieces_32 : PiecesOk x7 x8 x9 (bodyRun.sl.H29_32 c arg7 harg7 arg8 harg8 arg9 harg9 x7 x8 x9) :=
  pieces_cons x7 x8 x9 (pieces_31 c arg7 harg7 arg8 harg8 arg9 harg9 x7 x8 x9) fun y => wt_piece harg7 harg8 harg9 x7 x8 x9 11 1 (by decide) (by decide)
    (by decide) (by decide) (by decide) (by decide) y

theorem pieces_33 : PiecesOk x7 x8 x9 (bodyRun.sl.H29_33 c arg7 harg7 arg8 harg8 arg9 harg9 x7 x8 x9) :=
  pieces_cons x7 x8 x9 (pieces_32 c arg7 harg7 arg8 harg8 arg9 harg9 x7 x8 x9) fun y => wt_piece harg7 harg8 harg9 x7 x8 x9 12 1 (by decide) (by decide)
    (by decide) (by decide) (by decide) (by decide) y

theorem pieces_34 : PiecesOk x7 x8 x9 (bodyRun.sl.H29_34 c arg7 harg7 arg8 harg8 arg9 harg9 x7 x8 x9) :=
  pieces_cons x7 x8 x9 (pieces_33 c arg7 harg7 arg8 harg8 arg9 harg9 x7 x8 x9) fun y => wt_piece harg7 harg8 harg9 x7 x8 x9 13 1 (by decide) (by decide)
    (by decide) (by decide) (by decide) (by decide) y

theorem pieces_35 : PiecesOk x7 x8 x9 (bodyRun.sl.H29_35 c arg7 harg7 arg8 harg8 arg9 harg9 x7 x8 x9) :=
  pieces_cons x7 x8 x9 (pieces_34 c arg7 harg7 arg8 harg8 arg9 harg9 x7 x8 x9) fun y => wt_piece harg7 harg8 harg9 x7 x8 x9 14 1 (by decide) (by decide)
    (by decide) (by decide) (by decide) (by decide) y

theorem pieces_36 : PiecesOk x7 x8 x9 (bodyRun.sl.H29_36 c arg7 harg7 arg8 harg8 arg9 harg9 x7 x8 x9) :=
  pieces_cons x7 x8 x9 (pieces_35 c arg7 harg7 arg8 harg8 arg9 harg9 x7 x8 x9) fun y => wt_piece harg7 harg8 harg9 x7 x8 x9 15 1 (by decide) (by decide)
    (by decide) (by decide) (by decide) (by decide) y

theorem pieces_37 : PiecesOk x7 x8 x9 (bodyRun.sl.H29_37 c arg7 harg7 arg8 harg8 arg9 harg9 x7 x8 x9) :=
  pieces_cons x7 x8 x9 (pieces_36 c arg7 harg7 arg8 harg8 arg9 harg9 x7 x8 x9) fun y => wt_piece harg7 harg8 harg9 x7 x8 x9 16 1 (by decide) (by decide)
    (by decide) (by decide) (by decide) (by decide) y

theorem pieces_38 : PiecesOk x7 x8 x9 (bodyRun.sl.H29_38 c arg7 harg7 arg8 harg8 arg9 harg9 x7 x8 x9) :=
  pieces_cons x7 x8 x9 (pieces_37 c arg7 harg7 arg8 harg8 arg9 harg9 x7 x8 x9) fun y => wt_piece harg7 harg8 harg9 x7 x8 x9 17 1 (by decide) (by decide)
    (by decide) (by decide) (by decide) (by decide) y

theorem pieces_39 : PiecesOk x7 x8 x9 (bodyRun.sl.H29_39 c arg7 harg7 arg8 harg8 arg9 harg9 x7 x8 x9) :=
  pieces_cons x7 x8 x9 (pieces_38 c arg7 harg7 arg8 harg8 arg9 harg9 x7 x8 x9) fun y => wt_piece harg7 harg8 harg9 x7 x8 x9 18 1 (by decide) (by decide)
    (by decide) (by decide) (by decide) (by decide) y

theorem pieces_40 : PiecesOk x7 x8 x9 (bodyRun.sl.H29_40 c arg7 harg7 arg8 harg8 arg9 harg9 x7 x8 x9) :=
  pieces_cons x7 x8 x9 (pieces_39 c arg7 harg7 arg8 harg8 arg9 harg9 x7 x8 x9) fun y => wt_piece harg7 harg8 harg9 x7 x8 x9 19 1 (by decide) (by decide)
    (by decide) (by decide) (by decide) (by decide) y

theorem pieces_41 : PiecesOk x7 x8 x9 (bodyRun.sl.H29_41 c arg7 harg7 arg8 harg8 arg9 harg9 x7 x8 x9) :=
  pieces_cons x7 x8 x9 (pieces_40 c arg7 harg7 arg8 harg8 arg9 harg9 x7 x8 x9) fun y => wt_piece harg7 harg8 harg9 x7 x8 x9 0 2 (by decide) (by decide)
    (by decide) (by decide) (by decide) (by decide) y

theorem pieces_42 : PiecesOk x7 x8 x9 (bodyRun.sl.H29_42 c arg7 harg7 arg8 harg8 arg9 harg9 x7 x8 x9) :=
  pieces_cons x7 x8 x9 (pieces_41 c arg7 harg7 arg8 harg8 arg9 harg9 x7 x8 x9) fun y => wt_piece harg7 harg8 harg9 x7 x8 x9 1 2 (by decide) (by decide)
    (by decide) (by decide) (by decide) (by decide) y

theorem pieces_43 : PiecesOk x7 x8 x9 (bodyRun.sl.H29_43 c arg7 harg7 arg8 harg8 arg9 harg9 x7 x8 x9) :=
  pieces_cons x7 x8 x9 (pieces_42 c arg7 harg7 arg8 harg8 arg9 harg9 x7 x8 x9) fun y => wt_piece harg7 harg8 harg9 x7 x8 x9 2 2 (by decide) (by decide)
    (by decide) (by decide) (by decide) (by decide) y

theorem pieces_44 : PiecesOk x7 x8 x9 (bodyRun.sl.H29_44 c arg7 harg7 arg8 harg8 arg9 harg9 x7 x8 x9) :=
  pieces_cons x7 x8 x9 (pieces_43 c arg7 harg7 arg8 harg8 arg9 harg9 x7 x8 x9) fun y => wt_piece harg7 harg8 harg9 x7 x8 x9 3 2 (by decide) (by decide)
    (by decide) (by decide) (by decide) (by decide) y

theorem pieces_45 : PiecesOk x7 x8 x9 (bodyRun.sl.H29_45 c arg7 harg7 arg8 harg8 arg9 harg9 x7 x8 x9) :=
  pieces_cons x7 x8 x9 (pieces_44 c arg7 harg7 arg8 harg8 arg9 harg9 x7 x8 x9) fun y => wt_piece harg7 harg8 harg9 x7 x8 x9 4 2 (by decide) (by decide)
    (by decide) (by decide) (by decide) (by decide) y

theorem pieces_46 : PiecesOk x7 x8 x9 (bodyRun.sl.H29_46 c arg7 harg7 arg8 harg8 arg9 harg9 x7 x8 x9) :=
  pieces_cons x7 x8 x9 (pieces_45 c arg7 harg7 arg8 harg8 arg9 harg9 x7 x8 x9) fun y => wt_piece harg7 harg8 harg9 x7 x8 x9 5 2 (by decide) (by decide)
    (by decide) (by decide) (by decide) (by decide) y

theorem pieces_47 : PiecesOk x7 x8 x9 (bodyRun.sl.H29_47 c arg7 harg7 arg8 harg8 arg9 harg9 x7 x8 x9) :=
  pieces_cons x7 x8 x9 (pieces_46 c arg7 harg7 arg8 harg8 arg9 harg9 x7 x8 x9) fun y => wt_piece harg7 harg8 harg9 x7 x8 x9 6 2 (by decide) (by decide)
    (by decide) (by decide) (by decide) (by decide) y

theorem pieces_48 : PiecesOk x7 x8 x9 (bodyRun.sl.H29_48 c arg7 harg7 arg8 harg8 arg9 harg9 x7 x8 x9) :=
  pieces_cons x7 x8 x9 (pieces_47 c arg7 harg7 arg8 harg8 arg9 harg9 x7 x8 x9) fun y => wt_piece harg7 harg8 harg9 x7 x8 x9 7 2 (by decide) (by decide)
    (by decide) (by decide) (by decide) (by decide) y

theorem pieces_49 : PiecesOk x7 x8 x9 (bodyRun.sl.H29_49 c arg7 harg7 arg8 harg8 arg9 harg9 x7 x8 x9) :=
  pieces_cons x7 x8 x9 (pieces_48 c arg7 harg7 arg8 harg8 arg9 harg9 x7 x8 x9) fun y => wt_piece harg7 harg8 harg9 x7 x8 x9 8 2 (by decide) (by decide)
    (by decide) (by decide) (by decide) (by decide) y

theorem pieces_51 : PiecesOk x7 x8 x9 (bodyRun.sl.H29_51 c arg7 harg7 arg8 harg8 arg9 harg9 x7 x8 x9) :=
  pieces_cons x7 x8 x9 (pieces_cons x7 x8 x9 (pieces_49 c arg7 harg7 arg8 harg8 arg9 harg9 x7 x8 x9) fun y => wt_piece harg7 harg8 harg9 x7 x8 x9 9 2 (by decide) (by decide)
    (by decide) (by decide) (by decide) (by decide) y) fun y => wt_piece harg7 harg8 harg9 x7 x8 x9 10 2 (by decide) (by decide)
    (by decide) (by decide) (by decide) (by decide) y

theorem pieces_52 : PiecesOk x7 x8 x9 (bodyRun.sl.H29_52 c arg7 harg7 arg8 harg8 arg9 harg9 x7 x8 x9) :=
  pieces_cons x7 x8 x9 (pieces_51 c arg7 harg7 arg8 harg8 arg9 harg9 x7 x8 x9) fun y => wt_piece harg7 harg8 harg9 x7 x8 x9 11 2 (by decide) (by decide)
    (by decide) (by decide) (by decide) (by decide) y

theorem pieces_53 : PiecesOk x7 x8 x9 (bodyRun.sl.H29_53 c arg7 harg7 arg8 harg8 arg9 harg9 x7 x8 x9) :=
  pieces_cons x7 x8 x9 (pieces_52 c arg7 harg7 arg8 harg8 arg9 harg9 x7 x8 x9) fun y => wt_piece harg7 harg8 harg9 x7 x8 x9 12 2 (by decide) (by decide)
    (by decide) (by decide) (by decide) (by decide) y

theorem pieces_54 : PiecesOk x7 x8 x9 (bodyRun.sl.H29_54 c arg7 harg7 arg8 harg8 arg9 harg9 x7 x8 x9) :=
  pieces_cons x7 x8 x9 (pieces_53 c arg7 harg7 arg8 harg8 arg9 harg9 x7 x8 x9) fun y => wt_piece harg7 harg8 harg9 x7 x8 x9 13 2 (by decide) (by decide)
    (by decide) (by decide) (by decide) (by decide) y

theorem pieces_55 : PiecesOk x7 x8 x9 (bodyRun.sl.H29_55 c arg7 harg7 arg8 harg8 arg9 harg9 x7 x8 x9) :=
  pieces_cons x7 x8 x9 (pieces_54 c arg7 harg7 arg8 harg8 arg9 harg9 x7 x8 x9) fun y => wt_piece harg7 harg8 harg9 x7 x8 x9 14 2 (by decide) (by decide)
    (by decide) (by decide) (by decide) (by decide) y

theorem pieces_56 : PiecesOk x7 x8 x9 (bodyRun.sl.H29_56 c arg7 harg7 arg8 harg8 arg9 harg9 x7 x8 x9) :=
  pieces_cons x7 x8 x9 (pieces_55 c arg7 harg7 arg8 harg8 arg9 harg9 x7 x8 x9) fun y => wt_piece harg7 harg8 harg9 x7 x8 x9 15 2 (by decide) (by decide)
    (by decide) (by decide) (by decide) (by decide) y

theorem pieces_57 : PiecesOk x7 x8 x9 (bodyRun.sl.H29_57 c arg7 harg7 arg8 harg8 arg9 harg9 x7 x8 x9) :=
  pieces_cons x7 x8 x9 (pieces_56 c arg7 harg7 arg8 harg8 arg9 harg9 x7 x8 x9) fun y => wt_piece harg7 harg8 harg9 x7 x8 x9 16 2 (by decide) (by decide)
    (by decide) (by decide) (by decide) (by decide) y

theorem pieces_58 : PiecesOk x7 x8 x9 (bodyRun.sl.H29_58 c arg7 harg7 arg8 harg8 arg9 harg9 x7 x8 x9) :=
  pieces_cons x7 x8 x9 (pieces_57 c arg7 harg7 arg8 harg8 arg9 harg9 x7 x8 x9) fun y => wt_piece harg7 harg8 harg9 x7 x8 x9 17 2 (by decide) (by decide)
    (by decide) (by decide) (by decide) (by decide) y

theorem pieces_59 : PiecesOk x7 x8 x9 (bodyRun.sl.H29_59 c arg7 harg7 arg8 harg8 arg9 harg9 x7 x8 x9) :=
  pieces_cons x7 x8 x9 (pieces_58 c arg7 harg7 arg8 harg8 arg9 harg9 x7 x8 x9) fun y => wt_piece harg7 harg8 harg9 x7 x8 x9 18 2 (by decide) (by decide)
    (by decide) (by decide) (by decide) (by decide) y

theorem pieces_60 : PiecesOk x7 x8 x9 (bodyRun.sl.H29_60 c arg7 harg7 arg8 harg8 arg9 harg9 x7 x8 x9) :=
  pieces_cons x7 x8 x9 (pieces_59 c arg7 harg7 arg8 harg8 arg9 harg9 x7 x8 x9) fun y => wt_piece harg7 harg8 harg9 x7 x8 x9 19 2 (by decide) (by decide)
    (by decide) (by decide) (by decide) (by decide) y

theorem pieces_61 : PiecesOk x7 x8 x9 (bodyRun.sl.H29_61 c arg7 harg7 arg8 harg8 arg9 harg9 x7 x8 x9) :=
  pieces_cons x7 x8 x9 (pieces_60 c arg7 harg7 arg8 harg8 arg9 harg9 x7 x8 x9) fun y => wt_piece harg7 harg8 harg9 x7 x8 x9 0 3 (by decide) (by decide)
    (by decide) (by decide) (by decide) (by decide) y

theorem pieces_62 : PiecesOk x7 x8 x9 (bodyRun.sl.H29_62 c arg7 harg7 arg8 harg8 arg9 harg9 x7 x8 x9) :=
  pieces_cons x7 x8 x9 (pieces_61 c arg7 harg7 arg8 harg8 arg9 harg9 x7 x8 x9) fun y => wt_piece harg7 harg8 harg9 x7 x8 x9 1 3 (by decide) (by decide)
    (by decide) (by decide) (by decide) (by decide) y

theorem pieces_63 : PiecesOk x7 x8 x9 (bodyRun.sl.H29_63 c arg7 harg7 arg8 harg8 arg9 harg9 x7 x8 x9) :=
  pieces_cons x7 x8 x9 (pieces_62 c arg7 harg7 arg8 harg8 arg9 harg9 x7 x8 x9) fun y => wt_piece harg7 harg8 harg9 x7 x8 x9 2 3 (by decide) (by decide)
    (by decide) (by decide) (by decide) (by decide) y

theorem pieces_64 : PiecesOk x7 x8 x9 (bodyRun.sl.H29_64 c arg7 harg7 arg8 harg8 arg9 harg9 x7 x8 x9) :=
  pieces_cons x7 x8 x9 (pieces_63 c arg7 harg7 arg8 harg8 arg9 harg9 x7 x8 x9) fun y => wt_piece harg7 harg8 harg9 x7 x8 x9 3 3 (by decide) (by decide)
    (by decide) (by decide) (by decide) (by decide) y

theorem pieces_65 : PiecesOk x7 x8 x9 (bodyRun.sl.H29_65 c arg7 harg7 arg8 harg8 arg9 harg9 x7 x8 x9) :=
  pieces_cons x7 x8 x9 (pieces_64 c arg7 harg7 arg8 harg8 arg9 harg9 x7 x8 x9) fun y => wt_piece harg7 harg8 harg9 x7 x8 x9 4 3 (by decide) (by decide)
    (by decide) (by decide) (by decide) (by decide) y

theorem pieces_66 : PiecesOk x7 x8 x9 (bodyRun.sl.H29_66 c arg7 harg7 arg8 harg8 arg9 harg9 x7 x8 x9) :=
  pieces_cons x7 x8 x9 (pieces_65 c arg7 harg7 arg8 harg8 arg9 harg9 x7 x8 x9) fun y => wt_piece harg7 harg8 harg9 x7 x8 x9 5 3 (by decide) (by decide)
    (by decide) (by decide) (by decide) (by decide) y

theorem pieces_67 : PiecesOk x7 x8 x9 (bodyRun.sl.H29_67 c arg7 harg7 arg8 harg8 arg9 harg9 x7 x8 x9) :=
  pieces_cons x7 x8 x9 (pieces_66 c arg7 harg7 arg8 harg8 arg9 harg9 x7 x8 x9) fun y => wt_piece harg7 harg8 harg9 x7 x8 x9 6 3 (by decide) (by decide)
    (by decide) (by decide) (by decide) (by decide) y

theorem pieces_68 : PiecesOk x7 x8 x9 (bodyRun.sl.H29_68 c arg7 harg7 arg8 harg8 arg9 harg9 x7 x8 x9) :=
  pieces_cons x7 x8 x9 (pieces_67 c arg7 harg7 arg8 harg8 arg9 harg9 x7 x8 x9) fun y => wt_piece harg7 harg8 harg9 x7 x8 x9 7 3 (by decide) (by decide)
    (by decide) (by decide) (by decide) (by decide) y

theorem pieces_69 : PiecesOk x7 x8 x9 (bodyRun.sl.H29_69 c arg7 harg7 arg8 harg8 arg9 harg9 x7 x8 x9) :=
  pieces_cons x7 x8 x9 (pieces_68 c arg7 harg7 arg8 harg8 arg9 harg9 x7 x8 x9) fun y => wt_piece harg7 harg8 harg9 x7 x8 x9 8 3 (by decide) (by decide)
    (by decide) (by decide) (by decide) (by decide) y

theorem pieces_70 : PiecesOk x7 x8 x9 (bodyRun.sl.H29_70 c arg7 harg7 arg8 harg8 arg9 harg9 x7 x8 x9) :=
  pieces_cons x7 x8 x9 (pieces_69 c arg7 harg7 arg8 harg8 arg9 harg9 x7 x8 x9) fun y => wt_piece harg7 harg8 harg9 x7 x8 x9 9 3 (by decide) (by decide)
    (by decide) (by decide) (by decide) (by decide) y

theorem pieces_71 : PiecesOk x7 x8 x9 (bodyRun.sl.H29_71 c arg7 harg7 arg8 harg8 arg9 harg9 x7 x8 x9) :=
  pieces_cons x7 x8 x9 (pieces_70 c arg7 harg7 arg8 harg8 arg9 harg9 x7 x8 x9) fun y => wt_piece harg7 harg8 harg9 x7 x8 x9 10 3 (by decide) (by decide)
    (by decide) (by decide) (by decide) (by decide) y

theorem pieces_72 : PiecesOk x7 x8 x9 (bodyRun.sl.H29_72 c arg7 harg7 arg8 harg8 arg9 harg9 x7 x8 x9) :=
  pieces_cons x7 x8 x9 (pieces_71 c arg7 harg7 arg8 harg8 arg9 harg9 x7 x8 x9) fun y => wt_piece harg7 harg8 harg9 x7 x8 x9 11 3 (by decide) (by decide)
    (by decide) (by decide) (by decide) (by decide) y

theorem pieces_73 : PiecesOk x7 x8 x9 (bodyRun.sl.H29_73 c arg7 harg7 arg8 harg8 arg9 harg9 x7 x8 x9) :=
  pieces_cons x7 x8 x9 (pieces_72 c arg7 harg7 arg8 harg8 arg9 harg9 x7 x8 x9) fun y => wt_piece harg7 harg8 harg9 x7 x8 x9 12 3 (by decide) (by decide)
    (by decide) (by decide) (by decide) (by decide) y

theorem pieces_74 : PiecesOk x7 x8 x9 (bodyRun.sl.H29_74 c arg7 harg7 arg8 harg8 arg9 harg9 x7 x8 x9) :=
  pieces_cons x7 x8 x9 (pieces_73 c arg7 harg7 arg8 harg8 arg9 harg9 x7 x8 x9) fun y => wt_piece harg7 harg8 harg9 x7 x8 x9 13 3 (by decide) (by decide)
    (by decide) (by decide) (by decide) (by decide) y

theorem pieces_75 : PiecesOk x7 x8 x9 (bodyRun.sl.H29_75 c arg7 harg7 arg8 harg8 arg9 harg9 x7 x8 x9) :=
  pieces_cons x7 x8 x9 (pieces_74 c arg7 harg7 arg8 harg8 arg9 harg9 x7 x8 x9) fun y => wt_piece harg7 harg8 harg9 x7 x8 x9 14 3 (by decide) (by decide)
    (by decide) (by decide) (by decide) (by decide) y

theorem pieces_76 : PiecesOk x7 x8 x9 (bodyRun.sl.H29_76 c arg7 harg7 arg8 harg8 arg9 harg9 x7 x8 x9) :=
  pieces_cons x7 x8 x9 (pieces_75 c arg7 harg7 arg8 harg8 arg9 harg9 x7 x8 x9) fun y => wt_piece harg7 harg8 harg9 x7 x8 x9 15 3 (by decide) (by decide)
    (by decide) (by decide) (by decide) (by decide) y

theorem pieces_78 : PiecesOk x7 x8 x9 (bodyRun.sl.H29_78 c arg7 harg7 arg8 harg8 arg9 harg9 x7 x8 x9) :=
  pieces_cons x7 x8 x9 (pieces_cons x7 x8 x9 (pieces_76 c arg7 harg7 arg8 harg8 arg9 harg9 x7 x8 x9) fun y => wt_piece harg7 harg8 harg9 x7 x8 x9 16 3 (by decide) (by decide)
    (by decide) (by decide) (by decide) (by decide) y) fun y => wt_piece harg7 harg8 harg9 x7 x8 x9 17 3 (by decide) (by decide)
    (by decide) (by decide) (by decide) (by decide) y

theorem pieces_79 : PiecesOk x7 x8 x9 (bodyRun.sl.H29_79 c arg7 harg7 arg8 harg8 arg9 harg9 x7 x8 x9) :=
  pieces_cons x7 x8 x9 (pieces_78 c arg7 harg7 arg8 harg8 arg9 harg9 x7 x8 x9) fun y => wt_piece harg7 harg8 harg9 x7 x8 x9 18 3 (by decide) (by decide)
    (by decide) (by decide) (by decide) (by decide) y

theorem pieces_80 : PiecesOk x7 x8 x9 (bodyRun.sl.H29_80 c arg7 harg7 arg8 harg8 arg9 harg9 x7 x8 x9) :=
  pieces_cons x7 x8 x9 (pieces_79 c arg7 harg7 arg8 harg8 arg9 harg9 x7 x8 x9) fun y => wt_piece harg7 harg8 harg9 x7 x8 x9 19 3 (by decide) (by decide)
    (by decide) (by decide) (by decide) (by decide) y

theorem cover_20 (g : Fin 20) : ∃ p ∈ bodyRun.sl.H29_20 c arg7 harg7 arg8 harg8 arg9 harg9 x7 x8 x9,
    ∃ inb : ∀ a, (![128 * g.val, 0] : Fin 2 → ℕ) a + S128x512.size a ≤ S2560x2048.size a,
      p.1 = Rect.unit (s := S2560x2048) ![128 * g.val, 0] S128x512.size inb := by
  fin_cases g
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.head _)))))))))))))))), by decide, rfl⟩
  · exact ⟨_, .tail _ (.tail _ (.tail _ (.tail _ (.tail _ (.tail _ (.tail _ (.tail _ (.tail _ (.tail _ (.tail _ (.tail _ (.tail _ (.tail _ (.tail _ (.head _))))))))))))))), by decide, rfl⟩
  · exact ⟨_, .tail _ (.tail _ (.tail _ (.tail _ (.tail _ (.tail _ (.tail _ (.tail _ (.tail _ (.tail _ (.tail _ (.tail _ (.tail _ (.tail _ (.head _)))))))))))))), by decide, rfl⟩
  · exact ⟨_, .tail _ (.tail _ (.tail _ (.tail _ (.tail _ (.tail _ (.tail _ (.tail _ (.tail _ (.tail _ (.tail _ (.tail _ (.tail _ (.head _))))))))))))), by decide, rfl⟩
  · exact ⟨_, .tail _ (.tail _ (.tail _ (.tail _ (.tail _ (.tail _ (.tail _ (.tail _ (.tail _ (.tail _ (.tail _ (.tail _ (.head _)))))))))))), by decide, rfl⟩
  · exact ⟨_, .tail _ (.tail _ (.tail _ (.tail _ (.tail _ (.tail _ (.tail _ (.tail _ (.tail _ (.tail _ (.tail _ (.head _))))))))))), by decide, rfl⟩
  · exact ⟨_, .tail _ (.tail _ (.tail _ (.tail _ (.tail _ (.tail _ (.tail _ (.tail _ (.tail _ (.tail _ (.head _)))))))))), by decide, rfl⟩
  · exact ⟨_, .tail _ (.tail _ (.tail _ (.tail _ (.tail _ (.tail _ (.tail _ (.tail _ (.tail _ (.head _))))))))), by decide, rfl⟩
  · exact ⟨_, .tail _ (.tail _ (.tail _ (.tail _ (.tail _ (.tail _ (.tail _ (.tail _ (.head _)))))))), by decide, rfl⟩
  · exact ⟨_, .tail _ (.tail _ (.tail _ (.tail _ (.tail _ (.tail _ (.tail _ (.head _))))))), by decide, rfl⟩
  · exact ⟨_, .tail _ (.tail _ (.tail _ (.tail _ (.tail _ (.tail _ (.head _)))))), by decide, rfl⟩
  · exact ⟨_, .tail _ (.tail _ (.tail _ (.tail _ (.tail _ (.head _))))), by decide, rfl⟩
  · exact ⟨_, .tail _ (.tail _ (.tail _ (.tail _ (.head _)))), by decide, rfl⟩
  · exact ⟨_, .tail _ (.tail _ (.tail _ (.head _))), by decide, rfl⟩
  · exact ⟨_, .tail _ (.tail _ (.head _)), by decide, rfl⟩
  · exact ⟨_, .tail _ (.head _), by decide, rfl⟩
  · exact ⟨_, .head _, by decide, rfl⟩

theorem load_20 (inb : ∀ a, (![0, 0] : Fin 2 → ℕ) a + S2560x512.size a ≤ S2560x2048.size a) :
    arg29.view.readCov (bodyRun.sl.H29_20 c arg7 harg7 arg8 harg8 arg9 harg9 x7 x8 x9) (Rect.unit (s := S2560x2048) ![0, 0] S2560x512.size inb).toLoadRect
      = ldW x7 x8 x9 0 (by decide) :=
  rd_W arg29.view x7 x8 x9 _ 0 (by decide) inb (pieces_20 c arg7 harg7 arg8 harg8 arg9 harg9 x7 x8 x9) (cover_20 c arg7 harg7 arg8 harg8 arg9 harg9 x7 x8 x9)

theorem cover_40 (g : Fin 20) : ∃ p ∈ bodyRun.sl.H29_40 c arg7 harg7 arg8 harg8 arg9 harg9 x7 x8 x9,
    ∃ inb : ∀ a, (![128 * g.val, 512] : Fin 2 → ℕ) a + S128x512.size a ≤ S2560x2048.size a,
      p.1 = Rect.unit (s := S2560x2048) ![128 * g.val, 512] S128x512.size inb := by
  fin_cases g
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.head _)))))))))))))))), by decide, rfl⟩
  · exact ⟨_, .tail _ (.tail _ (.tail _ (.tail _ (.tail _ (.tail _ (.tail _ (.tail _ (.tail _ (.tail _ (.tail _ (.tail _ (.tail _ (.tail _ (.tail _ (.head _))))))))))))))), by decide, rfl⟩
  · exact ⟨_, .tail _ (.tail _ (.tail _ (.tail _ (.tail _ (.tail _ (.tail _ (.tail _ (.tail _ (.tail _ (.tail _ (.tail _ (.tail _ (.tail _ (.head _)))))))))))))), by decide, rfl⟩
  · exact ⟨_, .tail _ (.tail _ (.tail _ (.tail _ (.tail _ (.tail _ (.tail _ (.tail _ (.tail _ (.tail _ (.tail _ (.tail _ (.tail _ (.head _))))))))))))), by decide, rfl⟩
  · exact ⟨_, .tail _ (.tail _ (.tail _ (.tail _ (.tail _ (.tail _ (.tail _ (.tail _ (.tail _ (.tail _ (.tail _ (.tail _ (.head _)))))))))))), by decide, rfl⟩
  · exact ⟨_, .tail _ (.tail _ (.tail _ (.tail _ (.tail _ (.tail _ (.tail _ (.tail _ (.tail _ (.tail _ (.tail _ (.head _))))))))))), by decide, rfl⟩
  · exact ⟨_, .tail _ (.tail _ (.tail _ (.tail _ (.tail _ (.tail _ (.tail _ (.tail _ (.tail _ (.tail _ (.head _)))))))))), by decide, rfl⟩
  · exact ⟨_, .tail _ (.tail _ (.tail _ (.tail _ (.tail _ (.tail _ (.tail _ (.tail _ (.tail _ (.head _))))))))), by decide, rfl⟩
  · exact ⟨_, .tail _ (.tail _ (.tail _ (.tail _ (.tail _ (.tail _ (.tail _ (.tail _ (.head _)))))))), by decide, rfl⟩
  · exact ⟨_, .tail _ (.tail _ (.tail _ (.tail _ (.tail _ (.tail _ (.tail _ (.head _))))))), by decide, rfl⟩
  · exact ⟨_, .tail _ (.tail _ (.tail _ (.tail _ (.tail _ (.tail _ (.head _)))))), by decide, rfl⟩
  · exact ⟨_, .tail _ (.tail _ (.tail _ (.tail _ (.tail _ (.head _))))), by decide, rfl⟩
  · exact ⟨_, .tail _ (.tail _ (.tail _ (.tail _ (.head _)))), by decide, rfl⟩
  · exact ⟨_, .tail _ (.tail _ (.tail _ (.head _))), by decide, rfl⟩
  · exact ⟨_, .tail _ (.tail _ (.head _)), by decide, rfl⟩
  · exact ⟨_, .tail _ (.head _), by decide, rfl⟩
  · exact ⟨_, .head _, by decide, rfl⟩

theorem load_40 (inb : ∀ a, (![0, 512] : Fin 2 → ℕ) a + S2560x512.size a ≤ S2560x2048.size a) :
    arg29.view.readCov (bodyRun.sl.H29_40 c arg7 harg7 arg8 harg8 arg9 harg9 x7 x8 x9) (Rect.unit (s := S2560x2048) ![0, 512] S2560x512.size inb).toLoadRect
      = ldW x7 x8 x9 512 (by decide) :=
  rd_W arg29.view x7 x8 x9 _ 512 (by decide) inb (pieces_40 c arg7 harg7 arg8 harg8 arg9 harg9 x7 x8 x9) (cover_40 c arg7 harg7 arg8 harg8 arg9 harg9 x7 x8 x9)

theorem cover_60 (g : Fin 20) : ∃ p ∈ bodyRun.sl.H29_60 c arg7 harg7 arg8 harg8 arg9 harg9 x7 x8 x9,
    ∃ inb : ∀ a, (![128 * g.val, 1024] : Fin 2 → ℕ) a + S128x512.size a ≤ S2560x2048.size a,
      p.1 = Rect.unit (s := S2560x2048) ![128 * g.val, 1024] S128x512.size inb := by
  fin_cases g
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.head _)))))))))))))))), by decide, rfl⟩
  · exact ⟨_, .tail _ (.tail _ (.tail _ (.tail _ (.tail _ (.tail _ (.tail _ (.tail _ (.tail _ (.tail _ (.tail _ (.tail _ (.tail _ (.tail _ (.tail _ (.head _))))))))))))))), by decide, rfl⟩
  · exact ⟨_, .tail _ (.tail _ (.tail _ (.tail _ (.tail _ (.tail _ (.tail _ (.tail _ (.tail _ (.tail _ (.tail _ (.tail _ (.tail _ (.tail _ (.head _)))))))))))))), by decide, rfl⟩
  · exact ⟨_, .tail _ (.tail _ (.tail _ (.tail _ (.tail _ (.tail _ (.tail _ (.tail _ (.tail _ (.tail _ (.tail _ (.tail _ (.tail _ (.head _))))))))))))), by decide, rfl⟩
  · exact ⟨_, .tail _ (.tail _ (.tail _ (.tail _ (.tail _ (.tail _ (.tail _ (.tail _ (.tail _ (.tail _ (.tail _ (.tail _ (.head _)))))))))))), by decide, rfl⟩
  · exact ⟨_, .tail _ (.tail _ (.tail _ (.tail _ (.tail _ (.tail _ (.tail _ (.tail _ (.tail _ (.tail _ (.tail _ (.head _))))))))))), by decide, rfl⟩
  · exact ⟨_, .tail _ (.tail _ (.tail _ (.tail _ (.tail _ (.tail _ (.tail _ (.tail _ (.tail _ (.tail _ (.head _)))))))))), by decide, rfl⟩
  · exact ⟨_, .tail _ (.tail _ (.tail _ (.tail _ (.tail _ (.tail _ (.tail _ (.tail _ (.tail _ (.head _))))))))), by decide, rfl⟩
  · exact ⟨_, .tail _ (.tail _ (.tail _ (.tail _ (.tail _ (.tail _ (.tail _ (.tail _ (.head _)))))))), by decide, rfl⟩
  · exact ⟨_, .tail _ (.tail _ (.tail _ (.tail _ (.tail _ (.tail _ (.tail _ (.head _))))))), by decide, rfl⟩
  · exact ⟨_, .tail _ (.tail _ (.tail _ (.tail _ (.tail _ (.tail _ (.head _)))))), by decide, rfl⟩
  · exact ⟨_, .tail _ (.tail _ (.tail _ (.tail _ (.tail _ (.head _))))), by decide, rfl⟩
  · exact ⟨_, .tail _ (.tail _ (.tail _ (.tail _ (.head _)))), by decide, rfl⟩
  · exact ⟨_, .tail _ (.tail _ (.tail _ (.head _))), by decide, rfl⟩
  · exact ⟨_, .tail _ (.tail _ (.head _)), by decide, rfl⟩
  · exact ⟨_, .tail _ (.head _), by decide, rfl⟩
  · exact ⟨_, .head _, by decide, rfl⟩

theorem load_60 (inb : ∀ a, (![0, 1024] : Fin 2 → ℕ) a + S2560x512.size a ≤ S2560x2048.size a) :
    arg29.view.readCov (bodyRun.sl.H29_60 c arg7 harg7 arg8 harg8 arg9 harg9 x7 x8 x9) (Rect.unit (s := S2560x2048) ![0, 1024] S2560x512.size inb).toLoadRect
      = ldW x7 x8 x9 1024 (by decide) :=
  rd_W arg29.view x7 x8 x9 _ 1024 (by decide) inb (pieces_60 c arg7 harg7 arg8 harg8 arg9 harg9 x7 x8 x9) (cover_60 c arg7 harg7 arg8 harg8 arg9 harg9 x7 x8 x9)

theorem cover_80 (g : Fin 20) : ∃ p ∈ bodyRun.sl.H29_80 c arg7 harg7 arg8 harg8 arg9 harg9 x7 x8 x9,
    ∃ inb : ∀ a, (![128 * g.val, 1536] : Fin 2 → ℕ) a + S128x512.size a ≤ S2560x2048.size a,
      p.1 = Rect.unit (s := S2560x2048) ![128 * g.val, 1536] S128x512.size inb := by
  fin_cases g
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), by decide, rfl⟩
  · exact ⟨_, .tail _ (.tail _ (.tail _ (.tail _ (.tail _ (.tail _ (.tail _ (.tail _ (.tail _ (.tail _ (.tail _ (.tail _ (.tail _ (.tail _ (.tail _ (.tail _ (.head _)))))))))))))))), by decide, rfl⟩
  · exact ⟨_, .tail _ (.tail _ (.tail _ (.tail _ (.tail _ (.tail _ (.tail _ (.tail _ (.tail _ (.tail _ (.tail _ (.tail _ (.tail _ (.tail _ (.tail _ (.head _))))))))))))))), by decide, rfl⟩
  · exact ⟨_, .tail _ (.tail _ (.tail _ (.tail _ (.tail _ (.tail _ (.tail _ (.tail _ (.tail _ (.tail _ (.tail _ (.tail _ (.tail _ (.tail _ (.head _)))))))))))))), by decide, rfl⟩
  · exact ⟨_, .tail _ (.tail _ (.tail _ (.tail _ (.tail _ (.tail _ (.tail _ (.tail _ (.tail _ (.tail _ (.tail _ (.tail _ (.tail _ (.head _))))))))))))), by decide, rfl⟩
  · exact ⟨_, .tail _ (.tail _ (.tail _ (.tail _ (.tail _ (.tail _ (.tail _ (.tail _ (.tail _ (.tail _ (.tail _ (.tail _ (.head _)))))))))))), by decide, rfl⟩
  · exact ⟨_, .tail _ (.tail _ (.tail _ (.tail _ (.tail _ (.tail _ (.tail _ (.tail _ (.tail _ (.tail _ (.tail _ (.head _))))))))))), by decide, rfl⟩
  · exact ⟨_, .tail _ (.tail _ (.tail _ (.tail _ (.tail _ (.tail _ (.tail _ (.tail _ (.tail _ (.tail _ (.head _)))))))))), by decide, rfl⟩
  · exact ⟨_, .tail _ (.tail _ (.tail _ (.tail _ (.tail _ (.tail _ (.tail _ (.tail _ (.tail _ (.head _))))))))), by decide, rfl⟩
  · exact ⟨_, .tail _ (.tail _ (.tail _ (.tail _ (.tail _ (.tail _ (.tail _ (.tail _ (.head _)))))))), by decide, rfl⟩
  · exact ⟨_, .tail _ (.tail _ (.tail _ (.tail _ (.tail _ (.tail _ (.tail _ (.head _))))))), by decide, rfl⟩
  · exact ⟨_, .tail _ (.tail _ (.tail _ (.tail _ (.tail _ (.tail _ (.head _)))))), by decide, rfl⟩
  · exact ⟨_, .tail _ (.tail _ (.tail _ (.tail _ (.tail _ (.head _))))), by decide, rfl⟩
  · exact ⟨_, .tail _ (.tail _ (.tail _ (.tail _ (.head _)))), by decide, rfl⟩
  · exact ⟨_, .tail _ (.tail _ (.tail _ (.head _))), by decide, rfl⟩
  · exact ⟨_, .tail _ (.tail _ (.head _)), by decide, rfl⟩
  · exact ⟨_, .tail _ (.head _), by decide, rfl⟩
  · exact ⟨_, .head _, by decide, rfl⟩

theorem load_80 (inb : ∀ a, (![0, 1536] : Fin 2 → ℕ) a + S2560x512.size a ≤ S2560x2048.size a) :
    arg29.view.readCov (bodyRun.sl.H29_80 c arg7 harg7 arg8 harg8 arg9 harg9 x7 x8 x9) (Rect.unit (s := S2560x2048) ![0, 1536] S2560x512.size inb).toLoadRect
      = ldW x7 x8 x9 1536 (by decide) :=
  rd_W arg29.view x7 x8 x9 _ 1536 (by decide) inb (pieces_80 c arg7 harg7 arg8 harg8 arg9 harg9 x7 x8 x9) (cover_80 c arg7 harg7 arg8 harg8 arg9 harg9 x7 x8 x9)

end Cert.KernelIdeal.Hand
-- ==== Proof.StepEq.lean ====
/-
  What one run of the body leaves, as the plain functions of one grid point.
-/
module

public import proofs.«01_k».proof.Proof.BodyRun
public import proofs.«01_k».proof.Proof.Weights

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA

variable {F : FTy → Type} [FloatOps F] [Named F]

variable (c : Dev nD) (i : grid0.Coords) (q1 q2 : PosShare TreeShare)
  (arg1 : Memref sig .tc .smem S2 .i32) (harg1 : arg1.IsWhole)
  (arg2 : Memref sig .tc .smem S2 .i32) (harg2 : arg2.IsWhole)
  (arg3 : Memref sig .tc .vmem S256x1024 .bf16) (harg3 : arg3.IsWhole)
  (arg4 : Memref sig .tc .vmem S256x2560 .bf16) (harg4 : arg4.IsWhole)
  (arg5 : Memref sig .tc .vmem S1x1024 .f32) (harg5 : arg5.IsWhole)
  (arg6 : Memref sig .tc .vmem S1x2560 .f32) (harg6 : arg6.IsWhole)
  (arg7 : Memref sig .tc .vmem S1280x2048 .i8) (harg7 : arg7.IsWhole)
  (arg8 : Memref sig .tc .vmem S20x2048 .f32) (harg8 : arg8.IsWhole)
  (arg9 : Memref sig .tc .vmem S20x2048 .f32) (harg9 : arg9.IsWhole)
  (arg10 : Memref sig .tc .vmem S2048x1024 .fp8e4m3) (harg10 : arg10.IsWhole)
  (arg11 : Memref sig .tc .vmem S1x2048 .f32) (harg11 : arg11.IsWhole)
  (arg12 : Memref sig .tc .vmem S128x2048 .f32) (harg12 : arg12.IsWhole)
  (arg13 : Memref sig .tc .vmem S128x2048 .f32) (harg13 : arg13.IsWhole)
  (arg14 : Memref sig .tc .vmem S128x2048 .f32) (harg14 : arg14.IsWhole)
  (arg15 : Memref sig .tc .vmem S128x2048 .f32) (harg15 : arg15.IsWhole)
  (arg16 : Memref sig .tc .vmem S1x256 .f32) (harg16 : arg16.IsWhole)
  (arg17 : Memref sig .tc .vmem S1x256 .f32) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x1024 .fp8e4m3) (harg20 : arg20.IsWhole)
  (arg21 : Memref sig .tc .vmem S1x256 .f32) (harg21 : arg21.IsWhole)
  (arg22 : Memref sig .tc .vmem S256x2560 .bf16) (harg22 : arg22.IsWhole)
  (arg23 : Memref sig .tc .vmem S256x1024 .fp8e4m3) (harg23 : arg23.IsWhole)
  (arg24 : Memref sig .tc .vmem S256x128 .f32) (harg24 : arg24.IsWhole)
  (arg25 : Memref sig .tc .vmem S256x128 .f32) (harg25 : arg25.IsWhole)
  (arg26 : Memref sig .tc .vmem S256x128 .f32) (harg26 : arg26.IsWhole)
  (arg27 : Memref sig .tc .vmem S256x128 .f32) (harg27 : arg27.IsWhole)
  (arg28 : Memref sig .tc .vmem S256x128 .f32) (harg28 : arg28.IsWhole)
  (arg29 : Memref sig .tc .vmem S2560x2048 .bf16) (harg29 : arg29.IsWhole)
  (x1 : Vec F S2 .i32) (x2 : Vec F S2 .i32) (x3 : Vec F S256x1024 .bf16) (x4 : Vec F S256x2560 .bf16) (x5 : Vec F S1x1024 .f32) (x6 : Vec F S1x2560 .f32) (x7 : Vec F S1280x2048 .i8) (x8 : Vec F S20x2048 .f32) (x9 : Vec F S20x2048 .f32) (x10 : Vec F S2048x1024 .fp8e4m3) (x11 : Vec F S1x2048 .f32) (x16 : Vec F S1x256 .f32) (x17 : Vec F S1x256 .f32) (x20 : Vec F S256x1024 .fp8e4m3) (x21 : Vec F S1x256 .f32) (x22 : Vec F S256x2560 .bf16) (x23 : Vec F S256x1024 .fp8e4m3) (x24 : Vec F S256x128 .f32) (x25 : Vec F S256x128 .f32) (x26 : Vec F S256x128 .f32) (x27 : Vec F S256x128 .f32) (x28 : Vec F S256x128 .f32)

theorem word_1_0 : (bodyRun.sl.v3 c arg1 harg1 x1) = word x1 0 := rd_word harg1 x1 0 _ _
theorem word_2_0 : (bodyRun.sl.v6 c arg2 harg2 x2) = word x2 0 := rd_word harg2 x2 0 _ _
theorem word_1_1 : (bodyRun.sl.v3613 c arg1 harg1 x1) = word x1 1 := rd_word harg1 x1 1 _ _
theorem word_2_1 : (bodyRun.sl.v3616 c arg2 harg2 x2) = word x2 1 := rd_word harg2 x2 1 _ _

theorem load_ht : (bodyRun.sl.v829 c i arg1 harg1 arg2 harg2 arg4 harg4 arg6 harg6 arg22 harg22 x1 x2 x4 x6 x22) = (start i x1 x2 (Blk.mk x3 x4 x5 x6 x7 x8 x9 x10 x11) (St.mk x22 x23 x24 x25 x26 x27 x28)).ht := by
  unfold bodyRun.sl.v829
  refine (rd_dite harg22 x22 (k0_cond1 i = 1#1) _ _ _ []).trans ?_
  have h : k0_pay16 k0_pay7 (k0_pay8 (F := F) (bodyRun.sl.v3 c arg1 harg1 x1) (bodyRun.sl.v3613 c arg1 harg1 x1)) (k0_pay9 (F := F) (bodyRun.sl.v3 c arg1 harg1 x1) (bodyRun.sl.v6 c arg2 harg2 x2) (bodyRun.sl.v3613 c arg1 harg1 x1) (bodyRun.sl.v3616 c arg2 harg2 x2)) (k0_pay10 (F := F) (bodyRun.sl.v3 c arg1 harg1 x1) (bodyRun.sl.v6 c arg2 harg2 x2) (bodyRun.sl.v3613 c arg1 harg1 x1) (bodyRun.sl.v3616 c arg2 harg2 x2)) (k0_pay11 (F := F) (bodyRun.sl.v3 c arg1 harg1 x1) (bodyRun.sl.v6 c arg2 harg2 x2)) (k0_pay12 (F := F) (bodyRun.sl.v3 c arg1 harg1 x1) (bodyRun.sl.v6 c arg2 harg2 x2)) (k0_pay13 (F := F) (bodyRun.sl.v3 c arg1 harg1 x1) (bodyRun.sl.v6 c arg2 harg2 x2) (bodyRun.sl.v3613 c arg1 harg1 x1) (bodyRun.sl.v3616 c arg2 harg2 x2)) (View.readAt (Elt F) arg4.view (Rect.unit (s := S256x2560) ![0, 0] S256x2560.size (by decide)).toLoadRect (harg4.unread x4)) (View.readAt (Elt F) arg6.view (Rect.unit (s := S1x2560) ![0, 0] S1x2560.size (by decide)).toLoadRect (harg6.unread x6)) = htV x1 x2 x4 x6 := by
    rw [word_1_0, word_2_0, word_1_1, word_2_1, rd_full harg4 x4, rd_full harg6 x6]
    rfl
  unfold start
  split
  · exact Eq.trans rfl h
  · rfl

theorem load_cp : (bodyRun.sl.v838 c i arg1 harg1 arg2 harg2 arg3 harg3 arg5 harg5 arg23 harg23 x1 x2 x3 x5 x23) = (start i x1 x2 (Blk.mk x3 x4 x5 x6 x7 x8 x9 x10 x11) (St.mk x22 x23 x24 x25 x26 x27 x28)).cp := by
  unfold bodyRun.sl.v838
  refine (rd_dite harg23 x23 (k0_cond1 i = 1#1) _ _ _ []).trans ?_
  have h : k0_pay22 (k0_pay15 (F := F) k0_pay7 (k0_pay8 (F := F) (bodyRun.sl.v3 c arg1 harg1 x1) (bodyRun.sl.v3613 c arg1 harg1 x1)) (k0_pay9 (F := F) (bodyRun.sl.v3 c arg1 harg1 x1) (bodyRun.sl.v6 c arg2 harg2 x2) (bodyRun.sl.v3613 c arg1 harg1 x1) (bodyRun.sl.v3616 c arg2 harg2 x2)) (k0_pay10 (F := F) (bodyRun.sl.v3 c arg1 harg1 x1) (bodyRun.sl.v6 c arg2 harg2 x2) (bodyRun.sl.v3613 c arg1 harg1 x1) (bodyRun.sl.v3616 c arg2 harg2 x2)) (k0_pay11 (F := F) (bodyRun.sl.v3 c arg1 harg1 x1) (bodyRun.sl.v6 c arg2 harg2 x2)) (k0_pay12 (F := F) (bodyRun.sl.v3 c arg1 harg1 x1) (bodyRun.sl.v6 c arg2 harg2 x2)) (k0_pay13 (F := F) (bodyRun.sl.v3 c arg1 harg1 x1) (bodyRun.sl.v6 c arg2 harg2 x2) (bodyRun.sl.v3613 c arg1 harg1 x1) (bodyRun.sl.v3616 c arg2 harg2 x2))) (k0_pay17 (View.readAt (Elt F) arg3.view (Rect.unit (s := S256x1024) ![0, 0] S256x1024.size (by decide)).toLoadRect (harg3.unread x3))) (k0_pay18 (View.readAt (Elt F) arg3.view (Rect.unit (s := S256x1024) ![0, 0] S256x1024.size (by decide)).toLoadRect (harg3.unread x3))) (View.readAt (Elt F) arg5.view (Rect.unit (s := S1x1024) ![0, 0] S1x1024.size (by decide)).toLoadRect (harg5.unread x5)) = cpV x1 x2 x3 x5 := by
    rw [word_1_0, word_2_0, word_1_1, word_2_1, rd_full harg3 x3, rd_full harg5 x5]
    rfl
  unfold start
  split
  · exact Eq.trans rfl h
  · rfl

theorem load_rs : (bodyRun.sl.v841 c i arg1 harg1 arg2 harg2 arg3 harg3 arg5 harg5 arg24 harg24 x1 x2 x3 x5 x24) = (start i x1 x2 (Blk.mk x3 x4 x5 x6 x7 x8 x9 x10 x11) (St.mk x22 x23 x24 x25 x26 x27 x28)).rs := by
  unfold bodyRun.sl.v841
  refine (rd_dite harg24 x24 (k0_cond1 i = 1#1) _ _ _ []).trans ?_
  have h : k0_pay36 (k0_pay14 k0_pay7 (k0_pay8 (F := F) (bodyRun.sl.v3 c arg1 harg1 x1) (bodyRun.sl.v3613 c arg1 harg1 x1)) (k0_pay9 (F := F) (bodyRun.sl.v3 c arg1 harg1 x1) (bodyRun.sl.v6 c arg2 harg2 x2) (bodyRun.sl.v3613 c arg1 harg1 x1) (bodyRun.sl.v3616 c arg2 harg2 x2)) (k0_pay10 (F := F) (bodyRun.sl.v3 c arg1 harg1 x1) (bodyRun.sl.v6 c arg2 harg2 x2) (bodyRun.sl.v3613 c arg1 harg1 x1) (bodyRun.sl.v3616 c arg2 harg2 x2)) (k0_pay11 (F := F) (bodyRun.sl.v3 c arg1 harg1 x1) (bodyRun.sl.v6 c arg2 harg2 x2)) (k0_pay12 (F := F) (bodyRun.sl.v3 c arg1 harg1 x1) (bodyRun.sl.v6 c arg2 harg2 x2)) (k0_pay13 (F := F) (bodyRun.sl.v3 c arg1 harg1 x1) (bodyRun.sl.v6 c arg2 harg2 x2) (bodyRun.sl.v3613 c arg1 harg1 x1) (bodyRun.sl.v3616 c arg2 harg2 x2))) (k0_pay23 (k0_pay17 (View.readAt (Elt F) arg3.view (Rect.unit (s := S256x1024) ![0, 0] S256x1024.size (by decide)).toLoadRect (harg3.unread x3))) (k0_pay18 (View.readAt (Elt F) arg3.view (Rect.unit (s := S256x1024) ![0, 0] S256x1024.size (by decide)).toLoadRect (harg3.unread x3))) (View.readAt (Elt F) arg5.view (Rect.unit (s := S1x1024) ![0, 0] S1x1024.size (by decide)).toLoadRect (harg5.unread x5))) = rsV x1 x2 x3 x5 := by
    rw [word_1_0, word_2_0, word_1_1, word_2_1, rd_full harg3 x3, rd_full harg5 x5]
    rfl
  unfold start
  split
  · exact Eq.trans rfl h
  · rfl

theorem load_mt : (bodyRun.sl.v855 c i arg25 harg25 x25) = (start i x1 x2 (Blk.mk x3 x4 x5 x6 x7 x8 x9 x10 x11) (St.mk x22 x23 x24 x25 x26 x27 x28)).mt := by
  unfold bodyRun.sl.v855
  refine (rd_dite harg25 x25 (k0_cond1 i = 1#1) _ _ _ []).trans ?_
  unfold start
  split <;> rfl

theorem load_st : (bodyRun.sl.v860 c i arg26 harg26 x26) = (start i x1 x2 (Blk.mk x3 x4 x5 x6 x7 x8 x9 x10 x11) (St.mk x22 x23 x24 x25 x26 x27 x28)).st := by
  unfold bodyRun.sl.v860
  refine (rd_dite harg26 x26 (k0_cond1 i = 1#1) _ _ _ []).trans ?_
  unfold start
  split <;> rfl

theorem load_ms : (bodyRun.sl.v886 c i arg27 harg27 x27) = (start i x1 x2 (Blk.mk x3 x4 x5 x6 x7 x8 x9 x10 x11) (St.mk x22 x23 x24 x25 x26 x27 x28)).ms := by
  unfold bodyRun.sl.v886
  refine (rd_dite harg27 x27 (k0_cond1 i = 1#1) _ _ _ []).trans ?_
  unfold start
  split <;> rfl

theorem load_ss : (bodyRun.sl.v891 c i arg28 harg28 x28) = (start i x1 x2 (Blk.mk x3 x4 x5 x6 x7 x8 x9 x10 x11) (St.mk x22 x23 x24 x25 x26 x27 x28)).ss := by
  unfold bodyRun.sl.v891
  refine (rd_dite harg28 x28 (k0_cond1 i = 1#1) _ _ _ []).trans ?_
  unfold start
  split <;> rfl

theorem pay_mt_1 : maxV (logitsT (fresh i (BitVec.ofNat 32 0)) (bodyRun.sl.v829 c i arg1 harg1 arg2 harg2 arg4 harg4 arg6 harg6 arg22 harg22 x1 x2 x4 x6 x22) (arg29.view.readCov (bodyRun.sl.H29_20 c arg7 harg7 arg8 harg8 arg9 harg9 x7 x8 x9) (Rect.unit (s := S2560x2048) ![0, 0] S2560x512.size (by decide)).toLoadRect)) (bodyRun.sl.v855 c i arg25 harg25 x25) = (blockStep i (Blk.mk x3 x4 x5 x6 x7 x8 x9 x10 x11) 0 (by decide) (start i x1 x2 (Blk.mk x3 x4 x5 x6 x7 x8 x9 x10 x11) (St.mk x22 x23 x24 x25 x26 x27 x28))).mt := by
  rw [load_ht (x3 := x3) (x5 := x5) (x7 := x7) (x8 := x8) (x9 := x9) (x10 := x10) (x11 := x11) (x23 := x23) (x24 := x24) (x25 := x25) (x26 := x26) (x27 := x27) (x28 := x28), load_20, load_mt (x1 := x1) (x2 := x2) (x3 := x3) (x4 := x4) (x5 := x5) (x6 := x6) (x7 := x7) (x8 := x8) (x9 := x9) (x10 := x10) (x11 := x11) (x22 := x22) (x23 := x23) (x24 := x24) (x26 := x26) (x27 := x27) (x28 := x28)]
  rfl

theorem cov_mt_1 : arg25.view.readCov (bodyRun.sl.H25_1 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect = (blockStep i (Blk.mk x3 x4 x5 x6 x7 x8 x9 x10 x11) 0 (by decide) (start i x1 x2 (Blk.mk x3 x4 x5 x6 x7 x8 x9 x10 x11) (St.mk x22 x23 x24 x25 x26 x27 x28))).mt := by
  refine (View.readCov_full arg25.view _ _ _ _).trans ?_
  exact Eq.trans rfl (pay_mt_1 c i arg1 harg1 arg2 harg2 arg4 harg4 arg6 harg6 arg7 harg7 arg8 harg8 arg9 harg9 arg22 harg22 arg25 harg25 arg29 x1 x2 x3 x4 x5 x6 x7 x8 x9 x10 x11 x22 x23 x24 x25 x26 x27 x28)

theorem pay_mt_2 : maxV (logitsT (fresh i (BitVec.ofNat 32 512)) (bodyRun.sl.v829 c i arg1 harg1 arg2 harg2 arg4 harg4 arg6 harg6 arg22 harg22 x1 x2 x4 x6 x22) (arg29.view.readCov (bodyRun.sl.H29_40 c arg7 harg7 arg8 harg8 arg9 harg9 x7 x8 x9) (Rect.unit (s := S2560x2048) ![0, 512] S2560x512.size (by decide)).toLoadRect)) (arg25.view.readCov (bodyRun.sl.H25_1 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).mt := by
  rw [load_ht (x3 := x3) (x5 := x5) (x7 := x7) (x8 := x8) (x9 := x9) (x10 := x10) (x11 := x11) (x23 := x23) (x24 := x24) (x25 := x25) (x26 := x26) (x27 := x27) (x28 := x28), load_40, cov_mt_1 (x3 := x3) (x5 := x5) (x10 := x10) (x11 := x11) (x23 := x23) (x24 := x24) (x26 := x26) (x27 := x27) (x28 := x28)]
  rfl

theorem cov_mt_2 : arg25.view.readCov (bodyRun.sl.H25_2 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).mt := by
  refine (View.readCov_full arg25.view _ _ _ _).trans ?_
  exact Eq.trans rfl (pay_mt_2 c i arg1 harg1 arg2 harg2 arg4 harg4 arg6 harg6 arg7 harg7 arg8 harg8 arg9 harg9 arg22 harg22 arg25 harg25 arg29 x1 x2 x3 x4 x5 x6 x7 x8 x9 x10 x11 x22 x23 x24 x25 x26 x27 x28)

theorem pay_mt_3 : maxV (logitsT (fresh i (BitVec.ofNat 32 1024)) (bodyRun.sl.v829 c i arg1 harg1 arg2 harg2 arg4 harg4 arg6 harg6 arg22 harg22 x1 x2 x4 x6 x22) (arg29.view.readCov (bodyRun.sl.H29_60 c arg7 harg7 arg8 harg8 arg9 harg9 x7 x8 x9) (Rect.unit (s := S2560x2048) ![0, 1024] S2560x512.size (by decide)).toLoadRect)) (arg25.view.readCov (bodyRun.sl.H25_2 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).mt := by
  rw [load_ht (x3 := x3) (x5 := x5) (x7 := x7) (x8 := x8) (x9 := x9) (x10 := x10) (x11 := x11) (x23 := x23) (x24 := x24) (x25 := x25) (x26 := x26) (x27 := x27) (x28 := x28), load_60, cov_mt_2 (x3 := x3) (x5 := x5) (x10 := x10) (x11 := x11) (x23 := x23) (x24 := x24) (x26 := x26) (x27 := x27) (x28 := x28)]
  rfl

theorem cov_mt_3 : arg25.view.readCov (bodyRun.sl.H25_3 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).mt := by
  refine (View.readCov_full arg25.view _ _ _ _).trans ?_
  exact Eq.trans rfl (pay_mt_3 c i arg1 harg1 arg2 harg2 arg4 harg4 arg6 harg6 arg7 harg7 arg8 harg8 arg9 harg9 arg22 harg22 arg25 harg25 arg29 x1 x2 x3 x4 x5 x6 x7 x8 x9 x10 x11 x22 x23 x24 x25 x26 x27 x28)

theorem pay_mt_4 : maxV (logitsT (fresh i (BitVec.ofNat 32 1536)) (bodyRun.sl.v829 c i arg1 harg1 arg2 harg2 arg4 harg4 arg6 harg6 arg22 harg22 x1 x2 x4 x6 x22) (arg29.view.readCov (bodyRun.sl.H29_80 c arg7 harg7 arg8 harg8 arg9 harg9 x7 x8 x9) (Rect.unit (s := S2560x2048) ![0, 1536] S2560x512.size (by decide)).toLoadRect)) (arg25.view.readCov (bodyRun.sl.H25_3 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).mt := by
  rw [load_ht (x3 := x3) (x5 := x5) (x7 := x7) (x8 := x8) (x9 := x9) (x10 := x10) (x11 := x11) (x23 := x23) (x24 := x24) (x25 := x25) (x26 := x26) (x27 := x27) (x28 := x28), load_80, cov_mt_3 (x3 := x3) (x5 := x5) (x10 := x10) (x11 := x11) (x23 := x23) (x24 := x24) (x26 := x26) (x27 := x27) (x28 := x28)]
  rfl

theorem cov_mt_4 : arg25.view.readCov (bodyRun.sl.H25_4 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).mt := by
  refine (View.readCov_full arg25.view _ _ _ _).trans ?_
  exact Eq.trans rfl (pay_mt_4 c i arg1 harg1 arg2 harg2 arg4 harg4 arg6 harg6 arg7 harg7 arg8 harg8 arg9 harg9 arg22 harg22 arg25 harg25 arg29 x1 x2 x3 x4 x5 x6 x7 x8 x9 x10 x11 x22 x23 x24 x25 x26 x27 x28)

theorem left_mt : View.read (Elt F) arg25.view (arg25.view.writes (Elt F) arg25.view.junk (bodyRun.sl.H25_4 c i arg1 harg1 arg2 harg2 arg4 harg4 arg6 harg6 arg7 harg7 arg8 harg8 arg9 harg9 arg22 harg22 arg25 harg25 arg29 x1 x2 x4 x6 x7 x8 x9 x22 x25)) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).mt := by
  refine (View.read_writes_full arg25.view _ _ _ _).trans ?_
  exact Eq.trans rfl (pay_mt_4 c i arg1 harg1 arg2 harg2 arg4 harg4 arg6 harg6 arg7 harg7 arg8 harg8 arg9 harg9 arg22 harg22 arg25 harg25 arg29 x1 x2 x3 x4 x5 x6 x7 x8 x9 x10 x11 x22 x23 x24 x25 x26 x27 x28)

theorem pay_st_1 : sumV (logitsT (fresh i (BitVec.ofNat 32 0)) (bodyRun.sl.v829 c i arg1 harg1 arg2 harg2 arg4 harg4 arg6 harg6 arg22 harg22 x1 x2 x4 x6 x22) (arg29.view.readCov (bodyRun.sl.H29_20 c arg7 harg7 arg8 harg8 arg9 harg9 x7 x8 x9) (Rect.unit (s := S2560x2048) ![0, 0] S2560x512.size (by decide)).toLoadRect)) (bodyRun.sl.v855 c i arg25 harg25 x25) (bodyRun.sl.v860 c i arg26 harg26 x26) = (blockStep i (Blk.mk x3 x4 x5 x6 x7 x8 x9 x10 x11) 0 (by decide) (start i x1 x2 (Blk.mk x3 x4 x5 x6 x7 x8 x9 x10 x11) (St.mk x22 x23 x24 x25 x26 x27 x28))).st := by
  rw [load_ht (x3 := x3) (x5 := x5) (x7 := x7) (x8 := x8) (x9 := x9) (x10 := x10) (x11 := x11) (x23 := x23) (x24 := x24) (x25 := x25) (x26 := x26) (x27 := x27) (x28 := x28), load_20, load_mt (x1 := x1) (x2 := x2) (x3 := x3) (x4 := x4) (x5 := x5) (x6 := x6) (x7 := x7) (x8 := x8) (x9 := x9) (x10 := x10) (x11 := x11) (x22 := x22) (x23 := x23) (x24 := x24) (x26 := x26) (x27 := x27) (x28 := x28), load_st (x1 := x1) (x2 := x2) (x3 := x3) (x4 := x4) (x5 := x5) (x6 := x6) (x7 := x7) (x8 := x8) (x9 := x9) (x10 := x10) (x11 := x11) (x22 := x22) (x23 := x23) (x24 := x24) (x25 := x25) (x27 := x27) (x28 := x28)]
  rfl

theorem cov_st_1 : arg26.view.readCov (bodyRun.sl.H26_1 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect = (blockStep i (Blk.mk x3 x4 x5 x6 x7 x8 x9 x10 x11) 0 (by decide) (start i x1 x2 (Blk.mk x3 x4 x5 x6 x7 x8 x9 x10 x11) (St.mk x22 x23 x24 x25 x26 x27 x28))).st := by
  refine (View.readCov_full arg26.view _ _ _ _).trans ?_
  exact Eq.trans rfl (pay_st_1 c i arg1 harg1 arg2 harg2 arg4 harg4 arg6 harg6 arg7 harg7 arg8 harg8 arg9 harg9 arg22 harg22 arg25 harg25 arg26 harg26 arg29 x1 x2 x3 x4 x5 x6 x7 x8 x9 x10 x11 x22 x23 x24 x25 x26 x27 x28)

theorem pay_st_2 : sumV (logitsT (fresh i (BitVec.ofNat 32 512)) (bodyRun.sl.v829 c i arg1 harg1 arg2 harg2 arg4 harg4 arg6 harg6 arg22 harg22 x1 x2 x4 x6 x22) (arg29.view.readCov (bodyRun.sl.H29_40 c arg7 harg7 arg8 harg8 arg9 harg9 x7 x8 x9) (Rect.unit (s := S2560x2048) ![0, 512] S2560x512.size (by decide)).toLoadRect)) (arg25.view.readCov (bodyRun.sl.H25_1 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) (arg26.view.readCov (bodyRun.sl.H26_1 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect) = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).st := by
  rw [load_ht (x3 := x3) (x5 := x5) (x7 := x7) (x8 := x8) (x9 := x9) (x10 := x10) (x11 := x11) (x23 := x23) (x24 := x24) (x25 := x25) (x26 := x26) (x27 := x27) (x28 := x28), load_40, cov_mt_1 (x3 := x3) (x5 := x5) (x10 := x10) (x11 := x11) (x23 := x23) (x24 := x24) (x26 := x26) (x27 := x27) (x28 := x28), cov_st_1 (x3 := x3) (x5 := x5) (x10 := x10) (x11 := x11) (x23 := x23) (x24 := x24) (x27 := x27) (x28 := x28)]
  rfl

theorem cov_st_2 : arg26.view.readCov (bodyRun.sl.H26_2 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).st := by
  refine (View.readCov_full arg26.view _ _ _ _).trans ?_
  exact Eq.trans rfl (pay_st_2 c i arg1 harg1 arg2 harg2 arg4 harg4 arg6 harg6 arg7 harg7 arg8 harg8 arg9 harg9 arg22 harg22 arg25 harg25 arg26 harg26 arg29 x1 x2 x3 x4 x5 x6 x7 x8 x9 x10 x11 x22 x23 x24 x25 x26 x27 x28)

theorem pay_st_3 : sumV (logitsT (fresh i (BitVec.ofNat 32 1024)) (bodyRun.sl.v829 c i arg1 harg1 arg2 harg2 arg4 harg4 arg6 harg6 arg22 harg22 x1 x2 x4 x6 x22) (arg29.view.readCov (bodyRun.sl.H29_60 c arg7 harg7 arg8 harg8 arg9 harg9 x7 x8 x9) (Rect.unit (s := S2560x2048) ![0, 1024] S2560x512.size (by decide)).toLoadRect)) (arg25.view.readCov (bodyRun.sl.H25_2 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) (arg26.view.readCov (bodyRun.sl.H26_2 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect) = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).st := by
  rw [load_ht (x3 := x3) (x5 := x5) (x7 := x7) (x8 := x8) (x9 := x9) (x10 := x10) (x11 := x11) (x23 := x23) (x24 := x24) (x25 := x25) (x26 := x26) (x27 := x27) (x28 := x28), load_60, cov_mt_2 (x3 := x3) (x5 := x5) (x10 := x10) (x11 := x11) (x23 := x23) (x24 := x24) (x26 := x26) (x27 := x27) (x28 := x28), cov_st_2 (x3 := x3) (x5 := x5) (x10 := x10) (x11 := x11) (x23 := x23) (x24 := x24) (x27 := x27) (x28 := x28)]
  rfl

theorem cov_st_3 : arg26.view.readCov (bodyRun.sl.H26_3 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).st := by
  refine (View.readCov_full arg26.view _ _ _ _).trans ?_
  exact Eq.trans rfl (pay_st_3 c i arg1 harg1 arg2 harg2 arg4 harg4 arg6 harg6 arg7 harg7 arg8 harg8 arg9 harg9 arg22 harg22 arg25 harg25 arg26 harg26 arg29 x1 x2 x3 x4 x5 x6 x7 x8 x9 x10 x11 x22 x23 x24 x25 x26 x27 x28)

theorem pay_st_4 : sumV (logitsT (fresh i (BitVec.ofNat 32 1536)) (bodyRun.sl.v829 c i arg1 harg1 arg2 harg2 arg4 harg4 arg6 harg6 arg22 harg22 x1 x2 x4 x6 x22) (arg29.view.readCov (bodyRun.sl.H29_80 c arg7 harg7 arg8 harg8 arg9 harg9 x7 x8 x9) (Rect.unit (s := S2560x2048) ![0, 1536] S2560x512.size (by decide)).toLoadRect)) (arg25.view.readCov (bodyRun.sl.H25_3 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) (arg26.view.readCov (bodyRun.sl.H26_3 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).st := by
  rw [load_ht (x3 := x3) (x5 := x5) (x7 := x7) (x8 := x8) (x9 := x9) (x10 := x10) (x11 := x11) (x23 := x23) (x24 := x24) (x25 := x25) (x26 := x26) (x27 := x27) (x28 := x28), load_80, cov_mt_3 (x3 := x3) (x5 := x5) (x10 := x10) (x11 := x11) (x23 := x23) (x24 := x24) (x26 := x26) (x27 := x27) (x28 := x28), cov_st_3 (x3 := x3) (x5 := x5) (x10 := x10) (x11 := x11) (x23 := x23) (x24 := x24) (x27 := x27) (x28 := x28)]
  rfl

theorem cov_st_4 : arg26.view.readCov (bodyRun.sl.H26_4 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).st := by
  refine (View.readCov_full arg26.view _ _ _ _).trans ?_
  exact Eq.trans rfl (pay_st_4 c i arg1 harg1 arg2 harg2 arg4 harg4 arg6 harg6 arg7 harg7 arg8 harg8 arg9 harg9 arg22 harg22 arg25 harg25 arg26 harg26 arg29 x1 x2 x3 x4 x5 x6 x7 x8 x9 x10 x11 x22 x23 x24 x25 x26 x27 x28)

theorem left_st : View.read (Elt F) arg26.view (arg26.view.writes (Elt F) arg26.view.junk (bodyRun.sl.H26_4 c i arg1 harg1 arg2 harg2 arg4 harg4 arg6 harg6 arg7 harg7 arg8 harg8 arg9 harg9 arg22 harg22 arg25 harg25 arg26 harg26 arg29 x1 x2 x4 x6 x7 x8 x9 x22 x25 x26)) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).st := by
  refine (View.read_writes_full arg26.view _ _ _ _).trans ?_
  exact Eq.trans rfl (pay_st_4 c i arg1 harg1 arg2 harg2 arg4 harg4 arg6 harg6 arg7 harg7 arg8 harg8 arg9 harg9 arg22 harg22 arg25 harg25 arg26 harg26 arg29 x1 x2 x3 x4 x5 x6 x7 x8 x9 x10 x11 x22 x23 x24 x25 x26 x27 x28)

theorem pay_ms_1 : maxV (logitsS (fresh i (BitVec.ofNat 32 0)) (bodyRun.sl.v838 c i arg1 harg1 arg2 harg2 arg3 harg3 arg5 harg5 arg23 harg23 x1 x2 x3 x5 x23) (View.readAt (Elt F) arg10.view (Rect.unit (s := S2048x1024) ![0, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 0] S1x512.size (by decide)).toLoadRect (harg11.unread x11))) (bodyRun.sl.v886 c i arg27 harg27 x27) = (blockStep i (Blk.mk x3 x4 x5 x6 x7 x8 x9 x10 x11) 0 (by decide) (start i x1 x2 (Blk.mk x3 x4 x5 x6 x7 x8 x9 x10 x11) (St.mk x22 x23 x24 x25 x26 x27 x28))).ms := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 0 (by decide) (by decide), rd_C harg11 x11 0 (by decide) (by decide), load_ms (x1 := x1) (x2 := x2) (x3 := x3) (x4 := x4) (x5 := x5) (x6 := x6) (x7 := x7) (x8 := x8) (x9 := x9) (x10 := x10) (x11 := x11) (x22 := x22) (x23 := x23) (x24 := x24) (x25 := x25) (x26 := x26) (x28 := x28)]
  rfl

theorem cov_ms_1 : arg27.view.readCov (bodyRun.sl.H27_1 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect = (blockStep i (Blk.mk x3 x4 x5 x6 x7 x8 x9 x10 x11) 0 (by decide) (start i x1 x2 (Blk.mk x3 x4 x5 x6 x7 x8 x9 x10 x11) (St.mk x22 x23 x24 x25 x26 x27 x28))).ms := by
  refine (View.readCov_full arg27.view _ _ _ _).trans ?_
  exact Eq.trans rfl (pay_ms_1 c i arg1 harg1 arg2 harg2 arg3 harg3 arg5 harg5 arg10 harg10 arg11 harg11 arg23 harg23 arg24 harg24 arg27 harg27 x1 x2 x3 x4 x5 x6 x7 x8 x9 x10 x11 x22 x23 x24 x25 x26 x27 x28)

theorem pay_ms_2 : maxV (logitsS (fresh i (BitVec.ofNat 32 512)) (bodyRun.sl.v838 c i arg1 harg1 arg2 harg2 arg3 harg3 arg5 harg5 arg23 harg23 x1 x2 x3 x5 x23) (View.readAt (Elt F) arg10.view (Rect.unit (s := S2048x1024) ![512, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 512] S1x512.size (by decide)).toLoadRect (harg11.unread x11))) (arg27.view.readCov (bodyRun.sl.H27_1 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).ms := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 512 (by decide) (by decide), rd_C harg11 x11 512 (by decide) (by decide), cov_ms_1 (x4 := x4) (x6 := x6) (x7 := x7) (x8 := x8) (x9 := x9) (x22 := x22) (x25 := x25) (x26 := x26) (x28 := x28)]
  rfl

theorem cov_ms_2 : arg27.view.readCov (bodyRun.sl.H27_2 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).ms := by
  refine (View.readCov_full arg27.view _ _ _ _).trans ?_
  exact Eq.trans rfl (pay_ms_2 c i arg1 harg1 arg2 harg2 arg3 harg3 arg5 harg5 arg10 harg10 arg11 harg11 arg23 harg23 arg24 harg24 arg27 harg27 x1 x2 x3 x4 x5 x6 x7 x8 x9 x10 x11 x22 x23 x24 x25 x26 x27 x28)

theorem pay_ms_3 : maxV (logitsS (fresh i (BitVec.ofNat 32 1024)) (bodyRun.sl.v838 c i arg1 harg1 arg2 harg2 arg3 harg3 arg5 harg5 arg23 harg23 x1 x2 x3 x5 x23) (View.readAt (Elt F) arg10.view (Rect.unit (s := S2048x1024) ![1024, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 1024] S1x512.size (by decide)).toLoadRect (harg11.unread x11))) (arg27.view.readCov (bodyRun.sl.H27_2 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).ms := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 1024 (by decide) (by decide), rd_C harg11 x11 1024 (by decide) (by decide), cov_ms_2 (x4 := x4) (x6 := x6) (x7 := x7) (x8 := x8) (x9 := x9) (x22 := x22) (x25 := x25) (x26 := x26) (x28 := x28)]
  rfl

theorem cov_ms_3 : arg27.view.readCov (bodyRun.sl.H27_3 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).ms := by
  refine (View.readCov_full arg27.view _ _ _ _).trans ?_
  exact Eq.trans rfl (pay_ms_3 c i arg1 harg1 arg2 harg2 arg3 harg3 arg5 harg5 arg10 harg10 arg11 harg11 arg23 harg23 arg24 harg24 arg27 harg27 x1 x2 x3 x4 x5 x6 x7 x8 x9 x10 x11 x22 x23 x24 x25 x26 x27 x28)

theorem pay_ms_4 : maxV (logitsS (fresh i (BitVec.ofNat 32 1536)) (bodyRun.sl.v838 c i arg1 harg1 arg2 harg2 arg3 harg3 arg5 harg5 arg23 harg23 x1 x2 x3 x5 x23) (View.readAt (Elt F) arg10.view (Rect.unit (s := S2048x1024) ![1536, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 1536] S1x512.size (by decide)).toLoadRect (harg11.unread x11))) (arg27.view.readCov (bodyRun.sl.H27_3 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ms := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 1536 (by decide) (by decide), rd_C harg11 x11 1536 (by decide) (by decide), cov_ms_3 (x4 := x4) (x6 := x6) (x7 := x7) (x8 := x8) (x9 := x9) (x22 := x22) (x25 := x25) (x26 := x26) (x28 := x28)]
  rfl

theorem cov_ms_4 : arg27.view.readCov (bodyRun.sl.H27_4 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ms := by
  refine (View.readCov_full arg27.view _ _ _ _).trans ?_
  exact Eq.trans rfl (pay_ms_4 c i arg1 harg1 arg2 harg2 arg3 harg3 arg5 harg5 arg10 harg10 arg11 harg11 arg23 harg23 arg24 harg24 arg27 harg27 x1 x2 x3 x4 x5 x6 x7 x8 x9 x10 x11 x22 x23 x24 x25 x26 x27 x28)

theorem left_ms : View.read (Elt F) arg27.view (arg27.view.writes (Elt F) arg27.view.junk (bodyRun.sl.H27_4 c i arg1 harg1 arg2 harg2 arg3 harg3 arg5 harg5 arg10 harg10 arg11 harg11 arg23 harg23 arg24 harg24 arg27 harg27 x1 x2 x3 x5 x10 x11 x23 x24 x27)) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ms := by
  refine (View.read_writes_full arg27.view _ _ _ _).trans ?_
  exact Eq.trans rfl (pay_ms_4 c i arg1 harg1 arg2 harg2 arg3 harg3 arg5 harg5 arg10 harg10 arg11 harg11 arg23 harg23 arg24 harg24 arg27 harg27 x1 x2 x3 x4 x5 x6 x7 x8 x9 x10 x11 x22 x23 x24 x25 x26 x27 x28)

theorem pay_ss_1 : sumV (logitsS (fresh i (BitVec.ofNat 32 0)) (bodyRun.sl.v838 c i arg1 harg1 arg2 harg2 arg3 harg3 arg5 harg5 arg23 harg23 x1 x2 x3 x5 x23) (View.readAt (Elt F) arg10.view (Rect.unit (s := S2048x1024) ![0, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 0] S1x512.size (by decide)).toLoadRect (harg11.unread x11))) (bodyRun.sl.v886 c i arg27 harg27 x27) (bodyRun.sl.v891 c i arg28 harg28 x28) = (blockStep i (Blk.mk x3 x4 x5 x6 x7 x8 x9 x10 x11) 0 (by decide) (start i x1 x2 (Blk.mk x3 x4 x5 x6 x7 x8 x9 x10 x11) (St.mk x22 x23 x24 x25 x26 x27 x28))).ss := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 0 (by decide) (by decide), rd_C harg11 x11 0 (by decide) (by decide), load_ms (x1 := x1) (x2 := x2) (x3 := x3) (x4 := x4) (x5 := x5) (x6 := x6) (x7 := x7) (x8 := x8) (x9 := x9) (x10 := x10) (x11 := x11) (x22 := x22) (x23 := x23) (x24 := x24) (x25 := x25) (x26 := x26) (x28 := x28), load_ss (x1 := x1) (x2 := x2) (x3 := x3) (x4 := x4) (x5 := x5) (x6 := x6) (x7 := x7) (x8 := x8) (x9 := x9) (x10 := x10) (x11 := x11) (x22 := x22) (x23 := x23) (x24 := x24) (x25 := x25) (x26 := x26) (x27 := x27)]
  rfl

theorem cov_ss_1 : arg28.view.readCov (bodyRun.sl.H28_1 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect = (blockStep i (Blk.mk x3 x4 x5 x6 x7 x8 x9 x10 x11) 0 (by decide) (start i x1 x2 (Blk.mk x3 x4 x5 x6 x7 x8 x9 x10 x11) (St.mk x22 x23 x24 x25 x26 x27 x28))).ss := by
  refine (View.readCov_full arg28.view _ _ _ _).trans ?_
  exact Eq.trans rfl (pay_ss_1 c i arg1 harg1 arg2 harg2 arg3 harg3 arg5 harg5 arg10 harg10 arg11 harg11 arg23 harg23 arg24 harg24 arg27 harg27 arg28 harg28 x1 x2 x3 x4 x5 x6 x7 x8 x9 x10 x11 x22 x23 x24 x25 x26 x27 x28)

theorem pay_ss_2 : sumV (logitsS (fresh i (BitVec.ofNat 32 512)) (bodyRun.sl.v838 c i arg1 harg1 arg2 harg2 arg3 harg3 arg5 harg5 arg23 harg23 x1 x2 x3 x5 x23) (View.readAt (Elt F) arg10.view (Rect.unit (s := S2048x1024) ![512, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 512] S1x512.size (by decide)).toLoadRect (harg11.unread x11))) (arg27.view.readCov (bodyRun.sl.H27_1 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) (arg28.view.readCov (bodyRun.sl.H28_1 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect) = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).ss := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 512 (by decide) (by decide), rd_C harg11 x11 512 (by decide) (by decide), cov_ms_1 (x4 := x4) (x6 := x6) (x7 := x7) (x8 := x8) (x9 := x9) (x22 := x22) (x25 := x25) (x26 := x26) (x28 := x28), cov_ss_1 (x4 := x4) (x6 := x6) (x7 := x7) (x8 := x8) (x9 := x9) (x22 := x22) (x25 := x25) (x26 := x26)]
  rfl

theorem cov_ss_2 : arg28.view.readCov (bodyRun.sl.H28_2 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect = (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))).ss := by
  refine (View.readCov_full arg28.view _ _ _ _).trans ?_
  exact Eq.trans rfl (pay_ss_2 c i arg1 harg1 arg2 harg2 arg3 harg3 arg5 harg5 arg10 harg10 arg11 harg11 arg23 harg23 arg24 harg24 arg27 harg27 arg28 harg28 x1 x2 x3 x4 x5 x6 x7 x8 x9 x10 x11 x22 x23 x24 x25 x26 x27 x28)

theorem pay_ss_3 : sumV (logitsS (fresh i (BitVec.ofNat 32 1024)) (bodyRun.sl.v838 c i arg1 harg1 arg2 harg2 arg3 harg3 arg5 harg5 arg23 harg23 x1 x2 x3 x5 x23) (View.readAt (Elt F) arg10.view (Rect.unit (s := S2048x1024) ![1024, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 1024] S1x512.size (by decide)).toLoadRect (harg11.unread x11))) (arg27.view.readCov (bodyRun.sl.H27_2 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) (arg28.view.readCov (bodyRun.sl.H28_2 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect) = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).ss := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 1024 (by decide) (by decide), rd_C harg11 x11 1024 (by decide) (by decide), cov_ms_2 (x4 := x4) (x6 := x6) (x7 := x7) (x8 := x8) (x9 := x9) (x22 := x22) (x25 := x25) (x26 := x26) (x28 := x28), cov_ss_2 (x4 := x4) (x6 := x6) (x7 := x7) (x8 := x8) (x9 := x9) (x22 := x22) (x25 := x25) (x26 := x26)]
  rfl

theorem cov_ss_3 : arg28.view.readCov (bodyRun.sl.H28_3 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect = (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))).ss := by
  refine (View.readCov_full arg28.view _ _ _ _).trans ?_
  exact Eq.trans rfl (pay_ss_3 c i arg1 harg1 arg2 harg2 arg3 harg3 arg5 harg5 arg10 harg10 arg11 harg11 arg23 harg23 arg24 harg24 arg27 harg27 arg28 harg28 x1 x2 x3 x4 x5 x6 x7 x8 x9 x10 x11 x22 x23 x24 x25 x26 x27 x28)

theorem pay_ss_4 : sumV (logitsS (fresh i (BitVec.ofNat 32 1536)) (bodyRun.sl.v838 c i arg1 harg1 arg2 harg2 arg3 harg3 arg5 harg5 arg23 harg23 x1 x2 x3 x5 x23) (View.readAt (Elt F) arg10.view (Rect.unit (s := S2048x1024) ![1536, 0] S512x1024.size (by decide)).toLoadRect (harg10.unread x10)) (bodyRun.sl.v841 c i arg1 harg1 arg2 harg2 arg3 harg3 arg5 harg5 arg24 harg24 x1 x2 x3 x5 x24) (View.readAt (Elt F) arg11.view (Rect.unit (s := S1x2048) ![0, 1536] S1x512.size (by decide)).toLoadRect (harg11.unread x11))) (arg27.view.readCov (bodyRun.sl.H27_3 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) (arg28.view.readCov (bodyRun.sl.H28_3 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ss := by
  rw [load_cp (x24 := x24) (x4 := x4) (x6 := x6) (x7 := x7) (x8 := x8) (x9 := x9) (x10 := x10) (x11 := x11) (x22 := x22) (x25 := x25) (x26 := x26) (x27 := x27) (x28 := x28), load_rs (x23 := x23) (x4 := x4) (x6 := x6) (x7 := x7) (x8 := x8) (x9 := x9) (x10 := x10) (x11 := x11) (x22 := x22) (x25 := x25) (x26 := x26) (x27 := x27) (x28 := x28), rd_S harg10 x10 1536 (by decide) (by decide), rd_C harg11 x11 1536 (by decide) (by decide), cov_ms_3 (x4 := x4) (x6 := x6) (x7 := x7) (x8 := x8) (x9 := x9) (x22 := x22) (x25 := x25) (x26 := x26) (x28 := x28), cov_ss_3 (x4 := x4) (x6 := x6) (x7 := x7) (x8 := x8) (x9 := x9) (x22 := x22) (x25 := x25) (x26 := x26)]
  rfl

theorem cov_ss_4 : arg28.view.readCov (bodyRun.sl.H28_4 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ss := by
  refine (View.readCov_full arg28.view _ _ _ _).trans ?_
  exact Eq.trans rfl (pay_ss_4 c i arg1 harg1 arg2 harg2 arg3 harg3 arg5 harg5 arg10 harg10 arg11 harg11 arg23 harg23 arg24 harg24 arg27 harg27 arg28 harg28 x1 x2 x3 x4 x5 x6 x7 x8 x9 x10 x11 x22 x23 x24 x25 x26 x27 x28)

theorem left_ss : View.read (Elt F) arg28.view (arg28.view.writes (Elt F) arg28.view.junk (bodyRun.sl.H28_4 c i arg1 harg1 arg2 harg2 arg3 harg3 arg5 harg5 arg10 harg10 arg11 harg11 arg23 harg23 arg24 harg24 arg27 harg27 arg28 harg28 x1 x2 x3 x5 x10 x11 x23 x24 x27 x28)) = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ss := by
  refine (View.read_writes_full arg28.view _ _ _ _).trans ?_
  exact Eq.trans rfl (pay_ss_4 c i arg1 harg1 arg2 harg2 arg3 harg3 arg5 harg5 arg10 harg10 arg11 harg11 arg23 harg23 arg24 harg24 arg27 harg27 arg28 harg28 x1 x2 x3 x4 x5 x6 x7 x8 x9 x10 x11 x22 x23 x24 x25 x26 x27 x28)

theorem left_ht : View.read (Elt F) arg22.view (if hc : k0_cond1 i = 1#1 then arg22.view.writes (Elt F) (harg22.unread x22)
    (bodyRun.sl.H22_1 c arg1 harg1 arg2 harg2 arg4 harg4 arg6 harg6 x1 x2 x4 x6) else harg22.unread x22) = (start i x1 x2 (Blk.mk x3 x4 x5 x6 x7 x8 x9 x10 x11) (St.mk x22 x23 x24 x25 x26 x27 x28)).ht := by
  refine Eq.trans ?_ (load_ht (x3 := x3) (x5 := x5) (x7 := x7) (x8 := x8) (x9 := x9) (x10 := x10) (x11 := x11) (x23 := x23) (x24 := x24) (x25 := x25) (x26 := x26) (x27 := x27) (x28 := x28) c i arg1 harg1 arg2 harg2 arg4 harg4 arg6 harg6 arg22 harg22 x1 x2 x4 x6 x22)
  unfold bodyRun.sl.v829
  rw [View.readAt_full]

theorem left_cp : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.1 = (start i x1 x2 (Blk.mk x3 x4 x5 x6 x7 x8 x9 x10 x11) (St.mk x22 x23 x24 x25 x26 x27 x28)).cp := by
  refine Eq.trans ?_ (load_cp c i arg1 harg1 arg2 harg2 arg3 harg3 arg5 harg5 arg23 harg23 x1 x2 x3 x4 x5 x6 x7 x8 x9 x10 x11 x22 x23 x24 x25 x26 x27 x28)
  unfold bodyRun.sl.v838
  rw [View.readAt_full]
  rfl

theorem left_rs : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.1 = (start i x1 x2 (Blk.mk x3 x4 x5 x6 x7 x8 x9 x10 x11) (St.mk x22 x23 x24 x25 x26 x27 x28)).rs := by
  refine Eq.trans ?_ (load_rs c i arg1 harg1 arg2 harg2 arg3 harg3 arg5 harg5 arg24 harg24 x1 x2 x3 x4 x5 x6 x7 x8 x9 x10 x11 x22 x23 x24 x25 x26 x27 x28)
  unfold bodyRun.sl.v841
  rw [View.readAt_full]
  rfl

theorem St.ext' {S T : St F} (h1 : S.ht = T.ht) (h2 : S.cp = T.cp) (h3 : S.rs = T.rs) (h4 : S.mt = T.mt) (h5 : S.st = T.st)
    (h6 : S.ms = T.ms) (h7 : S.ss = T.ss) : S = T := by
  cases S
  cases T
  cases h1
  cases h2
  cases h3
  cases h4
  cases h5
  cases h6
  cases h7
  rfl

set_option maxHeartbeats 2000000 in
theorem out_ht : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.1 = (start i x1 x2 (Blk.mk x3 x4 x5 x6 x7 x8 x9 x10 x11) (St.mk x22 x23 x24 x25 x26 x27 x28)).ht := left_ht c i arg1 harg1 arg2 harg2 arg4 harg4 arg6 harg6 arg22 harg22 x1 x2 x3 x4 x5 x6 x7 x8 x9 x10 x11 x22 x23 x24 x25 x26 x27 x28

set_option maxHeartbeats 2000000 in
theorem out_mt : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.1 = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).mt := left_mt c i arg1 harg1 arg2 harg2 arg4 harg4 arg6 harg6 arg7 harg7 arg8 harg8 arg9 harg9 arg22 harg22 arg25 harg25 arg29 x1 x2 x3 x4 x5 x6 x7 x8 x9 x10 x11 x22 x23 x24 x25 x26 x27 x28

set_option maxHeartbeats 2000000 in
theorem out_st : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.1 = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).st := left_st c i arg1 harg1 arg2 harg2 arg4 harg4 arg6 harg6 arg7 harg7 arg8 harg8 arg9 harg9 arg22 harg22 arg25 harg25 arg26 harg26 arg29 x1 x2 x3 x4 x5 x6 x7 x8 x9 x10 x11 x22 x23 x24 x25 x26 x27 x28

set_option maxHeartbeats 2000000 in
theorem out_ms : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.2.1 = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ms := left_ms c i arg1 harg1 arg2 harg2 arg3 harg3 arg5 harg5 arg10 harg10 arg11 harg11 arg23 harg23 arg24 harg24 arg27 harg27 x1 x2 x3 x4 x5 x6 x7 x8 x9 x10 x11 x22 x23 x24 x25 x26 x27 x28

set_option maxHeartbeats 2000000 in
theorem out_ss : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.2.2 = (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ss := left_ss c i arg1 harg1 arg2 harg2 arg3 harg3 arg5 harg5 arg10 harg10 arg11 harg11 arg23 harg23 arg24 harg24 arg27 harg27 arg28 harg28 x1 x2 x3 x4 x5 x6 x7 x8 x9 x10 x11 x22 x23 x24 x25 x26 x27 x28

theorem St.mk_eq {a1 : Vec F S256x2560 .bf16} {a2 : Vec F S256x1024 .fp8e4m3} {a3 a4 a5 a6 a7 : Vec F S256x128 .f32} {T : St F}
    (h1 : a1 = T.ht) (h2 : a2 = T.cp) (h3 : a3 = T.rs) (h4 : a4 = T.mt) (h5 : a5 = T.st) (h6 : a6 = T.ms) (h7 : a7 = T.ss) :
    (⟨a1, a2, a3, a4, a5, a6, a7⟩ : St F) = T := St.ext' h1 h2 h3 h4 h5 h6 h7

set_option maxHeartbeats 2000000 in
/-- What one run of the body leaves in the state. -/
theorem bodyRun_state :
    (⟨(bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.1, (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.1, (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.1, (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.1, (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.1,
      (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.2.1, (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.2.2⟩ : St F)
      = pointStep i x1 x2 (Blk.mk x3 x4 x5 x6 x7 x8 x9 x10 x11) (St.mk x22 x23 x24 x25 x26 x27 x28) := by
  unfold pointStep
  exact St.mk_eq (T := (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28))))))) (out_ht c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28) (left_cp c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28) (left_rs c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28) (out_mt c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28) (out_st c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28) (out_ms c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28) (out_ss c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28)

/-- The codes one run of the body leaves. -/
theorem bodyRun_codes : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.1 = if k0_cond1 i = 1#1 then codesV x3 x5 else x20 := by
  refine (read_dite harg20 x20 (k0_cond1 i = 1#1) _ _ []).trans ?_
  have h : k0_pay21 (k0_pay17 (View.readAt (Elt F) arg3.view (Rect.unit (s := S256x1024) ![0, 0] S256x1024.size (by decide)).toLoadRect (harg3.unread x3))) (k0_pay18 (View.readAt (Elt F) arg3.view (Rect.unit (s := S256x1024) ![0, 0] S256x1024.size (by decide)).toLoadRect (harg3.unread x3))) (View.readAt (Elt F) arg5.view (Rect.unit (s := S1x1024) ![0, 0] S1x1024.size (by decide)).toLoadRect (harg5.unread x5)) = codesV x3 x5 := by
    rw [rd_full harg3 x3, rd_full harg5 x5]
    rfl
  split
  · exact Eq.trans rfl h
  · rfl

/-- The scales one run of the body leaves. -/
theorem bodyRun_scale : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.1 = if k0_cond1 i = 1#1 then scaleV x3 x5 else x21 := by
  refine (read_dite harg21 x21 (k0_cond1 i = 1#1) _ _ []).trans ?_
  have h : (k0_pay23 (k0_pay17 (View.readAt (Elt F) arg3.view (Rect.unit (s := S256x1024) ![0, 0] S256x1024.size (by decide)).toLoadRect (harg3.unread x3))) (k0_pay18 (View.readAt (Elt F) arg3.view (Rect.unit (s := S256x1024) ![0, 0] S256x1024.size (by decide)).toLoadRect (harg3.unread x3))) (View.readAt (Elt F) arg5.view (Rect.unit (s := S1x1024) ![0, 0] S1x1024.size (by decide)).toLoadRect (harg5.unread x5))) = scaleV x3 x5 := by
    rw [rd_full harg3 x3, rd_full harg5 x5]
    rfl
  split
  · exact Eq.trans rfl h
  · rfl

/-- The row of the teacher's logsumexps one run of the body leaves. -/
theorem bodyRun_lt : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.1 = if k0_cond6 i = 1#1 then lseV x1 x2 (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).mt (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).st else x16 := by
  refine (read_dite harg16 x16 (k0_cond6 i = 1#1) _ _ []).trans ?_
  have h : k0_pay5 (k0_pay14 k0_pay7 (k0_pay8 (F := F) (bodyRun.sl.v3 c arg1 harg1 x1) (bodyRun.sl.v3613 c arg1 harg1 x1)) (k0_pay9 (F := F) (bodyRun.sl.v3 c arg1 harg1 x1) (bodyRun.sl.v6 c arg2 harg2 x2) (bodyRun.sl.v3613 c arg1 harg1 x1) (bodyRun.sl.v3616 c arg2 harg2 x2)) (k0_pay10 (F := F) (bodyRun.sl.v3 c arg1 harg1 x1) (bodyRun.sl.v6 c arg2 harg2 x2) (bodyRun.sl.v3613 c arg1 harg1 x1) (bodyRun.sl.v3616 c arg2 harg2 x2)) (k0_pay11 (F := F) (bodyRun.sl.v3 c arg1 harg1 x1) (bodyRun.sl.v6 c arg2 harg2 x2)) (k0_pay12 (F := F) (bodyRun.sl.v3 c arg1 harg1 x1) (bodyRun.sl.v6 c arg2 harg2 x2)) (k0_pay13 (F := F) (bodyRun.sl.v3 c arg1 harg1 x1) (bodyRun.sl.v6 c arg2 harg2 x2) (bodyRun.sl.v3613 c arg1 harg1 x1) (bodyRun.sl.v3616 c arg2 harg2 x2))) (arg25.view.readCov (bodyRun.sl.H25_4 c i arg1 harg1 arg2 harg2 arg4 harg4 arg6 harg6 arg7 harg7 arg8 harg8 arg9 harg9 arg22 harg22 arg25 harg25 arg29 x1 x2 x4 x6 x7 x8 x9 x22 x25) (Rect.unit (s := S256x128) ![0, 0] S256x128.size inb_S256x128_S256x128_0_0).toLoadRect) (arg26.view.readCov (bodyRun.sl.H26_4 c i arg1 harg1 arg2 harg2 arg4 harg4 arg6 harg6 arg7 harg7 arg8 harg8 arg9 harg9 arg22 harg22 arg25 harg25 arg26 harg26 arg29 x1 x2 x4 x6 x7 x8 x9 x22 x25 x26) (Rect.unit (s := S256x128) ![0, 0] S256x128.size inb_S256x128_S256x128_0_0).toLoadRect) = lseV x1 x2 (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).mt (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).st := by
    rw [word_1_0, word_2_0, word_1_1, word_2_1, cov_mt_4 (x3 := x3) (x5 := x5) (x10 := x10) (x11 := x11) (x23 := x23) (x24 := x24) (x26 := x26) (x27 := x27) (x28 := x28), cov_st_4 (x3 := x3) (x5 := x5) (x10 := x10) (x11 := x11) (x23 := x23) (x24 := x24) (x27 := x27) (x28 := x28)]
    rfl
  split
  · exact Eq.trans rfl h
  · rfl

/-- The row of the student's logsumexps one run of the body leaves. -/
theorem bodyRun_ls : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.1 = if k0_cond6 i = 1#1 then lseV x1 x2 (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ms (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ss else x17 := by
  refine (read_dite harg17 x17 (k0_cond6 i = 1#1) _ _ []).trans ?_
  have h : k0_pay5 (k0_pay14 k0_pay7 (k0_pay8 (F := F) (bodyRun.sl.v3 c arg1 harg1 x1) (bodyRun.sl.v3613 c arg1 harg1 x1)) (k0_pay9 (F := F) (bodyRun.sl.v3 c arg1 harg1 x1) (bodyRun.sl.v6 c arg2 harg2 x2) (bodyRun.sl.v3613 c arg1 harg1 x1) (bodyRun.sl.v3616 c arg2 harg2 x2)) (k0_pay10 (F := F) (bodyRun.sl.v3 c arg1 harg1 x1) (bodyRun.sl.v6 c arg2 harg2 x2) (bodyRun.sl.v3613 c arg1 harg1 x1) (bodyRun.sl.v3616 c arg2 harg2 x2)) (k0_pay11 (F := F) (bodyRun.sl.v3 c arg1 harg1 x1) (bodyRun.sl.v6 c arg2 harg2 x2)) (k0_pay12 (F := F) (bodyRun.sl.v3 c arg1 harg1 x1) (bodyRun.sl.v6 c arg2 harg2 x2)) (k0_pay13 (F := F) (bodyRun.sl.v3 c arg1 harg1 x1) (bodyRun.sl.v6 c arg2 harg2 x2) (bodyRun.sl.v3613 c arg1 harg1 x1) (bodyRun.sl.v3616 c arg2 harg2 x2))) (arg27.view.readCov (bodyRun.sl.H27_4 c i arg1 harg1 arg2 harg2 arg3 harg3 arg5 harg5 arg10 harg10 arg11 harg11 arg23 harg23 arg24 harg24 arg27 harg27 x1 x2 x3 x5 x10 x11 x23 x24 x27) (Rect.unit (s := S256x128) ![0, 0] S256x128.size inb_S256x128_S256x128_0_0).toLoadRect) (arg28.view.readCov (bodyRun.sl.H28_4 c i arg1 harg1 arg2 harg2 arg3 harg3 arg5 harg5 arg10 harg10 arg11 harg11 arg23 harg23 arg24 harg24 arg27 harg27 arg28 harg28 x1 x2 x3 x5 x10 x11 x23 x24 x27 x28) (Rect.unit (s := S256x128) ![0, 0] S256x128.size inb_S256x128_S256x128_0_0).toLoadRect) = lseV x1 x2 (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ms (blockStep i (Blk.mk x3 x4 x5 x6 x7 x8 x9 x10 x11) 1536 (by decide) (blockStep i (Blk.mk x3 x4 x5 x6 x7 x8 x9 x10 x11) 1024 (by decide) (blockStep i (Blk.mk x3 x4 x5 x6 x7 x8 x9 x10 x11) 512 (by decide) (blockStep i (Blk.mk x3 x4 x5 x6 x7 x8 x9 x10 x11) 0 (by decide) (start i x1 x2 (Blk.mk x3 x4 x5 x6 x7 x8 x9 x10 x11) (St.mk x22 x23 x24 x25 x26 x27 x28)))))).ss := by
    rw [word_1_0, word_2_0, word_1_1, word_2_1, cov_ms_4 (x4 := x4) (x6 := x6) (x7 := x7) (x8 := x8) (x9 := x9) (x22 := x22) (x25 := x25) (x26 := x26) (x28 := x28), cov_ss_4 (x4 := x4) (x6 := x6) (x7 := x7) (x8 := x8) (x9 := x9) (x22 := x22) (x25 := x25) (x26 := x26)]
    rfl
  split
  · exact Eq.trans rfl h
  · rfl

end Cert.KernelIdeal.Hand
-- ==== Proof.BodyVals.lean ====
/-
  The body of the logits call at any grid point, with the values it leaves as the plain functions of one point.
-/
module

public import proofs.«01_k».proof.Proof.BodyRun
public import proofs.«01_k».proof.Proof.StepEq

@[expose] public section

set_option maxRecDepth 16384

noncomputable section

namespace Cert.KernelIdeal.Hand

open Cert.KernelIdeal Cert.KernelIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 2000000 in
/-- The body at any grid point: from the blocks and the state to what it leaves of them. -/
theorem body_vals (c : Dev nD) (i : grid0.Coords) (q1 q2 : PosShare TreeShare) (arg1 : Memref sig .tc .smem S2 .i32) (harg1 : arg1.IsWhole) (arg2 : Memref sig .tc .smem S2 .i32) (harg2 : arg2.IsWhole) (arg3 : Memref sig .tc .vmem S256x1024 .bf16) (harg3 : arg3.IsWhole) (arg4 : Memref sig .tc .vmem S256x2560 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S1280x2048 .i8) (harg7 : arg7.IsWhole) (arg8 : Memref sig .tc .vmem S20x2048 .f32) (harg8 : arg8.IsWhole) (arg9 : Memref sig .tc .vmem S20x2048 .f32) (harg9 : arg9.IsWhole) (arg10 : Memref sig .tc .vmem S2048x1024 .fp8e4m3) (harg10 : arg10.IsWhole) (arg11 : Memref sig .tc .vmem S1x2048 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x2048 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x1024 .fp8e4m3) (harg20 : arg20.IsWhole) (arg21 : Memref sig .tc .vmem S1x256 .f32) (harg21 : arg21.IsWhole) (arg22 : Memref sig .tc .vmem S256x2560 .bf16) (harg22 : arg22.IsWhole) (arg23 : Memref sig .tc .vmem S256x1024 .fp8e4m3) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S256x128 .f32) (harg28 : arg28.IsWhole) (arg29 : Memref sig .tc .vmem S2560x2048 .bf16) (harg29 : arg29.IsWhole)
    (x1 : Vec F S2 .i32) (x2 : Vec F S2 .i32) (x3 : Vec F S256x1024 .bf16) (x4 : Vec F S256x2560 .bf16) (x5 : Vec F S1x1024 .f32) (x6 : Vec F S1x2560 .f32) (x7 : Vec F S1280x2048 .i8) (x8 : Vec F S20x2048 .f32) (x9 : Vec F S20x2048 .f32) (x10 : Vec F S2048x1024 .fp8e4m3) (x11 : Vec F S1x2048 .f32) (x16 : Vec F S1x256 .f32) (x17 : Vec F S1x256 .f32) (x20 : Vec F S256x1024 .fp8e4m3) (x21 : Vec F S1x256 .f32) (x22 : Vec F S256x2560 .bf16) (x23 : Vec F S256x1024 .fp8e4m3) (x24 : Vec F S256x128 .f32) (x25 : Vec F S256x128 .f32) (x26 : Vec F S256x128 .f32) (x27 : Vec F S256x128 .f32) (x28 : Vec F S256x128 .f32)  : ∀ K : PUnit → sProp 𝕄,
    iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ (∃ d, owns (c : Thread nD τ) arg29 fullShare d)
        ∗ (iprop(owns (c : Thread nD τ) arg1 q1 x1 ∗ owns (c : Thread nD τ) arg2 q2 x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (if k0_cond6 i = 1#1 then lseV x1 x2 (pointStep i x1 x2 (Blk.mk x3 x4 x5 x6 x7 x8 x9 x10 x11) (St.mk x22 x23 x24 x25 x26 x27 x28)).mt (pointStep i x1 x2 (Blk.mk x3 x4 x5 x6 x7 x8 x9 x10 x11) (St.mk x22 x23 x24 x25 x26 x27 x28)).st else x16) ∗ owns (c : Thread nD τ) arg17 fullShare (if k0_cond6 i = 1#1 then lseV x1 x2 (pointStep i x1 x2 (Blk.mk x3 x4 x5 x6 x7 x8 x9 x10 x11) (St.mk x22 x23 x24 x25 x26 x27 x28)).ms (pointStep i x1 x2 (Blk.mk x3 x4 x5 x6 x7 x8 x9 x10 x11) (St.mk x22 x23 x24 x25 x26 x27 x28)).ss else x17) ∗ (∃ d, owns (c : Thread nD τ) arg18 fullShare d) ∗ (∃ d, owns (c : Thread nD τ) arg19 fullShare d) ∗ owns (c : Thread nD τ) arg20 fullShare (if k0_cond1 i = 1#1 then codesV x3 x5 else x20) ∗ owns (c : Thread nD τ) arg21 fullShare (if k0_cond1 i = 1#1 then scaleV x3 x5 else x21) ∗ owns (c : Thread nD τ) arg22 fullShare (pointStep i x1 x2 (Blk.mk x3 x4 x5 x6 x7 x8 x9 x10 x11) (St.mk x22 x23 x24 x25 x26 x27 x28)).ht ∗ owns (c : Thread nD τ) arg23 fullShare (pointStep i x1 x2 (Blk.mk x3 x4 x5 x6 x7 x8 x9 x10 x11) (St.mk x22 x23 x24 x25 x26 x27 x28)).cp ∗ owns (c : Thread nD τ) arg24 fullShare (pointStep i x1 x2 (Blk.mk x3 x4 x5 x6 x7 x8 x9 x10 x11) (St.mk x22 x23 x24 x25 x26 x27 x28)).rs ∗ owns (c : Thread nD τ) arg25 fullShare (pointStep i x1 x2 (Blk.mk x3 x4 x5 x6 x7 x8 x9 x10 x11) (St.mk x22 x23 x24 x25 x26 x27 x28)).mt ∗ owns (c : Thread nD τ) arg26 fullShare (pointStep i x1 x2 (Blk.mk x3 x4 x5 x6 x7 x8 x9 x10 x11) (St.mk x22 x23 x24 x25 x26 x27 x28)).st ∗ owns (c : Thread nD τ) arg27 fullShare (pointStep i x1 x2 (Blk.mk x3 x4 x5 x6 x7 x8 x9 x10 x11) (St.mk x22 x23 x24 x25 x26 x27 x28)).ms ∗ owns (c : Thread nD τ) arg28 fullShare (pointStep i x1 x2 (Blk.mk x3 x4 x5 x6 x7 x8 x9 x10 x11) (St.mk x22 x23 x24 x25 x26 x27 x28)).ss ∗ (∃ d, owns (c : Thread nD τ) arg29 fullShare d)) -∗ K ⟨⟩))
      ⊢ wp frame (wpE (defs₀ (F := F)) Variants.none c none) Set.univ (cc0_gkd_logits i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K  := by
  intro K
  have hs := bodyRun_state c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28
  have e := (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).2 K
  have h0 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.1 = (pointStep i x1 x2 (Blk.mk x3 x4 x5 x6 x7 x8 x9 x10 x11) (St.mk x22 x23 x24 x25 x26 x27 x28)).ht := congrArg St.ht hs
  have h1 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.1 = (pointStep i x1 x2 (Blk.mk x3 x4 x5 x6 x7 x8 x9 x10 x11) (St.mk x22 x23 x24 x25 x26 x27 x28)).cp := congrArg St.cp hs
  have h2 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.1 = (pointStep i x1 x2 (Blk.mk x3 x4 x5 x6 x7 x8 x9 x10 x11) (St.mk x22 x23 x24 x25 x26 x27 x28)).rs := congrArg St.rs hs
  have h3 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.1 = (pointStep i x1 x2 (Blk.mk x3 x4 x5 x6 x7 x8 x9 x10 x11) (St.mk x22 x23 x24 x25 x26 x27 x28)).mt := congrArg St.mt hs
  have h4 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.1 = (pointStep i x1 x2 (Blk.mk x3 x4 x5 x6 x7 x8 x9 x10 x11) (St.mk x22 x23 x24 x25 x26 x27 x28)).st := congrArg St.st hs
  have h5 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.2.1 = (pointStep i x1 x2 (Blk.mk x3 x4 x5 x6 x7 x8 x9 x10 x11) (St.mk x22 x23 x24 x25 x26 x27 x28)).ms := congrArg St.ms hs
  have h6 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.2.2.2.2.2.2.2 = (pointStep i x1 x2 (Blk.mk x3 x4 x5 x6 x7 x8 x9 x10 x11) (St.mk x22 x23 x24 x25 x26 x27 x28)).ss := congrArg St.ss hs
  have l1 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.1 = (if k0_cond6 i = 1#1 then lseV x1 x2 (pointStep i x1 x2 (Blk.mk x3 x4 x5 x6 x7 x8 x9 x10 x11) (St.mk x22 x23 x24 x25 x26 x27 x28)).mt (pointStep i x1 x2 (Blk.mk x3 x4 x5 x6 x7 x8 x9 x10 x11) (St.mk x22 x23 x24 x25 x26 x27 x28)).st else x16) := bodyRun_lt c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28
  have l2 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.1 = (if k0_cond6 i = 1#1 then lseV x1 x2 (pointStep i x1 x2 (Blk.mk x3 x4 x5 x6 x7 x8 x9 x10 x11) (St.mk x22 x23 x24 x25 x26 x27 x28)).ms (pointStep i x1 x2 (Blk.mk x3 x4 x5 x6 x7 x8 x9 x10 x11) (St.mk x22 x23 x24 x25 x26 x27 x28)).ss else x17) := bodyRun_ls c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28
  have l3 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.1 = (if k0_cond1 i = 1#1 then codesV x3 x5 else x20) := bodyRun_codes c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28
  have l4 : (bodyRun c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28).1.2.2.2.1 = (if k0_cond1 i = 1#1 then scaleV x3 x5 else x21) := bodyRun_scale c i q1 q2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x1 x2 x3 x4 x5 x6 x7 x8 x9 x10 x11 x16 x17 x20 x21 x22 x23 x24 x25 x26 x27 x28
  rw [l1, l2, l3, l4, h0, h1, h2, h3, h4, h5, h6] at e
  exact e

end Cert.KernelIdeal.Hand
-- ==== Proof.ValueRun.lean ====
/-
  The launch of the logits call with the values it leaves: the scratch buffers hold the state before each point, the
  first point writes the codes and the scales, and the last point writes the two rows of logsumexps.
-/
module

public import proofs.«01_k».proof.Proof.Blocks
public import proofs.«01_k».proof.Proof.BodyVals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## The values of the results -/

/-- The teacher's row. -/
def ltV : Vec F S1x256 .f32 := lseV (tab0 m) (tab1 m) (stAt m c 75).mt (stAt m c 75).st
/-- The student's row. -/
def lsV : Vec F S1x256 .f32 := lseV (tab0 m) (tab1 m) (stAt m c 75).ms (stAt m c 75).ss

theorem ltV_of {n : Nat} (h : n = 75) : lseV (tab0 m) (tab1 m) (stAt m c n).mt (stAt m c n).st = ltV m c := by subst h; rfl
theorem lsV_of {n : Nat} (h : n = 75) : lseV (tab0 m) (tab1 m) (stAt m c n).ms (stAt m c n).ss = lsV m c := by subst h; rfl

/-- What a point may leave in a window, given what it found there. -/
def rel : (w : Fin 19) → (t : Fin grid0.N) → (Y X : (spec0 w).block.Idx → Elt F (spec0 w).elt) → Prop := fun
  | 0 | 1 | 2 | 3 | 4 | 5 | 6 | 7 | 8 => fun _ Y X => X = Y
  | 9 | 10 | 11 | 12 | 15 | 16 => fun _ _ _ => True
  | 13 => fun t _ X => t.val = 74 → X = ltV m c
  | 14 => fun t _ X => t.val = 74 → X = lsV m c
  | 17 => fun t Y X => (t.val = 0 → X = codesV (a2 m c) (a4 m c)) ∧ (t.val ≠ 0 → X = Y)
  | 18 => fun t Y X => (t.val = 0 → X = scaleV (a2 m c) (a4 m c)) ∧ (t.val ≠ 0 → X = Y)
  | ⟨_ + 19, h⟩ => absurd h (Nat.not_lt.2 (Nat.le_add_left _ _))

/-- The scratch buffers before point `n`: from the second point on at the state the points before it leave. -/
def scratch (n : Nat) : sProp 𝕄 :=
  iprop(∃ S : St F, ⌜n ≠ 0 → S = stAt m c n⌝ ∗ owns (c : Thread nD τ) (Memref.whole cc0_scratch0) fullShare S.ht
    ∗ owns (c : Thread nD τ) (Memref.whole cc0_scratch1) fullShare S.cp ∗ owns (c : Thread nD τ) (Memref.whole cc0_scratch2) fullShare S.rs
    ∗ owns (c : Thread nD τ) (Memref.whole cc0_scratch3) fullShare S.mt ∗ owns (c : Thread nD τ) (Memref.whole cc0_scratch4) fullShare S.st
    ∗ owns (c : Thread nD τ) (Memref.whole cc0_scratch5) fullShare S.ms ∗ owns (c : Thread nD τ) (Memref.whole cc0_scratch6) fullShare S.ss
    ∗ ∃ d, owns (c : Thread nD τ) (Memref.whole cc0_scratch7) fullShare d)

/-- The invariant before point `n`. -/
def inv (n : Nat) : sProp 𝕄 :=
  iprop((scratch m c n ∗ ∃ r, prngReg c r) ∗ Pipeline.ΦT (U := UR sig nD τ) pre0 (tabs m) c)

/-- The proof's data. -/
def vdat : RDat τ (Elt F) Unit ℕ (UR sig nD τ) ℕ (cfg0 (adm m 0)) c where
  A w := V m c (Pipeline.arrRef spec0 w)
  after w t Y X := rel m c w t Y X
  Φ t := inv m c t.val
  q _ := fullShare
  owed _ := 0

/-! ## What the body finds in the input windows -/

theorem leaves_0 : ∀ (n : Nat) (h : n < grid0.N) (X), (vdat m c).Leaves 0 ⟨n, h⟩ X → X = a2 m c
  | 0, h, X => fun ⟨Y, hY, hX⟩ => by
    obtain ⟨d, hd⟩ := ((vdat m c).finds_of_fetch (w := 0) (t := ⟨0, h⟩) rfl Y).1 hY
    exact (show X = Y from hX).trans (hd.trans (fetched_0 m c (vdat m c) _ rfl d))
  | n + 1, h, X => fun ⟨Y, hY, hX⟩ => by
    have hf : ((cfg0 (adm m 0)).win 0).fetch ⟨n + 1, h⟩ = false := fetch_const m _ (fun _ _ => rfl) (Nat.succ_ne_zero n)
    rcases ((vdat m c).finds_of_pos hf (Nat.succ_ne_zero n) Y).1 hY with h' | h'
    · exact absurd h' Bool.false_ne_true
    · exact (show X = Y from hX).trans (leaves_0 n (Nat.lt_of_succ_lt h) Y h')

theorem finds_0 (t : Fin grid0.N) (Y) (hY : (vdat m c).Finds 0 t Y) : Y = a2 m c :=
  leaves_0 m c t.val t.isLt Y ⟨Y, hY, rfl⟩

theorem leaves_1 : ∀ (n : Nat) (h : n < grid0.N) (X), (vdat m c).Leaves 1 ⟨n, h⟩ X → X = a3 m c
  | 0, h, X => fun ⟨Y, hY, hX⟩ => by
    obtain ⟨d, hd⟩ := ((vdat m c).finds_of_fetch (w := 1) (t := ⟨0, h⟩) rfl Y).1 hY
    exact (show X = Y from hX).trans (hd.trans (fetched_1 m c (vdat m c) _ rfl d))
  | n + 1, h, X => fun ⟨Y, hY, hX⟩ => by
    have hf : ((cfg0 (adm m 0)).win 1).fetch ⟨n + 1, h⟩ = false := fetch_const m _ (fun _ _ => rfl) (Nat.succ_ne_zero n)
    rcases ((vdat m c).finds_of_pos hf (Nat.succ_ne_zero n) Y).1 hY with h' | h'
    · exact absurd h' Bool.false_ne_true
    · exact (show X = Y from hX).trans (leaves_1 n (Nat.lt_of_succ_lt h) Y h')

theorem finds_1 (t : Fin grid0.N) (Y) (hY : (vdat m c).Finds 1 t Y) : Y = a3 m c :=
  leaves_1 m c t.val t.isLt Y ⟨Y, hY, rfl⟩

theorem leaves_2 : ∀ (n : Nat) (h : n < grid0.N) (X), (vdat m c).Leaves 2 ⟨n, h⟩ X → X = a4 m c
  | 0, h, X => fun ⟨Y, hY, hX⟩ => by
    obtain ⟨d, hd⟩ := ((vdat m c).finds_of_fetch (w := 2) (t := ⟨0, h⟩) rfl Y).1 hY
    exact (show X = Y from hX).trans (hd.trans (fetched_2 m c (vdat m c) _ rfl d))
  | n + 1, h, X => fun ⟨Y, hY, hX⟩ => by
    have hf : ((cfg0 (adm m 0)).win 2).fetch ⟨n + 1, h⟩ = false := fetch_const m _ (fun _ _ => rfl) (Nat.succ_ne_zero n)
    rcases ((vdat m c).finds_of_pos hf (Nat.succ_ne_zero n) Y).1 hY with h' | h'
    · exact absurd h' Bool.false_ne_true
    · exact (show X = Y from hX).trans (leaves_2 n (Nat.lt_of_succ_lt h) Y h')

theorem finds_2 (t : Fin grid0.N) (Y) (hY : (vdat m c).Finds 2 t Y) : Y = a4 m c :=
  leaves_2 m c t.val t.isLt Y ⟨Y, hY, rfl⟩

theorem leaves_3 : ∀ (n : Nat) (h : n < grid0.N) (X), (vdat m c).Leaves 3 ⟨n, h⟩ X → X = a5 m c
  | 0, h, X => fun ⟨Y, hY, hX⟩ => by
    obtain ⟨d, hd⟩ := ((vdat m c).finds_of_fetch (w := 3) (t := ⟨0, h⟩) rfl Y).1 hY
    exact (show X = Y from hX).trans (hd.trans (fetched_3 m c (vdat m c) _ rfl d))
  | n + 1, h, X => fun ⟨Y, hY, hX⟩ => by
    have hf : ((cfg0 (adm m 0)).win 3).fetch ⟨n + 1, h⟩ = false := fetch_const m _ (fun _ _ => rfl) (Nat.succ_ne_zero n)
    rcases ((vdat m c).finds_of_pos hf (Nat.succ_ne_zero n) Y).1 hY with h' | h'
    · exact absurd h' Bool.false_ne_true
    · exact (show X = Y from hX).trans (leaves_3 n (Nat.lt_of_succ_lt h) Y h')

theorem finds_3 (t : Fin grid0.N) (Y) (hY : (vdat m c).Finds 3 t Y) : Y = a5 m c :=
  leaves_3 m c t.val t.isLt Y ⟨Y, hY, rfl⟩

theorem fetch_4 (t : Fin grid0.N) : ((cfg0 (adm m 0)).win 4).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => off_step t h ?_⟩)
    have e' : cc0_transform_4 (grid0.coords t) = cc0_transform_4 (grid0.coords ⟨t.val - 1, Nat.lt_of_le_of_lt (Nat.sub_le _ _) t.isLt⟩) := e
    rw [ix_4, ix_4] at e'
    exact congrFun e' 1

theorem finds_4 (t : Fin grid0.N) (Y) (hY : (vdat m c).Finds 4 t Y) : Y = (blkAt m c t.val).x7 := by
  obtain ⟨d, hd⟩ := ((vdat m c).finds_of_fetch (fetch_4 m t) Y).1 hY
  exact hd.trans (fetched_4 m c (vdat m c) t rfl d)

theorem fetch_5 (t : Fin grid0.N) : ((cfg0 (adm m 0)).win 5).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => off_step t h ?_⟩)
    have e' : cc0_transform_5 (grid0.coords t) = cc0_transform_5 (grid0.coords ⟨t.val - 1, Nat.lt_of_le_of_lt (Nat.sub_le _ _) t.isLt⟩) := e
    rw [ix_5, ix_5] at e'
    exact congrFun e' 1

theorem finds_5 (t : Fin grid0.N) (Y) (hY : (vdat m c).Finds 5 t Y) : Y = (blkAt m c t.val).x8 := by
  obtain ⟨d, hd⟩ := ((vdat m c).finds_of_fetch (fetch_5 m t) Y).1 hY
  exact hd.trans (fetched_5 m c (vdat m c) t rfl d)

theorem fetch_6 (t : Fin grid0.N) : ((cfg0 (adm m 0)).win 6).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => off_step t h ?_⟩)
    have e' : cc0_transform_6 (grid0.coords t) = cc0_transform_6 (grid0.coords ⟨t.val - 1, Nat.lt_of_le_of_lt (Nat.sub_le _ _) t.isLt⟩) := e
    rw [ix_6, ix_6] at e'
    exact congrFun e' 1

theorem finds_6 (t : Fin grid0.N) (Y) (hY : (vdat m c).Finds 6 t Y) : Y = (blkAt m c t.val).x9 := by
  obtain ⟨d, hd⟩ := ((vdat m c).finds_of_fetch (fetch_6 m t) Y).1 hY
  exact hd.trans (fetched_6 m c (vdat m c) t rfl d)

theorem fetch_7 (t : Fin grid0.N) : ((cfg0 (adm m 0)).win 7).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => off_step t h ?_⟩)
    have e' : cc0_transform_7 (grid0.coords t) = cc0_transform_7 (grid0.coords ⟨t.val - 1, Nat.lt_of_le_of_lt (Nat.sub_le _ _) t.isLt⟩) := e
    rw [ix_7, ix_7] at e'
    exact congrFun e' 0

theorem finds_7 (t : Fin grid0.N) (Y) (hY : (vdat m c).Finds 7 t Y) : Y = (blkAt m c t.val).x10 := by
  obtain ⟨d, hd⟩ := ((vdat m c).finds_of_fetch (fetch_7 m t) Y).1 hY
  exact hd.trans (fetched_7 m c (vdat m c) t rfl d)

theorem fetch_8 (t : Fin grid0.N) : ((cfg0 (adm m 0)).win 8).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => off_step t h ?_⟩)
    have e' : cc0_transform_8 (grid0.coords t) = cc0_transform_8 (grid0.coords ⟨t.val - 1, Nat.lt_of_le_of_lt (Nat.sub_le _ _) t.isLt⟩) := e
    rw [ix_8, ix_8] at e'
    exact congrFun e' 1

theorem finds_8 (t : Fin grid0.N) (Y) (hY : (vdat m c).Finds 8 t Y) : Y = (blkAt m c t.val).x11 := by
  obtain ⟨d, hd⟩ := ((vdat m c).finds_of_fetch (fetch_8 m t) Y).1 hY
  exact hd.trans (fetched_8 m c (vdat m c) t rfl d)

/-! ## One point -/

set_option maxHeartbeats 2000000 in
/-- The body at a point, from the invariant before it to the one after it. -/
theorem vbody : (vdat m c).BodyObligation (defs₀ (F := F)) Variants.none () Set.univ := by
  unfold RDat.BodyObligation
  intro t Y hY
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  have e6 := finds_6 m c t _ (hY 6)
  have e7 := finds_7 m c t _ (hY 7)
  have e8 := finds_8 m c t _ (hY 8)
  have hb : Blk.mk (F := F) (Y 0) (Y 1) (Y 2) (Y 3) (Y 4) (Y 5) (Y 6) (Y 7) (Y 8) = blkAt m c t.val := by
    rw [e0, e1, e2, e3, e4, e5, e6, e7, e8]; rfl
  rw [bigSep_W0, bigSep_W0]
  rw [show (vdat m c).Φ t.castSucc = inv m c t.val from rfl,
    show (vdat m c).Φ t.succ = inv m c (t.val + 1) from rfl,
    show (vdat m c).owesAt () t.succ = (vdat m c).owesAt () t.castSucc from rfl]
  unfold inv scratch
  rw [tables_eq]
  unfold defs₀; rw [Defs.onTc_tc]
  iintro ⟨⟨⟨⟨%S, %hS, S0, S1, S2, S3, S4, S5, S6, ⟨%s7, S7⟩⟩, Hr⟩, HT0, HT1⟩, Ho, H0, H1, H2, H3, H4, H5, H6, H7, H8, H9, H10, H11, H12, H13, H14, H15, H16, H17, H18⟩
  have hp : pointStep (grid0.coords t) (tab0 m) (tab1 m) (Blk.mk (F := F) (Y 0) (Y 1) (Y 2) (Y 3) (Y 4) (Y 5) (Y 6) (Y 7) (Y 8))
      (St.mk S.ht S.cp S.rs S.mt S.st S.ms S.ss) = stAt m c (t.val + 1) := by
    rw [hb, stAt_succ]
    by_cases h : t.val = 0
    · exact pointStep_first _ ((cond1_iff t).2 h) _ _ _ _ _
    · rw [← hS h]
  iapply (body_vals c (grid0.coords t) fullShare.right fullShare.right _ _ _ _ _ _ _ _ _ _ _ _ _ _ _ _ _ _ _ _ _ _ _ _ _ _ _ _ _ _ _ _ _ _ _ _ _ _ _ _ _ _ _ _ _ _ _ _ _ _ _ _ _ _ _ _ _ _ (tab0 m) (tab1 m) (Y 0) (Y 1) (Y 2) (Y 3) (Y 4) (Y 5) (Y 6) (Y 7) (Y 8) (Y 13) (Y 14) (Y 17) (Y 18) S.ht S.cp S.rs S.mt S.st S.ms S.ss _)
  rw [hp]
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexists _; iexact H15
  isplitl [H16]; · iexists _; iexact H16
  isplitl [H17]; · iexact H17
  isplitl [H18]; · iexact H18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexists _; iexact S7
  iintro ⟨HT0, HT1, H0, H1, H2, H3, H4, H5, H6, H7, H8, ⟨%d9, H9⟩, ⟨%d10, H10⟩, ⟨%d11, H11⟩, ⟨%d12, H12⟩, H13, H14, ⟨%d15, H15⟩, ⟨%d16, H16⟩, H17, H18, S0, S1, S2, S3, S4, S5, S6, ⟨%e7', S7⟩⟩
  isplitl [HT0 HT1 Hr S0 S1 S2 S3 S4 S5 S6 S7]
  · isplitr [HT0 HT1]
    · isplitr [Hr]
      · iexists (stAt m c (t.val + 1))
        isplitr
        · ipureintro; exact fun _ => rfl
        isplitl [S0]; · iexact S0
        isplitl [S1]; · iexact S1
        isplitl [S2]; · iexact S2
        isplitl [S3]; · iexact S3
        isplitl [S4]; · iexact S4
        isplitl [S5]; · iexact S5
        isplitl [S6]; · iexact S6
        iexists _; iexact S7
      · iexact Hr
    · isplitl [HT0]; · iexact HT0
      iexact HT1
  isplitl [Ho]; · iexact Ho
  isplitl [H0]
  · iexists (Y 0); isplitr
    · ipureintro; exact rfl
    · iexact H0
  isplitl [H1]
  · iexists (Y 1); isplitr
    · ipureintro; exact rfl
    · iexact H1
  isplitl [H2]
  · iexists (Y 2); isplitr
    · ipureintro; exact rfl
    · iexact H2
  isplitl [H3]
  · iexists (Y 3); isplitr
    · ipureintro; exact rfl
    · iexact H3
  isplitl [H4]
  · iexists (Y 4); isplitr
    · ipureintro; exact rfl
    · iexact H4
  isplitl [H5]
  · iexists (Y 5); isplitr
    · ipureintro; exact rfl
    · iexact H5
  isplitl [H6]
  · iexists (Y 6); isplitr
    · ipureintro; exact rfl
    · iexact H6
  isplitl [H7]
  · iexists (Y 7); isplitr
    · ipureintro; exact rfl
    · iexact H7
  isplitl [H8]
  · iexists (Y 8); isplitr
    · ipureintro; exact rfl
    · iexact H8
  isplitl [H9]
  · iexists d9; isplitr
    · ipureintro; exact trivial
    · iexact H9
  isplitl [H10]
  · iexists d10; isplitr
    · ipureintro; exact trivial
    · iexact H10
  isplitl [H11]
  · iexists d11; isplitr
    · ipureintro; exact trivial
    · iexact H11
  isplitl [H12]
  · iexists d12; isplitr
    · ipureintro; exact trivial
    · iexact H12
  isplitl [H13]
  · iexists _; isplitr; swap
    · iexact H13
    · ipureintro; exact fun h => (if_pos ((cond6_iff t).2 h)).trans (ltV_of m c (congrArg (· + 1) h))
  isplitl [H14]
  · iexists _; isplitr; swap
    · iexact H14
    · ipureintro; exact fun h => (if_pos ((cond6_iff t).2 h)).trans (lsV_of m c (congrArg (· + 1) h))
  isplitl [H15]
  · iexists d15; isplitr
    · ipureintro; exact trivial
    · iexact H15
  isplitl [H16]
  · iexists d16; isplitr
    · ipureintro; exact trivial
    · iexact H16
  isplitl [H17]
  · iexists _; isplitr; swap
    · iexact H17
    · ipureintro; exact ⟨fun h => (if_pos ((cond1_iff t).2 h)).trans (congrArg₂ codesV e0 e2), fun h => if_neg (fun h' => h ((cond1_iff t).1 h'))⟩
  iexists _; isplitr; swap
  · iexact H18
  ipureintro; exact ⟨fun h => (if_pos ((cond1_iff t).2 h)).trans (congrArg₂ scaleV e0 e2), fun h => if_neg (fun h' => h ((cond1_iff t).1 h'))⟩

/-! ## What the output arrays end with -/

theorem flush_const {w : Fin 19} (hi : ∀ t t' : Fin grid0.N, ((cfg0 (adm m 0)).win w).index t = ((cfg0 (adm m 0)).win w).index t')
    (t : Fin grid0.N) (ht : t.val ≠ 74) : ((cfg0 (adm m 0)).win w).flush t = false := by
  unfold Window.flush
  have hN : ¬ t.val + 1 = grid0.N := fun e => ht (by have := e.trans N_0; omega)
  simp [hN, fun h => hi ⟨t.val + 1, h⟩ t]

theorem leaves_17 : ∀ (n : Nat) (h : n < grid0.N) (X), (vdat m c).Leaves 17 ⟨n, h⟩ X → X = codesV (a2 m c) (a4 m c)
  | 0, h, X => fun ⟨Y, hY, hX⟩ => hX.1 rfl
  | n + 1, h, X => fun ⟨Y, hY, hX⟩ => by
    rcases ((vdat m c).finds_of_pos (w := 17) rfl (Nat.succ_ne_zero n) Y).1 hY with h' | h'
    · have h75 : n + 1 < 75 := by rw [N_0] at h; exact h
      exact absurd ((flush_const m (fun _ _ => rfl) ⟨n, Nat.lt_of_succ_lt h⟩ (by show n ≠ 74; omega)).symm.trans h') Bool.false_ne_true
    · exact (hX.2 (Nat.succ_ne_zero n)).trans (leaves_17 n (Nat.lt_of_succ_lt h) Y h')

theorem leaves_18 : ∀ (n : Nat) (h : n < grid0.N) (X), (vdat m c).Leaves 18 ⟨n, h⟩ X → X = scaleV (a2 m c) (a4 m c)
  | 0, h, X => fun ⟨Y, hY, hX⟩ => hX.1 rfl
  | n + 1, h, X => fun ⟨Y, hY, hX⟩ => by
    rcases ((vdat m c).finds_of_pos (w := 18) rfl (Nat.succ_ne_zero n) Y).1 hY with h' | h'
    · have h75 : n + 1 < 75 := by rw [N_0] at h; exact h
      exact absurd ((flush_const m (fun _ _ => rfl) ⟨n, Nat.lt_of_succ_lt h⟩ (by show n ≠ 74; omega)).symm.trans h') Bool.false_ne_true
    · exact (hX.2 (Nat.succ_ne_zero n)).trans (leaves_18 n (Nat.lt_of_succ_lt h) Y h')

/-- The last point. -/
def tLast : Fin grid0.N := ⟨74, by rw [N_0]; decide⟩

/-- After all points an array holds what the last point's write-back left, if that point writes back. -/
theorem arr_last {cfg : Cfg sig Λ₀} {c : Dev nD} (rd : RDat τ (Elt F) Unit ℕ (UR sig nD τ) ℕ cfg c) (w : Fin cfg.W) (t : Fin cfg.N)
    (hN : cfg.N = t.val + 1) (hf : (cfg.win w).flush t = true) (G) (h : rd.ArrAt w cfg.N G) :
    ∃ G₀ X, rd.Leaves w t X ∧ G = ((cfg.win w).blk t).view.write (Elt F) G₀ ((cfg.win w).cut (cfg.grid.coords t) X) Finset.univ := by
  rw [hN] at h
  unfold RDat.ArrAt at h
  simp only [dif_pos t.isLt, hf, if_true] at h
  obtain ⟨G₀, X, _, hL, e⟩ := h
  exact ⟨G₀, X, hL, e⟩

theorem end_13 (G) (h : (vdat m c).ArrAt 13 grid0.N G) : G = (ltV m c) := by
  obtain ⟨G₀, X, hX, e⟩ := arr_last (vdat m c) 13 tLast N_0 rfl G h
  have hv : X = ltV m c := hX.choose_spec.2 rfl
  subst hv
  rw [e]
  refine funext fun j : S1x256.Idx => ?_
  have hj : ((((cfg0 (adm m 0)).win 13).blk tLast).view.emb j) = j := by
    refine funext fun a => Fin.ext ?_
    fin_cases a
    · show 0 * 1 + 1 * (j 0).val = (j 0).val
      omega
    · show 0 * 256 + 1 * (j 1).val = (j 1).val
      omega
  have hr := congrFun (View.read_write_univ (v := (((cfg0 (adm m 0)).win 13).blk tLast).view) G₀ (((cfg0 (adm m 0)).win 13).cut ((cfg0 (adm m 0)).grid.coords tLast) (ltV m c))) j
  exact (congrArg _ hj.symm).trans hr

theorem end_14 (G) (h : (vdat m c).ArrAt 14 grid0.N G) : G = (lsV m c) := by
  obtain ⟨G₀, X, hX, e⟩ := arr_last (vdat m c) 14 tLast N_0 rfl G h
  have hv : X = lsV m c := hX.choose_spec.2 rfl
  subst hv
  rw [e]
  refine funext fun j : S1x256.Idx => ?_
  have hj : ((((cfg0 (adm m 0)).win 14).blk tLast).view.emb j) = j := by
    refine funext fun a => Fin.ext ?_
    fin_cases a
    · show 0 * 1 + 1 * (j 0).val = (j 0).val
      omega
    · show 0 * 256 + 1 * (j 1).val = (j 1).val
      omega
  have hr := congrFun (View.read_write_univ (v := (((cfg0 (adm m 0)).win 14).blk tLast).view) G₀ (((cfg0 (adm m 0)).win 14).cut ((cfg0 (adm m 0)).grid.coords tLast) (lsV m c))) j
  exact (congrArg _ hj.symm).trans hr

set_option maxHeartbeats 2000000 in
theorem end_17 (G) (h : (vdat m c).ArrAt 17 grid0.N G) : G = (codesV (a2 m c) (a4 m c)) := by
  obtain ⟨G₀, X, hX, e⟩ := arr_last (vdat m c) 17 tLast N_0 rfl G h
  have hv : X = codesV (a2 m c) (a4 m c) := leaves_17 m c 74 _ X hX
  subst hv
  rw [e]
  refine funext fun j : S256x1024.Idx => ?_
  have hj : ((((cfg0 (adm m 0)).win 17).blk tLast).view.emb j) = j := by
    refine funext fun a => Fin.ext ?_
    fin_cases a
    · show 0 * 256 + 1 * (j 0).val = (j 0).val
      omega
    · show 0 * 1024 + 1 * (j 1).val = (j 1).val
      omega
  have hr := congrFun (View.read_write_univ (v := (((cfg0 (adm m 0)).win 17).blk tLast).view) G₀ (((cfg0 (adm m 0)).win 17).cut ((cfg0 (adm m 0)).grid.coords tLast) (codesV (a2 m c) (a4 m c)))) j
  exact (congrArg _ hj.symm).trans hr

theorem end_18 (G) (h : (vdat m c).ArrAt 18 grid0.N G) : G = (scaleV (a2 m c) (a4 m c)) := by
  obtain ⟨G₀, X, hX, e⟩ := arr_last (vdat m c) 18 tLast N_0 rfl G h
  have hv : X = scaleV (a2 m c) (a4 m c) := leaves_18 m c 74 _ X hX
  subst hv
  rw [e]
  refine funext fun j : S1x256.Idx => ?_
  have hj : ((((cfg0 (adm m 0)).win 18).blk tLast).view.emb j) = j := by
    refine funext fun a => Fin.ext ?_
    fin_cases a
    · show 0 * 1 + 1 * (j 0).val = (j 0).val
      omega
    · show 0 * 256 + 1 * (j 1).val = (j 1).val
      omega
  have hr := congrFun (View.read_write_univ (v := (((cfg0 (adm m 0)).win 18).blk tLast).view) G₀ (((cfg0 (adm m 0)).win 18).cut ((cfg0 (adm m 0)).grid.coords tLast) (scaleV (a2 m c) (a4 m c)))) j
  exact (congrArg _ hj.symm).trans hr

/-! ## The launch -/

theorem hin : iprop(Pipeline.ΦA (U := UR sig nD τ) spec0 c ∗ Pipeline.ΦT (U := UR sig nD τ) pre0 (tabs m) c) ⊢ (inv m c 0 : sProp 𝕄) := by
  unfold inv Pipeline.ΦA scratch
  rw [scopedRest0_eq]
  simp only [← owns_whole]
  iintro ⟨⟨HS, Hr⟩, HT⟩
  icases HS with ⟨⟨%s0, S0⟩, ⟨%s1, S1⟩, ⟨%s2, S2⟩, ⟨%s3, S3⟩, ⟨%s4, S4⟩, ⟨%s5, S5⟩, ⟨%s6, S6⟩, ⟨%s7, S7⟩⟩
  isplitr [HT]
  · isplitr [Hr]
    · iexists (St.mk s0 s1 s2 s3 s4 s5 s6)
      isplitr
      · ipureintro; exact fun h => absurd rfl h
      isplitl [S0]; · iexact S0
      isplitl [S1]; · iexact S1
      isplitl [S2]; · iexact S2
      isplitl [S3]; · iexact S3
      isplitl [S4]; · iexact S4
      isplitl [S5]; · iexact S5
      isplitl [S6]; · iexact S6
      iexists _; iexact S7
    · iexact Hr
  · iexact HT

theorem hout (n : Nat) : (inv m c n : sProp 𝕄) ⊢ Pipeline.ΦA (U := UR sig nD τ) spec0 c := by
  unfold inv Pipeline.ΦA scratch
  rw [scopedRest0_eq]
  simp only [← owns_whole]
  iintro ⟨⟨⟨%S, -, S0, S1, S2, S3, S4, S5, S6, S7⟩, Hr⟩, -⟩
  isplitr [Hr]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexact S7
  · iexact Hr

-- the launch theorem's implicit arguments are found by unifying its conclusion with this one, which takes unfolding plain
-- definitions in a metavariable's type
set_option backward.isDefEq.respectTransparency.types false in
set_option maxHeartbeats 800000 in
theorem vrun_main : θ_run defs (onTc (τ := τ) (main (F := F))) (s₀ m ρ)
    (fun r => RDat.FramePost (cfg0 (adm m 0)) (vdat m) (V m) r ∧ r.2.sem = fun _ => 0) :=
  Pipeline.RDat.θ_run_frameP_track (Q' := _) (pcfgs (F := F)) (adm m) 0 launch0 defs₀ Variants.none (vdat m) m ρ main
    (hbody := vbody m) (hshare := fun c w => by unfold RDat.share vdat; split <;> rfl)
    (howed := fun _ _ => rfl) (V := V m) (hmain := hmain m Variants.none) (hA := fun _ _ => rfl)
    (hpf := fun c k => by rw [Subsingleton.elim c 0]; rfl) (hin := fun c => hin m c) (hout := fun c => hout m c _)

/-- The launch leaves the four results at their values and the arguments as they were. -/
theorem vrun : θ_run defs (onTc (τ := τ) (main (F := F))) ⟨m, fun _ => 0, ρ⟩ (fun r => ∀ c : Dev nD,
      r.2.mem ((c.tc : Thread nD τ).loc main_v0_4) = ltV m c
      ∧ r.2.mem ((c.tc : Thread nD τ).loc main_v0_5) = lsV m c
      ∧ r.2.mem ((c.tc : Thread nD τ).loc main_v0_8) = codesV (a2 m c) (a4 m c)
      ∧ r.2.mem ((c.tc : Thread nD τ).loc main_v0_9) = scaleV (a2 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨end_13 m c _ ((h.1 c).1 13), end_14 m c _ ((h.1 c).1 14), end_17 m c _ ((h.1 c).1 17), end_18 m c _ ((h.1 c).1 18),
      (h.1 c).2 main_arg0 (Pipeline.mem_restRefs_of main_arg0 (by decide) (show ∀ w : Fin 19, (spec0 w).arr.view.ref ≠ main_arg0 by decide)),
      (h.1 c).2 main_arg1 (Pipeline.mem_restRefs_of main_arg1 (by decide) (show ∀ w : Fin 19, (spec0 w).arr.view.ref ≠ main_arg1 by decide)),
      RDat.FramePost.arr_in h.1 c 0 rfl,
      RDat.FramePost.arr_in h.1 c 1 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl⟩) (vrun_main m ρ)

end Cert.KernelIdeal.Hand
-- ==== Proof.Inv.lean ====
/-
  The invariant through the points of the grid, and what the lanes hold after the last one.
-/
module

public import proofs.«01_k».proof.Proof.Lanes
public import proofs.«01_k».proof.Proof.ValueRun

@[expose] public section

set_option maxRecDepth 16384

noncomputable section

namespace Cert.KernelIdeal.Hand

open Cert.KernelIdeal Cert.KernelIdeal.Gen Cert.Lse
open Idealize.ShloMosaic Idealize.ShloMosaic.TcCoe

variable (m : (ℓ : Loc nD τ sig) → Buf (Elt Ideal) ℓ) (c : Dev nD)

/-- The teacher's product of row t with column v. -/
def zT (t : Fin 256) (v : Fin 151936) : EReal :=
  ∑ k : Fin 2560, Cert.ReferenceIdeal.Gen.k0_pay8 (F := Ideal) (a3 m c) (a5 m c) (ix2 t k) * wt (a7 m c) (a8 m c) (a6 m c) k v

/-- The student's product of the codes of row t with column v. -/
def zS (t : Fin 256) (v : Fin 151936) : EReal :=
  ∑ k : Fin 1024, Cert.ReferenceIdeal.Gen.k0_pay13 (F := Ideal) (a2 m c) (a4 m c) (ix2 t k) * a9 m c (ix2 v k)

/-- The scale of row t. -/
def scl (t : Fin 256) : EReal := Cert.ReferenceIdeal.Gen.k0_pay12 (F := Ideal) (a2 m c) (a4 m c) (ix1 t)

/-- The teacher's logit, in base 2. -/
def yT (t : Fin 256) (v : Fin 151936) : EReal := zT m c t v * (((2 * Real.log 2)⁻¹ : ℝ) : EReal)

/-- The student's logit, in base 2. -/
def yS (t : Fin 256) (v : Fin 151936) : EReal := zS m c t v * (scl m c t * (((2 * Real.log 2)⁻¹ : ℝ) : EReal)) * a10 m c (ix2 0 v)

/-- Row `d` of the state serves row `t`, the columns below N done. -/
structure Inv (d t : Fin 256) (N : ℕ) (S : St Ideal) : Prop where
  ht : ∀ k, S.ht (ix2 d k) = Cert.ReferenceIdeal.Gen.k0_pay8 (F := Ideal) (a3 m c) (a5 m c) (ix2 t k)
  cp : ∀ k, S.cp (ix2 d k) = Cert.ReferenceIdeal.Gen.k0_pay13 (F := Ideal) (a2 m c) (a4 m c) (ix2 t k)
  rs : ∀ l, S.rs (ix2 d l) = scl m c t * (((2 * Real.log 2)⁻¹ : ℝ) : EReal)
  mt : ∀ l, S.mt (ix2 d l) = mx (yT m c t) (lane l N)
  st : ∀ l, S.st (ix2 d l) = sm (yT m c t) (lane l N) (mx (yT m c t) (lane l N))
  ms : ∀ l, S.ms (ix2 d l) = mx (yS m c t) (lane l N)
  ss : ∀ l, S.ss (ix2 d l) = sm (yS m c t) (lane l N) (mx (yS m c t) (lane l N))

variable {m c}

theorem sel_fresh (n o : ℕ) (ho : o + 512 ≤ 2048) (i : grid0.Coords) (hi : (i 0).val = n) (hn : n < 75) (j : Fin 512) (a b : EReal) :
    Scalar.select (fresh i (BitVec.ofNat 32 o) (ix2 0 j)) a b = if isFresh n ⟨o + j.val, by omega⟩ then a else b := by
  rw [fresh_at i n hi hn o ho j]
  show _ = if 2048 * n ≤ off n + (o + j.val) then a else b
  by_cases h : 2048 * n ≤ off n + (o + j.val)
  · rw [if_pos h, if_pos h, sel_one]
  · rw [if_neg h, if_neg h, sel_zero]

/-- A block of columns keeps the invariant. -/
theorem Inv.blockStep {d t : Fin 256} {S : St Ideal} (i : grid0.Coords) (n o : ℕ) (hi : (i 0).val = n) (hn : n < 75) (ho : o + 512 ≤ 2048)
    (hq : o % 128 = 0) (h : Inv m c d t (max (2048 * n) (off n + o)) S) :
    Inv m c d t (max (2048 * n) (off n + (o + 512))) (blockStep i (blkAt m c n) o ho S) := by
  have hT : ∀ j : Fin 512, logitsT (F := Ideal) (fresh i (BitVec.ofNat 32 o)) S.ht (ldW (blkAt m c n).x7 (blkAt m c n).x8 (blkAt m c n).x9 o ho) (ix2 d j)
      = if isFresh n ⟨o + j.val, by omega⟩ then yT m c t (colAt n ⟨o + j.val, by omega⟩) else ⊥ := by
    intro j
    rw [logitsT_at, sel_fresh n o ho i hi hn j]
    simp only [h.ht, ldW_at]
    rfl
  have hS : ∀ j : Fin 512, logitsS (F := Ideal) (fresh i (BitVec.ofNat 32 o)) S.cp (ldS (blkAt m c n).x10 o ho) S.rs (ldC (blkAt m c n).x11 o ho) (ix2 d j)
      = if isFresh n ⟨o + j.val, by omega⟩ then yS m c t (colAt n ⟨o + j.val, by omega⟩) else ⊥ := by
    intro j
    rw [logitsS_at _ _ _ _ _ _ d h.rs j, sel_fresh n o ho i hi hn j]
    simp only [h.cp]
    rfl
  have kT := fun l => lane_step (yT m c t) _ S.mt S.st d l n o hn ho hq hT (h.mt l) (h.st l)
  have kS := fun l => lane_step (yS m c t) _ S.ms S.ss d l n o hn ho hq hS (h.ms l) (h.ss l)
  exact ⟨h.ht, h.cp, h.rs, fun l => (kT l).1, fun l => (kT l).2, fun l => (kS l).1, fun l => (kS l).2⟩

theorem lane_zero (l : Fin 128) : lane l 0 = ∅ := by
  ext v
  rw [mem_lane]
  simp

theorem pay37_at (d : Fin 256) (l : Fin 128) : k0_pay37 (F := Ideal) (ix2 d l) = (⊥ : EReal) := by
  pointwise [k0_pay37]
  exact masked_eq
theorem pay38_at (d : Fin 256) (l : Fin 128) : k0_pay38 (F := Ideal) (ix2 d l) = (⊥ : EReal) := by
  pointwise [k0_pay38]
  exact masked_eq
theorem pay39_at (d : Fin 256) (l : Fin 128) : k0_pay39 (F := Ideal) (ix2 d l) = (0 : EReal) := by
  pointwise [k0_pay39]
theorem pay40_at (d : Fin 256) (l : Fin 128) : k0_pay40 (F := Ideal) (ix2 d l) = (0 : EReal) := by
  pointwise [k0_pay40]

variable {dest : Fin 256 → Fin 256} (hinj : Function.Injective dest)
  (hbit : ∀ d t, permBits (F := Ideal) (tab0 m) (tab1 m) (ix2 d t) = if d = dest t then 1#1 else 0#1)

include hinj hbit

/-- The first point prepares the state. -/
theorem inv_start (t : Fin 256) (i : grid0.Coords) (hc : k0_cond1 i = 1#1) (n : ℕ) (S : St Ideal) :
    Inv m c (dest t) t 0 (start i (tab0 m) (tab1 m) (blkAt m c n) S) := by
  unfold start
  rw [if_pos hc]
  refine ⟨fun k => htV_at hinj hbit _ _ t k, fun k => cpV_at hinj hbit _ _ t k, fun l => rsV_at hinj hbit _ _ t l,
    fun l => ?_, fun l => ?_, fun l => ?_, fun l => ?_⟩
  · rw [lane_zero]; exact pay37_at (dest t) l
  · rw [lane_zero]; exact pay39_at (dest t) l
  · rw [lane_zero]; exact pay38_at (dest t) l
  · rw [lane_zero]; exact pay40_at (dest t) l

/-- A point keeps the invariant, or the first one makes it. -/
theorem inv_point (t : Fin 256) (n : Fin grid0.N) (S : St Ideal) (h : n.val = 0 ∨ Inv m c (dest t) t (2048 * n.val) S) :
    Inv m c (dest t) t (max (2048 * n.val) (off n.val + 2048))
      (pointStep (grid0.coords n) (tab0 m) (tab1 m) (blkAt m c n.val) S) := by
  have hn : n.val < 75 := lt_of_lt_of_eq n.isLt N_0
  have hoff : max (2048 * n.val) (off n.val + 0) = 2048 * n.val := by unfold off; omega
  have hs : Inv m c (dest t) t (max (2048 * n.val) (off n.val + 0)) (start (grid0.coords n) (tab0 m) (tab1 m) (blkAt m c n.val) S) := by
    rw [hoff]
    by_cases h0 : n.val = 0
    · rw [h0]
      exact inv_start hinj hbit t _ ((cond1_iff n).mpr h0) _ S
    · have hc : ¬ k0_cond1 (grid0.coords n) = 1#1 := fun e => h0 ((cond1_iff n).mp e)
      unfold start
      rw [if_neg hc]
      exact h.resolve_left h0
  have hi := coords0 n
  unfold pointStep
  exact (((hs.blockStep _ _ 0 hi hn (by decide) (by decide)).blockStep _ _ 512 hi hn (by decide) (by decide)).blockStep _ _ 1024 hi hn
    (by decide) (by decide)).blockStep _ _ 1536 hi hn (by decide) (by decide)

theorem inv_stAt (t : Fin 256) : ∀ n : ℕ, n < 75 → (n = 0 ∨ Inv m c (dest t) t (2048 * n) (stAt m c n))
  | 0, _ => Or.inl rfl
  | n + 1, hn => by
    have hN : n < grid0.N := lt_of_lt_of_eq (by omega) N_0.symm
    have h := inv_point hinj hbit t ⟨n, hN⟩ (stAt m c n) (inv_stAt t n (by omega))
    rw [← stAt_succ m c ⟨n, hN⟩] at h
    dsimp only at h
    have e : max (2048 * n) (off n + 2048) = 2048 * (n + 1) := by unfold off; omega
    rw [e] at h
    exact Or.inr h

/-- After the last point every column is done. -/
theorem inv_last (t : Fin 256) : Inv m c (dest t) t 151936 (stAt m c 75) := by
  have hN : 74 < grid0.N := lt_of_lt_of_eq (by decide) N_0.symm
  have h := inv_point hinj hbit t ⟨74, hN⟩ (stAt m c 74) (inv_stAt hinj hbit t 74 (by decide))
  rw [← stAt_succ m c ⟨74, hN⟩] at h
  exact h

end Cert.KernelIdeal.Hand
-- ==== Proof.RefRows.lean ====
/-
  The reference's rows as plain logsumexps.
-/
module

public import proofs.«01_k».proof.Proof.Logits

@[expose] public section

set_option maxRecDepth 16384

noncomputable section

namespace Cert.ReferenceIdeal.Hand

open Cert.ReferenceIdeal Cert.ReferenceIdeal.Gen
open Idealize.ShloMosaic Idealize.ShloMosaic.TcCoe

/-- A row's logsumexp, less the log of the number of columns. -/
def lse {n : ℕ} (u : Fin n → EReal) : EReal :=
  (Finset.univ.sup u + Ideal.log (∑ x, Ideal.exp (u x - Finset.univ.sup u))) - Ideal.ofBits .f32 0x413EE641#32

/-- The text of a logsumexp over the rows of a matrix of any width. -/
theorem lse_rows {n : ℕ} (u : FVec Ideal ⟨2, ![256, n]⟩ .f32) (h : (⟨2, ![256, n]⟩ : Shape).Reduces [1] S256)
    (hb : S256x1.Broadcasts ⟨2, ![256, n]⟩) (t : Fin 256) :
    shapeCast S1x256 (subf (addf (multiReduction .maximumf [1] S256 u 0xFF800000#32 h (.inl rfl) rfl)
      (log (multiReduction .add [1] S256 (exp (subf u (broadcastTo ⟨2, ![256, n]⟩ (shapeCast S256x1
        (multiReduction .maximumf [1] S256 u 0xFF800000#32 h (.inl rfl) rfl) shapeCasts_S256_S256x1) hb))) 0x00000000#32 h (.inl rfl) rfl)))
      (broadcast S256 (Scalar.ofBits .f32 0x413EE641#32))) shapeCasts_S256_S1x256 (ix2 0 t)
    = lse (fun x => u (ix2 t x)) := by
  unfold lse
  rw [← Cert.KernelIdeal.Hand.fold_sup]
  pointwise []

theorem ref1_at (z : FVec Ideal S256x151936 .f32) (t : Fin 256) :
    k0_pay1 (F := Ideal) z (ix2 0 t) = lse (fun v => Ideal.div (z (ix2 t v)) (Ideal.ofBits .f32 0x40000000#32)) :=
  lse_rows (divf z (broadcast S256x151936 (Scalar.ofBits .f32 0x40000000#32))) reduces_S256x151936_S256 broadcasts_S256x1_S256x151936 t

theorem ref2_at (z : FVec Ideal S256x151936 .f32) (w : Vec Ideal S1x151936 .f32) (t : Fin 256) :
    k0_pay2 (F := Ideal) z w (ix2 0 t) = lse (fun v => Ideal.div (z (ix2 t v) * w (ix2 0 v)) (Ideal.ofBits .f32 0x40000000#32)) := by
  have e : ∀ v, broadcastTo S256x151936 w broadcasts_S1x151936_S256x151936 (ix2 t v) = w (ix2 0 v) := fun v => by pointwise []
  refine (lse_rows (divf (mulf z (broadcastTo S256x151936 w broadcasts_S1x151936_S256x151936)) (broadcast S256x151936 (Scalar.ofBits .f32 0x40000000#32)))
    reduces_S256x151936_S256 broadcasts_S256x1_S256x151936 t).trans (congrArg lse (funext fun v => ?_))
  show Ideal.div (z (ix2 t v) * broadcastTo S256x151936 w broadcasts_S1x151936_S256x151936 (ix2 t v)) _ = _
  rw [e]
  rfl

theorem ref14_at (x : Vec Ideal S256x1024 .bf16) (g : Vec Ideal S1x1024 .f32) (w : Vec Ideal S151936x1024 .fp8e4m3) (t : Fin 256) (v : Fin 151936) :
    k0_pay14 (F := Ideal) x g w (ix2 t v) = (∑ k : Fin 1024, k0_pay13 x g (ix2 t k) * w (ix2 v k)) * k0_pay12 x g (ix1 t) := by
  pointwise [k0_pay14]

end Cert.ReferenceIdeal.Hand
-- ==== Proof.Final.lean ====
/-
  The kernel's two rows of logsumexps are the reference's.
-/
module

public import proofs.«01_k».proof.Proof.Inv
public import proofs.«01_k».proof.Proof.RefRows

@[expose] public section

set_option maxRecDepth 16384

noncomputable section

namespace Cert.KernelIdeal.Hand

open Cert.KernelIdeal Cert.KernelIdeal.Gen Cert.Lse
open Idealize.ShloMosaic Idealize.ShloMosaic.TcCoe

/-- The residue of a column. -/
def res (v : Fin 151936) : Fin 128 := ⟨v.val % 128, Nat.mod_lt _ (by decide)⟩

theorem lane_all (l : Fin 128) : lane l 151936 = (Finset.univ : Finset (Fin 151936)).filter fun v => res v = l := by
  refine Finset.filter_congr fun v _ => ?_
  rw [Fin.ext_iff]
  exact ⟨fun h => h.1, fun h => ⟨h, v.isLt⟩⟩

/-- The lanes together: the logsumexp of the row, in base 2, times log 2. -/
theorem lanes_lse (y u : Fin 151936 → EReal) (hu : ∀ v, y v * ((Real.log 2 : ℝ) : EReal) = u v) (M S : Vec Ideal S256x128 .f32) (d : Fin 256)
    (hM : ∀ l, M (ix2 d l) = mx y (lane l 151936)) (hS : ∀ l, S (ix2 d l) = sm y (lane l 151936) (mx y (lane l 151936))) :
    k0_pay3 (F := Ideal) M S (ix2 d 0) * ((Real.log 2 : ℝ) : EReal) - Ideal.ofBits .f32 0x413EE641#32 = Cert.ReferenceIdeal.Hand.lse u := by
  have h2 : Real.log 2 ≠ 0 := (Real.log_pos (by norm_num)).ne'
  have hl : (((Real.log 2)⁻¹ : ℝ) : EReal) * ((Real.log 2 : ℝ) : EReal) = 1 := by
    rw [← EReal.coe_mul, inv_mul_cancel₀ h2, EReal.coe_one]
  unfold Cert.ReferenceIdeal.Hand.lse
  rw [pay3_at]
  simp only [hM, hS, lane_all]
  rw [mx_parts y Finset.univ Finset.univ res (fun v _ => Finset.mem_univ _), sm_parts y Finset.univ Finset.univ res (fun v _ => Finset.mem_univ _),
    lse_base y u Finset.univ hu _ hl]

theorem ofBits_two : Ideal.ofBits .f32 0x40000000#32 = ((2 : ℝ) : EReal) := by
  simp [Ideal.ofBits, Ideal.ieee, -EReal.coe_mul]; norm_num

/-- Halving is scaling by half of log₂ e, then by log 2. -/
theorem half_eq (z : EReal) : z * ((((2 * Real.log 2)⁻¹ : ℝ) : EReal) * ((Real.log 2 : ℝ) : EReal)) = Ideal.div z (Ideal.ofBits .f32 0x40000000#32) := by
  have h2 : Real.log 2 ≠ 0 := (Real.log_pos (by norm_num)).ne'
  rw [ofBits_two, Ideal.div_coe (by norm_num), ← EReal.coe_mul]
  refine congrArg (fun r : ℝ => z * (r : EReal)) ?_
  field_simp

variable (m : (ℓ : Loc nD τ sig) → Buf (Elt Ideal) ℓ) (c : Dev nD)

/-- The teacher's row, entry by entry. -/
theorem lt_at (t : Fin 256) : ltV m c (ix2 0 t) = Cert.ReferenceIdeal.Gen.k0_pay1 (F := Ideal) (Cert.ReferenceIdeal.Gen.k0_pay10
    (Cert.ReferenceIdeal.Gen.k0_pay7 (a8 m c) (a7 m c) (a6 m c)) (Cert.ReferenceIdeal.Gen.k0_pay8 (a3 m c) (a5 m c))
    (Cert.ReferenceIdeal.Gen.k0_pay9 (a8 m c) (a7 m c) (a6 m c))) (ix2 0 t) := by
  obtain ⟨dest, hinj, hbit⟩ := permBits_dest (tab0 m) (tab1 m)
  have h := inv_last (c := c) hinj hbit t
  unfold ltV
  rw [lseV_at hinj hbit, Cert.ReferenceIdeal.Hand.ref1_at]
  refine lanes_lse (yT m c t) _ (fun v => ?_) _ _ (dest t) h.mt h.st
  rw [ref_at]
  unfold yT
  rw [mul_assoc, half_eq]
  rfl

/-- The student's row, entry by entry. -/
theorem ls_at (t : Fin 256) : lsV m c (ix2 0 t)
    = Cert.ReferenceIdeal.Gen.k0_pay2 (F := Ideal) (Cert.ReferenceIdeal.Gen.k0_pay14 (a2 m c) (a4 m c) (a9 m c)) (a10 m c) (ix2 0 t) := by
  obtain ⟨dest, hinj, hbit⟩ := permBits_dest (tab0 m) (tab1 m)
  have h := inv_last (c := c) hinj hbit t
  unfold lsV
  rw [lseV_at hinj hbit, Cert.ReferenceIdeal.Hand.ref2_at]
  refine lanes_lse (yS m c t) _ (fun v => ?_) _ _ (dest t) h.ms h.ss
  rw [Cert.ReferenceIdeal.Hand.ref14_at, ← half_eq]
  unfold yS
  show zS m c t v * (scl m c t * (((2 * Real.log 2)⁻¹ : ℝ) : EReal)) * a10 m c (ix2 0 v) * ((Real.log 2 : ℝ) : EReal)
    = zS m c t v * scl m c t * a10 m c (ix2 0 v) * ((((2 * Real.log 2)⁻¹ : ℝ) : EReal) * ((Real.log 2 : ℝ) : EReal))
  rw [← mul_assoc (zS m c t v), mul_right_comm (zS m c t v * scl m c t), mul_assoc (zS m c t v * scl m c t * a10 m c (ix2 0 v))]

/-- The teacher's row of logsumexps. -/
theorem lt_eq : ltV m c = Cert.ReferenceIdeal.Gen.k0_pay1 (F := Ideal) (Cert.ReferenceIdeal.Gen.k0_pay10
    (Cert.ReferenceIdeal.Gen.k0_pay7 (a8 m c) (a7 m c) (a6 m c)) (Cert.ReferenceIdeal.Gen.k0_pay8 (a3 m c) (a5 m c))
    (Cert.ReferenceIdeal.Gen.k0_pay9 (a8 m c) (a7 m c) (a6 m c))) := by
  refine funext fun j : S1x256.Idx => ?_
  idx_vars j
  obtain rfl : j0 = 0 := Subsingleton.elim _ _
  exact lt_at m c j1

/-- The student's row of logsumexps. -/
theorem ls_eq : lsV m c = Cert.ReferenceIdeal.Gen.k0_pay2 (F := Ideal) (Cert.ReferenceIdeal.Gen.k0_pay14 (a2 m c) (a4 m c) (a9 m c)) (a10 m c) := by
  refine funext fun j : S1x256.Idx => ?_
  idx_vars j
  obtain rfl : j0 = 0 := Subsingleton.elim _ _
  exact ls_at m c j1

/-- The row of scales. -/
theorem scale_eq : scaleV (F := Ideal) (a2 m c) (a4 m c) = Cert.ReferenceIdeal.Gen.k0_pay3 (Cert.ReferenceIdeal.Gen.k0_pay12 (a2 m c) (a4 m c)) := by
  refine funext fun j : S1x256.Idx => ?_
  idx_vars j
  obtain rfl : j0 = 0 := Subsingleton.elim _ _
  rw [scale_at]
  pointwise [Cert.ReferenceIdeal.Gen.k0_pay3]

end Cert.KernelIdeal.Hand
-- ==== Proof.GradRun.lean ====
/-
  The body of the gradient call, run once on whole buffers: it ends, it gives every buffer back, and it leaves the
  tables and the input blocks as they were. What it leaves in the loss block and in the two running sums is
  found by the run.
-/
module

public import proofs.«01_k».proof.Proof.Gen.GradientIdeal.Launch
public import proofs.«01_k».proof.Proof.Gen.GradientIdeal.Skeleton
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.GradientIdeal.Hand

open Cert.GradientIdeal Cert.GradientIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 4000000 in
set_option sl_exec.resultNames true in
/-- The body at any grid point on whole buffers, with the values it leaves found by the run. -/
def bodyRun (c : Dev nD) (i : grid0.Coords) (q1 q2 q3 : PosShare TreeShare) (arg1 : Memref sig .tc .smem S2 .i32) (harg1 : arg1.IsWhole) (arg2 : Memref sig .tc .smem S2 .i32) (harg2 : arg2.IsWhole) (arg3 : Memref sig .tc .smem S1 .i32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2048x1024 .fp8e4m3) (harg12 : arg12.IsWhole) (arg13 : Memref sig .tc .vmem S1x2048 .f32) (harg13 : arg13.IsWhole) (arg14 : Memref sig .tc .vmem S1x256 .f32) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S2x256x1024 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S2048x1024 .bf16) (harg20 : arg20.IsWhole) (arg21 : Memref sig .tc .vmem S256x2048 .bf16) (harg21 : arg21.IsWhole)
    (x1 : Vec F S2 .i32) (x2 : Vec F S2 .i32) (x3 : Vec F S1 .i32) (x4 : Vec F S256x1024 .bf16) (x5 : Vec F S1x1024 .f32) (x6 : Vec F S256x128 .f32) (x7 : Vec F S256x128 .f32) (x8 : Vec F S128x2048 .f32) (x9 : Vec F S128x2048 .f32) (x10 : Vec F S128x2048 .f32) (x11 : Vec F S128x2048 .f32) (x12 : Vec F S2048x1024 .fp8e4m3) (x13 : Vec F S1x2048 .f32) (x14 : Vec F S1x256 .f32) (x18 : Vec F S256x128 .f32) (x19 : Vec F S256x128 .f32) : { out : Vec F S1x256 .f32 × Vec F S256x128 .f32 × Vec F S256x128 .f32 // ∀ K : PUnit → sProp 𝕄,
    iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare x18 ∗ owns (c : Thread nD τ) arg19 fullShare x19 ∗ (∃ d, owns (c : Thread nD τ) arg20 fullShare d) ∗ (∃ d, owns (c : Thread nD τ) arg21 fullShare d)
        ∗ (iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare out.1 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare out.2.1 ∗ owns (c : Thread nD τ) arg19 fullShare out.2.2 ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_gkd_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨(?_, ?_, ?_), fun K => ?run⟩
  rotate_left 3
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%d20, %f20, -, H20⟩, ⟨%d21, %f21, -, H21⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg18.eq_unread hf18
  obtain rfl := harg19.eq_unread hf19
  sl_exec_parts!
  sl_step
  iapply Hk
  any_goals (isplitl [H1]; iexists _; isplitr; (ipureintro; exact hf1); iexact H1)
  any_goals (isplitl [H2]; iexists _; isplitr; (ipureintro; exact hf2); iexact H2)
  any_goals (isplitl [H3]; iexists _; isplitr; (ipureintro; exact hf3); iexact H3)
  any_goals (isplitl [H4]; iexists _; isplitr; (ipureintro; exact hf4); iexact H4)
  any_goals (isplitl [H5]; iexists _; isplitr; (ipureintro; exact hf5); iexact H5)
  any_goals (isplitl [H6]; iexists _; isplitr; (ipureintro; exact hf6); iexact H6)
  any_goals (isplitl [H7]; iexists _; isplitr; (ipureintro; exact hf7); iexact H7)
  any_goals (isplitl [H8]; iexists _; isplitr; (ipureintro; exact hf8); iexact H8)
  any_goals (isplitl [H9]; iexists _; isplitr; (ipureintro; exact hf9); iexact H9)
  any_goals (isplitl [H10]; iexists _; isplitr; (ipureintro; exact hf10); iexact H10)
  any_goals (isplitl [H11]; iexists _; isplitr; (ipureintro; exact hf11); iexact H11)
  any_goals (isplitl [H12]; iexists _; isplitr; (ipureintro; exact hf12); iexact H12)
  any_goals (isplitl [H13]; iexists _; isplitr; (ipureintro; exact hf13); iexact H13)
  any_goals (isplitl [H14]; iexists _; isplitr; swap; iexact H14; ipureintro; rfl)
  any_goals (isplitl [H15]; iexists _, _; isplitr; swap; iexact H15; ipureintro; rfl)
  any_goals (isplitl [H16]; iexists _, _; isplitr; swap; iexact H16; ipureintro; rfl)
  any_goals (isplitl [H17]; iexists _, _; isplitr; swap; iexact H17; ipureintro; rfl)
  any_goals (isplitl [H18]; iexists _; isplitr; swap; iexact H18; ipureintro; rfl)
  any_goals (isplitl [H19]; iexists _; isplitr; swap; iexact H19; ipureintro; rfl)
  any_goals (isplitl [H20]; iexists _, _; isplitr; swap; iexact H20; ipureintro; rfl)
  any_goals (iexists _, _; isplitr; swap; iexact H21; ipureintro; rfl)

end Cert.GradientIdeal.Hand
-- ==== Proof.GradStep.lean ====
/-
  One grid point of the gradient call as plain functions of its blocks: the two running sums, and the losses at the last point.
-/
module

public import proofs.«01_k».proof.Proof.GradRun
public import proofs.«01_k».proof.Proof.Reads

@[expose] public section

set_option maxRecDepth 16384

noncomputable section

namespace Cert.GradientIdeal.Hand

open Cert.GradientIdeal Cert.GradientIdeal.Gen
open Idealize.ShloMosaic Idealize.ShloMosaic.TcCoe

variable {F : FTy → Type} [FloatOps F] [Named F]

/-! ## Plain functions -/

/-- A word of a table. -/
def word (x : Vec F S2 .i32) (k : Fin 2) : BitVec 32 := x (ix1 k)

/-- A half of 128 rows, from row `o` on. -/
def half (x : Vec F S256x128 .f32) (o : Nat) (ho : o + 128 ≤ 256) : Vec F S128x128 .f32 :=
  fun j => x (ix2 ⟨o + (j 0).val, by have : (j 0).val < 128 := (j 0).isLt; omega⟩ (j 1))

/-- A tile of 128 columns of a block. -/
def tile (x : Vec F S128x2048 .f32) (k : Fin 16) : Vec F S128x128 .f32 :=
  fun j => x (ix2 (j 0) ⟨128 * k.val + (j 1).val, by have : (j 1).val < 128 := (j 1).isLt; have := k.isLt; omega⟩)

/-- The teacher's sum after one tile. -/
def pfStep (ca cb yt ys pf : Vec F S128x128 .f32) : Vec F S128x128 .f32 := k0_pay222 ca cb pf yt ys
/-- The student's sum after one tile. -/
def qgStep (ca cb yt ys qg : Vec F S128x128 .f32) : Vec F S128x128 .f32 := k0_pay224 ca cb qg yt ys

/-- The sum after the sixteen tiles of a block. -/
def pfBlk (ca cb : Vec F S128x128 .f32) (yt ys : Fin 16 → Vec F S128x128 .f32) (s : Vec F S128x128 .f32) : Vec F S128x128 .f32 :=
  pfStep ca cb (yt 15) (ys 15) (pfStep ca cb (yt 14) (ys 14) (pfStep ca cb (yt 13) (ys 13) (pfStep ca cb (yt 12) (ys 12) (pfStep ca cb (yt 11) (ys 11) (pfStep ca cb (yt 10) (ys 10) (pfStep ca cb (yt 9) (ys 9) (pfStep ca cb (yt 8) (ys 8) (pfStep ca cb (yt 7) (ys 7) (pfStep ca cb (yt 6) (ys 6) (pfStep ca cb (yt 5) (ys 5) (pfStep ca cb (yt 4) (ys 4) (pfStep ca cb (yt 3) (ys 3) (pfStep ca cb (yt 2) (ys 2) (pfStep ca cb (yt 1) (ys 1) (pfStep ca cb (yt 0) (ys 0) s)))))))))))))))

/-- The sum after the sixteen tiles of a block. -/
def qgBlk (ca cb : Vec F S128x128 .f32) (yt ys : Fin 16 → Vec F S128x128 .f32) (s : Vec F S128x128 .f32) : Vec F S128x128 .f32 :=
  qgStep ca cb (yt 15) (ys 15) (qgStep ca cb (yt 14) (ys 14) (qgStep ca cb (yt 13) (ys 13) (qgStep ca cb (yt 12) (ys 12) (qgStep ca cb (yt 11) (ys 11) (qgStep ca cb (yt 10) (ys 10) (qgStep ca cb (yt 9) (ys 9) (qgStep ca cb (yt 8) (ys 8) (qgStep ca cb (yt 7) (ys 7) (qgStep ca cb (yt 6) (ys 6) (qgStep ca cb (yt 5) (ys 5) (qgStep ca cb (yt 4) (ys 4) (qgStep ca cb (yt 3) (ys 3) (qgStep ca cb (yt 2) (ys 2) (qgStep ca cb (yt 1) (ys 1) (qgStep ca cb (yt 0) (ys 0) s)))))))))))))))

/-- The two running sums. -/
structure Acc (F : FTy → Type) where
  pf : Vec F S256x128 .f32
  qg : Vec F S256x128 .f32

/-- The sums as a point starts: zero at the first point. -/
def start (i : grid0.Coords) (S : Acc F) : Acc F :=
  if bodyRun.sl.v20 i = 1#1 then ⟨bodyRun.sl.v694, bodyRun.sl.v694⟩ else S

/-- Whether the second half of the rows holds tokens. -/
def bothBit (x1 x2 : Vec F S2 .i32) : BitVec 1 :=
  Scalar.cmpi .sgt (Scalar.addi
    (Scalar.maxsi (Scalar.subi (Scalar.minsi 128#32 (Scalar.maxsi 0#32 (word x2 0))) (Scalar.minsi 128#32 (Scalar.maxsi 0#32 (word x1 0)))) 0#32)
    (Scalar.maxsi (Scalar.subi (Scalar.minsi 128#32 (Scalar.maxsi 0#32 (word x2 1))) (Scalar.minsi 128#32 (Scalar.maxsi 0#32 (word x1 1)))) 0#32)) 128#32

/-- Two halves put together; the second is taken only under a condition. -/
def halves (p : Prop) [Decidable p] (u v : Vec F S128x128 .f32) (s : Vec F S256x128 .f32) : Vec F S256x128 .f32 := fun j =>
  if h : (j 0).val < 128 then u (ix2 ⟨(j 0).val, h⟩ (j 1))
  else if p then v (ix2 ⟨(j 0).val - 128, by have : (j 0).val < 256 := (j 0).isLt; omega⟩ (j 1))
  else s j

/-- The sums after a point. -/
def point (i : grid0.Coords) (x1 x2 : Vec F S2 .i32) (x6 x7 : Vec F S256x128 .f32) (x8 x9 x10 x11 : Vec F S128x2048 .f32)
    (S : Acc F) : Acc F where
  pf := halves (bothBit x1 x2 = 1#1)
    (pfBlk (k0_pay216 (half x6 0 (by omega))) (half x7 0 (by omega)) (tile x8) (tile x10) (half (start i S).pf 0 (by omega)))
    (pfBlk (k0_pay216 (half x6 128 (by omega))) (half x7 128 (by omega)) (tile x9) (tile x11) (half (start i S).pf 128 (by omega)))
    (start i S).pf
  qg := halves (bothBit x1 x2 = 1#1)
    (qgBlk (k0_pay216 (half x6 0 (by omega))) (half x7 0 (by omega)) (tile x8) (tile x10) (half (start i S).qg 0 (by omega)))
    (qgBlk (k0_pay216 (half x6 128 (by omega))) (half x7 128 (by omega)) (tile x9) (tile x11) (half (start i S).qg 128 (by omega)))
    (start i S).qg

/-- Where each token's row is placed. -/
def permV (x1 x2 : Vec F S2 .i32) : IVec S256x256 1 :=
  k0_pay174 k0_pay167 (k0_pay168 (F := F) (word x1 0) (word x1 1)) (k0_pay169 (F := F) (word x1 0) (word x2 0) (word x1 1) (word x2 1))
    (k0_pay170 (F := F) (word x1 0) (word x2 0) (word x1 1) (word x2 1)) (k0_pay171 (F := F) (word x1 0) (word x2 0))
    (k0_pay172 (F := F) (word x1 0) (word x2 0)) (k0_pay173 (F := F) (word x1 0) (word x2 0) (word x1 1) (word x2 1))

/-- The losses from the two sums. -/
def lossV (x1 x2 : Vec F S2 .i32) (x3 : Vec F S1 .i32) (S : Acc F) : Vec F S1x256 .f32 :=
  k0_pay178 (permV x1 x2) (k0_pay176 S.qg S.pf) (k0_pay177 (x3 (ix1 (0 : Fin 1))))
    (iota .tc S1x256 32 [1] iota_S1x256_d1_w32)
    (Scalar.minsi 128#32 (Scalar.maxsi 0#32 (word x1 0)))
    (Scalar.maxsi (Scalar.subi (Scalar.minsi 128#32 (Scalar.maxsi 0#32 (word x2 0))) (Scalar.minsi 128#32 (Scalar.maxsi 0#32 (word x1 0)))) 0#32)
    (Scalar.minsi 128#32 (Scalar.maxsi 0#32 (word x1 1))) (word x2 1)

/-! ## What the loads read -/

theorem rd_word {m : Memref sig .tc .smem S2 .i32} (h : m.IsWhole) (X : Vec F S2 .i32) (k : Fin 2)
    (inb : ∀ a, (![k.val] : Fin 1 → ℕ) a + S1.size a ≤ S2.size a) (z : S1.Idx) :
    View.readAt (Elt F) m.view (Rect.unit (s := S2) ![k.val] S1.size inb).toLoadRect (h.unread X) z = word X k := by
  rw [h.readAt_unread]
  refine congrArg X (funext fun a => ?_)
  have hz : (z 0).val = 0 := by
    have : (z 0).val < 1 := (z 0).isLt
    omega
  match a with
  | ⟨0, _⟩ => exact Fin.ext (show k.val + 1 * (z 0).val = k.val by omega)

theorem rd_word1 {m : Memref sig .tc .smem S1 .i32} (h : m.IsWhole) (X : Vec F S1 .i32)
    (inb : ∀ a, (![0] : Fin 1 → ℕ) a + S1.size a ≤ S1.size a) (z : S1.Idx) :
    View.readAt (Elt F) m.view (Rect.unit (s := S1) ![0] S1.size inb).toLoadRect (h.unread X) z = X (ix1 (0 : Fin 1)) := by
  rw [h.readAt_unread]
  refine congrArg X (funext fun a => ?_)
  have hz : (z 0).val = 0 := by
    have : (z 0).val < 1 := (z 0).isLt
    omega
  match a with
  | ⟨0, _⟩ => exact Fin.ext (show 0 + 1 * (z 0).val = 0 by omega)

theorem rd_half {m : Memref sig .tc .vmem S256x128 .f32} (h : m.IsWhole) (X : Vec F S256x128 .f32) (o : Nat)
    (inb : ∀ a, (![o, 0] : Fin 2 → ℕ) a + S128x128.size a ≤ S256x128.size a) (ho : o + 128 ≤ 256) :
    View.readAt (Elt F) m.view (Rect.unit (s := S256x128) ![o, 0] S128x128.size inb).toLoadRect (h.unread X) = half X o ho := by
  funext z
  rw [h.readAt_unread]
  refine congrArg X (funext fun a => ?_)
  match a with
  | ⟨0, _⟩ => exact Fin.ext (show o + 1 * (z 0).val = o + (z 0).val by omega)
  | ⟨1, _⟩ => exact Fin.ext (show 0 + 1 * (z 1).val = (z 1).val by omega)

theorem inb_tile (k : Fin 16) (a : Fin 2) : (![0, 128 * k.val] : Fin 2 → ℕ) a + S128x128.size a ≤ S128x2048.size a := by
  have := k.isLt
  fin_cases a
  · show 0 + 128 ≤ 128
    omega
  · show 128 * k.val + 128 ≤ 2048
    omega

/-- The load of a tile. -/
def ldTile {m : Memref sig .tc .vmem S128x2048 .f32} (h : m.IsWhole) (X : Vec F S128x2048 .f32) (k : Fin 16) : Vec F S128x128 .f32 :=
  View.readAt (Elt F) m.view (Rect.unit (s := S128x2048) ![0, 128 * k.val] S128x128.size (inb_tile k)).toLoadRect (h.unread X)

theorem rd_tile {m : Memref sig .tc .vmem S128x2048 .f32} (h : m.IsWhole) (X : Vec F S128x2048 .f32) : ldTile h X = tile X := by
  funext k z
  unfold ldTile
  rw [h.readAt_unread]
  refine congrArg X (funext fun a => ?_)
  match a with
  | ⟨0, _⟩ => exact Fin.ext (show 0 + 1 * (z 0).val = (z 0).val by omega)
  | ⟨1, _⟩ => exact Fin.ext (show 128 * k.val + 1 * (z 1).val = 128 * k.val + (z 1).val by omega)

/-- A store of the whole buffer under a condition makes the buffer what it reads. -/
theorem start_unread {m : Memref sig .tc .vmem S256x128 .f32} (h : m.IsWhole) (X w : Vec F S256x128 .f32) (p : Prop) [Decidable p]
    (inb : ∀ a, (![0, 0] : Fin 2 → ℕ) a + S256x128.size a ≤ S256x128.size a) :
    (if hc : p then m.view.writes (Elt F) (h.unread X) [⟨Rect.unit (s := S256x128) ![0, 0] S256x128.size inb, w⟩] else h.unread X)
      = h.unread (if p then w else X) := by
  by_cases hp : p
  · rw [dif_pos hp, if_pos hp]
    exact h.eq_unread (View.read_writes_full m.view _ inb w [])
  · rw [dif_neg hp, if_neg hp]

/-- A store of the first half, then under a condition of the second. -/
theorem halves_read {m : Memref sig .tc .vmem S256x128 .f32} (h : m.IsWhole) (s : Vec F S256x128 .f32) (u v : Vec F S128x128 .f32)
    (p : Prop) [Decidable p]
    (i0 : ∀ a, (![0, 0] : Fin 2 → ℕ) a + S128x128.size a ≤ S256x128.size a)
    (i1 : ∀ a, (![128, 0] : Fin 2 → ℕ) a + S128x128.size a ≤ S256x128.size a) :
    View.read (Elt F) m.view (if hc : p then m.view.writes (Elt F) (h.unread s)
          [⟨Rect.unit (s := S256x128) ![128, 0] S128x128.size i1, v⟩, ⟨Rect.unit (s := S256x128) ![0, 0] S128x128.size i0, u⟩]
        else m.view.writes (Elt F) (h.unread s) [⟨Rect.unit (s := S256x128) ![0, 0] S128x128.size i0, u⟩])
      = halves p u v s := by
  refine funext fun y : S256x128.Idx => ?_
  have y0 : (y 0).val < 256 := (y 0).isLt
  have low : ∀ L, (hy : (y 0).val < 128) → View.read (Elt F) m.view (m.view.writes (Elt F) (h.unread s)
      (⟨Rect.unit (s := S256x128) ![0, 0] S128x128.size i0, u⟩ :: L)) y = u (ix2 ⟨(y 0).val, hy⟩ (y 1)) := fun L hy =>
    View.read_writes_cons_rows_of_mem m.view _ i0 u L y (ix2 ⟨(y 0).val, hy⟩ (y 1)) rfl (Nat.zero_add _).symm rfl
  have high : ¬ (y 0).val < 128 → View.read (Elt F) m.view (m.view.writes (Elt F) (h.unread s)
      [⟨Rect.unit (s := S256x128) ![0, 0] S128x128.size i0, u⟩]) y = s y := fun hy => by
    refine (View.read_writes_cons_rows_of_not_mem (W := 128) m.view _ i0 u [] y rfl rfl (.inr (by omega))).trans ?_
    exact congrFun (h.read_unread s) y
  unfold halves
  by_cases hp : p
  · rw [dif_pos hp]
    by_cases hy : (y 0).val < 128
    · rw [dif_pos hy]
      refine (View.read_writes_cons_rows_of_not_mem (W := 128) m.view _ i1 v _ y rfl rfl (.inl hy)).trans ?_
      exact low [] hy
    · rw [dif_neg hy, if_pos hp]
      exact View.read_writes_cons_rows_of_mem m.view _ i1 v _ y (ix2 ⟨(y 0).val - 128, by omega⟩ (y 1)) rfl
        (by show (y 0).val = 128 + ((y 0).val - 128); omega) rfl
  · rw [dif_neg hp]
    by_cases hy : (y 0).val < 128
    · rw [dif_pos hy]
      exact low [] hy
    · rw [dif_neg hy, if_neg hp]
      exact high hy

end Cert.GradientIdeal.Hand
-- ==== Proof.GradPerm.lean ====
/-
  Where the losses of the gradient call are read from: the row of each token.
-/
module

public import proofs.«01_k».proof.Proof.GradStep
public import proofs.«01_k».proof.Proof.Perm

@[expose] public section

set_option maxRecDepth 16384

noncomputable section

namespace Cert.GradientIdeal.Hand

open Cert.GradientIdeal Cert.GradientIdeal.Gen
open Cert.KernelIdeal.Hand (sge_nat slt_nat eq_nat sub_nat add_nat clip_nat span_nat sel_one sel_zero placeN place_nat destN destN_lt)
open Idealize.ShloMosaic Idealize.ShloMosaic.TcCoe Idealize.ShloMosaic.WordCmp

/-- The bit matrix of the places. -/
theorem perm_at (x1 x2 : Vec Ideal S2 .i32) (p0 q0 p1 q1 : ℕ) (hp0 : p0 ≤ 128) (hq0 : q0 ≤ 128) (hp1 : p1 ≤ 128) (hq1 : q1 ≤ 128)
    (e10 : Scalar.minsi 128#32 (Scalar.maxsi 0#32 (word x1 0)) = BitVec.ofNat 32 p0)
    (e11 : Scalar.minsi 128#32 (Scalar.maxsi 0#32 (word x1 1)) = BitVec.ofNat 32 p1)
    (e20 : Scalar.minsi 128#32 (Scalar.maxsi 0#32 (word x2 0)) = BitVec.ofNat 32 q0)
    (e21 : Scalar.minsi 128#32 (Scalar.maxsi 0#32 (word x2 1)) = BitVec.ofNat 32 q1) (d t : Fin 256) :
    permV (F := Ideal) x1 x2 (ix2 d t) = if d.val = destN p0 (q0 - p0) p1 (q1 - p1) t.val then 1#1 else 0#1 := by
  have s0 := span_nat ⟨q0, by omega⟩ ⟨p0, by omega⟩
  have s1 := span_nat ⟨q1, by omega⟩ ⟨p1, by omega⟩
  dsimp only at s0 s1
  have h0 : p0 + (q0 - p0) ≤ 128 := by omega
  have h1 : p1 + (q1 - p1) ≤ 128 := by omega
  pointwise [permV, k0_pay174, k0_pay173, k0_pay172, k0_pay171, k0_pay170, k0_pay169, k0_pay168, k0_pay167, k0_pay166]
  rw [e10, e11, e20, e21, s0, s1, sge_nat (by omega : t.val < 2 ^ 31) (by omega : 128 < 2 ^ 31)]
  generalize hn0 : q0 - p0 = n0 at *
  generalize hn1 : q1 - p1 = n1 at *
  have key : ∀ w : BitVec 32, w = BitVec.ofNat 32 (destN p0 n0 p1 n1 t.val) →
      IntOp.cmpi .eq (BitVec.ofNat 32 d.val) w = if d.val = destN p0 n0 p1 n1 t.val then 1#1 else 0#1 := by
    intro w hw
    have := destN_lt h0 h1 t.isLt
    rw [hw, eq_nat (by omega) (by omega)]
  refine key _ ?_
  by_cases ht : 128 ≤ t.val
  · simp only [if_pos ht, sel_one]
    have es : IntOp.subi (BitVec.ofNat 32 t.val) 128#32 = BitVec.ofNat 32 (t.val - 128) := sub_nat ht (by omega)
    have eb : IntOp.addi (Scalar.addi (BitVec.ofNat 32 n0) (BitVec.ofNat 32 n1)) (Scalar.subi 128#32 (BitVec.ofNat 32 n0))
        = BitVec.ofNat 32 (n0 + n1 + (128 - n0)) := by
      have e1 : Scalar.addi (BitVec.ofNat 32 n0) (BitVec.ofNat 32 n1) = BitVec.ofNat 32 (n0 + n1) := add_nat _ _
      have e2 : Scalar.subi 128#32 (BitVec.ofNat 32 n0) = BitVec.ofNat 32 (128 - n0) := sub_nat (by omega) (by omega)
      rw [e1, e2, add_nat]
    rw [es, eb]
    refine (place_nat _ _ _ _ _ (by omega) (by omega) (by omega) (by omega) (by omega)).trans ?_
    unfold destN
    rw [if_pos ht]
  · simp only [if_neg ht, sel_zero]
    have eb : IntOp.addi (Scalar.addi (BitVec.ofNat 32 n0) (BitVec.ofNat 32 n1)) 0#32 = BitVec.ofNat 32 (n0 + n1) := by
      have e1 : Scalar.addi (BitVec.ofNat 32 n0) (BitVec.ofNat 32 n1) = BitVec.ofNat 32 (n0 + n1) := add_nat _ _
      rw [e1]
      exact add_nat _ 0
    rw [eb]
    refine (place_nat 0 _ _ _ _ (by omega) (by omega) (by omega) (by omega) (by omega)).trans ?_
    unfold destN
    rw [if_neg ht]

end Cert.GradientIdeal.Hand
-- ==== Proof.GradTok.lean ====
/-
  The tokens' rows as naturals: which tokens count, and the row of each.
-/
module

public import proofs.«01_k».proof.Proof.Perm

@[expose] public section

set_option maxRecDepth 16384

noncomputable section

namespace Cert.Tok

open Cert.KernelIdeal.Hand (sge_nat slt_nat eq_nat sub_nat add_nat clip_nat span_nat sel_one sel_zero placeN place_nat destN destN_lt)
open Idealize.ShloMosaic Idealize.ShloMosaic.TcCoe Idealize.ShloMosaic.WordCmp

/-- A token counts when it lies in the span of its half. -/
def inSpan (p0 q0 p1 q1 t : ℕ) : Prop := if 128 ≤ t then p1 ≤ t - 128 ∧ t - 128 < q1 else p0 ≤ t ∧ t < q0

/-- The row of a token that counts. -/
def rowN (p0 q0 p1 q1 t : ℕ) : ℕ := if 128 ≤ t then (q0 - p0) + (t - 128 - p1) else t - p0

theorem rowN_lt {p0 q0 p1 q1 t : ℕ} (h : inSpan p0 q0 p1 q1 t) : rowN p0 q0 p1 q1 t < (q0 - p0) + (q1 - p1) := by
  unfold inSpan at h
  unfold rowN
  split_ifs at h ⊢ <;> omega

theorem rowN_lt256 {p0 q0 p1 q1 t : ℕ} (hq0 : q0 ≤ 128) (hq1 : q1 ≤ 128) (h : inSpan p0 q0 p1 q1 t) : rowN p0 q0 p1 q1 t < 256 := by
  have := rowN_lt h
  omega

/-- The destination of a token that counts is its row. -/
theorem dest_row {p0 q0 p1 q1 t : ℕ} (h : inSpan p0 q0 p1 q1 t) : destN p0 (q0 - p0) p1 (q1 - p1) t = rowN p0 q0 p1 q1 t := by
  unfold inSpan at h
  unfold destN placeN rowN
  split_ifs at h ⊢ <;> omega

theorem select_if {α : Type} (p : Prop) [Decidable p] (a b : α) : Scalar.select (if p then 1#1 else 0#1) a b = if p then a else b := by
  split <;> rfl

/-- The two orders of clipping. -/
theorem clip_swap (w : BitVec 32) : Scalar.minsi (Scalar.maxsi w 0#32) 128#32 = Scalar.minsi 128#32 (Scalar.maxsi 0#32 w) := by
  have e0 : (0#32).toInt = 0 := by decide
  have e128 : (128#32).toInt = 128 := by decide
  refine BitVec.eq_of_toInt_eq ?_
  simp only [Scalar.minsi, Scalar.maxsi, IntOp.minsi, IntOp.maxsi, BitVec.slt, decide_eq_true_eq, e0, e128]
  split_ifs <;> simp only [e0, e128] at * <;> omega

/-- The bit of a token, from its place in its half. -/
theorem bit_nat {s p n : ℕ} (hs : s < 1000) (hp : p ≤ 1000) (hn : n ≤ 1000) :
    IntOp.andi (IntOp.cmpi .sge (BitVec.ofNat 32 s) (BitVec.ofNat 32 p)) (IntOp.cmpi .slt (BitVec.ofNat 32 s) (BitVec.ofNat 32 n))
      = if p ≤ s ∧ s < n then 1#1 else 0#1 := by
  rw [sge_nat (by omega) (by omega), slt_nat (by omega) (by omega)]
  by_cases h1 : p ≤ s <;> by_cases h2 : s < n <;> simp [h1, h2] <;> rfl

/-- The weight of a token. -/
def wt (b : BitVec 1) (n : BitVec 32) : EReal := Ideal.div (FloatOps.sitofp (F := Ideal) .f32 (BitVec.setWidth 32 b)) ((n.toInt : ℝ) : EReal)

theorem wt_zero {n : BitVec 32} (hn : n ≠ 0#32) : wt 0#1 n = 0 := by
  unfold wt
  have h : (n.toInt : ℝ) ≠ 0 := by
    intro h
    apply hn
    have h0 : n.toInt = 0 := by exact_mod_cast h
    exact BitVec.eq_of_toInt_eq (h0.trans (by decide))
  rw [Ideal.div_coe h]
  have e : FloatOps.sitofp (F := Ideal) .f32 (BitVec.setWidth 32 0#1) = 0 := by
    show (((BitVec.setWidth 32 0#1).toInt : ℝ) : EReal) = 0
    have : (BitVec.setWidth 32 0#1).toInt = 0 := by decide
    rw [this]
    simp
  rw [e, zero_mul]

end Cert.Tok
-- ==== Proof.GradJsd.lean ====
/-
  The generalised Jensen-Shannon divergence of two distributions, in the two ways it is summed: term by term from the
  natural logarithms, and from powers of two with the constants taken out. They agree when both distributions sum to one.
-/
module

public import proofs.«01_k».proof.Proof.Lse

@[expose] public section

noncomputable section

namespace Cert.Jsd

open Idealize.ShloMosaic

/-- A log-probability from a logit and a logsumexp, both in powers of two. -/
def xlog (y l : EReal) : EReal := (y - l) * ((Real.log 2 : ℝ) : EReal)

/-- The logarithm of the mixture, from the two log-probabilities. -/
def logm (x y : EReal) : EReal :=
  max (x + ((Real.log (1 / 4) : ℝ) : EReal)) (y + ((Real.log (3 / 4) : ℝ) : EReal))
    + Ideal.log1p (Ideal.exp (0 - max ((x + ((Real.log (1 / 4) : ℝ) : EReal)) - (y + ((Real.log (3 / 4) : ℝ) : EReal)))
        (-((x + ((Real.log (1 / 4) : ℝ) : EReal)) - (y + ((Real.log (3 / 4) : ℝ) : EReal))))))

/-- The teacher's term of the divergence. -/
def rT (x y : EReal) : EReal := Ideal.exp x * (x - logm x y)
/-- The student's term of the divergence. -/
def rS (x y : EReal) : EReal := Ideal.exp y * (y - logm x y)

/-- The base-two logarithm of the sum of two powers of two. -/
def lg (a b : EReal) : EReal := Ideal.log (max (Ideal.exp2 a + Ideal.exp2 b) ⊥) * (((Real.log 2)⁻¹ : ℝ) : EReal)

/-- The teacher's term, from the exponents. -/
def gT (a b : EReal) : EReal := Ideal.exp2 a * (a - lg a b)
/-- The student's term, from the exponents. -/
def gS (a b : EReal) : EReal := Ideal.exp2 b * ((b - lg a b) * ((((3 : ℝ) / 4) * Real.log 2 : ℝ) : EReal))

/-- The weight of the teacher against the student, as an exponent of two. -/
def odds : ℝ := Real.log (1 / 3) * (Real.log 2)⁻¹

theorem sub_sub_coe (x y : EReal) (o : ℝ) : x - (y - (o : EReal)) = (x - y) + (o : EReal) := by
  induction x with
  | bot => rw [Lse.bot_sub, Lse.bot_sub, EReal.bot_add]
  | top =>
    induction y with
    | bot => simp [sub_eq_add_neg]
    | top => simp [sub_eq_add_neg]
    | coe y =>
      rw [← EReal.coe_sub]
      simp [sub_eq_add_neg, ← EReal.coe_neg, ← EReal.coe_add]
  | coe x =>
    induction y with
    | bot => simp [sub_eq_add_neg]
    | top => simp [sub_eq_add_neg]
    | coe y =>
      rw [← EReal.coe_sub, ← EReal.coe_sub, ← EReal.coe_sub, ← EReal.coe_add]
      congr 1
      ring

theorem log2_pos : (0 : ℝ) < Real.log 2 := Real.log_pos (by norm_num)

theorem exp2_coe' (r : ℝ) : Ideal.exp2 (r : EReal) = ((Real.exp (r * Real.log 2) : ℝ) : EReal) := by
  rw [Ideal.exp2_coe]
  congr 1
  show (2 : ℝ) ^ r = _
  rw [Real.rpow_def_of_pos (by norm_num), mul_comm]

theorem log_pos_coe {r : ℝ} (h : 0 < r) : Ideal.log (r : EReal) = ((Real.log r : ℝ) : EReal) := by
  rw [Ideal.log_coe, if_neg (not_le.mpr h)]

/-- The third of a power of two. -/
theorem exp_odds (u : ℝ) : Real.exp ((u + odds) * Real.log 2) = Real.exp (u * Real.log 2) / 3 := by
  unfold odds
  have h : (u + Real.log (1 / 3) * (Real.log 2)⁻¹) * Real.log 2 = u * Real.log 2 + Real.log (1 / 3) := by
    have := log2_pos.ne'
    field_simp
  rw [h, Real.exp_add, Real.exp_log (by norm_num)]
  ring

theorem lg_real (u v : ℝ) : lg ((u + odds : ℝ) : EReal) (v : EReal)
    = ((Real.log (Real.exp (u * Real.log 2) / 3 + Real.exp (v * Real.log 2)) * (Real.log 2)⁻¹ : ℝ) : EReal) := by
  unfold lg
  rw [exp2_coe', exp2_coe', exp_odds, max_eq_left bot_le, ← EReal.coe_add, log_pos_coe (by positivity), ← EReal.coe_mul]

theorem lg_bot_left (v : ℝ) : lg ⊥ (v : EReal) = (v : EReal) := by
  unfold lg
  rw [exp2_coe', Ideal.exp2_bot, max_eq_left bot_le, zero_add, log_pos_coe (by positivity), ← EReal.coe_mul, Real.log_exp]
  congr 1
  have := log2_pos.ne'
  field_simp

theorem lg_bot_right (v : ℝ) : lg (v : EReal) ⊥ = (v : EReal) := by
  unfold lg
  rw [exp2_coe', Ideal.exp2_bot, max_eq_left bot_le, add_zero, log_pos_coe (by positivity), ← EReal.coe_mul, Real.log_exp]
  congr 1
  have := log2_pos.ne'
  field_simp

theorem logm_real (x y : ℝ) : logm (x : EReal) (y : EReal)
    = ((Real.log (Real.exp x / 4 + 3 * Real.exp y / 4) : ℝ) : EReal) := by
  have key : ∀ A B : ℝ, max (A : EReal) (B : EReal) + Ideal.log1p (Ideal.exp (0 - max ((A : EReal) - (B : EReal)) (-((A : EReal) - (B : EReal)))))
      = ((Real.log (Real.exp A + Real.exp B) : ℝ) : EReal) := by
    intro A B
    have hs : ∀ M N : ℝ, ((M : ℝ) : EReal) + Ideal.log1p (Ideal.exp (((N - M : ℝ) : EReal))) = ((Real.log (Real.exp M + Real.exp N) : ℝ) : EReal) := by
      intro M N
      unfold Ideal.log1p
      rw [Ideal.exp_coe, ← EReal.coe_one, ← EReal.coe_add, log_pos_coe (by positivity), ← EReal.coe_add]
      congr 1
      have e : Real.exp M + Real.exp N = Real.exp M * (1 + Real.exp (N - M)) := by
        rw [mul_add, mul_one, ← Real.exp_add]
        congr 2
        ring
      rw [e, Real.log_mul (Real.exp_pos _).ne' (by positivity), Real.log_exp]
    rw [← EReal.coe_sub, ← EReal.coe_neg]
    rcases le_total A B with h | h
    · have h1 : (A : EReal) ≤ (B : EReal) := EReal.coe_le_coe_iff.mpr h
      have h2 : ((A - B : ℝ) : EReal) ≤ ((-(A - B) : ℝ) : EReal) := EReal.coe_le_coe_iff.mpr (by linarith)
      rw [max_eq_right h1, max_eq_right h2, ← EReal.coe_zero, ← EReal.coe_sub, add_comm (Real.exp A)]
      have := hs B A
      rw [← this]
      congr 4
      ring
    · have h1 : (B : EReal) ≤ (A : EReal) := EReal.coe_le_coe_iff.mpr h
      have h2 : ((-(A - B) : ℝ) : EReal) ≤ ((A - B : ℝ) : EReal) := EReal.coe_le_coe_iff.mpr (by linarith)
      rw [max_eq_left h1, max_eq_left h2, ← EReal.coe_zero, ← EReal.coe_sub]
      have := hs A B
      rw [← this]
      congr 4
      ring
  unfold logm
  rw [← EReal.coe_add, ← EReal.coe_add, key]
  congr 2
  rw [Real.exp_add, Real.exp_add, Real.exp_log (by norm_num), Real.exp_log (by norm_num)]
  ring

theorem logm_bot_left (y : ℝ) : logm ⊥ (y : EReal) = ((y + Real.log (3 / 4) : ℝ) : EReal) := by
  unfold logm
  rw [EReal.bot_add, max_eq_right bot_le, Lse.bot_sub, EReal.neg_bot, max_eq_right bot_le, Lse.sub_top, Ideal.exp_bot, ← EReal.coe_add]
  unfold Ideal.log1p
  rw [add_zero, ← EReal.coe_one, log_pos_coe one_pos, Real.log_one, EReal.coe_zero, add_zero]

theorem logm_bot_right (x : ℝ) : logm (x : EReal) ⊥ = ((x + Real.log (1 / 4) : ℝ) : EReal) := by
  unfold logm
  rw [EReal.bot_add, max_eq_left bot_le, ← EReal.coe_add, sub_eq_add_neg (((x + Real.log (1 / 4) : ℝ) : EReal)) ⊥, EReal.neg_bot,
    EReal.coe_add_top, EReal.neg_top, max_eq_left bot_le, Lse.sub_top, Ideal.exp_bot]
  unfold Ideal.log1p
  rw [add_zero, ← EReal.coe_one, log_pos_coe one_pos, Real.log_one, EReal.coe_zero, add_zero]

theorem ne_top_of_exp {u : EReal} (h : Ideal.exp (u * ((Real.log 2 : ℝ) : EReal)) ≤ 1) : u ≠ ⊤ := by
  rintro rfl
  rw [EReal.top_mul_coe_of_pos log2_pos, Ideal.exp_top] at h
  exact absurd (top_le_iff.mp h) (EReal.coe_ne_top 1)

/-- The terms of one column, both ways, with their probabilities. -/
theorem elem (yt lt ys ls : EReal) (ht : Ideal.exp (xlog yt lt) ≤ 1) (hs : Ideal.exp (xlog ys ls) ≤ 1) :
    ∃ g h r s p q : ℝ, gT (yt - (lt - (odds : EReal))) (ys - ls) = (g : EReal) ∧ gS (yt - (lt - (odds : EReal))) (ys - ls) = (h : EReal)
      ∧ rT (xlog yt lt) (xlog ys ls) = (r : EReal) ∧ rS (xlog yt lt) (xlog ys ls) = (s : EReal)
      ∧ Ideal.exp (xlog yt lt) = (p : EReal) ∧ Ideal.exp (xlog ys ls) = (q : EReal)
      ∧ 3 / 4 * Real.log 2 * g = 1 / 4 * r + p * (1 / 4 * Real.log (1 / 4))
      ∧ h = 3 / 4 * s + q * (3 / 4 * Real.log (3 / 4)) := by
  rw [sub_sub_coe]
  unfold xlog at *
  have hu := ne_top_of_exp ht
  have hv := ne_top_of_exp hs
  generalize yt - lt = u at *
  generalize ys - ls = v at *
  have l2 := log2_pos
  have hb : (⊥ : EReal) * ((Real.log 2 : ℝ) : EReal) = ⊥ := EReal.bot_mul_coe_of_pos l2
  induction u with
  | top => exact absurd rfl hu
  | bot =>
    rw [EReal.bot_add, hb]
    induction v with
    | top => exact absurd rfl hv
    | bot =>
      refine ⟨0, 0, 0, 0, 0, 0, ?_, ?_, ?_, ?_, ?_, ?_, by ring, by ring⟩
      · unfold gT; rw [Ideal.exp2_bot, zero_mul, EReal.coe_zero]
      · unfold gS; rw [Ideal.exp2_bot, zero_mul, EReal.coe_zero]
      · unfold rT; rw [Ideal.exp_bot, zero_mul, EReal.coe_zero]
      · rw [hb]; unfold rS; rw [Ideal.exp_bot, zero_mul, EReal.coe_zero]
      · rw [Ideal.exp_bot, EReal.coe_zero]
      · rw [hb, Ideal.exp_bot, EReal.coe_zero]
    | coe v =>
      rw [← EReal.coe_mul]
      refine ⟨0, 0, 0, Real.exp (v * Real.log 2) * (-Real.log (3 / 4)), 0, Real.exp (v * Real.log 2), ?_, ?_, ?_, ?_, ?_, ?_, by ring, by ring⟩
      · unfold gT; rw [Ideal.exp2_bot, zero_mul, EReal.coe_zero]
      · unfold gS
        rw [lg_bot_left, exp2_coe', ← EReal.coe_sub, ← EReal.coe_mul, ← EReal.coe_mul]
        congr 1
        ring
      · unfold rT; rw [Ideal.exp_bot, zero_mul, EReal.coe_zero]
      · unfold rS
        rw [logm_bot_left, Ideal.exp_coe, ← EReal.coe_sub, ← EReal.coe_mul]
        congr 2
        ring
      · rw [Ideal.exp_bot, EReal.coe_zero]
      · rw [Ideal.exp_coe]
  | coe u =>
    induction v with
    | top => exact absurd rfl hv
    | bot =>
      rw [hb, ← EReal.coe_mul, ← EReal.coe_add]
      refine ⟨0, 0, Real.exp (u * Real.log 2) * (-Real.log (1 / 4)), 0, Real.exp (u * Real.log 2), 0, ?_, ?_, ?_, ?_, ?_, ?_, by ring, by ring⟩
      · unfold gT
        rw [lg_bot_right, exp2_coe', ← EReal.coe_sub, ← EReal.coe_mul]
        congr 1
        ring
      · unfold gS; rw [Ideal.exp2_bot, zero_mul, EReal.coe_zero]
      · unfold rT
        rw [logm_bot_right, Ideal.exp_coe, ← EReal.coe_sub, ← EReal.coe_mul]
        congr 2
        ring
      · unfold rS; rw [Ideal.exp_bot, zero_mul, EReal.coe_zero]
      · rw [Ideal.exp_coe]
      · rw [Ideal.exp_bot, EReal.coe_zero]
    | coe v =>
      rw [← EReal.coe_mul, ← EReal.coe_mul, ← EReal.coe_add]
      have hP := Real.exp_pos (u * Real.log 2)
      have hQ := Real.exp_pos (v * Real.log 2)
      have hM : Real.log (Real.exp (u * Real.log 2) / 3 + Real.exp (v * Real.log 2))
          = Real.log (4 / 3) + Real.log (Real.exp (u * Real.log 2) / 4 + 3 * Real.exp (v * Real.log 2) / 4) := by
        rw [← Real.log_mul (by norm_num) (by positivity)]
        congr 1
        ring
      have h34 : Real.log (3 / 4) = -Real.log (4 / 3) := by
        rw [← Real.log_inv]; norm_num
      have h14 : Real.log (1 / 4) = Real.log (1 / 3) - Real.log (4 / 3) := by
        rw [← Real.log_div (by norm_num) (by norm_num)]; norm_num
      refine ⟨Real.exp (u * Real.log 2) / 3 * ((u + odds) - Real.log (Real.exp (u * Real.log 2) / 3 + Real.exp (v * Real.log 2)) * (Real.log 2)⁻¹),
        Real.exp (v * Real.log 2) * ((v - Real.log (Real.exp (u * Real.log 2) / 3 + Real.exp (v * Real.log 2)) * (Real.log 2)⁻¹) * (3 / 4 * Real.log 2)),
        Real.exp (u * Real.log 2) * (u * Real.log 2 - Real.log (Real.exp (u * Real.log 2) / 4 + 3 * Real.exp (v * Real.log 2) / 4)),
        Real.exp (v * Real.log 2) * (v * Real.log 2 - Real.log (Real.exp (u * Real.log 2) / 4 + 3 * Real.exp (v * Real.log 2) / 4)),
        Real.exp (u * Real.log 2), Real.exp (v * Real.log 2), ?_, ?_, ?_, ?_, Ideal.exp_coe _, Ideal.exp_coe _, ?_, ?_⟩
      rotate_left 4
      · rw [hM, h14]
        unfold odds
        have := l2.ne'
        field_simp
        ring
      · rw [hM, h34]
        have := l2.ne'
        field_simp
        ring
      · unfold gT
        rw [lg_real, exp2_coe', exp_odds, ← EReal.coe_sub, ← EReal.coe_mul]
      · unfold gS
        rw [lg_real, exp2_coe', ← EReal.coe_sub, ← EReal.coe_mul, ← EReal.coe_mul]
      · unfold rT
        rw [logm_real, Ideal.exp_coe, ← EReal.coe_sub, ← EReal.coe_mul]
      · unfold rS
        rw [logm_real, Ideal.exp_coe, ← EReal.coe_sub, ← EReal.coe_mul]

theorem coe_sum {ι : Type} (A : Finset ι) (f : ι → ℝ) : ∑ i ∈ A, (f i : EReal) = ((∑ i ∈ A, f i : ℝ) : EReal) := by
  classical
  induction A using Finset.induction_on with
  | empty => simp
  | insert a A h ih => rw [Finset.sum_insert h, Finset.sum_insert h, ih, EReal.coe_add]

theorem exp_nonneg (x : EReal) : 0 ≤ Ideal.exp x := by
  induction x with
  | bot => simp
  | top => simp
  | coe r =>
    rw [Ideal.exp_coe]
    exact_mod_cast (Real.exp_pos r).le

/-- The divergence of two distributions, both ways. -/
theorem row {ι : Type} [Fintype ι] (yt lt ys ls : ι → EReal) (ht : ∑ i, Ideal.exp (xlog (yt i) (lt i)) = 1)
    (hs : ∑ i, Ideal.exp (xlog (ys i) (ls i)) = 1) :
    (((((3 : ℝ) / 4) * Real.log 2 : ℝ) : EReal) * ∑ i, gT (yt i - (lt i - (odds : EReal))) (ys i - ls i)
        + ∑ i, gS (yt i - (lt i - (odds : EReal))) (ys i - ls i)
        - ((((1 : ℝ) / 4) * Real.log (1 / 4) : ℝ) : EReal)) - ((((3 : ℝ) / 4) * Real.log (3 / 4) : ℝ) : EReal)
      = (((1 : ℝ) / 4 : ℝ) : EReal) * ∑ i, rT (xlog (yt i) (lt i)) (xlog (ys i) (ls i))
        + (((3 : ℝ) / 4 : ℝ) : EReal) * ∑ i, rS (xlog (yt i) (lt i)) (xlog (ys i) (ls i)) := by
  have h := fun i => elem (yt i) (lt i) (ys i) (ls i)
    (by rw [← ht]; exact Finset.single_le_sum (f := fun i => Ideal.exp (xlog (yt i) (lt i))) (fun j _ => exp_nonneg _) (Finset.mem_univ i))
    (by rw [← hs]; exact Finset.single_le_sum (f := fun i => Ideal.exp (xlog (ys i) (ls i))) (fun j _ => exp_nonneg _) (Finset.mem_univ i))
  choose g e r s p q h1 h2 h3 h4 h5 h6 h7 h8 using h
  simp only [h1, h2, h3, h4, h5, h6, coe_sum] at ht hs ⊢
  have ht' : ∑ i, p i = 1 := by exact_mod_cast ht
  have hs' : ∑ i, q i = 1 := by exact_mod_cast hs
  rw [← EReal.coe_mul, ← EReal.coe_mul, ← EReal.coe_mul, ← EReal.coe_add, ← EReal.coe_add, ← EReal.coe_sub, ← EReal.coe_sub]
  congr 1
  rw [Finset.mul_sum, Finset.sum_congr rfl fun i _ => h7 i, Finset.sum_congr rfl fun i _ => h8 i, Finset.sum_add_distrib,
    Finset.sum_add_distrib, ← Finset.sum_mul, ← Finset.sum_mul, ht', hs', ← Finset.mul_sum, ← Finset.mul_sum]
  ring

end Cert.Jsd
-- ==== Proof.GradLossAt.lean ====
/-
  The losses of the gradient call at a token.
-/
module

public import proofs.«01_k».proof.Proof.GradPerm
public import proofs.«01_k».proof.Proof.GradTok
public import proofs.«01_k».proof.Proof.GradJsd
public import proofs.«01_k».proof.Proof.Placed

@[expose] public section

set_option maxRecDepth 16384

noncomputable section

namespace Cert.GradientIdeal.Hand

open Cert.GradientIdeal Cert.GradientIdeal.Gen Cert.Jsd Cert.Tok
open Cert.KernelIdeal.Hand (sge_nat slt_nat eq_nat sub_nat add_nat clip_nat span_nat sel_one sel_zero placeN place_nat destN destN_lt)
open Idealize.ShloMosaic Idealize.ShloMosaic.TcCoe Idealize.ShloMosaic.WordCmp

theorem ln2_34 : Named.named (F := Ideal) κ "student_ln2" (φ := .f32) 0x3F051592#32 = ((((3 : ℝ) / 4) * Real.log 2 : ℝ) : EReal) :=
  IdealRules.named_const.ideal_named_scalar _ _ _ _ rfl
theorem entropy_t : Named.named (F := Ideal) κ "entropy_teacher" (φ := .f32) 0xBEB17218#32 = ((((1 : ℝ) / 4) * Real.log (1 / 4) : ℝ) : EReal) :=
  IdealRules.named_const.ideal_named_scalar _ _ _ _ rfl
theorem entropy_s : Named.named (F := Ideal) κ "entropy_student" (φ := .f32) 0xBE5CF099#32 = ((((3 : ℝ) / 4) * Real.log (3 / 4) : ℝ) : EReal) :=
  IdealRules.named_const.ideal_named_scalar _ _ _ _ rfl

/-- A row's divergence from the two sums. -/
theorem jsd_at (S : Acc Ideal) (d : Fin 256) : k0_pay176 (F := Ideal) S.qg S.pf (ix2 d 0)
    = (((((3 : ℝ) / 4) * Real.log 2 : ℝ) : EReal) * ∑ l, S.pf (ix2 d l) + ∑ l, S.qg (ix2 d l)
        - ((((1 : ℝ) / 4) * Real.log (1 / 4) : ℝ) : EReal)) - ((((3 : ℝ) / 4) * Real.log (3 / 4) : ℝ) : EReal) := by
  pointwise [k0_pay176, k0_pay175]
  rw [ln2_34, entropy_t, entropy_s]

section

variable (x1 x2 : Vec Ideal S2 .i32) (x3 : Vec Ideal S1 .i32) (S : Acc Ideal) (p0 q0 p1 q1 : ℕ) (hp0 : p0 ≤ 128) (hq0 : q0 ≤ 128)
  (hp1 : p1 ≤ 128) (hq1 : q1 ≤ 128)
  (e10 : Scalar.minsi 128#32 (Scalar.maxsi 0#32 (word x1 0)) = BitVec.ofNat 32 p0)
  (e11 : Scalar.minsi 128#32 (Scalar.maxsi 0#32 (word x1 1)) = BitVec.ofNat 32 p1)
  (e20 : Scalar.minsi 128#32 (Scalar.maxsi 0#32 (word x2 0)) = BitVec.ofNat 32 q0)
  (e21 : Scalar.minsi 128#32 (Scalar.maxsi 0#32 (word x2 1)) = BitVec.ofNat 32 q1) (t : Fin 256)

include hp0 hq0 hp1 hq1 e10 e11 e20 e21

/-- A token's loss: its weight times the divergence of its row. -/
theorem lossV_at (b : BitVec 1) (hb : (inSpan p0 q0 p1 q1 t.val ∧ b = 1#1) ∨ (¬ inSpan p0 q0 p1 q1 t.val ∧ b = 0#1)) :
    lossV (F := Ideal) x1 x2 x3 S (ix2 0 t) = wt b (x3 (ix1 0))
      * ∑ d : Fin 256, if d.val = destN p0 (q0 - p0) p1 (q1 - p1) t.val then k0_pay176 (F := Ideal) S.qg S.pf (ix2 d 0) else 0 := by
  have s0 := span_nat ⟨q0, by omega⟩ ⟨p0, by omega⟩
  have s1 := span_nat ⟨q1, by omega⟩ ⟨p1, by omega⟩
  dsimp only at s0 s1
  have ht := t.isLt
  have key : ∀ w : BitVec 1, w = b → Ideal.div (FloatOps.sitofp (F := Ideal) .f32 (BitVec.setWidth 32 w)) (((x3 (ix1 0)).toInt : ℝ) : EReal)
      = wt b (x3 (ix1 0)) := by
    rintro w rfl
    rfl
  pointwise [lossV, k0_pay178, k0_pay177]
  refine congrArg₂ (· * ·) (key _ ?_) (Finset.sum_congr rfl fun d _ => ?_)
  · rw [e10, e11, e20, e21, s0, s1, sge_nat (by omega : t.val < 2 ^ 31) (by omega : 128 < 2 ^ 31)]
    unfold inSpan at hb
    by_cases h : 128 ≤ t.val
    · have es : IntOp.subi (BitVec.ofNat 32 t.val) 128#32 = BitVec.ofNat 32 (t.val - 128) := sub_nat h (by omega)
      simp only [if_pos h, sel_one] at hb ⊢
      rw [es, add_nat, bit_nat (by omega) (by omega) (by omega)]
      rcases hb with ⟨hb, rfl⟩ | ⟨hb, rfl⟩
      · exact if_pos ⟨hb.1, by omega⟩
      · exact if_neg fun hh => hb ⟨hh.1, by omega⟩
    · simp only [if_neg h, sel_zero] at hb ⊢
      rw [add_nat, bit_nat (by omega) (by omega) (by omega)]
      rcases hb with ⟨hb, rfl⟩ | ⟨hb, rfl⟩
      · exact if_pos ⟨hb.1, by omega⟩
      · exact if_neg fun hh => hb ⟨hh.1, by omega⟩
  · rw [perm_at x1 x2 p0 q0 p1 q1 hp0 hq0 hp1 hq1 e10 e11 e20 e21 d t, select_if]

theorem lossV_out (hv : ¬ inSpan p0 q0 p1 q1 t.val) (hn : x3 (ix1 0) ≠ 0#32) : lossV (F := Ideal) x1 x2 x3 S (ix2 0 t) = 0 := by
  rw [lossV_at x1 x2 x3 S p0 q0 p1 q1 hp0 hq0 hp1 hq1 e10 e11 e20 e21 t 0#1 (.inr ⟨hv, rfl⟩), wt_zero hn, zero_mul]

theorem lossV_in (hv : inSpan p0 q0 p1 q1 t.val) (d : Fin 256) (hd : d.val = rowN p0 q0 p1 q1 t.val) :
    lossV (F := Ideal) x1 x2 x3 S (ix2 0 t) = wt 1#1 (x3 (ix1 0)) * k0_pay176 (F := Ideal) S.qg S.pf (ix2 d 0) := by
  rw [lossV_at x1 x2 x3 S p0 q0 p1 q1 hp0 hq0 hp1 hq1 e10 e11 e20 e21 t 1#1 (.inl ⟨hv, rfl⟩), dest_row hv]
  congr 1
  rw [Finset.sum_eq_single d, if_pos hd]
  · intro y _ hy
    exact if_neg fun h => hy (Fin.ext (h.trans hd.symm))
  · exact fun h => absurd (Finset.mem_univ d) h

end

end Cert.GradientIdeal.Hand
-- ==== Proof.GradEq.lean ====
/-
  What one run of the gradient call's body leaves, as the plain functions of one grid point.
-/
module

public import proofs.«01_k».proof.Proof.GradStep

@[expose] public section

set_option maxRecDepth 16384

noncomputable section

namespace Cert.GradientIdeal.Hand

open Cert.GradientIdeal Cert.GradientIdeal.Gen
open Idealize.ShloMosaic Idealize.ShloMosaic.TcCoe
open Idealize.SL Idealize.SL.RA

variable {F : FTy → Type} [FloatOps F] [Named F]

variable (c : Dev nD) (i : grid0.Coords) (q1 q2 q3 : PosShare TreeShare)
  (arg1 : Memref sig .tc .smem S2 .i32) (harg1 : arg1.IsWhole)
  (arg2 : Memref sig .tc .smem S2 .i32) (harg2 : arg2.IsWhole)
  (arg3 : Memref sig .tc .smem S1 .i32) (harg3 : arg3.IsWhole)
  (arg4 : Memref sig .tc .vmem S256x1024 .bf16) (harg4 : arg4.IsWhole)
  (arg5 : Memref sig .tc .vmem S1x1024 .f32) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S128x2048 .f32) (harg8 : arg8.IsWhole)
  (arg9 : Memref sig .tc .vmem S128x2048 .f32) (harg9 : arg9.IsWhole)
  (arg10 : Memref sig .tc .vmem S128x2048 .f32) (harg10 : arg10.IsWhole)
  (arg11 : Memref sig .tc .vmem S128x2048 .f32) (harg11 : arg11.IsWhole)
  (arg12 : Memref sig .tc .vmem S2048x1024 .fp8e4m3) (harg12 : arg12.IsWhole)
  (arg13 : Memref sig .tc .vmem S1x2048 .f32) (harg13 : arg13.IsWhole)
  (arg14 : Memref sig .tc .vmem S1x256 .f32) (harg14 : arg14.IsWhole)
  (arg15 : Memref sig .tc .vmem S256x1024 .bf16) (harg15 : arg15.IsWhole)
  (arg16 : Memref sig .tc .vmem S256x1024 .f32) (harg16 : arg16.IsWhole)
  (arg17 : Memref sig .tc .vmem S2x256x1024 .f32) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S2048x1024 .bf16) (harg20 : arg20.IsWhole)
  (arg21 : Memref sig .tc .vmem S256x2048 .bf16) (harg21 : arg21.IsWhole)
  (x1 : Vec F S2 .i32) (x2 : Vec F S2 .i32) (x3 : Vec F S1 .i32) (x4 : Vec F S256x1024 .bf16) (x5 : Vec F S1x1024 .f32) (x6 : Vec F S256x128 .f32) (x7 : Vec F S256x128 .f32) (x8 : Vec F S128x2048 .f32) (x9 : Vec F S128x2048 .f32) (x10 : Vec F S128x2048 .f32) (x11 : Vec F S128x2048 .f32) (x12 : Vec F S2048x1024 .fp8e4m3) (x13 : Vec F S1x2048 .f32) (x14 : Vec F S1x256 .f32) (x18 : Vec F S256x128 .f32) (x19 : Vec F S256x128 .f32)

theorem read_w14 {m : Memref sig .tc .vmem S1x256 .f32} (h : m.IsWhole) (X : Vec F S1x256 .f32) (p : Prop) [Decidable p]
    (inb : ∀ a, (![0, 0] : Fin 2 → ℕ) a + S1x256.size a ≤ S1x256.size a) (w : Vec F S1x256 .f32) :
    View.read (Elt F) m.view
        (if hc : p then m.view.writes (Elt F) (h.unread X) [⟨Rect.unit (s := S1x256) ![0, 0] S1x256.size inb, w⟩] else h.unread X)
      = if p then w else X := by
  by_cases hp : p
  · rw [dif_pos hp, if_pos hp]
    exact View.read_writes_full m.view _ inb w []
  · rw [dif_neg hp, if_neg hp, h.read_unread]

theorem both_eq : (bodyRun.sl.v683 c arg1 harg1 arg2 harg2 x1 x2 = 1#1) ↔ (bothBit x1 x2 = 1#1) := by
  have h : bodyRun.sl.v17 c arg1 harg1 arg2 harg2 x1 x2 = bothBit x1 x2 := by
    have e10 := rd_word harg1 x1 0 inb_S2_S1_0 (Shape.Idx.first (by decide))
    have e11 := rd_word harg1 x1 1 inb_S2_S1_1 (Shape.Idx.first (by decide))
    have e20 := rd_word harg2 x2 0 inb_S2_S1_0 (Shape.Idx.first (by decide))
    have e21 := rd_word harg2 x2 1 inb_S2_S1_1 (Shape.Idx.first (by decide))
    unfold bothBit
    rw [← e10, ← e11, ← e20, ← e21]
    rfl
  have e : bodyRun.sl.v683 c arg1 harg1 arg2 harg2 x1 x2 = Scalar.cmpi .ne (Scalar.extui (bodyRun.sl.v17 c arg1 harg1 arg2 harg2 x1 x2)) 0#32 := rfl
  rw [e, h]
  generalize bothBit x1 x2 = b
  revert b
  decide

theorem ca0 : bodyRun.sl.v215 c arg6 harg6 x6 = k0_pay216 (half x6 0 (by omega)) := congrArg k0_pay216 (rd_half harg6 x6 0 _ _)
theorem cb0 : bodyRun.sl.v216 c arg7 harg7 x7 = half x7 0 (by omega) := rd_half harg7 x7 0 _ _
theorem ca1 : bodyRun.sl.v689_1 c arg6 harg6 x6 = k0_pay216 (half x6 128 (by omega)) := congrArg k0_pay216 (rd_half harg6 x6 128 _ _)
theorem cb1 : bodyRun.sl.v690_1 c arg7 harg7 x7 = half x7 128 (by omega) := rd_half harg7 x7 128 _ _

theorem pf0 : bodyRun.sl.v217 c i arg18 harg18 x18 = half (start i ⟨x18, x19⟩).pf 0 (by omega) := by
  unfold bodyRun.sl.v217
  rw [start_unread]
  refine (rd_half harg18 _ 0 _ (by omega)).trans ?_
  unfold start; split <;> rfl
theorem qg0 : bodyRun.sl.v218 c i arg19 harg19 x19 = half (start i ⟨x18, x19⟩).qg 0 (by omega) := by
  unfold bodyRun.sl.v218
  rw [start_unread]
  refine (rd_half harg19 _ 0 _ (by omega)).trans ?_
  unfold start; split <;> rfl
theorem pf1 : bodyRun.sl.v691_1 c i arg18 harg18 x18 = half (start i ⟨x18, x19⟩).pf 128 (by omega) := by
  unfold bodyRun.sl.v691_1
  rw [start_unread]
  refine (rd_half harg18 _ 128 _ (by omega)).trans ?_
  unfold start; split <;> rfl
theorem qg1 : bodyRun.sl.v692 c i arg19 harg19 x19 = half (start i ⟨x18, x19⟩).qg 128 (by omega) := by
  unfold bodyRun.sl.v692
  rw [start_unread]
  refine (rd_half harg19 _ 128 _ (by omega)).trans ?_
  unfold start; split <;> rfl

theorem pf0_blk : bodyRun.sl.v669 c i arg6 harg6 arg7 harg7 arg8 harg8 arg10 harg10 arg18 harg18 x6 x7 x8 x10 x18
    = pfBlk (k0_pay216 (half x6 0 (by omega))) (half x7 0 (by omega)) (tile x8) (tile x10) (half (start i ⟨x18, x19⟩).pf 0 (by omega)) := by
  rw [← ca0 c arg6 harg6 x6, ← cb0 c arg7 harg7 x7, ← rd_tile harg8 x8, ← rd_tile harg10 x10, ← pf0 c i arg18 harg18 x18 x19]
  refine Eq.trans ?_ (shapeCast_self _ shapeCasts_S128x128_S128x128)
  rfl
theorem qg0_blk : k0_pay1 (bodyRun.sl.v658 c i arg6 harg6 arg7 harg7 arg8 harg8 arg10 harg10 arg19 harg19 x6 x7 x8 x10 x19)
    = qgBlk (k0_pay216 (half x6 0 (by omega))) (half x7 0 (by omega)) (tile x8) (tile x10) (half (start i ⟨x18, x19⟩).qg 0 (by omega)) := by
  rw [← ca0 c arg6 harg6 x6, ← cb0 c arg7 harg7 x7, ← rd_tile harg8 x8, ← rd_tile harg10 x10, ← qg0 c i arg19 harg19 x18 x19]
  refine Eq.trans ?_ (shapeCast_self _ shapeCasts_S128x128_S128x128)
  rfl
theorem pf1_blk : k0_pay5 (bodyRun.sl.v1127 c i arg6 harg6 arg7 harg7 arg9 harg9 arg11 harg11 arg18 harg18 x6 x7 x9 x11 x18)
    = pfBlk (k0_pay216 (half x6 128 (by omega))) (half x7 128 (by omega)) (tile x9) (tile x11) (half (start i ⟨x18, x19⟩).pf 128 (by omega)) := by
  rw [← ca1 c arg6 harg6 x6, ← cb1 c arg7 harg7 x7, ← rd_tile harg9 x9, ← rd_tile harg11 x11, ← pf1 c i arg18 harg18 x18 x19]
  refine Eq.trans ?_ (shapeCast_self _ shapeCasts_S128x128_S128x128)
  rfl
theorem qg1_blk : k0_pay6 (bodyRun.sl.v1132 c i arg6 harg6 arg7 harg7 arg9 harg9 arg11 harg11 arg19 harg19 x6 x7 x9 x11 x19)
    = qgBlk (k0_pay216 (half x6 128 (by omega))) (half x7 128 (by omega)) (tile x9) (tile x11) (half (start i ⟨x18, x19⟩).qg 128 (by omega)) := by
  rw [← ca1 c arg6 harg6 x6, ← cb1 c arg7 harg7 x7, ← rd_tile harg9 x9, ← rd_tile harg11 x11, ← qg1 c i arg19 harg19 x18 x19]
  refine Eq.trans ?_ (shapeCast_self _ shapeCasts_S128x128_S128x128)
  rfl

theorem fin_pf : View.read (Elt F) arg18.view (if hc : bodyRun.sl.v683 c arg1 harg1 arg2 harg2 x1 x2 = 1#1 then arg18.view.writes (Elt F) (if hc : bodyRun.sl.v20 i = 1#1 then arg18.view.writes (Elt F) (harg18.unread x18)
                  [⟨Rect.unit (s := S256x128) ![0, 0] S256x128.size inb_S256x128_S256x128_0_0, bodyRun.sl.v694⟩]
              else harg18.unread x18)
          [⟨Rect.unit (s := S256x128) ![128, 0] S128x128.size inb_S256x128_S128x128_128_0, k0_pay5 (bodyRun.sl.v1127 c i arg6 harg6 arg7 harg7 arg9 harg9 arg11 harg11 arg18 harg18 x6 x7 x9 x11 x18)⟩,
            ⟨Rect.unit (s := S256x128) ![0, 0] S128x128.size inb_S256x128_S128x128_0_0, bodyRun.sl.v669 c i arg6 harg6 arg7 harg7 arg8 harg8 arg10 harg10 arg18 harg18 x6 x7 x8 x10 x18⟩]
        else arg18.view.writes (Elt F) (if hc : bodyRun.sl.v20 i = 1#1 then arg18.view.writes (Elt F) (harg18.unread x18)
                  [⟨Rect.unit (s := S256x128) ![0, 0] S256x128.size inb_S256x128_S256x128_0_0, bodyRun.sl.v694⟩]
              else harg18.unread x18)
          [⟨Rect.unit (s := S256x128) ![0, 0] S128x128.size inb_S256x128_S128x128_0_0, bodyRun.sl.v669 c i arg6 harg6 arg7 harg7 arg8 harg8 arg10 harg10 arg18 harg18 x6 x7 x8 x10 x18⟩]) = (point i x1 x2 x6 x7 x8 x9 x10 x11 ⟨x18, x19⟩).pf := by
  rw [start_unread, halves_read, pf0_blk c i arg6 harg6 arg7 harg7 arg8 harg8 arg10 harg10 arg18 harg18 x6 x7 x8 x10 x18 x19, pf1_blk c i arg6 harg6 arg7 harg7 arg9 harg9 arg11 harg11 arg18 harg18 x6 x7 x9 x11 x18 x19]
  unfold point halves
  have hs : (if bodyRun.sl.v20 i = 1#1 then bodyRun.sl.v694 else x18) = (start i ⟨x18, x19⟩).pf := by
    unfold start; split <;> rfl
  rw [hs]
  simp only [both_eq c arg1 harg1 arg2 harg2 x1 x2]

theorem load_pf : bodyRun.sl.v742 c i arg1 harg1 arg2 harg2 arg6 harg6 arg7 harg7 arg8 harg8 arg9 harg9 arg10 harg10 arg11 harg11 arg18 harg18 x1 x2 x6 x7 x8 x9 x10 x11 x18 = (point i x1 x2 x6 x7 x8 x9 x10 x11 ⟨x18, x19⟩).pf := by
  refine Eq.trans ?_ (fin_pf c i arg1 harg1 arg2 harg2 arg6 harg6 arg7 harg7 arg8 harg8 arg9 harg9 arg10 harg10 arg11 harg11 arg18 harg18 x1 x2 x6 x7 x8 x9 x10 x11 x18 x19)
  unfold bodyRun.sl.v742
  exact View.readAt_full _ _ _

theorem left_pf : (bodyRun c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19).1.2.1 = (point i x1 x2 x6 x7 x8 x9 x10 x11 ⟨x18, x19⟩).pf :=
  Eq.trans rfl (fin_pf c i arg1 harg1 arg2 harg2 arg6 harg6 arg7 harg7 arg8 harg8 arg9 harg9 arg10 harg10 arg11 harg11 arg18 harg18 x1 x2 x6 x7 x8 x9 x10 x11 x18 x19)

theorem fin_qg : View.read (Elt F) arg19.view (if hc : bodyRun.sl.v683 c arg1 harg1 arg2 harg2 x1 x2 = 1#1 then arg19.view.writes (Elt F) (if hc : bodyRun.sl.v20 i = 1#1 then arg19.view.writes (Elt F) (harg19.unread x19)
                  [⟨Rect.unit (s := S256x128) ![0, 0] S256x128.size inb_S256x128_S256x128_0_0, bodyRun.sl.v694⟩]
              else harg19.unread x19)
          [⟨Rect.unit (s := S256x128) ![128, 0] S128x128.size inb_S256x128_S128x128_128_0, k0_pay6 (bodyRun.sl.v1132 c i arg6 harg6 arg7 harg7 arg9 harg9 arg11 harg11 arg19 harg19 x6 x7 x9 x11 x19)⟩,
            ⟨Rect.unit (s := S256x128) ![0, 0] S128x128.size inb_S256x128_S128x128_0_0, k0_pay1 (bodyRun.sl.v658 c i arg6 harg6 arg7 harg7 arg8 harg8 arg10 harg10 arg19 harg19 x6 x7 x8 x10 x19)⟩]
        else arg19.view.writes (Elt F) (if hc : bodyRun.sl.v20 i = 1#1 then arg19.view.writes (Elt F) (harg19.unread x19)
                  [⟨Rect.unit (s := S256x128) ![0, 0] S256x128.size inb_S256x128_S256x128_0_0, bodyRun.sl.v694⟩]
              else harg19.unread x19)
          [⟨Rect.unit (s := S256x128) ![0, 0] S128x128.size inb_S256x128_S128x128_0_0, k0_pay1 (bodyRun.sl.v658 c i arg6 harg6 arg7 harg7 arg8 harg8 arg10 harg10 arg19 harg19 x6 x7 x8 x10 x19)⟩]) = (point i x1 x2 x6 x7 x8 x9 x10 x11 ⟨x18, x19⟩).qg := by
  rw [start_unread, halves_read, qg0_blk c i arg6 harg6 arg7 harg7 arg8 harg8 arg10 harg10 arg19 harg19 x6 x7 x8 x10 x18 x19, qg1_blk c i arg6 harg6 arg7 harg7 arg9 harg9 arg11 harg11 arg19 harg19 x6 x7 x9 x11 x18 x19]
  unfold point halves
  have hs : (if bodyRun.sl.v20 i = 1#1 then bodyRun.sl.v694 else x19) = (start i ⟨x18, x19⟩).qg := by
    unfold start; split <;> rfl
  rw [hs]
  simp only [both_eq c arg1 harg1 arg2 harg2 x1 x2]

theorem load_qg : bodyRun.sl.v739 c i arg1 harg1 arg2 harg2 arg6 harg6 arg7 harg7 arg8 harg8 arg9 harg9 arg10 harg10 arg11 harg11 arg19 harg19 x1 x2 x6 x7 x8 x9 x10 x11 x19 = (point i x1 x2 x6 x7 x8 x9 x10 x11 ⟨x18, x19⟩).qg := by
  refine Eq.trans ?_ (fin_qg c i arg1 harg1 arg2 harg2 arg6 harg6 arg7 harg7 arg8 harg8 arg9 harg9 arg10 harg10 arg11 harg11 arg19 harg19 x1 x2 x6 x7 x8 x9 x10 x11 x18 x19)
  unfold bodyRun.sl.v739
  exact View.readAt_full _ _ _

theorem left_qg : (bodyRun c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19).1.2.2 = (point i x1 x2 x6 x7 x8 x9 x10 x11 ⟨x18, x19⟩).qg :=
  Eq.trans rfl (fin_qg c i arg1 harg1 arg2 harg2 arg6 harg6 arg7 harg7 arg8 harg8 arg9 harg9 arg10 harg10 arg11 harg11 arg19 harg19 x1 x2 x6 x7 x8 x9 x10 x11 x18 x19)

theorem perm_eq : bodyRun.sl.v738 c arg1 harg1 arg2 harg2 x1 x2 = permV x1 x2 := by
  unfold permV
  rw [← rd_word harg1 x1 0 inb_S2_S1_0 (Shape.Idx.first (by decide)), ← rd_word harg1 x1 1 inb_S2_S1_1 (Shape.Idx.first (by decide)),
    ← rd_word harg2 x2 0 inb_S2_S1_0 (Shape.Idx.first (by decide)), ← rd_word harg2 x2 1 inb_S2_S1_1 (Shape.Idx.first (by decide))]
  rfl

theorem loss_eq : bodyRun.sl.v796_1 c i arg1 harg1 arg2 harg2 arg3 harg3 arg6 harg6 arg7 harg7 arg8 harg8 arg9 harg9 arg10 harg10 arg11 harg11 arg18 harg18 arg19 harg19 x1 x2 x3 x6 x7 x8 x9 x10 x11 x18 x19
    = lossV x1 x2 x3 (point i x1 x2 x6 x7 x8 x9 x10 x11 ⟨x18, x19⟩) := by
  unfold lossV
  rw [← perm_eq c arg1 harg1 arg2 harg2 x1 x2, ← load_pf c i arg1 harg1 arg2 harg2 arg6 harg6 arg7 harg7 arg8 harg8 arg9 harg9 arg10 harg10 arg11 harg11 arg18 harg18 x1 x2 x6 x7 x8 x9 x10 x11 x18 x19,
    ← load_qg c i arg1 harg1 arg2 harg2 arg6 harg6 arg7 harg7 arg8 harg8 arg9 harg9 arg10 harg10 arg11 harg11 arg19 harg19 x1 x2 x6 x7 x8 x9 x10 x11 x18 x19,
    ← rd_word1 harg3 x3 inb_S1_S1_0 (Shape.Idx.first (by decide)),
    ← rd_word harg1 x1 0 inb_S2_S1_0 (Shape.Idx.first (by decide)), ← rd_word harg1 x1 1 inb_S2_S1_1 (Shape.Idx.first (by decide)),
    ← rd_word harg2 x2 0 inb_S2_S1_0 (Shape.Idx.first (by decide)), ← rd_word harg2 x2 1 inb_S2_S1_1 (Shape.Idx.first (by decide))]
  rfl

theorem left_loss : (bodyRun c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19).1.1 = if k0_cond3 i = 1#1 then lossV x1 x2 x3 (point i x1 x2 x6 x7 x8 x9 x10 x11 ⟨x18, x19⟩) else x14 := by
  refine Eq.trans ?_ (if_congr Iff.rfl (loss_eq c i arg1 harg1 arg2 harg2 arg3 harg3 arg6 harg6 arg7 harg7 arg8 harg8 arg9 harg9 arg10 harg10 arg11 harg11 arg18 harg18 arg19 harg19 x1 x2 x3 x6 x7 x8 x9 x10 x11 x18 x19) rfl)
  exact Eq.trans rfl (read_w14 harg14 x14 (k0_cond3 i = 1#1) inb_S1x256_S1x256_0_0 _)

end Cert.GradientIdeal.Hand
-- ==== Proof.GradVals.lean ====
/-
  The body of the gradient call at any grid point, with the values it leaves as the plain functions of one point.
-/
module

public import proofs.«01_k».proof.Proof.GradEq

@[expose] public section

set_option maxRecDepth 16384

noncomputable section

namespace Cert.GradientIdeal.Hand

open Cert.GradientIdeal Cert.GradientIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

set_option maxHeartbeats 2000000 in
/-- The body at any grid point: from the blocks and the sums to what it leaves of them. -/
theorem body_vals (c : Dev nD) (i : grid0.Coords) (q1 q2 q3 : PosShare TreeShare) (arg1 : Memref sig .tc .smem S2 .i32) (harg1 : arg1.IsWhole) (arg2 : Memref sig .tc .smem S2 .i32) (harg2 : arg2.IsWhole) (arg3 : Memref sig .tc .smem S1 .i32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S128x2048 .f32) (harg11 : arg11.IsWhole) (arg12 : Memref sig .tc .vmem S2048x1024 .fp8e4m3) (harg12 : arg12.IsWhole) (arg13 : Memref sig .tc .vmem S1x2048 .f32) (harg13 : arg13.IsWhole) (arg14 : Memref sig .tc .vmem S1x256 .f32) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S2x256x1024 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S2048x1024 .bf16) (harg20 : arg20.IsWhole) (arg21 : Memref sig .tc .vmem S256x2048 .bf16) (harg21 : arg21.IsWhole)
    (x1 : Vec F S2 .i32) (x2 : Vec F S2 .i32) (x3 : Vec F S1 .i32) (x4 : Vec F S256x1024 .bf16) (x5 : Vec F S1x1024 .f32) (x6 : Vec F S256x128 .f32) (x7 : Vec F S256x128 .f32) (x8 : Vec F S128x2048 .f32) (x9 : Vec F S128x2048 .f32) (x10 : Vec F S128x2048 .f32) (x11 : Vec F S128x2048 .f32) (x12 : Vec F S2048x1024 .fp8e4m3) (x13 : Vec F S1x2048 .f32) (x14 : Vec F S1x256 .f32) (x18 : Vec F S256x128 .f32) (x19 : Vec F S256x128 .f32) : ∀ K : PUnit → sProp 𝕄,
    iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare x18 ∗ owns (c : Thread nD τ) arg19 fullShare x19 ∗ (∃ d, owns (c : Thread nD τ) arg20 fullShare d) ∗ (∃ d, owns (c : Thread nD τ) arg21 fullShare d)
        ∗ (iprop(owns (c : Thread nD τ) arg1 q1 x1 ∗ owns (c : Thread nD τ) arg2 q2 x2 ∗ owns (c : Thread nD τ) arg3 q3 x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (if k0_cond3 i = 1#1 then lossV x1 x2 x3 (point i x1 x2 x6 x7 x8 x9 x10 x11 ⟨x18, x19⟩) else x14) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (point i x1 x2 x6 x7 x8 x9 x10 x11 ⟨x18, x19⟩).pf ∗ owns (c : Thread nD τ) arg19 fullShare (point i x1 x2 x6 x7 x8 x9 x10 x11 ⟨x18, x19⟩).qg ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_gkd_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K  := by
  intro K
  have e := (bodyRun c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19).2 K
  have l1 := left_loss c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19
  have l2 := left_pf c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19
  have l3 := left_qg c i q1 q2 q3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 x12 x13 x14 x18 x19
  rw [l1, l2, l3] at e
  exact e

end Cert.GradientIdeal.Hand
-- ==== Proof.GradBlocks.lean ====
/-
  The blocks the gradient call's grid points read, and the two running sums before each point.
-/
module

public import proofs.«01_k».proof.Proof.GradVals
public import proofs.«01_k».proof.Proof.GradIdealFrame

@[expose] public section

set_option maxRecDepth 16384

noncomputable section

namespace Cert.GradientIdeal.Hand

open Cert.GradientIdeal Cert.GradientIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-! ## The grid -/

theorem coords0 : ∀ t : Fin grid0.N, ((grid0.coords t) 0).val = t.val := by decide +kernel

theorem first_iff : ∀ t : Fin grid0.N, bodyRun.sl.v20 (grid0.coords t) = 1#1 ↔ t.val = 0 := by decide +kernel

theorem cond3_iff : ∀ t : Fin grid0.N, k0_cond3 (grid0.coords t) = 1#1 ↔ t.val = 74 := by decide +kernel

theorem ix_4 : ∀ t : Fin grid0.N, cc0_transform_4 (grid0.coords t) = ![0, t.val] := by decide +kernel
theorem ix_6 : ∀ t : Fin grid0.N, cc0_transform_6 (grid0.coords t) = ![0, t.val] := by decide +kernel

theorem word_toNat : ∀ t : Fin grid0.N, (BitVec.ofNat 32 ((grid0.coords t) 0).val).toNat = t.val := by decide +kernel

variable (m : (ℓ : Loc nD τ sig) → Buf (Elt F) ℓ) (c : Dev nD)

theorem at_word (pf : pre0.Contents (Elt F)) (q : Fin 2) (h : (S1 : Shape).numel = 1) :
    (∀ inb, pf.at 0 (Rect.unit (s := S2) ![q.val] S1.size inb) h = word (F := F) (pf 0) q)
      ∧ (∀ inb, pf.at 1 (Rect.unit (s := S2) ![q.val] S1.size inb) h = word (F := F) (pf 1) q) := by
  refine ⟨fun inb => ?_, fun inb => ?_⟩
  · refine congrArg (pf 0) (funext fun a => ?_)
    match a with
    | ⟨0, _⟩ => exact Fin.ext (show q.val + 1 * 0 = q.val by omega)
  · refine congrArg (pf 1) (funext fun a => ?_)
    match a with
    | ⟨0, _⟩ => exact Fin.ext (show q.val + 1 * 0 = q.val by omega)

/-- With tokens in both halves the block is the point's own. -/
theorem ix_5 (hb : bothBit (tab0 m) (tab1 m) = 1#1) (t : Fin grid0.N) : ((cfg0 (adm m 0)).win 5).index t = ![0, t.val] := by
  have e : ((cfg0 (adm m 0)).win 5).index t = ![0, (Scalar.select (bothBit (tab0 m) (tab1 m)) (BitVec.ofNat 32 ((grid0.coords t) 0).val) (0#32)).toNat] := by
    unfold bothBit tab0 tab1
    rw [← (at_word (tabs m) 0 numel1_S1).1 inb_S2_S1_0, ← (at_word (tabs m) 1 numel1_S1).1 inb_S2_S1_1,
      ← (at_word (tabs m) 0 numel1_S1).2 inb_S2_S1_0, ← (at_word (tabs m) 1 numel1_S1).2 inb_S2_S1_1]
    rfl
  rw [e, hb]
  exact congrArg (fun k => (![0, k] : Fin 2 → ℕ)) (word_toNat t)

/-- With tokens in both halves the block is the point's own. -/
theorem ix_7 (hb : bothBit (tab0 m) (tab1 m) = 1#1) (t : Fin grid0.N) : ((cfg0 (adm m 0)).win 7).index t = ![0, t.val] := by
  have e : ((cfg0 (adm m 0)).win 7).index t = ![0, (Scalar.select (bothBit (tab0 m) (tab1 m)) (BitVec.ofNat 32 ((grid0.coords t) 0).val) (0#32)).toNat] := by
    unfold bothBit tab0 tab1
    rw [← (at_word (tabs m) 0 numel1_S1).1 inb_S2_S1_0, ← (at_word (tabs m) 1 numel1_S1).1 inb_S2_S1_1,
      ← (at_word (tabs m) 0 numel1_S1).2 inb_S2_S1_0, ← (at_word (tabs m) 1 numel1_S1).2 inb_S2_S1_1]
    rfl
  rw [e, hb]
  exact congrArg (fun k => (![0, k] : Fin 2 → ℕ)) (word_toNat t)

/-! ## The blocks -/

abbrev a5 : Vec F S256x128 .f32 := m ((c : Thread nD τ).loc main_arg5)
abbrev a6 : Vec F S256x128 .f32 := m ((c : Thread nD τ).loc main_arg6)
abbrev a7 : Vec F S128x153600 .f32 := m ((c : Thread nD τ).loc main_arg7)
abbrev a8 : Vec F S128x153600 .f32 := m ((c : Thread nD τ).loc main_arg8)
abbrev a9 : Vec F S128x153600 .f32 := m ((c : Thread nD τ).loc main_arg9)
abbrev a10 : Vec F S128x153600 .f32 := m ((c : Thread nD τ).loc main_arg10)

/-- The columns of a point's block. -/
def blk (x : Vec F S128x153600 .f32) (n : Nat) : Vec F S128x2048 .f32 := fun j =>
  if h : 2048 * n + (j 1).val < 153600 then x (ix2 (j 0) ⟨2048 * n + (j 1).val, h⟩) else x (ix2 (j 0) 0)

/-- The sums before a point. -/
def stAt : Nat → Acc F
  | 0 => ⟨bodyRun.sl.v694, bodyRun.sl.v694⟩
  | n + 1 => if h : n < grid0.N then point (grid0.coords ⟨n, h⟩) (tab0 m) (tab1 m) (a5 m c) (a6 m c)
      (blk (a7 m c) n) (blk (a8 m c) n) (blk (a9 m c) n) (blk (a10 m c) n) (stAt n) else stAt n

theorem stAt_succ (t : Fin grid0.N) :
    stAt m c (t.val + 1) = point (grid0.coords t) (tab0 m) (tab1 m) (a5 m c) (a6 m c)
      (blk (a7 m c) t.val) (blk (a8 m c) t.val) (blk (a9 m c) t.val) (blk (a10 m c) t.val) (stAt m c t.val) := by
  rw [stAt, dif_pos t.isLt]

/-- The first point starts from zero. -/
theorem point_first (i : grid0.Coords) (h : bodyRun.sl.v20 i = 1#1) (x1 x2 : Vec F S2 .i32) (x6 x7 : Vec F S256x128 .f32)
    (x8 x9 x10 x11 : Vec F S128x2048 .f32) (S S' : Acc F) :
    point i x1 x2 x6 x7 x8 x9 x10 x11 S = point i x1 x2 x6 x7 x8 x9 x10 x11 S' := by
  unfold point start; rw [if_pos h, if_pos h]

/-- Without tokens in the second half its blocks are not used. -/
theorem point_congr (i : grid0.Coords) (x1 x2 : Vec F S2 .i32) (x6 x7 : Vec F S256x128 .f32)
    (x8 x9 x10 x11 y9 y11 : Vec F S128x2048 .f32) (S : Acc F) (h : bothBit x1 x2 = 1#1 → x9 = y9 ∧ x11 = y11) :
    point i x1 x2 x6 x7 x8 x9 x10 x11 S = point i x1 x2 x6 x7 x8 y9 x10 y11 S := by
  by_cases hb : bothBit x1 x2 = 1#1
  · rw [(h hb).1, (h hb).2]
  · unfold point halves
    simp only [hb, if_false]

/-! ## What a window's fetch reads -/

section Reads

variable (rd : RDat τ (Elt F) Unit ℕ (UR sig nD τ) ℕ (cfg0 (adm m 0)) c) (t : Fin grid0.N)

theorem fetched_2 (hA : rd.A 2 = V m c (Pipeline.arrRef spec0 2)) (d) : rd.fetched 2 t d = a5 m c := by
  unfold RDat.fetched RDat.blockOf
  rw [hA]
  refine funext fun j : S256x128.Idx => ?_
  refine congrArg (a5 m c) (funext fun a => Fin.ext ?_)
  fin_cases a
  · show 0 * 256 + 1 * (j 0).val = (j 0).val
    omega
  · show 0 * 128 + 1 * (j 1).val = (j 1).val
    omega

theorem fetched_3 (hA : rd.A 3 = V m c (Pipeline.arrRef spec0 3)) (d) : rd.fetched 3 t d = a6 m c := by
  unfold RDat.fetched RDat.blockOf
  rw [hA]
  refine funext fun j : S256x128.Idx => ?_
  refine congrArg (a6 m c) (funext fun a => Fin.ext ?_)
  fin_cases a
  · show 0 * 256 + 1 * (j 0).val = (j 0).val
    omega
  · show 0 * 128 + 1 * (j 1).val = (j 1).val
    omega

theorem fetched_4 (hA : rd.A 4 = V m c (Pipeline.arrRef spec0 4)) (d) : rd.fetched 4 t d = blk (a7 m c) t.val := by
  have ht : t.val < 75 := lt_of_lt_of_eq t.isLt N_0
  unfold RDat.fetched RDat.blockOf
  rw [hA]
  refine funext fun j : S128x2048.Idx => ?_
  have hj : (j 1).val < 2048 := (j 1).isLt
  unfold blk
  rw [dif_pos (by omega)]
  refine congrArg (a7 m c) (funext fun a => Fin.ext ?_)
  show cc0_transform_4 (grid0.coords t) a * S128x2048.size a + 1 * (j a).val = _
  rw [ix_4]
  fin_cases a
  · show 0 * 128 + 1 * (j 0).val = (j 0).val
    omega
  · show t.val * 2048 + 1 * (j 1).val = 2048 * t.val + (j 1).val
    omega

theorem fetched_5 (hb : bothBit (tab0 m) (tab1 m) = 1#1) (hA : rd.A 5 = V m c (Pipeline.arrRef spec0 5)) (d) : rd.fetched 5 t d = blk (a8 m c) t.val := by
  have ht : t.val < 75 := lt_of_lt_of_eq t.isLt N_0
  unfold RDat.fetched RDat.blockOf
  rw [hA]
  refine funext fun j : S128x2048.Idx => ?_
  have hj : (j 1).val < 2048 := (j 1).isLt
  unfold blk
  rw [dif_pos (by omega)]
  refine congrArg (a8 m c) (funext fun a => Fin.ext ?_)
  show ((cfg0 (adm m 0)).win 5).index t a * S128x2048.size a + 1 * (j a).val = _
  rw [ix_5 m hb t]
  fin_cases a
  · show 0 * 128 + 1 * (j 0).val = (j 0).val
    omega
  · show t.val * 2048 + 1 * (j 1).val = 2048 * t.val + (j 1).val
    omega

theorem fetched_6 (hA : rd.A 6 = V m c (Pipeline.arrRef spec0 6)) (d) : rd.fetched 6 t d = blk (a9 m c) t.val := by
  have ht : t.val < 75 := lt_of_lt_of_eq t.isLt N_0
  unfold RDat.fetched RDat.blockOf
  rw [hA]
  refine funext fun j : S128x2048.Idx => ?_
  have hj : (j 1).val < 2048 := (j 1).isLt
  unfold blk
  rw [dif_pos (by omega)]
  refine congrArg (a9 m c) (funext fun a => Fin.ext ?_)
  show cc0_transform_6 (grid0.coords t) a * S128x2048.size a + 1 * (j a).val = _
  rw [ix_6]
  fin_cases a
  · show 0 * 128 + 1 * (j 0).val = (j 0).val
    omega
  · show t.val * 2048 + 1 * (j 1).val = 2048 * t.val + (j 1).val
    omega

theorem fetched_7 (hb : bothBit (tab0 m) (tab1 m) = 1#1) (hA : rd.A 7 = V m c (Pipeline.arrRef spec0 7)) (d) : rd.fetched 7 t d = blk (a10 m c) t.val := by
  have ht : t.val < 75 := lt_of_lt_of_eq t.isLt N_0
  unfold RDat.fetched RDat.blockOf
  rw [hA]
  refine funext fun j : S128x2048.Idx => ?_
  have hj : (j 1).val < 2048 := (j 1).isLt
  unfold blk
  rw [dif_pos (by omega)]
  refine congrArg (a10 m c) (funext fun a => Fin.ext ?_)
  show ((cfg0 (adm m 0)).win 7).index t a * S128x2048.size a + 1 * (j a).val = _
  rw [ix_7 m hb t]
  fin_cases a
  · show 0 * 128 + 1 * (j 0).val = (j 0).val
    omega
  · show t.val * 2048 + 1 * (j 1).val = 2048 * t.val + (j 1).val
    omega

/-- A window with a constant block is fetched at the first point and nowhere else. -/
theorem fetch_const {w : Fin 13} (hi : ∀ t t' : Fin grid0.N, ((cfg0 (adm m 0)).win w).index t = ((cfg0 (adm m 0)).win w).index t')
    (ht : t.val ≠ 0) : ((cfg0 (adm m 0)).win w).fetch t = false := by
  unfold Window.fetch
  have e : decide (t.val = 0) = false := decide_eq_false ht
  simp [ht, hi t ⟨t.val - 1, by have := t.isLt; omega⟩]

end Reads

end Cert.GradientIdeal.Hand
-- ==== Proof.GradSums.lean ====
/-
  The two running sums of the gradient call at the ideal values: over all columns of a row's lane.
-/
module

public import proofs.«01_k».proof.Proof.GradBlocks
public import proofs.«01_k».proof.Proof.GradJsd
public import proofs.«01_k».proof.Proof.Placed

@[expose] public section

set_option maxRecDepth 16384

noncomputable section

namespace Cert.GradientIdeal.Hand

open Cert.GradientIdeal Cert.GradientIdeal.Gen Cert.Jsd
open Idealize.ShloMosaic Idealize.ShloMosaic.TcCoe

theorem tiny_eq : Named.named (F := Ideal) Cert.GradientIdeal.κ "tiny" (φ := .f32) 0x02081CEA#32 = (⊥ : EReal) :=
  IdealRules.named_const.ideal_named_scalar _ _ _ _ rfl
theorem log2e_eq : Named.named (F := Ideal) Cert.GradientIdeal.κ "log2e" (φ := .f32) 0x3FB8AA3B#32 = (((Real.log 2)⁻¹ : ℝ) : EReal) :=
  IdealRules.named_const.ideal_named_scalar _ _ _ _ rfl
theorem student_ln2_eq : Named.named (F := Ideal) Cert.GradientIdeal.κ "student_ln2" (φ := .f32) 0x3F051592#32
    = ((((3 : ℝ) / 4) * Real.log 2 : ℝ) : EReal) :=
  IdealRules.named_const.ideal_named_scalar _ _ _ _ rfl
theorem odds_eq : Named.named (F := Ideal) Cert.GradientIdeal.κ "odds" (φ := .f32) 0xBFCAE00D#32 = (odds : EReal) :=
  IdealRules.named_const.ideal_named_scalar _ _ _ _ rfl

theorem pfStep_at (ca cb yt ys pf : Vec Ideal S128x128 .f32) (j : S128x128.Idx) :
    pfStep (F := Ideal) ca cb yt ys pf j = pf j + gT (yt j - ca j) (ys j - cb j) := by
  have h : pfStep (F := Ideal) ca cb yt ys pf j = pf j + Ideal.exp2 (yt j - ca j) * ((yt j - ca j)
      - Ideal.log (max (Ideal.exp2 (yt j - ca j) + Ideal.exp2 (ys j - cb j)) (Named.named (F := Ideal) Cert.GradientIdeal.κ "tiny" (φ := .f32) 0x02081CEA#32))
        * Named.named (F := Ideal) Cert.GradientIdeal.κ "log2e" (φ := .f32) 0x3FB8AA3B#32) := rfl
  rw [h, tiny_eq, log2e_eq]
  rfl

theorem qgStep_at (ca cb yt ys qg : Vec Ideal S128x128 .f32) (j : S128x128.Idx) :
    qgStep (F := Ideal) ca cb yt ys qg j = qg j + gS (yt j - ca j) (ys j - cb j) := by
  have h : qgStep (F := Ideal) ca cb yt ys qg j = qg j + Ideal.exp2 (ys j - cb j) * (((ys j - cb j)
      - Ideal.log (max (Ideal.exp2 (yt j - ca j) + Ideal.exp2 (ys j - cb j)) (Named.named (F := Ideal) Cert.GradientIdeal.κ "tiny" (φ := .f32) 0x02081CEA#32))
        * Named.named (F := Ideal) Cert.GradientIdeal.κ "log2e" (φ := .f32) 0x3FB8AA3B#32)
      * Named.named (F := Ideal) Cert.GradientIdeal.κ "student_ln2" (φ := .f32) 0x3F051592#32) := rfl
  rw [h, tiny_eq, log2e_eq, student_ln2_eq]
  rfl

theorem pfBlk_at (ca cb : Vec Ideal S128x128 .f32) (yt ys : Fin 16 → Vec Ideal S128x128 .f32) (s : Vec Ideal S128x128 .f32) (j : S128x128.Idx)
    (G : ℕ → EReal) (n : ℕ) (hs : s j = ∑ c ∈ Finset.range (16 * n), G c)
    (hG : ∀ k : Fin 16, G (16 * n + k.val) = gT (yt k j - ca j) (ys k j - cb j)) :
    pfBlk (F := Ideal) ca cb yt ys s j = ∑ c ∈ Finset.range (16 * (n + 1)), G c := by
  unfold pfBlk
  simp only [pfStep_at]
  rw [show 16 * (n + 1) = 16 * n + 16 from by ring]
  rw [show 16 * n + 16 = (16 * n + 15) + 1 from rfl, Finset.sum_range_succ _ (16 * n + 15), show G (16 * n + 15) = _ from hG 15]
  rw [show 16 * n + 15 = (16 * n + 14) + 1 from rfl, Finset.sum_range_succ _ (16 * n + 14), show G (16 * n + 14) = _ from hG 14]
  rw [show 16 * n + 14 = (16 * n + 13) + 1 from rfl, Finset.sum_range_succ _ (16 * n + 13), show G (16 * n + 13) = _ from hG 13]
  rw [show 16 * n + 13 = (16 * n + 12) + 1 from rfl, Finset.sum_range_succ _ (16 * n + 12), show G (16 * n + 12) = _ from hG 12]
  rw [show 16 * n + 12 = (16 * n + 11) + 1 from rfl, Finset.sum_range_succ _ (16 * n + 11), show G (16 * n + 11) = _ from hG 11]
  rw [show 16 * n + 11 = (16 * n + 10) + 1 from rfl, Finset.sum_range_succ _ (16 * n + 10), show G (16 * n + 10) = _ from hG 10]
  rw [show 16 * n + 10 = (16 * n + 9) + 1 from rfl, Finset.sum_range_succ _ (16 * n + 9), show G (16 * n + 9) = _ from hG 9]
  rw [show 16 * n + 9 = (16 * n + 8) + 1 from rfl, Finset.sum_range_succ _ (16 * n + 8), show G (16 * n + 8) = _ from hG 8]
  rw [show 16 * n + 8 = (16 * n + 7) + 1 from rfl, Finset.sum_range_succ _ (16 * n + 7), show G (16 * n + 7) = _ from hG 7]
  rw [show 16 * n + 7 = (16 * n + 6) + 1 from rfl, Finset.sum_range_succ _ (16 * n + 6), show G (16 * n + 6) = _ from hG 6]
  rw [show 16 * n + 6 = (16 * n + 5) + 1 from rfl, Finset.sum_range_succ _ (16 * n + 5), show G (16 * n + 5) = _ from hG 5]
  rw [show 16 * n + 5 = (16 * n + 4) + 1 from rfl, Finset.sum_range_succ _ (16 * n + 4), show G (16 * n + 4) = _ from hG 4]
  rw [show 16 * n + 4 = (16 * n + 3) + 1 from rfl, Finset.sum_range_succ _ (16 * n + 3), show G (16 * n + 3) = _ from hG 3]
  rw [show 16 * n + 3 = (16 * n + 2) + 1 from rfl, Finset.sum_range_succ _ (16 * n + 2), show G (16 * n + 2) = _ from hG 2]
  rw [show 16 * n + 2 = (16 * n + 1) + 1 from rfl, Finset.sum_range_succ _ (16 * n + 1), show G (16 * n + 1) = _ from hG 1]
  rw [show 16 * n + 1 = (16 * n + 0) + 1 from rfl, Finset.sum_range_succ _ (16 * n + 0), show G (16 * n + 0) = _ from hG 0]
  rw [Nat.add_zero, hs]

theorem qgBlk_at (ca cb : Vec Ideal S128x128 .f32) (yt ys : Fin 16 → Vec Ideal S128x128 .f32) (s : Vec Ideal S128x128 .f32) (j : S128x128.Idx)
    (G : ℕ → EReal) (n : ℕ) (hs : s j = ∑ c ∈ Finset.range (16 * n), G c)
    (hG : ∀ k : Fin 16, G (16 * n + k.val) = gS (yt k j - ca j) (ys k j - cb j)) :
    qgBlk (F := Ideal) ca cb yt ys s j = ∑ c ∈ Finset.range (16 * (n + 1)), G c := by
  unfold qgBlk
  simp only [qgStep_at]
  rw [show 16 * (n + 1) = 16 * n + 16 from by ring]
  rw [show 16 * n + 16 = (16 * n + 15) + 1 from rfl, Finset.sum_range_succ _ (16 * n + 15), show G (16 * n + 15) = _ from hG 15]
  rw [show 16 * n + 15 = (16 * n + 14) + 1 from rfl, Finset.sum_range_succ _ (16 * n + 14), show G (16 * n + 14) = _ from hG 14]
  rw [show 16 * n + 14 = (16 * n + 13) + 1 from rfl, Finset.sum_range_succ _ (16 * n + 13), show G (16 * n + 13) = _ from hG 13]
  rw [show 16 * n + 13 = (16 * n + 12) + 1 from rfl, Finset.sum_range_succ _ (16 * n + 12), show G (16 * n + 12) = _ from hG 12]
  rw [show 16 * n + 12 = (16 * n + 11) + 1 from rfl, Finset.sum_range_succ _ (16 * n + 11), show G (16 * n + 11) = _ from hG 11]
  rw [show 16 * n + 11 = (16 * n + 10) + 1 from rfl, Finset.sum_range_succ _ (16 * n + 10), show G (16 * n + 10) = _ from hG 10]
  rw [show 16 * n + 10 = (16 * n + 9) + 1 from rfl, Finset.sum_range_succ _ (16 * n + 9), show G (16 * n + 9) = _ from hG 9]
  rw [show 16 * n + 9 = (16 * n + 8) + 1 from rfl, Finset.sum_range_succ _ (16 * n + 8), show G (16 * n + 8) = _ from hG 8]
  rw [show 16 * n + 8 = (16 * n + 7) + 1 from rfl, Finset.sum_range_succ _ (16 * n + 7), show G (16 * n + 7) = _ from hG 7]
  rw [show 16 * n + 7 = (16 * n + 6) + 1 from rfl, Finset.sum_range_succ _ (16 * n + 6), show G (16 * n + 6) = _ from hG 6]
  rw [show 16 * n + 6 = (16 * n + 5) + 1 from rfl, Finset.sum_range_succ _ (16 * n + 5), show G (16 * n + 5) = _ from hG 5]
  rw [show 16 * n + 5 = (16 * n + 4) + 1 from rfl, Finset.sum_range_succ _ (16 * n + 4), show G (16 * n + 4) = _ from hG 4]
  rw [show 16 * n + 4 = (16 * n + 3) + 1 from rfl, Finset.sum_range_succ _ (16 * n + 3), show G (16 * n + 3) = _ from hG 3]
  rw [show 16 * n + 3 = (16 * n + 2) + 1 from rfl, Finset.sum_range_succ _ (16 * n + 2), show G (16 * n + 2) = _ from hG 2]
  rw [show 16 * n + 2 = (16 * n + 1) + 1 from rfl, Finset.sum_range_succ _ (16 * n + 1), show G (16 * n + 1) = _ from hG 1]
  rw [show 16 * n + 1 = (16 * n + 0) + 1 from rfl, Finset.sum_range_succ _ (16 * n + 0), show G (16 * n + 0) = _ from hG 0]
  rw [Nat.add_zero, hs]

theorem odds_named (v : Vec Ideal S128x128 .f32) (j : S128x128.Idx) : k0_pay216 (F := Ideal) v j = v j - (odds : EReal) := by
  rw [← odds_eq]
  rfl

/-- The logits of a row: the first 128 rows from one array, the others from the next. -/
def cat {F : FTy → Type} (x y : Vec F S128x153600 .f32) (r : Fin 256) (v : Fin 153600) : F .f32 :=
  if h : r.val < 128 then x (ix2 ⟨r.val, h⟩ v) else y (ix2 ⟨r.val - 128, by omega⟩ v)

/-- A column of tile `c` and lane `l`. -/
def col (c : Fin 1200) (l : Fin 128) : Fin 153600 := ⟨128 * c.val + l.val, by omega⟩

/-- A term at a column of a lane. -/
def term (g : EReal → EReal → EReal) (x5 x6 : Vec Ideal S256x128 .f32) (x7 x8 x9 x10 : Vec Ideal S128x153600 .f32) (r : Fin 256) (l : Fin 128)
    (c : Fin 1200) : EReal :=
  g (cat x7 x8 r (col c l) - (x5 (ix2 r l) - (odds : EReal))) (cat x9 x10 r (col c l) - x6 (ix2 r l))

/-- The term, with zero past the last column. -/
def termN (g : EReal → EReal → EReal) (x5 x6 : Vec Ideal S256x128 .f32) (x7 x8 x9 x10 : Vec Ideal S128x153600 .f32) (r : Fin 256) (l : Fin 128)
    (c : ℕ) : EReal :=
  if h : c < 1200 then term g x5 x6 x7 x8 x9 x10 r l ⟨c, h⟩ else 0

theorem tile_blk (x : Vec Ideal S128x153600 .f32) (n : ℕ) (hn : n < 75) (k : Fin 16) (r l : Fin 128) :
    tile (blk x n) k (ix2 r l) = x (ix2 r (col ⟨16 * n + k.val, by omega⟩ l)) := by
  have hk := k.isLt
  have hl := l.isLt
  have h : 2048 * n + (128 * k.val + l.val) < 153600 := by omega
  show (if h : 2048 * n + (128 * k.val + l.val) < 153600 then x (ix2 r ⟨2048 * n + (128 * k.val + l.val), h⟩) else _) = _
  rw [dif_pos h]
  congr 2
  exact Fin.ext (show 2048 * n + (128 * k.val + l.val) = 128 * (16 * n + k.val) + l.val by ring)

theorem zero_at (j : S256x128.Idx) : bodyRun.sl.v694 (F := Ideal) j = 0 := by
  show Ideal.ofBits .f32 0x00000000#32 = 0
  simp [Ideal.ofBits, Ideal.ieee]

variable (m : (ℓ : Loc nD τ sig) → Buf (Elt Ideal) ℓ) (c : Dev nD)

theorem start_at (t : Fin grid0.N) : start (grid0.coords t) (stAt m c t.val) = stAt m c t.val := by
  unfold start
  split
  · rename_i h
    rw [first_iff] at h
    rw [h]
    rfl
  · rfl

theorem pf_at (n : ℕ) (hn : n ≤ 75) (r : Fin 256) (l : Fin 128) (hr : r.val < 128 ∨ bothBit (tab0 m) (tab1 m) = 1#1) :
    (stAt m c n).pf (ix2 r l)
      = ∑ k ∈ Finset.range (16 * n), termN gT (a5 m c) (a6 m c) (a7 m c) (a8 m c) (a9 m c) (a10 m c) r l k := by
  induction n with
  | zero =>
    rw [Nat.mul_zero, Finset.sum_range_zero]
    exact zero_at (ix2 r l)
  | succ n ih =>
    have ih := ih (by omega)
    have e := stAt_succ m c ⟨n, by rw [N_0]; omega⟩
    rw [show stAt m c (n + 1) = _ from e]
    unfold point
    rw [start_at]
    show halves _ _ _ _ (ix2 r l) = _
    have hT : ∀ k : Fin 16, 16 * n + k.val < 1200 := fun k => by have := k.isLt; omega
    unfold halves
    by_cases h : r.val < 128
    · refine (dif_pos h).trans ?_
      refine pfBlk_at _ _ _ _ _ (ix2 ⟨r.val, h⟩ l) _ n ?_ ?_
      · refine Eq.trans ?_ ih
        show (stAt m c n).pf (ix2 ⟨0 + r.val, _⟩ l) = _
        congr 2
        exact Fin.ext (Nat.zero_add _)
      · intro k
        unfold termN term cat
        rw [dif_pos (hT k), dif_pos h, dif_pos h, odds_named, tile_blk _ n (by omega), tile_blk _ n (by omega)]
        have hh : ∀ x : Vec Ideal S256x128 .f32, half x 0 (by omega) (ix2 ⟨r.val, h⟩ l) = x (ix2 r l) := fun x => by
          show x (ix2 ⟨0 + r.val, _⟩ l) = _
          congr 2
          exact Fin.ext (Nat.zero_add _)
        rw [hh, hh]
    · have hb := hr.resolve_left h
      refine (dif_neg h).trans ?_
      refine (if_pos hb).trans ?_
      refine pfBlk_at _ _ _ _ _ (ix2 ⟨r.val - 128, by omega⟩ l) _ n ?_ ?_
      · refine Eq.trans ?_ ih
        show (stAt m c n).pf (ix2 ⟨128 + (r.val - 128), _⟩ l) = _
        congr 2
        exact Fin.ext (show 128 + (r.val - 128) = r.val by omega)
      · intro k
        unfold termN term cat
        rw [dif_pos (hT k), dif_neg h, dif_neg h, odds_named, tile_blk _ n (by omega), tile_blk _ n (by omega)]
        have hh : ∀ x : Vec Ideal S256x128 .f32, half x 128 (by omega) (ix2 ⟨r.val - 128, by omega⟩ l) = x (ix2 r l) := fun x => by
          show x (ix2 ⟨128 + (r.val - 128), _⟩ l) = _
          congr 2
          exact Fin.ext (show 128 + (r.val - 128) = r.val by omega)
        rw [hh, hh]

theorem pf_end (r : Fin 256) (l : Fin 128) (hr : r.val < 128 ∨ bothBit (tab0 m) (tab1 m) = 1#1) :
    (stAt m c 75).pf (ix2 r l)
      = ∑ k : Fin 1200, term gT (a5 m c) (a6 m c) (a7 m c) (a8 m c) (a9 m c) (a10 m c) r l k := by
  rw [pf_at m c 75 (le_refl _) r l hr, show 16 * 75 = 1200 from rfl, Finset.sum_range]
  refine Finset.sum_congr rfl fun k _ => ?_
  unfold termN
  rw [dif_pos k.isLt]

theorem qg_at (n : ℕ) (hn : n ≤ 75) (r : Fin 256) (l : Fin 128) (hr : r.val < 128 ∨ bothBit (tab0 m) (tab1 m) = 1#1) :
    (stAt m c n).qg (ix2 r l)
      = ∑ k ∈ Finset.range (16 * n), termN gS (a5 m c) (a6 m c) (a7 m c) (a8 m c) (a9 m c) (a10 m c) r l k := by
  induction n with
  | zero =>
    rw [Nat.mul_zero, Finset.sum_range_zero]
    exact zero_at (ix2 r l)
  | succ n ih =>
    have ih := ih (by omega)
    have e := stAt_succ m c ⟨n, by rw [N_0]; omega⟩
    rw [show stAt m c (n + 1) = _ from e]
    unfold point
    rw [start_at]
    show halves _ _ _ _ (ix2 r l) = _
    have hT : ∀ k : Fin 16, 16 * n + k.val < 1200 := fun k => by have := k.isLt; omega
    unfold halves
    by_cases h : r.val < 128
    · refine (dif_pos h).trans ?_
      refine qgBlk_at _ _ _ _ _ (ix2 ⟨r.val, h⟩ l) _ n ?_ ?_
      · refine Eq.trans ?_ ih
        show (stAt m c n).qg (ix2 ⟨0 + r.val, _⟩ l) = _
        congr 2
        exact Fin.ext (Nat.zero_add _)
      · intro k
        unfold termN term cat
        rw [dif_pos (hT k), dif_pos h, dif_pos h, odds_named, tile_blk _ n (by omega), tile_blk _ n (by omega)]
        have hh : ∀ x : Vec Ideal S256x128 .f32, half x 0 (by omega) (ix2 ⟨r.val, h⟩ l) = x (ix2 r l) := fun x => by
          show x (ix2 ⟨0 + r.val, _⟩ l) = _
          congr 2
          exact Fin.ext (Nat.zero_add _)
        rw [hh, hh]
    · have hb := hr.resolve_left h
      refine (dif_neg h).trans ?_
      refine (if_pos hb).trans ?_
      refine qgBlk_at _ _ _ _ _ (ix2 ⟨r.val - 128, by omega⟩ l) _ n ?_ ?_
      · refine Eq.trans ?_ ih
        show (stAt m c n).qg (ix2 ⟨128 + (r.val - 128), _⟩ l) = _
        congr 2
        exact Fin.ext (show 128 + (r.val - 128) = r.val by omega)
      · intro k
        unfold termN term cat
        rw [dif_pos (hT k), dif_neg h, dif_neg h, odds_named, tile_blk _ n (by omega), tile_blk _ n (by omega)]
        have hh : ∀ x : Vec Ideal S256x128 .f32, half x 128 (by omega) (ix2 ⟨r.val - 128, by omega⟩ l) = x (ix2 r l) := fun x => by
          show x (ix2 ⟨128 + (r.val - 128), _⟩ l) = _
          congr 2
          exact Fin.ext (show 128 + (r.val - 128) = r.val by omega)
        rw [hh, hh]

theorem qg_end (r : Fin 256) (l : Fin 128) (hr : r.val < 128 ∨ bothBit (tab0 m) (tab1 m) = 1#1) :
    (stAt m c 75).qg (ix2 r l)
      = ∑ k : Fin 1200, term gS (a5 m c) (a6 m c) (a7 m c) (a8 m c) (a9 m c) (a10 m c) r l k := by
  rw [qg_at m c 75 (le_refl _) r l hr, show 16 * 75 = 1200 from rfl, Finset.sum_range]
  refine Finset.sum_congr rfl fun k _ => ?_
  unfold termN
  rw [dif_pos k.isLt]

end Cert.GradientIdeal.Hand
-- ==== Proof.LossValue.lean ====
/-
  The value of the loss reference, as a function of its arguments.
-/
module

public import proofs.«01_k».proof.Proof.Gen.LossIdeal.Value
public import proofs.«01_k».proof.Proof.Reads

@[expose] public section

set_option maxRecDepth 16384

noncomputable section

namespace Cert.LossIdeal.Hand

open Cert.LossIdeal Cert.LossIdeal.Gen
open Idealize.ShloMosaic Idealize.ShloMosaic.TcCoe
open Idealize.SL.Sem

variable {F : FTy → Type} [FloatOps F] [Named F]

/-- A word of a table. -/
def word (x : Vec F S2 .i32) (k : Fin 2) : BitVec 32 := x (ix1 k)

theorem rd_word {m : Memref sig .tc .smem S2 .i32} (h : m.IsWhole) (X : Vec F S2 .i32) (k : Fin 2)
    (inb : ∀ a, (![k.val] : Fin 1 → ℕ) a + S1.size a ≤ S2.size a) (z : S1.Idx) :
    View.readAt (Elt F) m.view (Rect.unit (s := S2) ![k.val] S1.size inb).toLoadRect (h.unread X) z = word X k := by
  rw [h.readAt_unread]
  refine congrArg X (funext fun a => ?_)
  have hz : (z 0).val = 0 := by
    have : (z 0).val < 1 := (z 0).isLt
    omega
  match a with
  | ⟨0, _⟩ => exact Fin.ext (show k.val + 1 * (z 0).val = k.val by omega)

theorem rd_word1 {m : Memref sig .tc .smem S1 .i32} (h : m.IsWhole) (X : Vec F S1 .i32)
    (inb : ∀ a, (![0] : Fin 1 → ℕ) a + S1.size a ≤ S1.size a) (z : S1.Idx) :
    View.readAt (Elt F) m.view (Rect.unit (s := S1) ![0] S1.size inb).toLoadRect (h.unread X) z = X (ix1 (0 : Fin 1)) := by
  rw [h.readAt_unread]
  refine congrArg X (funext fun a => ?_)
  have hz : (z 0).val = 0 := by
    have : (z 0).val < 1 := (z 0).isLt
    omega
  match a with
  | ⟨0, _⟩ => exact Fin.ext (show 0 + 1 * (z 0).val = 0 by omega)

/-- The losses, from the four words of the spans, the token count and the arrays. -/
def lossW (b0 e0 b1 e1 n : BitVec 32) (x3 x4 : Vec F S256x128 .f32) (x5 x6 x7 x8 : Vec F S128x153600 .f32) : Vec F S1x256 .f32 :=
  k0_pay1 (k0_pay7 (k0_pay5 x5 x6 x3 x7 x8 x4) (k0_pay6 x5 x6 x3 x7 x8 x4))
    (Scalar.maxsi (Scalar.subi (Scalar.minsi (Scalar.maxsi e0 0#32) 128#32) (Scalar.minsi (Scalar.maxsi b0 0#32) 128#32)) 0#32)
    k0_pay8 (k0_pay9 (F := F) b0 b1) (k0_pay10 (F := F) b0 e0 b1 e1) k0_pay11 0#32 n

/-- The losses, from the arguments. -/
def lossR (x0 x1 : Vec F S2 .i32) (x2 : Vec F S1 .i32) (x3 x4 : Vec F S256x128 .f32) (x5 x6 x7 x8 : Vec F S128x153600 .f32) : Vec F S1x256 .f32 :=
  lossW (word x0 0) (word x1 0) (word x0 1) (word x1 1) (x2 (ix1 (0 : Fin 1))) x3 x4 x5 x6 x7 x8

variable (c : Dev nD) (arg0 : Memref sig .tc .smem S2 .i32) (harg0 : arg0.IsWhole) (arg1 : Memref sig .tc .smem S2 .i32) (harg1 : arg1.IsWhole)
  (arg2 : Memref sig .tc .smem S1 .i32) (harg2 : arg2.IsWhole) (arg3 : Memref sig .tc .vmem S256x128 .f32) (harg3 : arg3.IsWhole)
  (arg4 : Memref sig .tc .vmem S256x128 .f32) (harg4 : arg4.IsWhole) (arg5 : Memref sig .tc .vmem S128x153600 .f32) (harg5 : arg5.IsWhole)
  (arg6 : Memref sig .tc .vmem S128x153600 .f32) (harg6 : arg6.IsWhole) (arg7 : Memref sig .tc .vmem S128x153600 .f32) (harg7 : arg7.IsWhole)
  (arg8 : Memref sig .tc .vmem S128x153600 .f32) (harg8 : arg8.IsWhole) (arg9 : Memref sig .tc .vmem S1x256 .f32) (harg9 : arg9.IsWhole)
  (x0 : Vec F S2 .i32) (x1 : Vec F S2 .i32) (x2 : Vec F S1 .i32) (x3 : Vec F S256x128 .f32) (x4 : Vec F S256x128 .f32)
  (x5 : Vec F S128x153600 .f32) (x6 : Vec F S128x153600 .f32) (x7 : Vec F S128x153600 .f32) (x8 : Vec F S128x153600 .f32)

/-- A whole load of a block of logits. -/
abbrev ldL {m : Memref sig .tc .vmem S128x153600 .f32} (h : m.IsWhole) (X : Vec F S128x153600 .f32) : Vec F S128x153600 .f32 :=
  View.readAt (Elt F) m.view (Rect.unit (s := S128x153600) ![0, 0] S128x153600.size inb_S128x153600_S128x153600_0_0).toLoadRect (h.unread X)
/-- A whole load of a block of logsumexps. -/
abbrev ldS {m : Memref sig .tc .vmem S256x128 .f32} (h : m.IsWhole) (X : Vec F S256x128 .f32) : Vec F S256x128 .f32 :=
  View.readAt (Elt F) m.view (Rect.unit (s := S256x128) ![0, 0] S256x128.size inb_S256x128_S256x128_0_0).toLoadRect (h.unread X)
/-- A load of a word. -/
abbrev ldW0 {m : Memref sig .tc .smem S2 .i32} (h : m.IsWhole) (X : Vec F S2 .i32) : BitVec 32 :=
  View.readAt (Elt F) m.view (Rect.unit (s := S2) ![0] S1.size inb_S2_S1_0).toLoadRect (h.unread X) (Shape.Idx.first (by decide))
/-- A load of a word. -/
abbrev ldW1 {m : Memref sig .tc .smem S2 .i32} (h : m.IsWhole) (X : Vec F S2 .i32) : BitVec 32 :=
  View.readAt (Elt F) m.view (Rect.unit (s := S2) ![1] S1.size inb_S2_S1_1).toLoadRect (h.unread X) (Shape.Idx.first (by decide))
/-- A load of the count. -/
abbrev ldN {m : Memref sig .tc .smem S1 .i32} (h : m.IsWhole) (X : Vec F S1 .i32) : BitVec 32 :=
  View.readAt (Elt F) m.view (Rect.unit (s := S1) ![0] S1.size inb_S1_S1_0).toLoadRect (h.unread X) (Shape.Idx.first (by decide))

set_option maxHeartbeats 1000000 in
theorem pieces_eq : (kernelRun0_A c arg0 harg0 arg1 harg1 arg2 harg2 arg3 harg3 arg4 harg4 arg5 harg5 arg6 harg6 arg7 harg7 arg8 harg8 arg9 harg9 x0 x1 x2 x3 x4 x5 x6 x7 x8).1
    = [⟨Rect.unit (s := S1x256) ![0, 0] S1x256.size inb_S1x256_S1x256_0_0,
        lossW (ldW0 harg0 x0) (ldW0 harg1 x1) (ldW1 harg0 x0) (ldW1 harg1 x1) (ldN harg2 x2) (ldS harg3 x3) (ldS harg4 x4)
          (ldL harg5 x5) (ldL harg6 x6) (ldL harg7 x7) (ldL harg8 x8)⟩] := rfl

theorem out_eq : out0_A_9 c arg0 harg0 arg1 harg1 arg2 harg2 arg3 harg3 arg4 harg4 arg5 harg5 arg6 harg6 arg7 harg7 arg8 harg8 arg9 harg9 x0 x1 x2 x3 x4 x5 x6 x7 x8
    = lossR x0 x1 x2 x3 x4 x5 x6 x7 x8 := by
  unfold out0_A_9
  rw [pieces_eq]
  refine (View.read_writes_full VO0_9 _ inb_S1x256_S1x256_0_0 _ []).trans ?_
  unfold lossR
  rw [← rd_word harg0 x0 0 inb_S2_S1_0 (Shape.Idx.first (by decide)), ← rd_word harg1 x1 0 inb_S2_S1_0 (Shape.Idx.first (by decide)),
    ← rd_word harg0 x0 1 inb_S2_S1_1 (Shape.Idx.first (by decide)), ← rd_word harg1 x1 1 inb_S2_S1_1 (Shape.Idx.first (by decide)),
    ← rd_word1 harg2 x2 inb_S1_S1_0 (Shape.Idx.first (by decide))]
  have hL : ∀ {m : Memref sig .tc .vmem S128x153600 .f32} (h : m.IsWhole) (X : Vec F S128x153600 .f32), ldL h X = X :=
    fun h X => Cert.KernelIdeal.Hand.rd_full h X _
  have hS : ∀ {m : Memref sig .tc .vmem S256x128 .f32} (h : m.IsWhole) (X : Vec F S256x128 .f32), ldS h X = X :=
    fun h X => Cert.KernelIdeal.Hand.rd_full h X _
  rw [hL harg5, hL harg6, hL harg7, hL harg8, hS harg3, hS harg4]
  rfl

variable (m : (ℓ : Loc nD τ sig) → Buf (Elt F) ℓ) (ρ : Dev nD → PrngReg)

/-- The reference's losses. -/
abbrev lossEnd (c : Dev nD) : Vec F S1x256 .f32 :=
  lossR (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem iblk_0 (c : Dev nD) (t : Fin cfg0.N) : iblk m c 0 t = (m ((c : Thread nD τ).loc main_arg0)) := by
  unfold iblk
  refine funext fun j : S2.Idx => ?_
  refine congrArg (m ((c : Thread nD τ).loc main_arg0)) (funext fun a => Fin.ext ?_)
  fin_cases a
  · show 0 * 2 + 1 * (j 0).val = (j 0).val
    omega

theorem iblk_1 (c : Dev nD) (t : Fin cfg0.N) : iblk m c 1 t = (m ((c : Thread nD τ).loc main_arg1)) := by
  unfold iblk
  refine funext fun j : S2.Idx => ?_
  refine congrArg (m ((c : Thread nD τ).loc main_arg1)) (funext fun a => Fin.ext ?_)
  fin_cases a
  · show 0 * 2 + 1 * (j 0).val = (j 0).val
    omega

theorem iblk_2 (c : Dev nD) (t : Fin cfg0.N) : iblk m c 2 t = (m ((c : Thread nD τ).loc main_arg2)) := by
  unfold iblk
  refine funext fun j : S1.Idx => ?_
  refine congrArg (m ((c : Thread nD τ).loc main_arg2)) (funext fun a => Fin.ext ?_)
  fin_cases a
  · show 0 * 1 + 1 * (j 0).val = (j 0).val
    omega

theorem iblk_3 (c : Dev nD) (t : Fin cfg0.N) : iblk m c 3 t = (m ((c : Thread nD τ).loc main_arg5)) := by
  unfold iblk
  refine funext fun j : S256x128.Idx => ?_
  refine congrArg (m ((c : Thread nD τ).loc main_arg5)) (funext fun a => Fin.ext ?_)
  fin_cases a
  · show 0 * 256 + 1 * (j 0).val = (j 0).val
    omega
  · show 0 * 128 + 1 * (j 1).val = (j 1).val
    omega

theorem iblk_4 (c : Dev nD) (t : Fin cfg0.N) : iblk m c 4 t = (m ((c : Thread nD τ).loc main_arg6)) := by
  unfold iblk
  refine funext fun j : S256x128.Idx => ?_
  refine congrArg (m ((c : Thread nD τ).loc main_arg6)) (funext fun a => Fin.ext ?_)
  fin_cases a
  · show 0 * 256 + 1 * (j 0).val = (j 0).val
    omega
  · show 0 * 128 + 1 * (j 1).val = (j 1).val
    omega

theorem iblk_5 (c : Dev nD) (t : Fin cfg0.N) : iblk m c 5 t = (m ((c : Thread nD τ).loc main_arg7)) := by
  unfold iblk
  refine funext fun j : S128x153600.Idx => ?_
  refine congrArg (m ((c : Thread nD τ).loc main_arg7)) (funext fun a => Fin.ext ?_)
  fin_cases a
  · show 0 * 128 + 1 * (j 0).val = (j 0).val
    omega
  · show 0 * 153600 + 1 * (j 1).val = (j 1).val
    omega

theorem iblk_6 (c : Dev nD) (t : Fin cfg0.N) : iblk m c 6 t = (m ((c : Thread nD τ).loc main_arg8)) := by
  unfold iblk
  refine funext fun j : S128x153600.Idx => ?_
  refine congrArg (m ((c : Thread nD τ).loc main_arg8)) (funext fun a => Fin.ext ?_)
  fin_cases a
  · show 0 * 128 + 1 * (j 0).val = (j 0).val
    omega
  · show 0 * 153600 + 1 * (j 1).val = (j 1).val
    omega

theorem iblk_7 (c : Dev nD) (t : Fin cfg0.N) : iblk m c 7 t = (m ((c : Thread nD τ).loc main_arg9)) := by
  unfold iblk
  refine funext fun j : S128x153600.Idx => ?_
  refine congrArg (m ((c : Thread nD τ).loc main_arg9)) (funext fun a => Fin.ext ?_)
  fin_cases a
  · show 0 * 128 + 1 * (j 0).val = (j 0).val
    omega
  · show 0 * 153600 + 1 * (j 1).val = (j 1).val
    omega

theorem iblk_8 (c : Dev nD) (t : Fin cfg0.N) : iblk m c 8 t = (m ((c : Thread nD τ).loc main_arg10)) := by
  unfold iblk
  refine funext fun j : S128x153600.Idx => ?_
  refine congrArg (m ((c : Thread nD τ).loc main_arg10)) (funext fun a => Fin.ext ?_)
  fin_cases a
  · show 0 * 128 + 1 * (j 0).val = (j 0).val
    omega
  · show 0 * 153600 + 1 * (j 1).val = (j 1).val
    omega

theorem arr_eq (c : Dev nD) : (dats m 0 c).arrAt 9 cfg0.N = lossEnd m c := by
  have e := (Cert.LossIdeal.Value.blocks9 m c ⟨0, by decide⟩ (by decide)).trans (Cert.LossIdeal.Value.flushed9_A m c ⟨0, by decide⟩)
  rw [out_eq, iblk_0, iblk_1, iblk_2, iblk_3, iblk_4, iblk_5, iblk_6, iblk_7, iblk_8] at e
  refine funext fun j : S1x256.Idx => ?_
  have ej := congrFun e j
  refine Eq.trans ?_ (ej.trans rfl)
  refine congrArg ((dats m 0 c).arrAt 9 cfg0.N) (funext fun a => Fin.ext ?_)
  fin_cases a
  · show (j 0).val = 0 * 1 + 1 * (j 0).val
    omega
  · show (j 1).val = 0 * 256 + 1 * (j 1).val
    omega

end Cert.LossIdeal.Hand
-- ==== Proof.LossAt.lean ====
/-
  The losses of the reference at a token.
-/
module

public import proofs.«01_k».proof.Proof.LossValue
public import proofs.«01_k».proof.Proof.GradJsd
public import proofs.«01_k».proof.Proof.GradTok

@[expose] public section

set_option maxRecDepth 16384

noncomputable section

namespace Cert.LossIdeal.Hand

open Cert.LossIdeal Cert.LossIdeal.Gen Cert.Jsd Cert.Tok
open Cert.KernelIdeal.Hand (sge_nat slt_nat eq_nat sub_nat add_nat clip_nat span_nat sel_one sel_zero)
open Idealize.ShloMosaic Idealize.ShloMosaic.TcCoe Idealize.ShloMosaic.WordCmp

/-! ## The divergence of a row -/

/-- A sum over all but the first axis. -/
theorem sum_tiles {n k : ℕ} (u : FVec Ideal ⟨3, ![256, n, k]⟩ .f32) (h : (⟨3, ![256, n, k]⟩ : Shape).Reduces [1, 2] S256) (t : Fin 256) :
    multiReduction .add [1, 2] S256 u 0x00000000#32 h (.inl rfl) rfl (ix1 t) = ∑ a : Fin n, ∑ b : Fin k, u (ix3 t a b) := by
  pointwise []

/-- The logits of a row: the first 128 rows from one array, the others from the next. -/
def cat (x y : Vec Ideal S128x153600 .f32) (r : Fin 256) (v : Fin 153600) : EReal :=
  if h : r.val < 128 then x (ix2 ⟨r.val, h⟩ v) else y (ix2 ⟨r.val - 128, by omega⟩ v)

/-- A column of tile `c` and lane `l`. -/
def col (c : Fin 1200) (l : Fin 128) : Fin 153600 := ⟨128 * c.val + l.val, by omega⟩

theorem rows_at (x5 x6 : Vec Ideal S128x153600 .f32) (r : Fin 256) (v : Fin 153600) :
    concatenate S256x153600 0 [⟨S128x153600, x5⟩, ⟨S128x153600, x6⟩] concatenates_S128x153600_S128x153600_S256x153600_d0 (ix2 r v)
      = if h : r.val < 128 then x5 (ix2 ⟨r.val, h⟩ v) else x6 (ix2 ⟨r.val - 128, by omega⟩ v) := by
  pointwise []

theorem tiles_at (u : FVec Ideal S256x153600 .f32) (r : Fin 256) (c : Fin 1200) (l : Fin 128) :
    shapeCast S256x1200x128 u shapeCasts_S256x153600_S256x1200x128 (ix3 r c l) = u (ix2 r (col c l)) := by
  pointwise []
  unfold col
  congr 2
  exact Fin.ext (show c.val * 128 + l.val = 128 * c.val + l.val by ring)

theorem lanes_at (u : Vec Ideal S256x128 .f32) (r : Fin 256) (c : Fin 1200) (l : Fin 128) :
    broadcastTo S256x1200x128 (shapeCast S256x1x128 u shapeCasts_S256x128_S256x1x128) broadcasts_S256x1x128_S256x1200x128 (ix3 r c l) = u (ix2 r l) := by
  pointwise []

theorem ln2_eq : Named.named (F := Ideal) κ "ln2" (φ := .f32) 0x3F317218#32 = ((Real.log 2 : ℝ) : EReal) :=
  IdealRules.named_const.ideal_named_scalar _ _ _ _ rfl
theorem log_beta_eq : Named.named (F := Ideal) κ "log_beta" (φ := .f32) 0xBFB17218#32 = ((Real.log (1 / 4) : ℝ) : EReal) :=
  IdealRules.named_const.ideal_named_scalar _ _ _ _ rfl
theorem log_one_minus_beta_eq : Named.named (F := Ideal) κ "log_one_minus_beta" (φ := .f32) 0xBE934B11#32 = ((Real.log (3 / 4) : ℝ) : EReal) :=
  IdealRules.named_const.ideal_named_scalar _ _ _ _ rfl
theorem zero_eq : Ideal.ofBits .f32 0x00000000#32 = 0 := by
  simp [Ideal.ofBits, Ideal.ieee]
theorem quarter_eq : Ideal.ofBits .f32 0x3E800000#32 = (((1 : ℝ) / 4 : ℝ) : EReal) := by
  simp [Ideal.ofBits, Ideal.ieee]
  rw [← EReal.coe_mul]
  norm_num
theorem three_quarters_eq : Ideal.ofBits .f32 0x3F400000#32 = (((3 : ℝ) / 4 : ℝ) : EReal) := by
  simp [Ideal.ofBits, Ideal.ieee]
  rw [← EReal.coe_mul]
  norm_num

section

variable (x3 x4 : Vec Ideal S256x128 .f32) (x5 x6 x7 x8 : Vec Ideal S128x153600 .f32) (r : Fin 256) (c : Fin 1200) (l : Fin 128)

theorem pay2_at : k0_pay2 (F := Ideal) x5 x6 x3 (ix3 r c l) = xlog (cat x5 x6 r (col c l)) (x3 (ix2 r l)) := by
  have h : k0_pay2 (F := Ideal) x5 x6 x3 (ix3 r c l)
      = (shapeCast S256x1200x128 (concatenate S256x153600 0 [⟨S128x153600, x5⟩, ⟨S128x153600, x6⟩] concatenates_S128x153600_S128x153600_S256x153600_d0)
            shapeCasts_S256x153600_S256x1200x128 (ix3 r c l)
          - broadcastTo S256x1200x128 (shapeCast S256x1x128 x3 shapeCasts_S256x128_S256x1x128) broadcasts_S256x1x128_S256x1200x128 (ix3 r c l))
        * Named.named (F := Ideal) κ "ln2" (φ := .f32) 0x3F317218#32 := rfl
  rw [h, tiles_at, rows_at, lanes_at, ln2_eq]
  rfl

theorem pay3_at : k0_pay3 (F := Ideal) x7 x8 x4 (ix3 r c l) = xlog (cat x7 x8 r (col c l)) (x4 (ix2 r l)) := by
  rw [← pay2_at]
  rfl

theorem pay4_at : k0_pay4 (F := Ideal) x5 x6 x3 x7 x8 x4 (ix3 r c l)
    = logm (xlog (cat x5 x6 r (col c l)) (x3 (ix2 r l))) (xlog (cat x7 x8 r (col c l)) (x4 (ix2 r l))) := by
  rw [← pay2_at, ← pay3_at]
  unfold logm
  rw [← log_beta_eq, ← log_one_minus_beta_eq, ← zero_eq]
  rfl

/-- The reference's divergence of a row. -/
def jsdR (r : Fin 256) : EReal :=
  (((1 : ℝ) / 4 : ℝ) : EReal) * ∑ c : Fin 1200, ∑ l : Fin 128, rT (xlog (cat x5 x6 r (col c l)) (x3 (ix2 r l))) (xlog (cat x7 x8 r (col c l)) (x4 (ix2 r l)))
    + (((3 : ℝ) / 4 : ℝ) : EReal) * ∑ c : Fin 1200, ∑ l : Fin 128, rS (xlog (cat x5 x6 r (col c l)) (x3 (ix2 r l))) (xlog (cat x7 x8 r (col c l)) (x4 (ix2 r l)))

/-- The two sums of a row, by their entries. -/
theorem pay5_at : k0_pay5 (F := Ideal) x5 x6 x3 x7 x8 x4 (ix1 r) = (((1 : ℝ) / 4 : ℝ) : EReal)
    * ∑ c : Fin 1200, ∑ l : Fin 128, rT (xlog (cat x5 x6 r (col c l)) (x3 (ix2 r l))) (xlog (cat x7 x8 r (col c l)) (x4 (ix2 r l))) := by
  unfold k0_pay5
  dsimp only
  rw [← quarter_eq]
  refine congrArg (_ * ·) ((sum_tiles _ _ r).trans (Finset.sum_congr rfl fun c _ => Finset.sum_congr rfl fun l _ => ?_))
  unfold rT
  rw [← pay4_at, ← pay2_at]
  rfl

theorem pay6_at : k0_pay6 (F := Ideal) x5 x6 x3 x7 x8 x4 (ix3 r c l)
    = rS (xlog (cat x5 x6 r (col c l)) (x3 (ix2 r l))) (xlog (cat x7 x8 r (col c l)) (x4 (ix2 r l))) := by
  unfold rS
  rw [← pay4_at, ← pay3_at]
  rfl

theorem pay7_at : k0_pay7 (F := Ideal) (k0_pay5 x5 x6 x3 x7 x8 x4) (k0_pay6 x5 x6 x3 x7 x8 x4) (ix1 r) = jsdR x3 x4 x5 x6 x7 x8 r := by
  unfold jsdR
  rw [← pay5_at]
  generalize k0_pay5 x5 x6 x3 x7 x8 x4 = A
  have e : ∀ c l, k0_pay6 (F := Ideal) x5 x6 x3 x7 x8 x4 (ix3 r c l)
    = rS (xlog (cat x5 x6 r (col c l)) (x3 (ix2 r l))) (xlog (cat x7 x8 r (col c l)) (x4 (ix2 r l))) := fun c l => pay6_at x3 x4 x5 x6 x7 x8 r c l
  generalize k0_pay6 x5 x6 x3 x7 x8 x4 = B at e ⊢
  unfold k0_pay7
  dsimp only
  rw [← three_quarters_eq]
  exact congrArg (A (ix1 r) + _ * ·) ((sum_tiles B _ r).trans (Finset.sum_congr rfl fun c _ => Finset.sum_congr rfl fun l _ => e c l))

end

/-! ## A token's loss -/

section

variable (J : FVec Ideal S256 .f32) (b0 e0 b1 e1 n : BitVec 32) (p0 q0 p1 q1 : ℕ) (hp0 : p0 ≤ 128) (hq0 : q0 ≤ 128)
  (hp1 : p1 ≤ 128) (hq1 : q1 ≤ 128)
  (e10 : Scalar.minsi 128#32 (Scalar.maxsi 0#32 b0) = BitVec.ofNat 32 p0)
  (e11 : Scalar.minsi 128#32 (Scalar.maxsi 0#32 b1) = BitVec.ofNat 32 p1)
  (e20 : Scalar.minsi 128#32 (Scalar.maxsi 0#32 e0) = BitVec.ofNat 32 q0)
  (e21 : Scalar.minsi 128#32 (Scalar.maxsi 0#32 e1) = BitVec.ofNat 32 q1) (t : Fin 256)

include hp0 hq0 hp1 hq1 e10 e11 e20 e21

/-- A token's loss: its weight times the divergence of its row. -/
theorem pay1_at (b : BitVec 1) (hb : (inSpan p0 q0 p1 q1 t.val ∧ b = 1#1) ∨ (¬ inSpan p0 q0 p1 q1 t.val ∧ b = 0#1)) :
    ∃ T, k0_pay1 (F := Ideal) J (Scalar.maxsi (Scalar.subi (Scalar.minsi (Scalar.maxsi e0 0#32) 128#32) (Scalar.minsi (Scalar.maxsi b0 0#32) 128#32)) 0#32)
        k0_pay8 (k0_pay9 (F := Ideal) b0 b1) (k0_pay10 (F := Ideal) b0 e0 b1 e1) k0_pay11 0#32 n (ix2 0 t) = wt b n * T
      ∧ (inSpan p0 q0 p1 q1 t.val → ∀ d : Fin 256, d.val = rowN p0 q0 p1 q1 t.val → T = J (ix1 d)) := by
  have s0 := span_nat ⟨q0, by omega⟩ ⟨p0, by omega⟩
  dsimp only at s0
  have ht := t.isLt
  have key : ∀ w : BitVec 1, w = b → Ideal.div (FloatOps.sitofp (F := Ideal) .f32 (BitVec.setWidth 32 w)) ((n.toInt : ℝ) : EReal) = wt b n := by
    rintro w rfl
    rfl
  pointwise [k0_pay1, k0_pay8, k0_pay9, k0_pay10, k0_pay11]
  simp only [clip_swap]
  rw [e10, e11, e20, e21, s0, slt_nat (by omega : t.val < 2 ^ 31) (by omega : 128 < 2 ^ 31)]
  refine ⟨_, congrArg (· * _) (key _ ?_), ?_⟩
  · unfold inSpan at hb
    by_cases h : 128 ≤ t.val
    · have es : IntOp.subi (BitVec.ofNat 32 t.val) 128#32 = BitVec.ofNat 32 (t.val - 128) := sub_nat h (by omega)
      have h' : ¬ t.val < 128 := by omega
      simp only [if_neg h', sel_zero]
      simp only [if_pos h] at hb
      rw [es, bit_nat (by omega) (by omega) (by omega)]
      rcases hb with ⟨hb, rfl⟩ | ⟨hb, rfl⟩
      · exact if_pos hb
      · exact if_neg hb
    · have h' : t.val < 128 := by omega
      simp only [if_pos h', sel_one]
      simp only [if_neg h] at hb
      rw [bit_nat (by omega) (by omega) (by omega)]
      rcases hb with ⟨hb, rfl⟩ | ⟨hb, rfl⟩
      · exact if_pos hb
      · exact if_neg hb
  · intro hv d hd
    have hr := rowN_lt hv
    have key2 : ∀ w : BitVec 32, w = BitVec.ofNat 32 (rowN p0 q0 p1 q1 t.val) →
        (∑ x : Fin 256, Scalar.select (IntOp.cmpi .eq (BitVec.ofNat 32 x.val) w) (J (ix1 x)) 0) = J (ix1 d) := by
      rintro w rfl
      rw [Finset.sum_eq_single d]
      · rw [eq_nat (by omega) (by omega), select_if, if_pos hd]
      · intro y _ hy
        rw [eq_nat (by omega) (by omega), select_if, if_neg fun h => hy (Fin.ext (h.trans hd.symm))]
      · exact fun h => absurd (Finset.mem_univ d) h
    refine key2 _ ?_
    unfold inSpan at hv
    unfold rowN
    by_cases h : 128 ≤ t.val
    · have es : IntOp.subi (BitVec.ofNat 32 t.val) 128#32 = BitVec.ofNat 32 (t.val - 128) := sub_nat h (by omega)
      have h' : ¬ t.val < 128 := by omega
      simp only [if_neg h', sel_zero, if_pos h]
      simp only [if_pos h] at hv
      rw [es, sub_nat hv.1 (by omega), add_nat]
    · have h' : t.val < 128 := by omega
      simp only [if_pos h', sel_one, if_neg h]
      simp only [if_neg h] at hv
      rw [sub_nat hv.1 (by omega)]
      exact (add_nat 0 _).trans (by rw [Nat.zero_add])

end

section

variable (x0 x1 : Vec Ideal S2 .i32) (x2 : Vec Ideal S1 .i32) (x3 x4 : Vec Ideal S256x128 .f32) (x5 x6 x7 x8 : Vec Ideal S128x153600 .f32)
  (p0 q0 p1 q1 : ℕ) (hp0 : p0 ≤ 128) (hq0 : q0 ≤ 128) (hp1 : p1 ≤ 128) (hq1 : q1 ≤ 128)
  (e10 : Scalar.minsi 128#32 (Scalar.maxsi 0#32 (word x0 0)) = BitVec.ofNat 32 p0)
  (e11 : Scalar.minsi 128#32 (Scalar.maxsi 0#32 (word x0 1)) = BitVec.ofNat 32 p1)
  (e20 : Scalar.minsi 128#32 (Scalar.maxsi 0#32 (word x1 0)) = BitVec.ofNat 32 q0)
  (e21 : Scalar.minsi 128#32 (Scalar.maxsi 0#32 (word x1 1)) = BitVec.ofNat 32 q1) (t : Fin 256)

include hp0 hq0 hp1 hq1 e10 e11 e20 e21

theorem lossR_out (hv : ¬ inSpan p0 q0 p1 q1 t.val) (hn : x2 (ix1 0) ≠ 0#32) : lossR (F := Ideal) x0 x1 x2 x3 x4 x5 x6 x7 x8 (ix2 0 t) = 0 := by
  obtain ⟨T, h, -⟩ := pay1_at (k0_pay7 (k0_pay5 x5 x6 x3 x7 x8 x4) (k0_pay6 x5 x6 x3 x7 x8 x4)) (word x0 0) (word x1 0) (word x0 1) (word x1 1) (x2 (ix1 0))
    p0 q0 p1 q1 hp0 hq0 hp1 hq1 e10 e11 e20 e21 t 0#1 (.inr ⟨hv, rfl⟩)
  unfold lossR lossW
  rw [h, wt_zero hn, zero_mul]

theorem lossR_in (hv : inSpan p0 q0 p1 q1 t.val) (d : Fin 256) (hd : d.val = rowN p0 q0 p1 q1 t.val) :
    lossR (F := Ideal) x0 x1 x2 x3 x4 x5 x6 x7 x8 (ix2 0 t) = wt 1#1 (x2 (ix1 0)) * jsdR x3 x4 x5 x6 x7 x8 d := by
  obtain ⟨T, h, hT⟩ := pay1_at (k0_pay7 (k0_pay5 x5 x6 x3 x7 x8 x4) (k0_pay6 x5 x6 x3 x7 x8 x4)) (word x0 0) (word x1 0) (word x0 1) (word x1 1) (x2 (ix1 0))
    p0 q0 p1 q1 hp0 hq0 hp1 hq1 e10 e11 e20 e21 t 1#1 (.inl ⟨hv, rfl⟩)
  unfold lossR lossW
  rw [h, hT hv d hd, pay7_at]

end

end Cert.LossIdeal.Hand
-- ==== Proof.Normalised.lean ====
/-
  What the precondition says: both rows of probabilities of every row in use sum to one, and the token count is not zero.
-/
module

public import proofs.«01_k».proof.Proof.Gen.Pre_normalised
public import proofs.«01_k».proof.Proof.GradJsd
public import proofs.«01_k».proof.Proof.GradTok
public import proofs.«01_k».proof.Proof.LossAt

@[expose] public section

set_option maxRecDepth 16384

noncomputable section

namespace Cert.Pre_normalised.Hand

open Cert.Pre_normalised Cert.Jsd Cert.Tok
open Cert.KernelIdeal.Hand (sge_nat slt_nat eq_nat sub_nat add_nat clip_nat span_nat sel_one sel_zero)
open Idealize.ShloMosaic Idealize.ShloMosaic.TcCoe Idealize.ShloMosaic.WordCmp

open Cert.LossIdeal.Hand (cat col word)

theorem host_sum {n k : ℕ} (u : FVec Ideal ⟨3, ![256, n, k]⟩ .f32) (v : FVec Ideal S_ .f32) (h : (⟨3, ![256, n, k]⟩ : Shape).ReducesTo [1, 2] S256)
    (h' : 0 < S_.numel) (t : Fin 256) :
    Host.reduceAdd u v h h' (ix1 t) = v (Shape.Idx.first h') + ∑ a : Fin n, ∑ b : Fin k, u (ix3 t a b) := by
  pointwise []

theorem two_eq : Ideal.ofBits .f32 0x40000000#32 = ((2 : ℝ) : EReal) := by
  simp [Ideal.ofBits, Ideal.ieee]
  rw [← EReal.coe_mul]
  norm_num

section

variable [Cert.Pre_normalised.Facts]
open Cert.Pre_normalised.Facts

/-- The logits of two arrays less their logsumexps, times log 2, as the predicate has them. -/
def scaled (y0 y1 : FVec Ideal S128x153600 .f32) (l : FVec Ideal S256x128 .f32) : FVec Ideal S256x1200x128 .f32 :=
  mulf (subf (shapeCast S256x1200x128 (concatenate S256x153600 0 [⟨S128x153600, y0⟩, ⟨S128x153600, y1⟩] concatenates_S128x153600_S128x153600_S256x153600_d0)
        shapeCasts_S256x153600_S256x1200x128)
      (broadcastInDim S256x1200x128 ![0, 1, 2] bcast_S256x1x128_S256x1200x128_0_1_2 (broadcastInDim S256x1x128 ![0, 2] bcast_S256x128_S256x1x128_0_2 l)))
    (broadcastInDim S256x1200x128 ![] bcast_S_S256x1200x128 (id (Host.log (constant S_ .f32 0x40000000#32))))

theorem scaled_at (y0 y1 : FVec Ideal S128x153600 .f32) (l : FVec Ideal S256x128 .f32) (r : Fin 256) (k : Fin 1200) (i : Fin 128) :
    scaled y0 y1 l (ix3 r k i) = xlog (cat y0 y1 r (col k i)) (l (ix2 r i)) := by
  have e : (id (Host.log (constant S_ .f32 0x40000000#32)) : FVec Ideal S_ .f32) = fun _ => ((Real.log 2 : ℝ) : EReal) := by
    refine funext fun j : S_.Idx => ?_
    show Ideal.log (Ideal.ofBits .f32 0x40000000#32) = _
    rw [two_eq, Ideal.log_coe, if_neg (by norm_num)]
  have h1 := (Cert.LossIdeal.Hand.tiles_at (concatenate S256x153600 0 [⟨S128x153600, y0⟩, ⟨S128x153600, y1⟩] concatenates_S128x153600_S128x153600_S256x153600_d0)
    r k i).trans (Cert.LossIdeal.Hand.rows_at y0 y1 r (col k i))
  have h2 : broadcastInDim S256x1200x128 ![0, 1, 2] bcast_S256x1x128_S256x1200x128_0_1_2 (broadcastInDim S256x1x128 ![0, 2] bcast_S256x128_S256x1x128_0_2 l)
      (ix3 r k i) = l (ix2 r i) := by
    pointwise []
  have h3 : broadcastInDim S256x1200x128 ![] bcast_S_S256x1200x128 (id (Host.log (constant S_ .f32 0x40000000#32)) : FVec Ideal S_ .f32) (ix3 r k i)
      = ((Real.log 2 : ℝ) : EReal) := by
    rw [e]
    rfl
  unfold xlog
  exact congrArg₂ (· * ·) (congrArg₂ (· - ·) h1 h2) h3

theorem sums_at (w : FVec Ideal S256x1200x128 .f32) (t : Fin 256) :
    Host.reduceAdd (Host.exp w) (constant S_ .f32 0x00000000#32) reducesTo_S256x1200x128_S256_d1_2 h_S_ (ix1 t)
      = ∑ a : Fin 1200, ∑ b : Fin 128, Ideal.exp (w (ix3 t a b)) := by
  rw [host_sum]
  have e : (constant S_ .f32 0x00000000#32 : FVec Ideal S_ .f32) (Shape.Idx.first h_S_) = (0 : EReal) := Cert.LossIdeal.Hand.zero_eq
  rw [e, zero_add]
  rfl

/-- The two parts of the predicate: its rows of sums, and its words. -/
theorem part1_at (x0 x1 : IVec S2 32) (x2 : IVec S1 32) (u : FVec Ideal S256 .f32) (w : FVec Ideal S256x1200x128 .f32)
    (p0 q0 p1 q1 : ℕ) (hp0 : p0 ≤ 128) (hq0 : q0 ≤ 128) (hp1 : p1 ≤ 128) (hq1 : q1 ≤ 128)
    (e10 : Scalar.minsi 128#32 (Scalar.maxsi 0#32 (word (F := Ideal) x0 0)) = BitVec.ofNat 32 p0)
    (e11 : Scalar.minsi 128#32 (Scalar.maxsi 0#32 (word (F := Ideal) x0 1)) = BitVec.ofNat 32 p1)
    (e20 : Scalar.minsi 128#32 (Scalar.maxsi 0#32 (word (F := Ideal) x1 0)) = BitVec.ofNat 32 q0)
    (e21 : Scalar.minsi 128#32 (Scalar.maxsi 0#32 (word (F := Ideal) x1 1)) = BitVec.ofNat 32 q1) (t : Fin 256)
    (h : fn_part1 (F := Ideal) x0 x1 x2 u (Host.exp w) (ix1 t) = 1#1) :
    x2 (ix1 0) ≠ 0#32 ∧ (t.val < (q0 - p0) + (q1 - p1) → u (ix1 t) = 1 ∧ ∑ a : Fin 1200, ∑ b : Fin 128, Ideal.exp (w (ix3 t a b)) = 1) := by
  have s0 := span_nat ⟨q0, by omega⟩ ⟨p0, by omega⟩
  have s1 := span_nat ⟨q1, by omega⟩ ⟨p1, by omega⟩
  dsimp only at s0 s1
  have ht := t.isLt
  have e10' := (clip_swap _).trans e10
  have e11' := (clip_swap _).trans e11
  have e20' := (clip_swap _).trans e20
  have e21' := (clip_swap _).trans e21
  have key : ∀ (g n : BitVec 1) (a b : Prop) [Decidable a] [Decidable b],
      IntOp.andi (IntOp.ori g (IntOp.andi (BitVec.ofBool (decide a)) (BitVec.ofBool (decide b)))) n = 1#1 → n = 1#1 ∧ (g = 0#1 → a ∧ b) := by
    intro g n a b _ _
    by_cases ha : a <;> by_cases hb : b <;> simp only [ha, hb, decide_true, decide_false, and_true, and_false, imp_false] <;> revert g n <;> decide
  have h2 : IntOp.andi (IntOp.ori (IntOp.cmpi CmpIPredicate.sge (BitVec.ofNat 32 t.val)
        (IntOp.addi
          (IntOp.maxsi (IntOp.subi (IntOp.minsi (IntOp.maxsi (x1 (ix1 0)) 0#32) 128#32) (IntOp.minsi (IntOp.maxsi (x0 (ix1 0)) 0#32) 128#32)) 0#32)
          (IntOp.maxsi (IntOp.subi (IntOp.minsi (IntOp.maxsi (x1 (ix1 1)) 0#32) 128#32) (IntOp.minsi (IntOp.maxsi (x0 (ix1 1)) 0#32) 128#32)) 0#32)))
      (IntOp.andi (BitVec.ofBool (decide (u (ix1 t) = 1)))
        (BitVec.ofBool (decide (∑ a : Fin 1200, ∑ b : Fin 128, Ideal.exp (w (ix3 t a b)) = 1)))))
      (IntOp.cmpi CmpIPredicate.ne (x2 (ix1 0)) 0#32) = 1#1 := by
    rw [← h]
    pointwise [fn_part1, fn_part2]
  obtain ⟨hn, hs⟩ := key _ _ _ _ h2
  refine ⟨?_, fun hd => hs ?_⟩
  · intro h0
    rw [h0] at hn
    exact absurd hn (by decide)
  · have g : IntOp.cmpi CmpIPredicate.sge (BitVec.ofNat 32 t.val)
        (IntOp.addi (Scalar.maxsi (Scalar.subi (Scalar.minsi (Scalar.maxsi (word (F := Ideal) x1 0) 0#32) 128#32) (Scalar.minsi (Scalar.maxsi (word (F := Ideal) x0 0) 0#32) 128#32)) 0#32)
          (Scalar.maxsi (Scalar.subi (Scalar.minsi (Scalar.maxsi (word (F := Ideal) x1 1) 0#32) 128#32) (Scalar.minsi (Scalar.maxsi (word (F := Ideal) x0 1) 0#32) 128#32)) 0#32)) = 0#1 := by
      rw [e10', e11', e20', e21', s0, s1, add_nat, sge_nat (by omega) (by omega), if_neg (by omega)]
    exact g

/-- Both rows of probabilities of a row in use sum to one, and the token count is not zero. -/
theorem decode (x0 x1 : IVec S2 32) (x2 : IVec S1 32) (x3 : FVec Ideal S256x1024 .bf16) (x4 : FVec Ideal S1x1024 .f32) (x5 x6 : FVec Ideal S256x128 .f32)
    (x7 x8 x9 x10 : FVec Ideal S128x153600 .f32) (x11 : FVec Ideal S151936x1024 .fp8e4m3) (x12 : FVec Ideal S1x151936 .f32)
    (p0 q0 p1 q1 : ℕ) (hp0 : p0 ≤ 128) (hq0 : q0 ≤ 128) (hp1 : p1 ≤ 128) (hq1 : q1 ≤ 128)
    (e10 : Scalar.minsi 128#32 (Scalar.maxsi 0#32 (word (F := Ideal) x0 0)) = BitVec.ofNat 32 p0)
    (e11 : Scalar.minsi 128#32 (Scalar.maxsi 0#32 (word (F := Ideal) x0 1)) = BitVec.ofNat 32 p1)
    (e20 : Scalar.minsi 128#32 (Scalar.maxsi 0#32 (word (F := Ideal) x1 0)) = BitVec.ofNat 32 q0)
    (e21 : Scalar.minsi 128#32 (Scalar.maxsi 0#32 (word (F := Ideal) x1 1)) = BitVec.ofNat 32 q1) (t : Fin 256)
    (h : fn (F := Ideal) x0 x1 x2 x3 x4 x5 x6 x7 x8 x9 x10 x11 x12 (ix1 t) = 1#1) :
    x2 (ix1 0) ≠ 0#32 ∧ (t.val < (q0 - p0) + (q1 - p1) →
      ∑ a : Fin 1200, ∑ b : Fin 128, Ideal.exp (xlog (cat x7 x8 t (col a b)) (x5 (ix2 t b))) = 1
      ∧ ∑ a : Fin 1200, ∑ b : Fin 128, Ideal.exp (xlog (cat x9 x10 t (col a b)) (x6 (ix2 t b))) = 1) := by
  have h1 : fn_part1 (F := Ideal) x0 x1 x2
      (Host.reduceAdd (Host.exp (scaled x7 x8 x5)) (constant S_ .f32 0x00000000#32) reducesTo_S256x1200x128_S256_d1_2 h_S_)
      (Host.exp (scaled x9 x10 x6)) (ix1 t) = 1#1 := h
  have h2 := part1_at x0 x1 x2 _ (scaled x9 x10 x6) p0 q0 p1 q1 hp0 hq0 hp1 hq1 e10 e11 e20 e21 t h1
  rw [sums_at] at h2
  simp only [scaled_at] at h2
  exact h2

end

end Cert.Pre_normalised.Hand
-- ==== Proof.GradValueRun.lean ====
/-
  The gradient call, run on whole arrays: it leaves the losses at their values and the arguments as they were.
-/
module

public import proofs.«01_k».proof.Proof.GradBlocks

@[expose] public section

set_option maxRecDepth 16384

noncomputable section

namespace Cert.GradientIdeal.Hand

open Cert.GradientIdeal Cert.GradientIdeal.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## The value of the result -/

/-- The losses. -/
def lossEnd : Vec F S1x256 .f32 := lossV (tab0 m) (tab1 m) (tab2 m) (stAt m c 75)

theorem lossEnd_of {n : Nat} (h : n = 75) : lossV (tab0 m) (tab1 m) (tab2 m) (stAt m c n) = lossEnd m c := by subst h; rfl

/-- What a point may leave in a window, given what it found there. -/
def rel : (w : Fin 13) → (t : Fin grid0.N) → (Y X : (spec0 w).block.Idx → Elt F (spec0 w).elt) → Prop := fun
  | 0 | 1 | 2 | 3 | 4 | 5 | 6 | 7 | 8 | 9 => fun _ Y X => X = Y
  | 11 | 12 => fun _ _ _ => True
  | 10 => fun t _ X => t.val = 74 → X = lossEnd m c
  | ⟨_ + 13, h⟩ => absurd h (Nat.not_lt.2 (Nat.le_add_left _ _))

/-- The scratch buffers before point `n`: the sums stand, from the second point on, as the points before it leave them. -/
def scratch (n : Nat) : sProp 𝕄 :=
  iprop(∃ S : Acc F, ⌜n ≠ 0 → S = stAt m c n⌝ ∗ (∃ d, owns (c : Thread nD τ) (Memref.whole cc0_scratch0) fullShare d)
    ∗ owns (c : Thread nD τ) (Memref.whole cc0_scratch1) fullShare S.pf ∗ owns (c : Thread nD τ) (Memref.whole cc0_scratch2) fullShare S.qg
    ∗ (∃ d, owns (c : Thread nD τ) (Memref.whole cc0_scratch3) fullShare d) ∗ ∃ d, owns (c : Thread nD τ) (Memref.whole cc0_scratch4) fullShare d)

/-- The invariant before point `n`. -/
def inv (n : Nat) : sProp 𝕄 :=
  iprop((scratch m c n ∗ ∃ r, prngReg c r) ∗ Pipeline.ΦT (U := UR sig nD τ) pre0 (tabs m) c)

/-- The proof's data. -/
def vdat : RDat τ (Elt F) Unit ℕ (UR sig nD τ) ℕ (cfg0 (adm m 0)) c where
  A w := V m c (Pipeline.arrRef spec0 w)
  after w t Y X := rel m c w t Y X
  Φ t := inv m c t.val
  q _ := fullShare
  owed _ := 0

/-! ## What the body finds in the input windows -/

theorem leaves_2 : ∀ (n : Nat) (h : n < grid0.N) (X), (vdat m c).Leaves 2 ⟨n, h⟩ X → X = a5 m c
  | 0, h, X => fun ⟨Y, hY, hX⟩ => by
    obtain ⟨d, hd⟩ := ((vdat m c).finds_of_fetch (w := 2) (t := ⟨0, h⟩) rfl Y).1 hY
    exact (show X = Y from hX).trans (hd.trans (fetched_2 m c (vdat m c) _ rfl d))
  | n + 1, h, X => fun ⟨Y, hY, hX⟩ => by
    have hf : ((cfg0 (adm m 0)).win 2).fetch ⟨n + 1, h⟩ = false := fetch_const m _ (fun _ _ => rfl) (Nat.succ_ne_zero n)
    rcases ((vdat m c).finds_of_pos hf (Nat.succ_ne_zero n) Y).1 hY with h' | h'
    · exact absurd h' Bool.false_ne_true
    · exact (show X = Y from hX).trans (leaves_2 n (Nat.lt_of_succ_lt h) Y h')

theorem finds_2 (t : Fin grid0.N) (Y) (hY : (vdat m c).Finds 2 t Y) : Y = a5 m c :=
  leaves_2 m c t.val t.isLt Y ⟨Y, hY, rfl⟩

theorem leaves_3 : ∀ (n : Nat) (h : n < grid0.N) (X), (vdat m c).Leaves 3 ⟨n, h⟩ X → X = a6 m c
  | 0, h, X => fun ⟨Y, hY, hX⟩ => by
    obtain ⟨d, hd⟩ := ((vdat m c).finds_of_fetch (w := 3) (t := ⟨0, h⟩) rfl Y).1 hY
    exact (show X = Y from hX).trans (hd.trans (fetched_3 m c (vdat m c) _ rfl d))
  | n + 1, h, X => fun ⟨Y, hY, hX⟩ => by
    have hf : ((cfg0 (adm m 0)).win 3).fetch ⟨n + 1, h⟩ = false := fetch_const m _ (fun _ _ => rfl) (Nat.succ_ne_zero n)
    rcases ((vdat m c).finds_of_pos hf (Nat.succ_ne_zero n) Y).1 hY with h' | h'
    · exact absurd h' Bool.false_ne_true
    · exact (show X = Y from hX).trans (leaves_3 n (Nat.lt_of_succ_lt h) Y h')

theorem finds_3 (t : Fin grid0.N) (Y) (hY : (vdat m c).Finds 3 t Y) : Y = a6 m c :=
  leaves_3 m c t.val t.isLt Y ⟨Y, hY, rfl⟩

theorem fetch_4 (t : Fin grid0.N) : ((cfg0 (adm m 0)).win 4).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => ?_⟩)
    have e' : cc0_transform_4 (grid0.coords t) = cc0_transform_4 (grid0.coords ⟨t.val - 1, Nat.lt_of_le_of_lt (Nat.sub_le _ _) t.isLt⟩) := e
    rw [ix_4, ix_4] at e'
    have e' := congrFun e' (1 : Fin 2)
    have e2 : t.val = t.val - 1 := e'
    omega

theorem finds_4 (t : Fin grid0.N) (Y) (hY : (vdat m c).Finds 4 t Y) : Y = blk (a7 m c) t.val := by
  obtain ⟨d, hd⟩ := ((vdat m c).finds_of_fetch (fetch_4 m t) Y).1 hY
  exact hd.trans (fetched_4 m c (vdat m c) t rfl d)

theorem fetch_5 (hb : bothBit (tab0 m) (tab1 m) = 1#1) (t : Fin grid0.N) : ((cfg0 (adm m 0)).win 5).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => ?_⟩)
    rw [ix_5 m hb, ix_5 m hb] at e
    have e' := congrFun e (1 : Fin 2)
    have e2 : t.val = t.val - 1 := e'
    omega

theorem finds_5 (hb : bothBit (tab0 m) (tab1 m) = 1#1) (t : Fin grid0.N) (Y) (hY : (vdat m c).Finds 5 t Y) : Y = blk (a8 m c) t.val := by
  obtain ⟨d, hd⟩ := ((vdat m c).finds_of_fetch (fetch_5 m hb t) Y).1 hY
  exact hd.trans (fetched_5 m c (vdat m c) t hb rfl d)

theorem fetch_6 (t : Fin grid0.N) : ((cfg0 (adm m 0)).win 6).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => ?_⟩)
    have e' : cc0_transform_6 (grid0.coords t) = cc0_transform_6 (grid0.coords ⟨t.val - 1, Nat.lt_of_le_of_lt (Nat.sub_le _ _) t.isLt⟩) := e
    rw [ix_6, ix_6] at e'
    have e' := congrFun e' (1 : Fin 2)
    have e2 : t.val = t.val - 1 := e'
    omega

theorem finds_6 (t : Fin grid0.N) (Y) (hY : (vdat m c).Finds 6 t Y) : Y = blk (a9 m c) t.val := by
  obtain ⟨d, hd⟩ := ((vdat m c).finds_of_fetch (fetch_6 m t) Y).1 hY
  exact hd.trans (fetched_6 m c (vdat m c) t rfl d)

theorem fetch_7 (hb : bothBit (tab0 m) (tab1 m) = 1#1) (t : Fin grid0.N) : ((cfg0 (adm m 0)).win 7).fetch t = true := by
  unfold Window.fetch
  rw [Bool.and_eq_true]
  refine ⟨rfl, ?_⟩
  rw [Bool.or_eq_true]
  by_cases h : t.val = 0
  · exact .inl (decide_eq_true h)
  · refine .inr (decide_eq_true ⟨Nat.pos_of_ne_zero h, fun e => ?_⟩)
    rw [ix_7 m hb, ix_7 m hb] at e
    have e' := congrFun e (1 : Fin 2)
    have e2 : t.val = t.val - 1 := e'
    omega

theorem finds_7 (hb : bothBit (tab0 m) (tab1 m) = 1#1) (t : Fin grid0.N) (Y) (hY : (vdat m c).Finds 7 t Y) : Y = blk (a10 m c) t.val := by
  obtain ⟨d, hd⟩ := ((vdat m c).finds_of_fetch (fetch_7 m hb t) Y).1 hY
  exact hd.trans (fetched_7 m c (vdat m c) t hb rfl d)

/-! ## One point -/

set_option maxHeartbeats 2000000 in
/-- The body at a point, from the invariant before it to the one after it. -/
theorem vbody : (vdat m c).BodyObligation (defs₀ (F := F)) Variants.none () Set.univ := by
  unfold RDat.BodyObligation
  intro t Y hY
  have e2 := finds_2 m c t _ (hY 2)
  have e3 := finds_3 m c t _ (hY 3)
  have e4 := finds_4 m c t _ (hY 4)
  have e5 := fun hb => finds_5 m c hb t _ (hY 5)
  have e6 := finds_6 m c t _ (hY 6)
  have e7 := fun hb => finds_7 m c hb t _ (hY 7)
  rw [bigSep_W0, bigSep_W0]
  rw [show (vdat m c).Φ t.castSucc = inv m c t.val from rfl,
    show (vdat m c).Φ t.succ = inv m c (t.val + 1) from rfl,
    show (vdat m c).owesAt () t.succ = (vdat m c).owesAt () t.castSucc from rfl]
  unfold inv scratch
  rw [tables_eq]
  unfold defs₀; rw [Defs.onTc_tc]
  iintro ⟨⟨⟨⟨%S, %hS, ⟨%s0, S0⟩, S1, S2, ⟨%s3, S3⟩, ⟨%s4, S4⟩⟩, Hr⟩, HT0, HT1, HT2⟩, Ho, H0, H1, H2, H3, H4, H5, H6, H7, H8, H9, H10, H11, H12⟩
  have hp : point (grid0.coords t) (tab0 m) (tab1 m) (Y 2) (Y 3) (Y 4) (Y 5) (Y 6) (Y 7) (Acc.mk S.pf S.qg) = stAt m c (t.val + 1) := by
    rw [stAt_succ, e2, e3, e4, e6]
    refine (point_congr _ _ _ _ _ _ _ _ _ _ _ _ (fun hb => ⟨e5 hb, e7 hb⟩)).trans ?_
    by_cases h : t.val = 0
    · exact point_first _ ((first_iff t).2 h) _ _ _ _ _ _ _ _ _ _
    · rw [← hS h]
  iapply (body_vals c (grid0.coords t) fullShare.right fullShare.right fullShare.right _ _ _ _ _ _ _ _ _ _ _ _ _ _ _ _ _ _ _ _ _ _ _ _ _ _ _ _ _ _ _ _ _ _ _ _ _ _ _ _ _ _ (tab0 m) (tab1 m) (tab2 m) (Y 0) (Y 1) (Y 2) (Y 3) (Y 4) (Y 5) (Y 6) (Y 7) (Y 8) (Y 9) (Y 10) S.pf S.qg _)
  rw [hp]
  isplitl [HT0]; · iexact HT0
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [S0]; · iexists _; iexact S0
  isplitl [S1]; · iexact S1
  isplitl [S2]; · iexact S2
  isplitl [S3]; · iexists _; iexact S3
  isplitl [S4]; · iexists _; iexact S4
  iintro ⟨HT0, HT1, HT2, H0, H1, H2, H3, H4, H5, H6, H7, H8, H9, H10, ⟨%d11, H11⟩, ⟨%d12, H12⟩, ⟨%e0, S0⟩, S1, S2, ⟨%g3, S3⟩, ⟨%g4, S4⟩⟩
  isplitl [HT0 HT1 HT2 Hr S0 S1 S2 S3 S4]
  · isplitr [HT0 HT1 HT2]
    · isplitr [Hr]
      · iexists (stAt m c (t.val + 1))
        isplitr
        · ipureintro; exact fun _ => rfl
        isplitl [S0]; · iexists _; iexact S0
        isplitl [S1]; · iexact S1
        isplitl [S2]; · iexact S2
        isplitl [S3]; · iexists _; iexact S3
        iexists _; iexact S4
      · iexact Hr
    · isplitl [HT0]; · iexact HT0
      isplitl [HT1]; · iexact HT1
      iexact HT2
  isplitl [Ho]; · iexact Ho
  isplitl [H0]
  · iexists (Y 0); isplitr
    · ipureintro; exact rfl
    · iexact H0
  isplitl [H1]
  · iexists (Y 1); isplitr
    · ipureintro; exact rfl
    · iexact H1
  isplitl [H2]
  · iexists (Y 2); isplitr
    · ipureintro; exact rfl
    · iexact H2
  isplitl [H3]
  · iexists (Y 3); isplitr
    · ipureintro; exact rfl
    · iexact H3
  isplitl [H4]
  · iexists (Y 4); isplitr
    · ipureintro; exact rfl
    · iexact H4
  isplitl [H5]
  · iexists (Y 5); isplitr
    · ipureintro; exact rfl
    · iexact H5
  isplitl [H6]
  · iexists (Y 6); isplitr
    · ipureintro; exact rfl
    · iexact H6
  isplitl [H7]
  · iexists (Y 7); isplitr
    · ipureintro; exact rfl
    · iexact H7
  isplitl [H8]
  · iexists (Y 8); isplitr
    · ipureintro; exact rfl
    · iexact H8
  isplitl [H9]
  · iexists (Y 9); isplitr
    · ipureintro; exact rfl
    · iexact H9
  isplitl [H10]
  · iexists _; isplitr; swap
    · iexact H10
    · ipureintro; exact fun h => (if_pos ((cond3_iff t).2 h)).trans (lossEnd_of m c (congrArg (· + 1) h))
  isplitl [H11]
  · iexists d11; isplitr
    · ipureintro; exact trivial
    · iexact H11
  iexists d12; isplitr
  · ipureintro; exact trivial
  iexact H12

/-! ## What the loss array ends with -/

/-- The last point. -/
def tLast : Fin grid0.N := ⟨74, by rw [N_0]; decide⟩

/-- After all points an array holds what the last point's write-back left, if that point writes back. -/
theorem arr_last {cfg : Cfg sig Λ₀} {c : Dev nD} (rd : RDat τ (Elt F) Unit ℕ (UR sig nD τ) ℕ cfg c) (w : Fin cfg.W) (t : Fin cfg.N)
    (hN : cfg.N = t.val + 1) (hf : (cfg.win w).flush t = true) (G) (h : rd.ArrAt w cfg.N G) :
    ∃ G₀ X, rd.Leaves w t X ∧ G = ((cfg.win w).blk t).view.write (Elt F) G₀ ((cfg.win w).cut (cfg.grid.coords t) X) Finset.univ := by
  rw [hN] at h
  unfold RDat.ArrAt at h
  simp only [dif_pos t.isLt, hf, if_true] at h
  obtain ⟨G₀, X, _, hL, e⟩ := h
  exact ⟨G₀, X, hL, e⟩

theorem end_10 (G) (h : (vdat m c).ArrAt 10 grid0.N G) : G = (lossEnd m c) := by
  obtain ⟨G₀, X, hX, e⟩ := arr_last (vdat m c) 10 tLast N_0 rfl G h
  have hv : X = lossEnd m c := hX.choose_spec.2 rfl
  subst hv
  rw [e]
  refine funext fun j : S1x256.Idx => ?_
  have hj : ((((cfg0 (adm m 0)).win 10).blk tLast).view.emb j) = j := by
    refine funext fun a => Fin.ext ?_
    fin_cases a
    · show 0 * 1 + 1 * (j 0).val = (j 0).val
      omega
    · show 0 * 256 + 1 * (j 1).val = (j 1).val
      omega
  have hr := congrFun (View.read_write_univ (v := (((cfg0 (adm m 0)).win 10).blk tLast).view) G₀ (((cfg0 (adm m 0)).win 10).cut ((cfg0 (adm m 0)).grid.coords tLast) (lossEnd m c))) j
  exact (congrArg _ hj.symm).trans hr

/-! ## The launch -/

theorem hin : iprop(Pipeline.ΦA (U := UR sig nD τ) spec0 c ∗ Pipeline.ΦT (U := UR sig nD τ) pre0 (tabs m) c) ⊢ (inv m c 0 : sProp 𝕄) := by
  unfold inv Pipeline.ΦA scratch
  rw [scopedRest0_eq]
  simp only [← owns_whole]
  iintro ⟨⟨HS, Hr⟩, HT⟩
  icases HS with ⟨⟨%s0, S0⟩, ⟨%s1, S1⟩, ⟨%s2, S2⟩, ⟨%s3, S3⟩, ⟨%s4, S4⟩⟩
  isplitr [HT]
  · isplitr [Hr]
    · iexists (Acc.mk s1 s2)
      isplitr
      · ipureintro; exact fun h => absurd rfl h
      isplitl [S0]; · iexists _; iexact S0
      isplitl [S1]; · iexact S1
      isplitl [S2]; · iexact S2
      isplitl [S3]; · iexists _; iexact S3
      iexists _; iexact S4
    · iexact Hr
  · iexact HT

theorem hout (n : Nat) : (inv m c n : sProp 𝕄) ⊢ Pipeline.ΦA (U := UR sig nD τ) spec0 c := by
  unfold inv Pipeline.ΦA scratch
  rw [scopedRest0_eq]
  simp only [← owns_whole]
  iintro ⟨⟨⟨%S, -, S0, S1, S2, S3, S4⟩, Hr⟩, -⟩
  isplitr [Hr]
  · isplitl [S0]; · iexact S0
    isplitl [S1]; · iexists _; iexact S1
    isplitl [S2]; · iexists _; iexact S2
    isplitl [S3]; · iexact S3
    iexact S4
  · iexact Hr

-- the launch theorem's implicit arguments are found by unifying its conclusion with this one, which takes unfolding plain
-- definitions in a metavariable's type
set_option backward.isDefEq.respectTransparency.types false in
set_option maxHeartbeats 800000 in
theorem vrun_main : θ_run defs (onTc (τ := τ) (main (F := F))) (s₀ m ρ)
    (fun r => RDat.FramePost (cfg0 (adm m 0)) (vdat m) (V m) r ∧ r.2.sem = fun _ => 0) :=
  Pipeline.RDat.θ_run_frameP_track (Q' := _) (pcfgs (F := F)) (adm m) 0 launch0 defs₀ Variants.none (vdat m) m ρ main
    (hbody := vbody m) (hshare := fun c w => by unfold RDat.share vdat; split <;> rfl)
    (howed := fun _ _ => rfl) (V := V m) (hmain := hmain m Variants.none) (hA := fun _ _ => rfl)
    (hpf := fun c k => by rw [Subsingleton.elim c 0]; rfl) (hin := fun c => hin m c) (hout := fun c => hout m c _)

/-- The launch leaves the losses at their values and the arguments as they were. -/
theorem vrun : θ_run defs (onTc (τ := τ) (main (F := F))) ⟨m, fun _ => 0, ρ⟩ (fun r => ∀ c : Dev nD,
      r.2.mem ((c.tc : Thread nD τ).loc main_v0_0) = lossEnd m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨end_10 m c _ ((h.1 c).1 10),
      (h.1 c).2 main_arg0 (Pipeline.mem_restRefs_of main_arg0 (by decide) (show ∀ w : Fin 13, (spec0 w).arr.view.ref ≠ main_arg0 by decide)),
      (h.1 c).2 main_arg1 (Pipeline.mem_restRefs_of main_arg1 (by decide) (show ∀ w : Fin 13, (spec0 w).arr.view.ref ≠ main_arg1 by decide)),
      (h.1 c).2 main_arg2 (Pipeline.mem_restRefs_of main_arg2 (by decide) (show ∀ w : Fin 13, (spec0 w).arr.view.ref ≠ main_arg2 by decide)),
      RDat.FramePost.arr_in h.1 c 0 rfl,
      RDat.FramePost.arr_in h.1 c 1 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl,
      RDat.FramePost.arr_in h.1 c 9 rfl⟩) (vrun_main m ρ)

end Cert.GradientIdeal.Hand
-- ==== Proof.GradFinal.lean ====
/-
  The losses of the gradient call are those of the reference.
-/
module

public import proofs.«01_k».proof.Proof.GradLossAt
public import proofs.«01_k».proof.Proof.GradSums
public import proofs.«01_k».proof.Proof.LossAt
public import proofs.«01_k».proof.Proof.Normalised
public import proofs.«01_k».proof.Proof.GradValueRun

@[expose] public section

set_option maxRecDepth 16384

noncomputable section

namespace Cert.GradientIdeal.Hand

open Cert.GradientIdeal Cert.GradientIdeal.Gen Cert.Jsd Cert.Tok
open Cert.KernelIdeal.Hand (sge_nat slt_nat eq_nat sub_nat add_nat clip_nat span_nat sel_one sel_zero)
open Idealize.ShloMosaic Idealize.ShloMosaic.TcCoe Idealize.ShloMosaic.WordCmp

variable (m : (ℓ : Loc nD τ sig) → Buf (Elt Ideal) ℓ) (c : Dev nD)

/-- The divergence of a row in use, from the two running sums, is the reference's. -/
theorem jsd_eq (d : Fin 256) (hr : d.val < 128 ∨ bothBit (tab0 m) (tab1 m) = 1#1)
    (ht : ∑ a : Fin 1200, ∑ b : Fin 128, Ideal.exp (xlog (cat (a7 m c) (a8 m c) d (col a b)) (a5 m c (ix2 d b))) = 1)
    (hs : ∑ a : Fin 1200, ∑ b : Fin 128, Ideal.exp (xlog (cat (a9 m c) (a10 m c) d (col a b)) (a6 m c (ix2 d b))) = 1) :
    k0_pay176 (F := Ideal) (stAt m c 75).qg (stAt m c 75).pf (ix2 d 0)
      = Cert.LossIdeal.Hand.jsdR (a5 m c) (a6 m c) (a7 m c) (a8 m c) (a9 m c) (a10 m c) d := by
  have h := Jsd.row (ι := Fin 1200 × Fin 128) (fun i => cat (a7 m c) (a8 m c) d (col i.1 i.2)) (fun i => a5 m c (ix2 d i.2))
    (fun i => cat (a9 m c) (a10 m c) d (col i.1 i.2)) (fun i => a6 m c (ix2 d i.2))
    ((Fintype.sum_prod_type _).trans ht) ((Fintype.sum_prod_type _).trans hs)
  have hp : ∑ l : Fin 128, (stAt m c 75).pf (ix2 d l)
      = ∑ i : Fin 1200 × Fin 128, gT (cat (a7 m c) (a8 m c) d (col i.1 i.2) - (a5 m c (ix2 d i.2) - (odds : EReal)))
          (cat (a9 m c) (a10 m c) d (col i.1 i.2) - a6 m c (ix2 d i.2)) :=
    (Finset.sum_congr rfl fun l _ => pf_end m c d l hr).trans (Fintype.sum_prod_type_right
      (fun i : Fin 1200 × Fin 128 => term gT (a5 m c) (a6 m c) (a7 m c) (a8 m c) (a9 m c) (a10 m c) d i.2 i.1)).symm
  have hq : ∑ l : Fin 128, (stAt m c 75).qg (ix2 d l)
      = ∑ i : Fin 1200 × Fin 128, gS (cat (a7 m c) (a8 m c) d (col i.1 i.2) - (a5 m c (ix2 d i.2) - (odds : EReal)))
          (cat (a9 m c) (a10 m c) d (col i.1 i.2) - a6 m c (ix2 d i.2)) :=
    (Finset.sum_congr rfl fun l _ => qg_end m c d l hr).trans (Fintype.sum_prod_type_right
      (fun i : Fin 1200 × Fin 128 => term gS (a5 m c) (a6 m c) (a7 m c) (a8 m c) (a9 m c) (a10 m c) d i.2 i.1)).symm
  rw [jsd_at, hp, hq, h]
  unfold Cert.LossIdeal.Hand.jsdR
  exact congrArg₂ (fun x y : EReal => (((1 : ℝ) / 4 : ℝ) : EReal) * x + (((3 : ℝ) / 4 : ℝ) : EReal) * y) (Fintype.sum_prod_type _) (Fintype.sum_prod_type _)

/-- Under the precondition the two losses agree at every token. -/
theorem losses_eq [Cert.Pre_normalised.Facts] (x3 : Vec Ideal S256x1024 .bf16) (x4 : Vec Ideal S1x1024 .f32) (x11 : Vec Ideal S151936x1024 .fp8e4m3)
    (x12 : Vec Ideal S1x151936 .f32)
    (h : ∀ t : Fin 256, Cert.Pre_normalised.fn (F := Ideal) (tab0 m) (tab1 m) (tab2 m) x3 x4 (a5 m c) (a6 m c) (a7 m c) (a8 m c) (a9 m c) (a10 m c)
      x11 x12 (ix1 t) = 1#1) :
    Cert.LossIdeal.Hand.lossR (F := Ideal) (tab0 m) (tab1 m) (tab2 m) (a5 m c) (a6 m c) (a7 m c) (a8 m c) (a9 m c) (a10 m c) = lossEnd m c := by
  obtain ⟨p0, hp0, e10⟩ := clip_nat (word (tab0 m) 0)
  obtain ⟨p1, hp1, e11⟩ := clip_nat (word (tab0 m) 1)
  obtain ⟨q0, hq0, e20⟩ := clip_nat (word (tab1 m) 0)
  obtain ⟨q1, hq1, e21⟩ := clip_nat (word (tab1 m) 1)
  have hd := fun t => Cert.Pre_normalised.Hand.decode (tab0 m) (tab1 m) (tab2 m) x3 x4 (a5 m c) (a6 m c) (a7 m c) (a8 m c) (a9 m c) (a10 m c) x11 x12
    p0 q0 p1 q1 hp0 hq0 hp1 hq1 e10 e11 e20 e21 t (h t)
  have hn : tab2 m (ix1 0) ≠ 0#32 := (hd 0).1
  have hb : ¬ ((q0 - p0) + (q1 - p1) ≤ 128) → bothBit (tab0 m) (tab1 m) = 1#1 := by
    intro hgt
    have s0 := span_nat ⟨q0, by omega⟩ ⟨p0, by omega⟩
    have s1 := span_nat ⟨q1, by omega⟩ ⟨p1, by omega⟩
    dsimp only at s0 s1
    unfold bothBit
    rw [e10, e11, e20, e21, s0, s1]
    show IntOp.cmpi .slt 128#32 (IntOp.addi (BitVec.ofNat 32 (q0 - p0)) (BitVec.ofNat 32 (q1 - p1))) = 1#1
    rw [add_nat, slt_nat (by omega : 128 < 2 ^ 31) (by omega), if_pos (by omega)]
  have key : ∀ t : Fin 256, Cert.LossIdeal.Hand.lossR (F := Ideal) (tab0 m) (tab1 m) (tab2 m) (a5 m c) (a6 m c) (a7 m c) (a8 m c) (a9 m c) (a10 m c) (ix2 0 t)
      = lossEnd m c (ix2 0 t) := by
    intro t
    unfold lossEnd
    by_cases hv : inSpan p0 q0 p1 q1 t.val
    · have hlt := rowN_lt hv
      obtain ⟨d, hdr⟩ : ∃ d : Fin 256, d.val = rowN p0 q0 p1 q1 t.val := ⟨⟨rowN p0 q0 p1 q1 t.val, by omega⟩, rfl⟩
      rw [← hdr] at hlt
      have hdd := (hd d).2 hlt
      have hr : d.val < 128 ∨ bothBit (tab0 m) (tab1 m) = 1#1 := by
        by_cases hh : (q0 - p0) + (q1 - p1) ≤ 128
        · exact .inl (lt_of_lt_of_le hlt hh)
        · exact .inr (hb hh)
      rw [lossV_in (tab0 m) (tab1 m) (tab2 m) (stAt m c 75) p0 q0 p1 q1 hp0 hq0 hp1 hq1 e10 e11 e20 e21 t hv d hdr, jsd_eq m c d hr hdd.1 hdd.2]
      exact Cert.LossIdeal.Hand.lossR_in (tab0 m) (tab1 m) (tab2 m) _ _ _ _ _ _ p0 q0 p1 q1 hp0 hq0 hp1 hq1 e10 e11 e20 e21 t hv d hdr
    · rw [lossV_out (tab0 m) (tab1 m) (tab2 m) (stAt m c 75) p0 q0 p1 q1 hp0 hq0 hp1 hq1 e10 e11 e20 e21 t hv hn]
      exact Cert.LossIdeal.Hand.lossR_out (tab0 m) (tab1 m) (tab2 m) _ _ _ _ _ _ p0 q0 p1 q1 hp0 hq0 hp1 hq1 e10 e11 e20 e21 t hv hn
  refine funext fun j : S1x256.Idx => ?_
  idx_vars j
  obtain rfl : j0 = 0 := Subsingleton.elim _ _
  exact key j1

/-- There is one device: the tables the launch finds are any core's. -/
theorem tab0_eq : tab0 m = m ((c.tc : Thread nD τ).loc main_arg0) := by
  rw [Subsingleton.elim c 0]
  rfl
theorem tab1_eq : tab1 m = m ((c.tc : Thread nD τ).loc main_arg1) := by
  rw [Subsingleton.elim c 0]
  rfl
theorem tab2_eq : tab2 m = m ((c.tc : Thread nD τ).loc main_arg2) := by
  rw [Subsingleton.elim c 0]
  rfl

end Cert.GradientIdeal.Hand
-- ==== Proof.lean ====
/-
  The proof of the claim: the frames of the programs, the named constants, and the equality of the results, for both calls.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frame
public import proofs.«01_k».proof.Proof.IdealFrame
public import proofs.«01_k».proof.Proof.Gen.Gradient
public import proofs.«01_k».proof.Proof.Gen.Gradient.Skeleton
public import proofs.«01_k».proof.Proof.Gen.Gradient.Launch
public import proofs.«01_k».proof.Proof.Gen.Gradient.Points
public import proofs.«01_k».proof.Proof.GradFrame
public import proofs.«01_k».proof.Proof.Gen.GradientIdeal
public import proofs.«01_k».proof.Proof.Gen.GradientIdeal.Skeleton
public import proofs.«01_k».proof.Proof.Gen.GradientIdeal.Launch
public import proofs.«01_k».proof.Proof.Gen.GradientIdeal.Points
public import proofs.«01_k».proof.Proof.GradIdealFrame
public import proofs.«01_k».proof.Proof.Gen.Loss
public import proofs.«01_k».proof.Proof.Gen.Loss.Frame
public import proofs.«01_k».proof.Proof.Gen.Pre_normalised
public import proofs.«01_k».proof.Proof.Gen.LossIdeal
public import proofs.«01_k».proof.Proof.Gen.LossIdeal.Frame
public import proofs.«01_k».proof.Proof.Gen.LossIdeal.Value
public import proofs.«01_k».proof.Proof.Final
public import Idealize.ShloMosaic.Adequacy
public import proofs.«01_k».proof.Proof.GradFinal
public import Idealize.ShloMosaic.Init

@[expose] public section

noncomputable section

namespace Cert.Proof

open Idealize.ShloMosaic Idealize.SL.Sem Idealize.ShloMosaic.TcCoe

theorem preserves : Cert.preserves_Kernel_KernelIdeal :=
  ⟨IdealRules.named_const.statement Cert.KernelIdeal.κ "half_log2e" .f32 0x3F38AA3B#32 (((2 * (Real.log 2))⁻¹ : ℝ) : EReal) rfl,
    IdealRules.named_const.statement Cert.KernelIdeal.κ "masked" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- From arguments that agree both programs end at the same four results: what the kernel's run leaves (`vrun`) is, entry by
    entry, what the reference's run leaves. -/
theorem algebraic : Cert.algebraic_KernelIdeal_ReferenceIdeal := by
  intro m ρ m' ρ' _ hag
  refine ⟨fun c => Cert.KernelIdeal.Hand.ltV m c, fun c => Cert.KernelIdeal.Hand.lsV m c,
    fun c => Cert.KernelIdeal.Hand.codesV (Cert.KernelIdeal.Hand.a2 m c) (Cert.KernelIdeal.Hand.a4 m c),
    fun c => Cert.KernelIdeal.Hand.scaleV (Cert.KernelIdeal.Hand.a2 m c) (Cert.KernelIdeal.Hand.a4 m c),
    Cert.KernelIdeal.Hand.vrun m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨_, _, e2, e3, e4, e5, e6, e7, e8, e9, e10⟩ := hag c
  refine ⟨h0.trans ?_, h1.trans ?_, h2.trans ?_, h3.trans ?_, hargs⟩
  · rw [e2, e3, e4, e5, e6, e7, e8, e9, e10]
    exact (Cert.KernelIdeal.Hand.lt_eq m c).symm
  · rw [e2, e3, e4, e5, e6, e7, e8, e9, e10]
    exact (Cert.KernelIdeal.Hand.ls_eq m c).symm
  · rw [e2, e3, e4, e5, e6, e7, e8, e9, e10]
    exact (Cert.KernelIdeal.Hand.codes_eq _ _).symm
  · rw [e2, e3, e4, e5, e6, e7, e8, e9, e10]
    exact (Cert.KernelIdeal.Hand.scale_eq m c).symm

theorem preserves_gradient : Cert.preserves_Gradient_GradientIdeal :=
  ⟨IdealRules.named_const.statement Cert.GradientIdeal.κ "odds" .f32 0xBFCAE00D#32 (((Real.log (1 / 3)) * (Real.log 2)⁻¹ : ℝ) : EReal) rfl,
    IdealRules.named_const.statement Cert.GradientIdeal.κ "tiny" .f32 0x02081CEA#32 ⊥ rfl,
    IdealRules.named_const.statement Cert.GradientIdeal.κ "log2e" .f32 0x3FB8AA3B#32 (((Real.log 2)⁻¹ : ℝ) : EReal) rfl,
    IdealRules.named_const.statement Cert.GradientIdeal.κ "student_ln2" .f32 0x3F051592#32 (((3 / 4) * (Real.log 2) : ℝ) : EReal) rfl,
    IdealRules.named_const.statement Cert.GradientIdeal.κ "entropy_teacher" .f32 0xBEB17218#32 (((1 / 4) * (Real.log (1 / 4)) : ℝ) : EReal) rfl,
    IdealRules.named_const.statement Cert.GradientIdeal.κ "entropy_student" .f32 0xBE5CF099#32 (((3 / 4) * (Real.log (3 / 4)) : ℝ) : EReal) rfl⟩

theorem preserves_loss : Cert.preserves_Loss_LossIdeal :=
  ⟨IdealRules.named_const.statement Cert.LossIdeal.κ "ln2" .f32 0x3F317218#32 ((Real.log 2 : ℝ) : EReal) rfl,
    IdealRules.named_const.statement Cert.LossIdeal.κ "log_beta" .f32 0xBFB17218#32 ((Real.log (1 / 4) : ℝ) : EReal) rfl,
    IdealRules.named_const.statement Cert.LossIdeal.κ "log_one_minus_beta" .f32 0xBE934B11#32 ((Real.log (3 / 4) : ℝ) : EReal) rfl⟩

/-- From arguments that agree, and logsumexps that are those of the logits, both programs end at the same losses. -/
theorem algebraic_loss : Cert.algebraic_GradientIdeal_LossIdeal_pre_normalised := by
  intro m ρ m' ρ' hpre hag
  refine ⟨fun c => Cert.GradientIdeal.Hand.lossEnd m c, Cert.GradientIdeal.Hand.vrun m ρ, ?_⟩
  refine (θ_run Cert.LossIdeal.defs _ _).mono (fun r h c => ?_) (Cert.LossIdeal.Value.run_blocks (F := Ideal) m' ρ')
  obtain ⟨h0, hargs⟩ := h c
  refine ⟨h0.trans ((Cert.LossIdeal.Hand.arr_eq m' c).trans ?_), hargs⟩
  obtain ⟨e0, e1, e2, _, _, e5, e6, e7, e8, e9, e10, _, _⟩ := hag c
  unfold Cert.LossIdeal.Hand.lossEnd
  rw [e0, e1, e2, e5, e6, e7, e8, e9, e10]
  have h := hpre c
  rw [← Cert.GradientIdeal.Hand.tab0_eq m c, ← Cert.GradientIdeal.Hand.tab1_eq m c, ← Cert.GradientIdeal.Hand.tab2_eq m c] at h ⊢
  exact Cert.GradientIdeal.Hand.losses_eq m c _ _ _ _ fun t => congrFun h _

theorem claim : Cert.Claim :=
  ⟨Cert.Kernel.Gen.facts, Cert.KernelIdeal.Gen.facts, Cert.ReferenceIdeal.Gen.facts, Cert.Gradient.Gen.facts, Cert.GradientIdeal.Gen.facts,
    Cert.LossIdeal.Gen.facts, Cert.Loss.Gen.facts, Cert.Pre_normalised.Gen.facts,
    fun m ρ _ => Cert.Kernel.Hand.frame m ρ,
    fun m ρ _ => Cert.KernelIdeal.Hand.frame m ρ,
    fun m ρ _ => Cert.ReferenceIdeal.Gen.frame m ρ,
    fun m ρ _ => Cert.Gradient.Hand.frame m ρ,
    fun m ρ _ => Cert.GradientIdeal.Hand.frame m ρ,
    fun m ρ _ => Cert.GradientIdeal.Hand.frame m ρ,
    fun m ρ _ => Cert.LossIdeal.Gen.frame m ρ,
    fun m ρ _ => Cert.LossIdeal.Gen.frame m ρ,
    fun m ρ _ => Cert.Loss.Gen.frame m ρ,
    preserves,
    algebraic,
    preserves_gradient,
    preserves_loss,
    algebraic_loss⟩

end Cert.Proof

end
